-- ==== Defs.lean ====
def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Reference12Ideal (m : (ℓ : Loc Cert.Reference12Ideal.nD Cert.Reference12Ideal.τ Cert.Reference12Ideal.sig) → Buf (Elt Ideal) ℓ) : Prop :=
  True

def Pre_Kernel13 [hPre_is_half : Cert.Pre_is_half.Facts] (m : (ℓ : Loc Cert.Kernel13.nD Cert.Kernel13.τ Cert.Kernel13.sig) → Buf (Elt Bits) ℓ) : Prop :=
  ∀ c : Dev Cert.Kernel13.nD,
    (Cert.Pre_is_half.fn (F := Bits) (m ((c.tc : Thread Cert.Kernel13.nD Cert.Kernel13.τ).loc Cert.Kernel13.main_arg0)) (m ((c.tc : Thread Cert.Kernel13.nD Cert.Kernel13.τ).loc Cert.Kernel13.main_arg1)) (m ((c.tc : Thread Cert.Kernel13.nD Cert.Kernel13.τ).loc Cert.Kernel13.main_arg2))) = (fun _ => 1#1)

def Pre_Kernel13Ideal [hPre_is_half : Cert.Pre_is_half.Facts] (m : (ℓ : Loc Cert.Kernel13Ideal.nD Cert.Kernel13Ideal.τ Cert.Kernel13Ideal.sig) → Buf (Elt Ideal) ℓ) : Prop :=
  ∀ c : Dev Cert.Kernel13Ideal.nD,
    (Cert.Pre_is_half.fn (F := Ideal) (m ((c.tc : Thread Cert.Kernel13Ideal.nD Cert.Kernel13Ideal.τ).loc Cert.Kernel13Ideal.main_arg0)) (m ((c.tc : Thread Cert.Kernel13Ideal.nD Cert.Kernel13Ideal.τ).loc Cert.Kernel13Ideal.main_arg1)) (m ((c.tc : Thread Cert.Kernel13Ideal.nD Cert.Kernel13Ideal.τ).loc Cert.Kernel13Ideal.main_arg2))) = (fun _ => 1#1)

def Pre_Reference13Ideal (m : (ℓ : Loc Cert.Reference13Ideal.nD Cert.Reference13Ideal.τ Cert.Reference13Ideal.sig) → Buf (Elt Ideal) ℓ) : Prop :=
  True

def Pre_Reference13Ideal_is_half [hPre_is_half : Cert.Pre_is_half.Facts] (m : (ℓ : Loc Cert.Reference13Ideal.nD Cert.Reference13Ideal.τ Cert.Reference13Ideal.sig) → Buf (Elt Ideal) ℓ) : Prop :=
  ∀ c : Dev Cert.Reference13Ideal.nD,
    (Cert.Pre_is_half.fn (F := Ideal) (m ((c.tc : Thread Cert.Reference13Ideal.nD Cert.Reference13Ideal.τ).loc Cert.Reference13Ideal.main_arg0)) (m ((c.tc : Thread Cert.Reference13Ideal.nD Cert.Reference13Ideal.τ).loc Cert.Reference13Ideal.main_arg1)) (m ((c.tc : Thread Cert.Reference13Ideal.nD Cert.Reference13Ideal.τ).loc Cert.Reference13Ideal.main_arg2))) = (fun _ => 1#1)

def Pre_Kernel14 [hPre_is_half_out : Cert.Pre_is_half_out.Facts] (m : (ℓ : Loc Cert.Kernel14.nD Cert.Kernel14.τ Cert.Kernel14.sig) → Buf (Elt Bits) ℓ) : Prop :=
  ∀ c : Dev Cert.Kernel14.nD,
    (Cert.Pre_is_half_out.fn (F := Bits) (m ((c.tc : Thread Cert.Kernel14.nD Cert.Kernel14.τ).loc Cert.Kernel14.main_arg0)) (m ((c.tc : Thread Cert.Kernel14.nD Cert.Kernel14.τ).loc Cert.Kernel14.main_arg1)) (m ((c.tc : Thread Cert.Kernel14.nD Cert.Kernel14.τ).loc Cert.Kernel14.main_arg2))) = (fun _ => 1#1)

def Pre_Kernel14Ideal [hPre_is_half_out : Cert.Pre_is_half_out.Facts] (m : (ℓ : Loc Cert.Kernel14Ideal.nD Cert.Kernel14Ideal.τ Cert.Kernel14Ideal.sig) → Buf (Elt Ideal) ℓ) : Prop :=
  ∀ c : Dev Cert.Kernel14Ideal.nD,
    (Cert.Pre_is_half_out.fn (F := Ideal) (m ((c.tc : Thread Cert.Kernel14Ideal.nD Cert.Kernel14Ideal.τ).loc Cert.Kernel14Ideal.main_arg0)) (m ((c.tc : Thread Cert.Kernel14Ideal.nD Cert.Kernel14Ideal.τ).loc Cert.Kernel14Ideal.main_arg1)) (m ((c.tc : Thread Cert.Kernel14Ideal.nD Cert.Kernel14Ideal.τ).loc Cert.Kernel14Ideal.main_arg2))) = (fun _ => 1#1)

def Pre_Reference14Ideal (m : (ℓ : Loc Cert.Reference14Ideal.nD Cert.Reference14Ideal.τ Cert.Reference14Ideal.sig) → Buf (Elt Ideal) ℓ) : Prop :=
  True

def Pre_Reference14Ideal_is_half_out [hPre_is_half_out : Cert.Pre_is_half_out.Facts] (m : (ℓ : Loc Cert.Reference14Ideal.nD Cert.Reference14Ideal.τ Cert.Reference14Ideal.sig) → Buf (Elt Ideal) ℓ) : Prop :=
  ∀ c : Dev Cert.Reference14Ideal.nD,
    (Cert.Pre_is_half_out.fn (F := Ideal) (m ((c.tc : Thread Cert.Reference14Ideal.nD Cert.Reference14Ideal.τ).loc Cert.Reference14Ideal.main_arg0)) (m ((c.tc : Thread Cert.Reference14Ideal.nD Cert.Reference14Ideal.τ).loc Cert.Reference14Ideal.main_arg1)) (m ((c.tc : Thread Cert.Reference14Ideal.nD Cert.Reference14Ideal.τ).loc Cert.Reference14Ideal.main_arg2))) = (fun _ => 1#1)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2)
      ∧ r.2.mem ((c.tc : Thread Cert.Kernel7.nD Cert.Kernel7.τ).loc Cert.Kernel7.main_arg3) = m ((c.tc : Thread Cert.Kernel7.nD Cert.Kernel7.τ).loc Cert.Kernel7.main_arg3))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2)
      ∧ r.2.mem ((c.tc : Thread Cert.Kernel8.nD Cert.Kernel8.τ).loc Cert.Kernel8.main_arg3) = m ((c.tc : Thread Cert.Kernel8.nD Cert.Kernel8.τ).loc Cert.Kernel8.main_arg3))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
      ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2)
      ∧ r.2.mem ((c.tc : Thread Cert.Reference8Ideal.nD Cert.Reference8Ideal.τ).loc Cert.Reference8Ideal.main_arg3) = m ((c.tc : Thread Cert.Reference8Ideal.nD Cert.Reference8Ideal.τ).loc Cert.Reference8Ideal.main_arg3))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1)
      ∧ r.2.mem ((c.tc : Thread Cert.Kernel9.nD Cert.Kernel9.τ).loc Cert.Kernel9.main_arg2) = m ((c.tc : Thread Cert.Kernel9.nD Cert.Kernel9.τ).loc Cert.Kernel9.main_arg2)
      ∧ r.2.mem ((c.tc : Thread Cert.Kernel9.nD Cert.Kernel9.τ).loc Cert.Kernel9.main_arg3) = m ((c.tc : Thread Cert.Kernel9.nD Cert.Kernel9.τ).loc Cert.Kernel9.main_arg3)
      ∧ r.2.mem ((c.tc : Thread Cert.Kernel9.nD Cert.Kernel9.τ).loc Cert.Kernel9.main_arg4) = m ((c.tc : Thread Cert.Kernel9.nD Cert.Kernel9.τ).loc Cert.Kernel9.main_arg4)
      ∧ r.2.mem ((c.tc : Thread Cert.Kernel9.nD Cert.Kernel9.τ).loc Cert.Kernel9.main_arg5) = m ((c.tc : Thread Cert.Kernel9.nD Cert.Kernel9.τ).loc Cert.Kernel9.main_arg5)
      ∧ r.2.mem ((c.tc : Thread Cert.Kernel9.nD Cert.Kernel9.τ).loc Cert.Kernel9.main_arg6) = m ((c.tc : Thread Cert.Kernel9.nD Cert.Kernel9.τ).loc Cert.Kernel9.main_arg6)
      ∧ r.2.mem ((c.tc : Thread Cert.Kernel9.nD Cert.Kernel9.τ).loc Cert.Kernel9.main_arg7) = m ((c.tc : Thread Cert.Kernel9.nD Cert.Kernel9.τ).loc Cert.Kernel9.main_arg7)
      ∧ r.2.mem ((c.tc : Thread Cert.Kernel9.nD Cert.Kernel9.τ).loc Cert.Kernel9.main_arg8) = m ((c.tc : Thread Cert.Kernel9.nD Cert.Kernel9.τ).loc Cert.Kernel9.main_arg8)
      ∧ r.2.mem ((c.tc : Thread Cert.Kernel9.nD Cert.Kernel9.τ).loc Cert.Kernel9.main_arg9) = m ((c.tc : Thread Cert.Kernel9.nD Cert.Kernel9.τ).loc Cert.Kernel9.main_arg9)
      ∧ r.2.mem ((c.tc : Thread Cert.Kernel9.nD Cert.Kernel9.τ).loc Cert.Kernel9.main_arg10) = m ((c.tc : Thread Cert.Kernel9.nD Cert.Kernel9.τ).loc Cert.Kernel9.main_arg10)
      ∧ r.2.mem ((c.tc : Thread Cert.Kernel9.nD Cert.Kernel9.τ).loc Cert.Kernel9.main_arg11) = m ((c.tc : Thread Cert.Kernel9.nD Cert.Kernel9.τ).loc Cert.Kernel9.main_arg11))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
      ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3)
      ∧ r.2.mem ((c.tc : Thread Cert.Kernel9Ideal.nD Cert.Kernel9Ideal.τ).loc Cert.Kernel9Ideal.main_arg4) = m ((c.tc : Thread Cert.Kernel9Ideal.nD Cert.Kernel9Ideal.τ).loc Cert.Kernel9Ideal.main_arg4)
      ∧ r.2.mem ((c.tc : Thread Cert.Kernel9Ideal.nD Cert.Kernel9Ideal.τ).loc Cert.Kernel9Ideal.main_arg5) = m ((c.tc : Thread Cert.Kernel9Ideal.nD Cert.Kernel9Ideal.τ).loc Cert.Kernel9Ideal.main_arg5)
      ∧ r.2.mem ((c.tc : Thread Cert.Kernel9Ideal.nD Cert.Kernel9Ideal.τ).loc Cert.Kernel9Ideal.main_arg6) = m ((c.tc : Thread Cert.Kernel9Ideal.nD Cert.Kernel9Ideal.τ).loc Cert.Kernel9Ideal.main_arg6)
      ∧ r.2.mem ((c.tc : Thread Cert.Kernel9Ideal.nD Cert.Kernel9Ideal.τ).loc Cert.Kernel9Ideal.main_arg7) = m ((c.tc : Thread Cert.Kernel9Ideal.nD Cert.Kernel9Ideal.τ).loc Cert.Kernel9Ideal.main_arg7)
      ∧ r.2.mem ((c.tc : Thread Cert.Kernel9Ideal.nD Cert.Kernel9Ideal.τ).loc Cert.Kernel9Ideal.main_arg8) = m ((c.tc : Thread Cert.Kernel9Ideal.nD Cert.Kernel9Ideal.τ).loc Cert.Kernel9Ideal.main_arg8)
      ∧ r.2.mem ((c.tc : Thread Cert.Kernel9Ideal.nD Cert.Kernel9Ideal.τ).loc Cert.Kernel9Ideal.main_arg9) = m ((c.tc : Thread Cert.Kernel9Ideal.nD Cert.Kernel9Ideal.τ).loc Cert.Kernel9Ideal.main_arg9)
      ∧ r.2.mem ((c.tc : Thread Cert.Kernel9Ideal.nD Cert.Kernel9Ideal.τ).loc Cert.Kernel9Ideal.main_arg10) = m ((c.tc : Thread Cert.Kernel9Ideal.nD Cert.Kernel9Ideal.τ).loc Cert.Kernel9Ideal.main_arg10)
      ∧ r.2.mem ((c.tc : Thread Cert.Kernel9Ideal.nD Cert.Kernel9Ideal.τ).loc Cert.Kernel9Ideal.main_arg11) = m ((c.tc : Thread Cert.Kernel9Ideal.nD Cert.Kernel9Ideal.τ).loc Cert.Kernel9Ideal.main_arg11))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2)
      ∧ r.2.mem ((c.tc : Thread Cert.Reference9Ideal.nD Cert.Reference9Ideal.τ).loc Cert.Reference9Ideal.main_arg3) = m ((c.tc : Thread Cert.Reference9Ideal.nD Cert.Reference9Ideal.τ).loc Cert.Reference9Ideal.main_arg3)
      ∧ r.2.mem ((c.tc : Thread Cert.Reference9Ideal.nD Cert.Reference9Ideal.τ).loc Cert.Reference9Ideal.main_arg4) = m ((c.tc : Thread Cert.Reference9Ideal.nD Cert.Reference9Ideal.τ).loc Cert.Reference9Ideal.main_arg4)
      ∧ r.2.mem ((c.tc : Thread Cert.Reference9Ideal.nD Cert.Reference9Ideal.τ).loc Cert.Reference9Ideal.main_arg5) = m ((c.tc : Thread Cert.Reference9Ideal.nD Cert.Reference9Ideal.τ).loc Cert.Reference9Ideal.main_arg5)
      ∧ r.2.mem ((c.tc : Thread Cert.Reference9Ideal.nD Cert.Reference9Ideal.τ).loc Cert.Reference9Ideal.main_arg6) = m ((c.tc : Thread Cert.Reference9Ideal.nD Cert.Reference9Ideal.τ).loc Cert.Reference9Ideal.main_arg6)
      ∧ r.2.mem ((c.tc : Thread Cert.Reference9Ideal.nD Cert.Reference9Ideal.τ).loc Cert.Reference9Ideal.main_arg7) = m ((c.tc : Thread Cert.Reference9Ideal.nD Cert.Reference9Ideal.τ).loc Cert.Reference9Ideal.main_arg7)
      ∧ r.2.mem ((c.tc : Thread Cert.Reference9Ideal.nD Cert.Reference9Ideal.τ).loc Cert.Reference9Ideal.main_arg8) = m ((c.tc : Thread Cert.Reference9Ideal.nD Cert.Reference9Ideal.τ).loc Cert.Reference9Ideal.main_arg8)
      ∧ r.2.mem ((c.tc : Thread Cert.Reference9Ideal.nD Cert.Reference9Ideal.τ).loc Cert.Reference9Ideal.main_arg9) = m ((c.tc : Thread Cert.Reference9Ideal.nD Cert.Reference9Ideal.τ).loc Cert.Reference9Ideal.main_arg9)
      ∧ r.2.mem ((c.tc : Thread Cert.Reference9Ideal.nD Cert.Reference9Ideal.τ).loc Cert.Reference9Ideal.main_arg10) = m ((c.tc : Thread Cert.Reference9Ideal.nD Cert.Reference9Ideal.τ).loc Cert.Reference9Ideal.main_arg10)
      ∧ r.2.mem ((c.tc : Thread Cert.Reference9Ideal.nD Cert.Reference9Ideal.τ).loc Cert.Reference9Ideal.main_arg11) = m ((c.tc : Thread Cert.Reference9Ideal.nD Cert.Reference9Ideal.τ).loc Cert.Reference9Ideal.main_arg11))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1)
      ∧ r.2.mem ((c.tc : Thread Cert.Kernel10.nD Cert.Kernel10.τ).loc Cert.Kernel10.main_arg2) = m ((c.tc : Thread Cert.Kernel10.nD Cert.Kernel10.τ).loc Cert.Kernel10.main_arg2)
      ∧ r.2.mem ((c.tc : Thread Cert.Kernel10.nD Cert.Kernel10.τ).loc Cert.Kernel10.main_arg3) = m ((c.tc : Thread Cert.Kernel10.nD Cert.Kernel10.τ).loc Cert.Kernel10.main_arg3)
      ∧ r.2.mem ((c.tc : Thread Cert.Kernel10.nD Cert.Kernel10.τ).loc Cert.Kernel10.main_arg4) = m ((c.tc : Thread Cert.Kernel10.nD Cert.Kernel10.τ).loc Cert.Kernel10.main_arg4)
      ∧ r.2.mem ((c.tc : Thread Cert.Kernel10.nD Cert.Kernel10.τ).loc Cert.Kernel10.main_arg5) = m ((c.tc : Thread Cert.Kernel10.nD Cert.Kernel10.τ).loc Cert.Kernel10.main_arg5)
      ∧ r.2.mem ((c.tc : Thread Cert.Kernel10.nD Cert.Kernel10.τ).loc Cert.Kernel10.main_arg6) = m ((c.tc : Thread Cert.Kernel10.nD Cert.Kernel10.τ).loc Cert.Kernel10.main_arg6)
      ∧ r.2.mem ((c.tc : Thread Cert.Kernel10.nD Cert.Kernel10.τ).loc Cert.Kernel10.main_arg7) = m ((c.tc : Thread Cert.Kernel10.nD Cert.Kernel10.τ).loc Cert.Kernel10.main_arg7)
      ∧ r.2.mem ((c.tc : Thread Cert.Kernel10.nD Cert.Kernel10.τ).loc Cert.Kernel10.main_arg8) = m ((c.tc : Thread Cert.Kernel10.nD Cert.Kernel10.τ).loc Cert.Kernel10.main_arg8)
      ∧ r.2.mem ((c.tc : Thread Cert.Kernel10.nD Cert.Kernel10.τ).loc Cert.Kernel10.main_arg9) = m ((c.tc : Thread Cert.Kernel10.nD Cert.Kernel10.τ).loc Cert.Kernel10.main_arg9)
      ∧ r.2.mem ((c.tc : Thread Cert.Kernel10.nD Cert.Kernel10.τ).loc Cert.Kernel10.main_arg10) = m ((c.tc : Thread Cert.Kernel10.nD Cert.Kernel10.τ).loc Cert.Kernel10.main_arg10)
      ∧ r.2.mem ((c.tc : Thread Cert.Kernel10.nD Cert.Kernel10.τ).loc Cert.Kernel10.main_arg11) = m ((c.tc : Thread Cert.Kernel10.nD Cert.Kernel10.τ).loc Cert.Kernel10.main_arg11))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
      ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
      ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3)
      ∧ r.2.mem ((c.tc : Thread Cert.Kernel10Ideal.nD Cert.Kernel10Ideal.τ).loc Cert.Kernel10Ideal.main_arg4) = m ((c.tc : Thread Cert.Kernel10Ideal.nD Cert.Kernel10Ideal.τ).loc Cert.Kernel10Ideal.main_arg4)
      ∧ r.2.mem ((c.tc : Thread Cert.Kernel10Ideal.nD Cert.Kernel10Ideal.τ).loc Cert.Kernel10Ideal.main_arg5) = m ((c.tc : Thread Cert.Kernel10Ideal.nD Cert.Kernel10Ideal.τ).loc Cert.Kernel10Ideal.main_arg5)
      ∧ r.2.mem ((c.tc : Thread Cert.Kernel10Ideal.nD Cert.Kernel10Ideal.τ).loc Cert.Kernel10Ideal.main_arg6) = m ((c.tc : Thread Cert.Kernel10Ideal.nD Cert.Kernel10Ideal.τ).loc Cert.Kernel10Ideal.main_arg6)
      ∧ r.2.mem ((c.tc : Thread Cert.Kernel10Ideal.nD Cert.Kernel10Ideal.τ).loc Cert.Kernel10Ideal.main_arg7) = m ((c.tc : Thread Cert.Kernel10Ideal.nD Cert.Kernel10Ideal.τ).loc Cert.Kernel10Ideal.main_arg7)
      ∧ r.2.mem ((c.tc : Thread Cert.Kernel10Ideal.nD Cert.Kernel10Ideal.τ).loc Cert.Kernel10Ideal.main_arg8) = m ((c.tc : Thread Cert.Kernel10Ideal.nD Cert.Kernel10Ideal.τ).loc Cert.Kernel10Ideal.main_arg8)
      ∧ r.2.mem ((c.tc : Thread Cert.Kernel10Ideal.nD Cert.Kernel10Ideal.τ).loc Cert.Kernel10Ideal.main_arg9) = m ((c.tc : Thread Cert.Kernel10Ideal.nD Cert.Kernel10Ideal.τ).loc Cert.Kernel10Ideal.main_arg9)
      ∧ r.2.mem ((c.tc : Thread Cert.Kernel10Ideal.nD Cert.Kernel10Ideal.τ).loc Cert.Kernel10Ideal.main_arg10) = m ((c.tc : Thread Cert.Kernel10Ideal.nD Cert.Kernel10Ideal.τ).loc Cert.Kernel10Ideal.main_arg10)
      ∧ r.2.mem ((c.tc : Thread Cert.Kernel10Ideal.nD Cert.Kernel10Ideal.τ).loc Cert.Kernel10Ideal.main_arg11) = m ((c.tc : Thread Cert.Kernel10Ideal.nD Cert.Kernel10Ideal.τ).loc Cert.Kernel10Ideal.main_arg11))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1)
      ∧ r.2.mem ((c.tc : Thread Cert.Reference10Ideal.nD Cert.Reference10Ideal.τ).loc Cert.Reference10Ideal.main_arg2) = m ((c.tc : Thread Cert.Reference10Ideal.nD Cert.Reference10Ideal.τ).loc Cert.Reference10Ideal.main_arg2)
      ∧ r.2.mem ((c.tc : Thread Cert.Reference10Ideal.nD Cert.Reference10Ideal.τ).loc Cert.Reference10Ideal.main_arg3) = m ((c.tc : Thread Cert.Reference10Ideal.nD Cert.Reference10Ideal.τ).loc Cert.Reference10Ideal.main_arg3)
      ∧ r.2.mem ((c.tc : Thread Cert.Reference10Ideal.nD Cert.Reference10Ideal.τ).loc Cert.Reference10Ideal.main_arg4) = m ((c.tc : Thread Cert.Reference10Ideal.nD Cert.Reference10Ideal.τ).loc Cert.Reference10Ideal.main_arg4)
      ∧ r.2.mem ((c.tc : Thread Cert.Reference10Ideal.nD Cert.Reference10Ideal.τ).loc Cert.Reference10Ideal.main_arg5) = m ((c.tc : Thread Cert.Reference10Ideal.nD Cert.Reference10Ideal.τ).loc Cert.Reference10Ideal.main_arg5)
      ∧ r.2.mem ((c.tc : Thread Cert.Reference10Ideal.nD Cert.Reference10Ideal.τ).loc Cert.Reference10Ideal.main_arg6) = m ((c.tc : Thread Cert.Reference10Ideal.nD Cert.Reference10Ideal.τ).loc Cert.Reference10Ideal.main_arg6)
      ∧ r.2.mem ((c.tc : Thread Cert.Reference10Ideal.nD Cert.Reference10Ideal.τ).loc Cert.Reference10Ideal.main_arg7) = m ((c.tc : Thread Cert.Reference10Ideal.nD Cert.Reference10Ideal.τ).loc Cert.Reference10Ideal.main_arg7)
      ∧ r.2.mem ((c.tc : Thread Cert.Reference10Ideal.nD Cert.Reference10Ideal.τ).loc Cert.Reference10Ideal.main_arg8) = m ((c.tc : Thread Cert.Reference10Ideal.nD Cert.Reference10Ideal.τ).loc Cert.Reference10Ideal.main_arg8)
      ∧ r.2.mem ((c.tc : Thread Cert.Reference10Ideal.nD Cert.Reference10Ideal.τ).loc Cert.Reference10Ideal.main_arg9) = m ((c.tc : Thread Cert.Reference10Ideal.nD Cert.Reference10Ideal.τ).loc Cert.Reference10Ideal.main_arg9)
      ∧ r.2.mem ((c.tc : Thread Cert.Reference10Ideal.nD Cert.Reference10Ideal.τ).loc Cert.Reference10Ideal.main_arg10) = m ((c.tc : Thread Cert.Reference10Ideal.nD Cert.Reference10Ideal.τ).loc Cert.Reference10Ideal.main_arg10)
      ∧ r.2.mem ((c.tc : Thread Cert.Reference10Ideal.nD Cert.Reference10Ideal.τ).loc Cert.Reference10Ideal.main_arg11) = m ((c.tc : Thread Cert.Reference10Ideal.nD Cert.Reference10Ideal.τ).loc Cert.Reference10Ideal.main_arg11))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1)
      ∧ r.2.mem ((c.tc : Thread Cert.Kernel11.nD Cert.Kernel11.τ).loc Cert.Kernel11.main_arg2) = m ((c.tc : Thread Cert.Kernel11.nD Cert.Kernel11.τ).loc Cert.Kernel11.main_arg2)
      ∧ r.2.mem ((c.tc : Thread Cert.Kernel11.nD Cert.Kernel11.τ).loc Cert.Kernel11.main_arg3) = m ((c.tc : Thread Cert.Kernel11.nD Cert.Kernel11.τ).loc Cert.Kernel11.main_arg3)
      ∧ r.2.mem ((c.tc : Thread Cert.Kernel11.nD Cert.Kernel11.τ).loc Cert.Kernel11.main_arg4) = m ((c.tc : Thread Cert.Kernel11.nD Cert.Kernel11.τ).loc Cert.Kernel11.main_arg4)
      ∧ r.2.mem ((c.tc : Thread Cert.Kernel11.nD Cert.Kernel11.τ).loc Cert.Kernel11.main_arg5) = m ((c.tc : Thread Cert.Kernel11.nD Cert.Kernel11.τ).loc Cert.Kernel11.main_arg5)
      ∧ r.2.mem ((c.tc : Thread Cert.Kernel11.nD Cert.Kernel11.τ).loc Cert.Kernel11.main_arg6) = m ((c.tc : Thread Cert.Kernel11.nD Cert.Kernel11.τ).loc Cert.Kernel11.main_arg6)
      ∧ r.2.mem ((c.tc : Thread Cert.Kernel11.nD Cert.Kernel11.τ).loc Cert.Kernel11.main_arg7) = m ((c.tc : Thread Cert.Kernel11.nD Cert.Kernel11.τ).loc Cert.Kernel11.main_arg7)
      ∧ r.2.mem ((c.tc : Thread Cert.Kernel11.nD Cert.Kernel11.τ).loc Cert.Kernel11.main_arg8) = m ((c.tc : Thread Cert.Kernel11.nD Cert.Kernel11.τ).loc Cert.Kernel11.main_arg8)
      ∧ r.2.mem ((c.tc : Thread Cert.Kernel11.nD Cert.Kernel11.τ).loc Cert.Kernel11.main_arg9) = m ((c.tc : Thread Cert.Kernel11.nD Cert.Kernel11.τ).loc Cert.Kernel11.main_arg9)
      ∧ r.2.mem ((c.tc : Thread Cert.Kernel11.nD Cert.Kernel11.τ).loc Cert.Kernel11.main_arg10) = m ((c.tc : Thread Cert.Kernel11.nD Cert.Kernel11.τ).loc Cert.Kernel11.main_arg10)
      ∧ r.2.mem ((c.tc : Thread Cert.Kernel11.nD Cert.Kernel11.τ).loc Cert.Kernel11.main_arg11) = m ((c.tc : Thread Cert.Kernel11.nD Cert.Kernel11.τ).loc Cert.Kernel11.main_arg11))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
      ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2)
      ∧ r.2.mem ((c.tc : Thread Cert.Kernel11Ideal.nD Cert.Kernel11Ideal.τ).loc Cert.Kernel11Ideal.main_arg3) = m ((c.tc : Thread Cert.Kernel11Ideal.nD Cert.Kernel11Ideal.τ).loc Cert.Kernel11Ideal.main_arg3)
      ∧ r.2.mem ((c.tc : Thread Cert.Kernel11Ideal.nD Cert.Kernel11Ideal.τ).loc Cert.Kernel11Ideal.main_arg4) = m ((c.tc : Thread Cert.Kernel11Ideal.nD Cert.Kernel11Ideal.τ).loc Cert.Kernel11Ideal.main_arg4)
      ∧ r.2.mem ((c.tc : Thread Cert.Kernel11Ideal.nD Cert.Kernel11Ideal.τ).loc Cert.Kernel11Ideal.main_arg5) = m ((c.tc : Thread Cert.Kernel11Ideal.nD Cert.Kernel11Ideal.τ).loc Cert.Kernel11Ideal.main_arg5)
      ∧ r.2.mem ((c.tc : Thread Cert.Kernel11Ideal.nD Cert.Kernel11Ideal.τ).loc Cert.Kernel11Ideal.main_arg6) = m ((c.tc : Thread Cert.Kernel11Ideal.nD Cert.Kernel11Ideal.τ).loc Cert.Kernel11Ideal.main_arg6)
      ∧ r.2.mem ((c.tc : Thread Cert.Kernel11Ideal.nD Cert.Kernel11Ideal.τ).loc Cert.Kernel11Ideal.main_arg7) = m ((c.tc : Thread Cert.Kernel11Ideal.nD Cert.Kernel11Ideal.τ).loc Cert.Kernel11Ideal.main_arg7)
      ∧ r.2.mem ((c.tc : Thread Cert.Kernel11Ideal.nD Cert.Kernel11Ideal.τ).loc Cert.Kernel11Ideal.main_arg8) = m ((c.tc : Thread Cert.Kernel11Ideal.nD Cert.Kernel11Ideal.τ).loc Cert.Kernel11Ideal.main_arg8)
      ∧ r.2.mem ((c.tc : Thread Cert.Kernel11Ideal.nD Cert.Kernel11Ideal.τ).loc Cert.Kernel11Ideal.main_arg9) = m ((c.tc : Thread Cert.Kernel11Ideal.nD Cert.Kernel11Ideal.τ).loc Cert.Kernel11Ideal.main_arg9)
      ∧ r.2.mem ((c.tc : Thread Cert.Kernel11Ideal.nD Cert.Kernel11Ideal.τ).loc Cert.Kernel11Ideal.main_arg10) = m ((c.tc : Thread Cert.Kernel11Ideal.nD Cert.Kernel11Ideal.τ).loc Cert.Kernel11Ideal.main_arg10)
      ∧ r.2.mem ((c.tc : Thread Cert.Kernel11Ideal.nD Cert.Kernel11Ideal.τ).loc Cert.Kernel11Ideal.main_arg11) = m ((c.tc : Thread Cert.Kernel11Ideal.nD Cert.Kernel11Ideal.τ).loc Cert.Kernel11Ideal.main_arg11))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1)
      ∧ r.2.mem ((c.tc : Thread Cert.Reference11Ideal.nD Cert.Reference11Ideal.τ).loc Cert.Reference11Ideal.main_arg2) = m ((c.tc : Thread Cert.Reference11Ideal.nD Cert.Reference11Ideal.τ).loc Cert.Reference11Ideal.main_arg2)
      ∧ r.2.mem ((c.tc : Thread Cert.Reference11Ideal.nD Cert.Reference11Ideal.τ).loc Cert.Reference11Ideal.main_arg3) = m ((c.tc : Thread Cert.Reference11Ideal.nD Cert.Reference11Ideal.τ).loc Cert.Reference11Ideal.main_arg3)
      ∧ r.2.mem ((c.tc : Thread Cert.Reference11Ideal.nD Cert.Reference11Ideal.τ).loc Cert.Reference11Ideal.main_arg4) = m ((c.tc : Thread Cert.Reference11Ideal.nD Cert.Reference11Ideal.τ).loc Cert.Reference11Ideal.main_arg4)
      ∧ r.2.mem ((c.tc : Thread Cert.Reference11Ideal.nD Cert.Reference11Ideal.τ).loc Cert.Reference11Ideal.main_arg5) = m ((c.tc : Thread Cert.Reference11Ideal.nD Cert.Reference11Ideal.τ).loc Cert.Reference11Ideal.main_arg5)
      ∧ r.2.mem ((c.tc : Thread Cert.Reference11Ideal.nD Cert.Reference11Ideal.τ).loc Cert.Reference11Ideal.main_arg6) = m ((c.tc : Thread Cert.Reference11Ideal.nD Cert.Reference11Ideal.τ).loc Cert.Reference11Ideal.main_arg6)
      ∧ r.2.mem ((c.tc : Thread Cert.Reference11Ideal.nD Cert.Reference11Ideal.τ).loc Cert.Reference11Ideal.main_arg7) = m ((c.tc : Thread Cert.Reference11Ideal.nD Cert.Reference11Ideal.τ).loc Cert.Reference11Ideal.main_arg7)
      ∧ r.2.mem ((c.tc : Thread Cert.Reference11Ideal.nD Cert.Reference11Ideal.τ).loc Cert.Reference11Ideal.main_arg8) = m ((c.tc : Thread Cert.Reference11Ideal.nD Cert.Reference11Ideal.τ).loc Cert.Reference11Ideal.main_arg8)
      ∧ r.2.mem ((c.tc : Thread Cert.Reference11Ideal.nD Cert.Reference11Ideal.τ).loc Cert.Reference11Ideal.main_arg9) = m ((c.tc : Thread Cert.Reference11Ideal.nD Cert.Reference11Ideal.τ).loc Cert.Reference11Ideal.main_arg9)
      ∧ r.2.mem ((c.tc : Thread Cert.Reference11Ideal.nD Cert.Reference11Ideal.τ).loc Cert.Reference11Ideal.main_arg10) = m ((c.tc : Thread Cert.Reference11Ideal.nD Cert.Reference11Ideal.τ).loc Cert.Reference11Ideal.main_arg10)
      ∧ r.2.mem ((c.tc : Thread Cert.Reference11Ideal.nD Cert.Reference11Ideal.τ).loc Cert.Reference11Ideal.main_arg11) = m ((c.tc : Thread Cert.Reference11Ideal.nD Cert.Reference11Ideal.τ).loc Cert.Reference11Ideal.main_arg11))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1)
      ∧ r.2.mem ((c.tc : Thread Cert.Kernel12.nD Cert.Kernel12.τ).loc Cert.Kernel12.main_arg2) = m ((c.tc : Thread Cert.Kernel12.nD Cert.Kernel12.τ).loc Cert.Kernel12.main_arg2)
      ∧ r.2.mem ((c.tc : Thread Cert.Kernel12.nD Cert.Kernel12.τ).loc Cert.Kernel12.main_arg3) = m ((c.tc : Thread Cert.Kernel12.nD Cert.Kernel12.τ).loc Cert.Kernel12.main_arg3)
      ∧ r.2.mem ((c.tc : Thread Cert.Kernel12.nD Cert.Kernel12.τ).loc Cert.Kernel12.main_arg4) = m ((c.tc : Thread Cert.Kernel12.nD Cert.Kernel12.τ).loc Cert.Kernel12.main_arg4)
      ∧ r.2.mem ((c.tc : Thread Cert.Kernel12.nD Cert.Kernel12.τ).loc Cert.Kernel12.main_arg5) = m ((c.tc : Thread Cert.Kernel12.nD Cert.Kernel12.τ).loc Cert.Kernel12.main_arg5)
      ∧ r.2.mem ((c.tc : Thread Cert.Kernel12.nD Cert.Kernel12.τ).loc Cert.Kernel12.main_arg6) = m ((c.tc : Thread Cert.Kernel12.nD Cert.Kernel12.τ).loc Cert.Kernel12.main_arg6)
      ∧ r.2.mem ((c.tc : Thread Cert.Kernel12.nD Cert.Kernel12.τ).loc Cert.Kernel12.main_arg7) = m ((c.tc : Thread Cert.Kernel12.nD Cert.Kernel12.τ).loc Cert.Kernel12.main_arg7)
      ∧ r.2.mem ((c.tc : Thread Cert.Kernel12.nD Cert.Kernel12.τ).loc Cert.Kernel12.main_arg8) = m ((c.tc : Thread Cert.Kernel12.nD Cert.Kernel12.τ).loc Cert.Kernel12.main_arg8)
      ∧ r.2.mem ((c.tc : Thread Cert.Kernel12.nD Cert.Kernel12.τ).loc Cert.Kernel12.main_arg9) = m ((c.tc : Thread Cert.Kernel12.nD Cert.Kernel12.τ).loc Cert.Kernel12.main_arg9)
      ∧ r.2.mem ((c.tc : Thread Cert.Kernel12.nD Cert.Kernel12.τ).loc Cert.Kernel12.main_arg10) = m ((c.tc : Thread Cert.Kernel12.nD Cert.Kernel12.τ).loc Cert.Kernel12.main_arg10)
      ∧ r.2.mem ((c.tc : Thread Cert.Kernel12.nD Cert.Kernel12.τ).loc Cert.Kernel12.main_arg11) = m ((c.tc : Thread Cert.Kernel12.nD Cert.Kernel12.τ).loc Cert.Kernel12.main_arg11))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
      ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2)
      ∧ r.2.mem ((c.tc : Thread Cert.Kernel12Ideal.nD Cert.Kernel12Ideal.τ).loc Cert.Kernel12Ideal.main_arg3) = m ((c.tc : Thread Cert.Kernel12Ideal.nD Cert.Kernel12Ideal.τ).loc Cert.Kernel12Ideal.main_arg3)
      ∧ r.2.mem ((c.tc : Thread Cert.Kernel12Ideal.nD Cert.Kernel12Ideal.τ).loc Cert.Kernel12Ideal.main_arg4) = m ((c.tc : Thread Cert.Kernel12Ideal.nD Cert.Kernel12Ideal.τ).loc Cert.Kernel12Ideal.main_arg4)
      ∧ r.2.mem ((c.tc : Thread Cert.Kernel12Ideal.nD Cert.Kernel12Ideal.τ).loc Cert.Kernel12Ideal.main_arg5) = m ((c.tc : Thread Cert.Kernel12Ideal.nD Cert.Kernel12Ideal.τ).loc Cert.Kernel12Ideal.main_arg5)
      ∧ r.2.mem ((c.tc : Thread Cert.Kernel12Ideal.nD Cert.Kernel12Ideal.τ).loc Cert.Kernel12Ideal.main_arg6) = m ((c.tc : Thread Cert.Kernel12Ideal.nD Cert.Kernel12Ideal.τ).loc Cert.Kernel12Ideal.main_arg6)
      ∧ r.2.mem ((c.tc : Thread Cert.Kernel12Ideal.nD Cert.Kernel12Ideal.τ).loc Cert.Kernel12Ideal.main_arg7) = m ((c.tc : Thread Cert.Kernel12Ideal.nD Cert.Kernel12Ideal.τ).loc Cert.Kernel12Ideal.main_arg7)
      ∧ r.2.mem ((c.tc : Thread Cert.Kernel12Ideal.nD Cert.Kernel12Ideal.τ).loc Cert.Kernel12Ideal.main_arg8) = m ((c.tc : Thread Cert.Kernel12Ideal.nD Cert.Kernel12Ideal.τ).loc Cert.Kernel12Ideal.main_arg8)
      ∧ r.2.mem ((c.tc : Thread Cert.Kernel12Ideal.nD Cert.Kernel12Ideal.τ).loc Cert.Kernel12Ideal.main_arg9) = m ((c.tc : Thread Cert.Kernel12Ideal.nD Cert.Kernel12Ideal.τ).loc Cert.Kernel12Ideal.main_arg9)
      ∧ r.2.mem ((c.tc : Thread Cert.Kernel12Ideal.nD Cert.Kernel12Ideal.τ).loc Cert.Kernel12Ideal.main_arg10) = m ((c.tc : Thread Cert.Kernel12Ideal.nD Cert.Kernel12Ideal.τ).loc Cert.Kernel12Ideal.main_arg10)
      ∧ r.2.mem ((c.tc : Thread Cert.Kernel12Ideal.nD Cert.Kernel12Ideal.τ).loc Cert.Kernel12Ideal.main_arg11) = m ((c.tc : Thread Cert.Kernel12Ideal.nD Cert.Kernel12Ideal.τ).loc Cert.Kernel12Ideal.main_arg11))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1)
      ∧ r.2.mem ((c.tc : Thread Cert.Reference12Ideal.nD Cert.Reference12Ideal.τ).loc Cert.Reference12Ideal.main_arg2) = m ((c.tc : Thread Cert.Reference12Ideal.nD Cert.Reference12Ideal.τ).loc Cert.Reference12Ideal.main_arg2)
      ∧ r.2.mem ((c.tc : Thread Cert.Reference12Ideal.nD Cert.Reference12Ideal.τ).loc Cert.Reference12Ideal.main_arg3) = m ((c.tc : Thread Cert.Reference12Ideal.nD Cert.Reference12Ideal.τ).loc Cert.Reference12Ideal.main_arg3)
      ∧ r.2.mem ((c.tc : Thread Cert.Reference12Ideal.nD Cert.Reference12Ideal.τ).loc Cert.Reference12Ideal.main_arg4) = m ((c.tc : Thread Cert.Reference12Ideal.nD Cert.Reference12Ideal.τ).loc Cert.Reference12Ideal.main_arg4)
      ∧ r.2.mem ((c.tc : Thread Cert.Reference12Ideal.nD Cert.Reference12Ideal.τ).loc Cert.Reference12Ideal.main_arg5) = m ((c.tc : Thread Cert.Reference12Ideal.nD Cert.Reference12Ideal.τ).loc Cert.Reference12Ideal.main_arg5)
      ∧ r.2.mem ((c.tc : Thread Cert.Reference12Ideal.nD Cert.Reference12Ideal.τ).loc Cert.Reference12Ideal.main_arg6) = m ((c.tc : Thread Cert.Reference12Ideal.nD Cert.Reference12Ideal.τ).loc Cert.Reference12Ideal.main_arg6)
      ∧ r.2.mem ((c.tc : Thread Cert.Reference12Ideal.nD Cert.Reference12Ideal.τ).loc Cert.Reference12Ideal.main_arg7) = m ((c.tc : Thread Cert.Reference12Ideal.nD Cert.Reference12Ideal.τ).loc Cert.Reference12Ideal.main_arg7)
      ∧ r.2.mem ((c.tc : Thread Cert.Reference12Ideal.nD Cert.Reference12Ideal.τ).loc Cert.Reference12Ideal.main_arg8) = m ((c.tc : Thread Cert.Reference12Ideal.nD Cert.Reference12Ideal.τ).loc Cert.Reference12Ideal.main_arg8)
      ∧ r.2.mem ((c.tc : Thread Cert.Reference12Ideal.nD Cert.Reference12Ideal.τ).loc Cert.Reference12Ideal.main_arg9) = m ((c.tc : Thread Cert.Reference12Ideal.nD Cert.Reference12Ideal.τ).loc Cert.Reference12Ideal.main_arg9)
      ∧ r.2.mem ((c.tc : Thread Cert.Reference12Ideal.nD Cert.Reference12Ideal.τ).loc Cert.Reference12Ideal.main_arg10) = m ((c.tc : Thread Cert.Reference12Ideal.nD Cert.Reference12Ideal.τ).loc Cert.Reference12Ideal.main_arg10)
      ∧ r.2.mem ((c.tc : Thread Cert.Reference12Ideal.nD Cert.Reference12Ideal.τ).loc Cert.Reference12Ideal.main_arg11) = m ((c.tc : Thread Cert.Reference12Ideal.nD Cert.Reference12Ideal.τ).loc Cert.Reference12Ideal.main_arg11))
      ∧ r.2.sem = fun _ => 0)

def quiescent_Kernel13 [hKernel13 : Cert.Kernel13.Facts] [hPre_is_half : Cert.Pre_is_half.Facts] : Prop :=
  ∀ (m : (ℓ : Loc Cert.Kernel13.nD Cert.Kernel13.τ Cert.Kernel13.sig) → Buf (Elt Bits) ℓ) (g : Dev Cert.Kernel13.nD → PrngReg), Pre_Kernel13 m →
    θ_run (Cert.Kernel13.defs (F := Bits)) (onTc (τ := Cert.Kernel13.τ) (Cert.Kernel13.main (F := Bits))) ⟨m, fun _ => 0, g⟩ (fun r => (∀ c : Dev Cert.Kernel13.nD,
      r.2.mem ((c.tc : Thread Cert.Kernel13.nD Cert.Kernel13.τ).loc Cert.Kernel13.main_arg0) = m ((c.tc : Thread Cert.Kernel13.nD Cert.Kernel13.τ).loc Cert.Kernel13.main_arg0)
      ∧ r.2.mem ((c.tc : Thread Cert.Kernel13.nD Cert.Kernel13.τ).loc Cert.Kernel13.main_arg1) = m ((c.tc : Thread Cert.Kernel13.nD Cert.Kernel13.τ).loc Cert.Kernel13.main_arg1)
      ∧ r.2.mem ((c.tc : Thread Cert.Kernel13.nD Cert.Kernel13.τ).loc Cert.Kernel13.main_arg2) = m ((c.tc : Thread Cert.Kernel13.nD Cert.Kernel13.τ).loc Cert.Kernel13.main_arg2))
      ∧ r.2.sem = fun _ => 0)

def quiescent_Kernel13Ideal [hKernel13Ideal : Cert.Kernel13Ideal.Facts] [hPre_is_half : Cert.Pre_is_half.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
      ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2))
      ∧ r.2.sem = fun _ => 0)

def quiescent_Reference13Ideal [hReference13Ideal : Cert.Reference13Ideal.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1)
      ∧ r.2.mem ((c.tc : Thread Cert.Reference13Ideal.nD Cert.Reference13Ideal.τ).loc Cert.Reference13Ideal.main_arg2) = m ((c.tc : Thread Cert.Reference13Ideal.nD Cert.Reference13Ideal.τ).loc Cert.Reference13Ideal.main_arg2))
      ∧ r.2.sem = fun _ => 0)

def quiescent_Reference13Ideal_pre_is_half [hReference13Ideal : Cert.Reference13Ideal.Facts] [hPre_is_half : Cert.Pre_is_half.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal_is_half m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1)
      ∧ r.2.mem ((c.tc : Thread Cert.Reference13Ideal.nD Cert.Reference13Ideal.τ).loc Cert.Reference13Ideal.main_arg2) = m ((c.tc : Thread Cert.Reference13Ideal.nD Cert.Reference13Ideal.τ).loc Cert.Reference13Ideal.main_arg2))
      ∧ r.2.sem = fun _ => 0)

def quiescent_Kernel14 [hKernel14 : Cert.Kernel14.Facts] [hPre_is_half_out : Cert.Pre_is_half_out.Facts] : Prop :=
  ∀ (m : (ℓ : Loc Cert.Kernel14.nD Cert.Kernel14.τ Cert.Kernel14.sig) → Buf (Elt Bits) ℓ) (g : Dev Cert.Kernel14.nD → PrngReg), Pre_Kernel14 m →
    θ_run (Cert.Kernel14.defs (F := Bits)) (onTc (τ := Cert.Kernel14.τ) (Cert.Kernel14.main (F := Bits))) ⟨m, fun _ => 0, g⟩ (fun r => (∀ c : Dev Cert.Kernel14.nD,
      r.2.mem ((c.tc : Thread Cert.Kernel14.nD Cert.Kernel14.τ).loc Cert.Kernel14.main_arg0) = m ((c.tc : Thread Cert.Kernel14.nD Cert.Kernel14.τ).loc Cert.Kernel14.main_arg0)
      ∧ r.2.mem ((c.tc : Thread Cert.Kernel14.nD Cert.Kernel14.τ).loc Cert.Kernel14.main_arg1) = m ((c.tc : Thread Cert.Kernel14.nD Cert.Kernel14.τ).loc Cert.Kernel14.main_arg1)
      ∧ r.2.mem ((c.tc : Thread Cert.Kernel14.nD Cert.Kernel14.τ).loc Cert.Kernel14.main_arg2) = m ((c.tc : Thread Cert.Kernel14.nD Cert.Kernel14.τ).loc Cert.Kernel14.main_arg2))
      ∧ r.2.sem = fun _ => 0)

def quiescent_Kernel14Ideal [hKernel14Ideal : Cert.Kernel14Ideal.Facts] [hPre_is_half_out : Cert.Pre_is_half_out.Facts] : Prop :=
  ∀ (m : (ℓ : Loc Cert.Kernel14Ideal.nD Cert.Kernel14Ideal.τ Cert.Kernel14Ideal.sig) → Buf (Elt Ideal) ℓ) (g : Dev Cert.Kernel14Ideal.nD → PrngReg), Pre_Kernel14Ideal m →
    θ_run (Cert.Kernel14Ideal.defs (F := Ideal)) (onTc (τ := Cert.Kernel14Ideal.τ) (Cert.Kernel14Ideal.main (F := Ideal))) ⟨m, fun _ => 0, g⟩ (fun r => (∀ c : Dev Cert.Kernel14Ideal.nD,
      r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
      ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
      ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2))
      ∧ r.2.sem = fun _ => 0)

def quiescent_Reference14Ideal [hReference14Ideal : Cert.Reference14Ideal.Facts] : Prop :=
  ∀ (m : (ℓ : Loc Cert.Reference14Ideal.nD Cert.Reference14Ideal.τ Cert.Reference14Ideal.sig) → Buf (Elt Ideal) ℓ) (g : Dev Cert.Reference14Ideal.nD → PrngReg), Pre_Reference14Ideal m →
    θ_run (Cert.Reference14Ideal.defs (F := Ideal)) (onTc (τ := Cert.Reference14Ideal.τ) (Cert.Reference14Ideal.main (F := Ideal))) ⟨m, fun _ => 0, g⟩ (fun r => (∀ c : Dev Cert.Reference14Ideal.nD,
      r.2.mem ((c.tc : Thread Cert.Reference14Ideal.nD Cert.Reference14Ideal.τ).loc Cert.Reference14Ideal.main_arg0) = m ((c.tc : Thread Cert.Reference14Ideal.nD Cert.Reference14Ideal.τ).loc Cert.Reference14Ideal.main_arg0)
      ∧ r.2.mem ((c.tc : Thread Cert.Reference14Ideal.nD Cert.Reference14Ideal.τ).loc Cert.Reference14Ideal.main_arg1) = m ((c.tc : Thread Cert.Reference14Ideal.nD Cert.Reference14Ideal.τ).loc Cert.Reference14Ideal.main_arg1)
      ∧ r.2.mem ((c.tc : Thread Cert.Reference14Ideal.nD Cert.Reference14Ideal.τ).loc Cert.Reference14Ideal.main_arg2) = m ((c.tc : Thread Cert.Reference14Ideal.nD Cert.Reference14Ideal.τ).loc Cert.Reference14Ideal.main_arg2))
      ∧ r.2.sem = fun _ => 0)

def quiescent_Reference14Ideal_pre_is_half_out [hReference14Ideal : Cert.Reference14Ideal.Facts] [hPre_is_half_out : Cert.Pre_is_half_out.Facts] : Prop :=
  ∀ (m : (ℓ : Loc Cert.Reference14Ideal.nD Cert.Reference14Ideal.τ Cert.Reference14Ideal.sig) → Buf (Elt Ideal) ℓ) (g : Dev Cert.Reference14Ideal.nD → PrngReg), Pre_Reference14Ideal_is_half_out m →
    θ_run (Cert.Reference14Ideal.defs (F := Ideal)) (onTc (τ := Cert.Reference14Ideal.τ) (Cert.Reference14Ideal.main (F := Ideal))) ⟨m, fun _ => 0, g⟩ (fun r => (∀ c : Dev Cert.Reference14Ideal.nD,
      r.2.mem ((c.tc : Thread Cert.Reference14Ideal.nD Cert.Reference14Ideal.τ).loc Cert.Reference14Ideal.main_arg0) = m ((c.tc : Thread Cert.Reference14Ideal.nD Cert.Reference14Ideal.τ).loc Cert.Reference14Ideal.main_arg0)
      ∧ r.2.mem ((c.tc : Thread Cert.Reference14Ideal.nD Cert.Reference14Ideal.τ).loc Cert.Reference14Ideal.main_arg1) = m ((c.tc : Thread Cert.Reference14Ideal.nD Cert.Reference14Ideal.τ).loc Cert.Reference14Ideal.main_arg1)
      ∧ r.2.mem ((c.tc : Thread Cert.Reference14Ideal.nD Cert.Reference14Ideal.τ).loc Cert.Reference14Ideal.main_arg2) = m ((c.tc : Thread Cert.Reference14Ideal.nD Cert.Reference14Ideal.τ).loc Cert.Reference14Ideal.main_arg2))
      ∧ r.2.sem = fun _ => 0)

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)) →
    ∃ (v0 : (c : Dev Cert.Kernel2Ideal.nD) → Buf (Elt Ideal) ((c.tc : Thread Cert.Kernel2Ideal.nD Cert.Kernel2Ideal.τ).loc Cert.Kernel2Ideal.main_v0_0)) (v1 : (c : Dev Cert.Kernel2Ideal.nD) → Buf (Elt Ideal) ((c.tc : Thread Cert.Kernel2Ideal.nD Cert.Kernel2Ideal.τ).loc Cert.Kernel2Ideal.main_v0_1)) (v2 : (c : Dev Cert.Kernel2Ideal.nD) → Buf (Elt Ideal) ((c.tc : Thread Cert.Kernel2Ideal.nD Cert.Kernel2Ideal.τ).loc Cert.Kernel2Ideal.main_v0_2)) (v3 : (c : Dev Cert.Kernel2Ideal.nD) → Buf (Elt Ideal) ((c.tc : Thread Cert.Kernel2Ideal.nD Cert.Kernel2Ideal.τ).loc Cert.Kernel2Ideal.main_v0_3)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v0_0) = v0 c
          ∧ r.2.mem ((c.tc : Thread Cert.Kernel2Ideal.nD Cert.Kernel2Ideal.τ).loc Cert.Kernel2Ideal.main_v0_1) = v1 c
          ∧ r.2.mem ((c.tc : Thread Cert.Kernel2Ideal.nD Cert.Kernel2Ideal.τ).loc Cert.Kernel2Ideal.main_v0_2) = v2 c
          ∧ r.2.mem ((c.tc : Thread Cert.Kernel2Ideal.nD Cert.Kernel2Ideal.τ).loc Cert.Kernel2Ideal.main_v0_3) = v3 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v57) = v0 c
          ∧ r.2.mem ((c.tc : Thread Cert.Reference2Ideal.nD Cert.Reference2Ideal.τ).loc Cert.Reference2Ideal.main_v63) = v1 c
          ∧ r.2.mem ((c.tc : Thread Cert.Reference2Ideal.nD Cert.Reference2Ideal.τ).loc Cert.Reference2Ideal.main_v58) = v2 c
          ∧ r.2.mem ((c.tc : Thread Cert.Reference2Ideal.nD Cert.Reference2Ideal.τ).loc Cert.Reference2Ideal.main_v62) = v3 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)) →
    ∃ (v0 : (c : Dev Cert.Kernel3Ideal.nD) → Buf (Elt Ideal) ((c.tc : Thread Cert.Kernel3Ideal.nD Cert.Kernel3Ideal.τ).loc Cert.Kernel3Ideal.main_v0)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v0) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v9) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)) →
    ∃ (v0 : (c : Dev Cert.Kernel4Ideal.nD) → Buf (Elt Ideal) ((c.tc : Thread Cert.Kernel4Ideal.nD Cert.Kernel4Ideal.τ).loc Cert.Kernel4Ideal.main_v0_0)) (v1 : (c : Dev Cert.Kernel4Ideal.nD) → Buf (Elt Ideal) ((c.tc : Thread Cert.Kernel4Ideal.nD Cert.Kernel4Ideal.τ).loc Cert.Kernel4Ideal.main_v0_1)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v0_0) = v0 c
          ∧ r.2.mem ((c.tc : Thread Cert.Kernel4Ideal.nD Cert.Kernel4Ideal.τ).loc Cert.Kernel4Ideal.main_v0_1) = v1 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v45) = v0 c
          ∧ r.2.mem ((c.tc : Thread Cert.Reference4Ideal.nD Cert.Reference4Ideal.τ).loc Cert.Reference4Ideal.main_v48) = v1 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)) →
    ∃ (v0 : (c : Dev Cert.Kernel5Ideal.nD) → Buf (Elt Ideal) ((c.tc : Thread Cert.Kernel5Ideal.nD Cert.Kernel5Ideal.τ).loc Cert.Kernel5Ideal.main_v0)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v0) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v7) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)) →
    ∃ (v0 : (c : Dev Cert.Kernel6Ideal.nD) → Buf (Elt Ideal) ((c.tc : Thread Cert.Kernel6Ideal.nD Cert.Kernel6Ideal.τ).loc Cert.Kernel6Ideal.main_v0_0)) (v1 : (c : Dev Cert.Kernel6Ideal.nD) → Buf (Elt Ideal) ((c.tc : Thread Cert.Kernel6Ideal.nD Cert.Kernel6Ideal.τ).loc Cert.Kernel6Ideal.main_v0_1)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v0_0) = v0 c
          ∧ r.2.mem ((c.tc : Thread Cert.Kernel6Ideal.nD Cert.Kernel6Ideal.τ).loc Cert.Kernel6Ideal.main_v0_1) = v1 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v19) = v0 c
          ∧ r.2.mem ((c.tc : Thread Cert.Reference6Ideal.nD Cert.Reference6Ideal.τ).loc Cert.Reference6Ideal.main_v17) = v1 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)
      ∧ m' ((c.tc : Thread Cert.Reference7Ideal.nD Cert.Reference7Ideal.τ).loc Cert.Reference7Ideal.main_arg3) = m ((c.tc : Thread Cert.Kernel7Ideal.nD Cert.Kernel7Ideal.τ).loc Cert.Kernel7Ideal.main_arg3)) →
    ∃ (v0 : (c : Dev Cert.Kernel7Ideal.nD) → Buf (Elt Ideal) ((c.tc : Thread Cert.Kernel7Ideal.nD Cert.Kernel7Ideal.τ).loc Cert.Kernel7Ideal.main_v0_0)) (v1 : (c : Dev Cert.Kernel7Ideal.nD) → Buf (Elt Ideal) ((c.tc : Thread Cert.Kernel7Ideal.nD Cert.Kernel7Ideal.τ).loc Cert.Kernel7Ideal.main_v0_1)) (v2 : (c : Dev Cert.Kernel7Ideal.nD) → Buf (Elt Ideal) ((c.tc : Thread Cert.Kernel7Ideal.nD Cert.Kernel7Ideal.τ).loc Cert.Kernel7Ideal.main_v0_2)) (v3 : (c : Dev Cert.Kernel7Ideal.nD) → Buf (Elt Ideal) ((c.tc : Thread Cert.Kernel7Ideal.nD Cert.Kernel7Ideal.τ).loc Cert.Kernel7Ideal.main_v0_3)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v0_0) = v0 c
          ∧ r.2.mem ((c.tc : Thread Cert.Kernel7Ideal.nD Cert.Kernel7Ideal.τ).loc Cert.Kernel7Ideal.main_v0_1) = v1 c
          ∧ r.2.mem ((c.tc : Thread Cert.Kernel7Ideal.nD Cert.Kernel7Ideal.τ).loc Cert.Kernel7Ideal.main_v0_2) = v2 c
          ∧ r.2.mem ((c.tc : Thread Cert.Kernel7Ideal.nD Cert.Kernel7Ideal.τ).loc Cert.Kernel7Ideal.main_v0_3) = v3 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
          ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v1) = v0 c
          ∧ r.2.mem ((c.tc : Thread Cert.Reference7Ideal.nD Cert.Reference7Ideal.τ).loc Cert.Reference7Ideal.main_v25) = v1 c
          ∧ r.2.mem ((c.tc : Thread Cert.Reference7Ideal.nD Cert.Reference7Ideal.τ).loc Cert.Reference7Ideal.main_v6) = v2 c
          ∧ r.2.mem ((c.tc : Thread Cert.Reference7Ideal.nD Cert.Reference7Ideal.τ).loc Cert.Reference7Ideal.main_v12) = v3 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2)
          ∧ r.2.mem ((c.tc : Thread Cert.Reference7Ideal.nD Cert.Reference7Ideal.τ).loc Cert.Reference7Ideal.main_arg3) = m' ((c.tc : Thread Cert.Reference7Ideal.nD Cert.Reference7Ideal.τ).loc Cert.Reference7Ideal.main_arg3))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)
      ∧ m' ((c.tc : Thread Cert.Reference8Ideal.nD Cert.Reference8Ideal.τ).loc Cert.Reference8Ideal.main_arg3) = m ((c.tc : Thread Cert.Kernel8Ideal.nD Cert.Kernel8Ideal.τ).loc Cert.Kernel8Ideal.main_arg3)) →
    ∃ (v0 : (c : Dev Cert.Kernel8Ideal.nD) → Buf (Elt Ideal) ((c.tc : Thread Cert.Kernel8Ideal.nD Cert.Kernel8Ideal.τ).loc Cert.Kernel8Ideal.main_v0_0)) (v1 : (c : Dev Cert.Kernel8Ideal.nD) → Buf (Elt Ideal) ((c.tc : Thread Cert.Kernel8Ideal.nD Cert.Kernel8Ideal.τ).loc Cert.Kernel8Ideal.main_v0_1)) (v2 : (c : Dev Cert.Kernel8Ideal.nD) → Buf (Elt Ideal) ((c.tc : Thread Cert.Kernel8Ideal.nD Cert.Kernel8Ideal.τ).loc Cert.Kernel8Ideal.main_v0_2)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v0_0) = v0 c
          ∧ r.2.mem ((c.tc : Thread Cert.Kernel8Ideal.nD Cert.Kernel8Ideal.τ).loc Cert.Kernel8Ideal.main_v0_1) = v1 c
          ∧ r.2.mem ((c.tc : Thread Cert.Kernel8Ideal.nD Cert.Kernel8Ideal.τ).loc Cert.Kernel8Ideal.main_v0_2) = v2 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
          ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v23) = v0 c
          ∧ r.2.mem ((c.tc : Thread Cert.Reference8Ideal.nD Cert.Reference8Ideal.τ).loc Cert.Reference8Ideal.main_v4) = v1 c
          ∧ r.2.mem ((c.tc : Thread Cert.Reference8Ideal.nD Cert.Reference8Ideal.τ).loc Cert.Reference8Ideal.main_v10) = v2 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2)
          ∧ r.2.mem ((c.tc : Thread Cert.Reference8Ideal.nD Cert.Reference8Ideal.τ).loc Cert.Reference8Ideal.main_arg3) = m' ((c.tc : Thread Cert.Reference8Ideal.nD Cert.Reference8Ideal.τ).loc Cert.Reference8Ideal.main_arg3))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)
      ∧ m' ((c.tc : Thread Cert.Reference9Ideal.nD Cert.Reference9Ideal.τ).loc Cert.Reference9Ideal.main_arg2) = m ((c.tc : Thread Cert.Kernel9Ideal.nD Cert.Kernel9Ideal.τ).loc Cert.Kernel9Ideal.main_arg2)
      ∧ m' ((c.tc : Thread Cert.Reference9Ideal.nD Cert.Reference9Ideal.τ).loc Cert.Reference9Ideal.main_arg3) = m ((c.tc : Thread Cert.Kernel9Ideal.nD Cert.Kernel9Ideal.τ).loc Cert.Kernel9Ideal.main_arg3)
      ∧ m' ((c.tc : Thread Cert.Reference9Ideal.nD Cert.Reference9Ideal.τ).loc Cert.Reference9Ideal.main_arg4) = m ((c.tc : Thread Cert.Kernel9Ideal.nD Cert.Kernel9Ideal.τ).loc Cert.Kernel9Ideal.main_arg4)
      ∧ m' ((c.tc : Thread Cert.Reference9Ideal.nD Cert.Reference9Ideal.τ).loc Cert.Reference9Ideal.main_arg5) = m ((c.tc : Thread Cert.Kernel9Ideal.nD Cert.Kernel9Ideal.τ).loc Cert.Kernel9Ideal.main_arg5)
      ∧ m' ((c.tc : Thread Cert.Reference9Ideal.nD Cert.Reference9Ideal.τ).loc Cert.Reference9Ideal.main_arg6) = m ((c.tc : Thread Cert.Kernel9Ideal.nD Cert.Kernel9Ideal.τ).loc Cert.Kernel9Ideal.main_arg6)
      ∧ m' ((c.tc : Thread Cert.Reference9Ideal.nD Cert.Reference9Ideal.τ).loc Cert.Reference9Ideal.main_arg7) = m ((c.tc : Thread Cert.Kernel9Ideal.nD Cert.Kernel9Ideal.τ).loc Cert.Kernel9Ideal.main_arg7)
      ∧ m' ((c.tc : Thread Cert.Reference9Ideal.nD Cert.Reference9Ideal.τ).loc Cert.Reference9Ideal.main_arg8) = m ((c.tc : Thread Cert.Kernel9Ideal.nD Cert.Kernel9Ideal.τ).loc Cert.Kernel9Ideal.main_arg8)
      ∧ m' ((c.tc : Thread Cert.Reference9Ideal.nD Cert.Reference9Ideal.τ).loc Cert.Reference9Ideal.main_arg9) = m ((c.tc : Thread Cert.Kernel9Ideal.nD Cert.Kernel9Ideal.τ).loc Cert.Kernel9Ideal.main_arg9)
      ∧ m' ((c.tc : Thread Cert.Reference9Ideal.nD Cert.Reference9Ideal.τ).loc Cert.Reference9Ideal.main_arg10) = m ((c.tc : Thread Cert.Kernel9Ideal.nD Cert.Kernel9Ideal.τ).loc Cert.Kernel9Ideal.main_arg10)
      ∧ m' ((c.tc : Thread Cert.Reference9Ideal.nD Cert.Reference9Ideal.τ).loc Cert.Reference9Ideal.main_arg11) = m ((c.tc : Thread Cert.Kernel9Ideal.nD Cert.Kernel9Ideal.τ).loc Cert.Kernel9Ideal.main_arg11)) →
    ∃ (v0 : (c : Dev Cert.Kernel9Ideal.nD) → Buf (Elt Ideal) ((c.tc : Thread Cert.Kernel9Ideal.nD Cert.Kernel9Ideal.τ).loc Cert.Kernel9Ideal.main_v0_0)) (v1 : (c : Dev Cert.Kernel9Ideal.nD) → Buf (Elt Ideal) ((c.tc : Thread Cert.Kernel9Ideal.nD Cert.Kernel9Ideal.τ).loc Cert.Kernel9Ideal.main_v0_1)) (v2 : (c : Dev Cert.Kernel9Ideal.nD) → Buf (Elt Ideal) ((c.tc : Thread Cert.Kernel9Ideal.nD Cert.Kernel9Ideal.τ).loc Cert.Kernel9Ideal.main_v0_2)) (v3 : (c : Dev Cert.Kernel9Ideal.nD) → Buf (Elt Ideal) ((c.tc : Thread Cert.Kernel9Ideal.nD Cert.Kernel9Ideal.τ).loc Cert.Kernel9Ideal.main_v0_3)) (v4 : (c : Dev Cert.Kernel9Ideal.nD) → Buf (Elt Ideal) ((c.tc : Thread Cert.Kernel9Ideal.nD Cert.Kernel9Ideal.τ).loc Cert.Kernel9Ideal.main_v0_4)) (v5 : (c : Dev Cert.Kernel9Ideal.nD) → Buf (Elt Ideal) ((c.tc : Thread Cert.Kernel9Ideal.nD Cert.Kernel9Ideal.τ).loc Cert.Kernel9Ideal.main_v0_5)) (v6 : (c : Dev Cert.Kernel9Ideal.nD) → Buf (Elt Ideal) ((c.tc : Thread Cert.Kernel9Ideal.nD Cert.Kernel9Ideal.τ).loc Cert.Kernel9Ideal.main_v0_6)) (v7 : (c : Dev Cert.Kernel9Ideal.nD) → Buf (Elt Ideal) ((c.tc : Thread Cert.Kernel9Ideal.nD Cert.Kernel9Ideal.τ).loc Cert.Kernel9Ideal.main_v0_7)) (v8 : (c : Dev Cert.Kernel9Ideal.nD) → Buf (Elt Ideal) ((c.tc : Thread Cert.Kernel9Ideal.nD Cert.Kernel9Ideal.τ).loc Cert.Kernel9Ideal.main_v0_8)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v0_0) = v0 c
          ∧ r.2.mem ((c.tc : Thread Cert.Kernel9Ideal.nD Cert.Kernel9Ideal.τ).loc Cert.Kernel9Ideal.main_v0_1) = v1 c
          ∧ r.2.mem ((c.tc : Thread Cert.Kernel9Ideal.nD Cert.Kernel9Ideal.τ).loc Cert.Kernel9Ideal.main_v0_2) = v2 c
          ∧ r.2.mem ((c.tc : Thread Cert.Kernel9Ideal.nD Cert.Kernel9Ideal.τ).loc Cert.Kernel9Ideal.main_v0_3) = v3 c
          ∧ r.2.mem ((c.tc : Thread Cert.Kernel9Ideal.nD Cert.Kernel9Ideal.τ).loc Cert.Kernel9Ideal.main_v0_4) = v4 c
          ∧ r.2.mem ((c.tc : Thread Cert.Kernel9Ideal.nD Cert.Kernel9Ideal.τ).loc Cert.Kernel9Ideal.main_v0_5) = v5 c
          ∧ r.2.mem ((c.tc : Thread Cert.Kernel9Ideal.nD Cert.Kernel9Ideal.τ).loc Cert.Kernel9Ideal.main_v0_6) = v6 c
          ∧ r.2.mem ((c.tc : Thread Cert.Kernel9Ideal.nD Cert.Kernel9Ideal.τ).loc Cert.Kernel9Ideal.main_v0_7) = v7 c
          ∧ r.2.mem ((c.tc : Thread Cert.Kernel9Ideal.nD Cert.Kernel9Ideal.τ).loc Cert.Kernel9Ideal.main_v0_8) = v8 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
          ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
          ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3)
          ∧ r.2.mem ((c.tc : Thread Cert.Kernel9Ideal.nD Cert.Kernel9Ideal.τ).loc Cert.Kernel9Ideal.main_arg4) = m ((c.tc : Thread Cert.Kernel9Ideal.nD Cert.Kernel9Ideal.τ).loc Cert.Kernel9Ideal.main_arg4)
          ∧ r.2.mem ((c.tc : Thread Cert.Kernel9Ideal.nD Cert.Kernel9Ideal.τ).loc Cert.Kernel9Ideal.main_arg5) = m ((c.tc : Thread Cert.Kernel9Ideal.nD Cert.Kernel9Ideal.τ).loc Cert.Kernel9Ideal.main_arg5)
          ∧ r.2.mem ((c.tc : Thread Cert.Kernel9Ideal.nD Cert.Kernel9Ideal.τ).loc Cert.Kernel9Ideal.main_arg6) = m ((c.tc : Thread Cert.Kernel9Ideal.nD Cert.Kernel9Ideal.τ).loc Cert.Kernel9Ideal.main_arg6)
          ∧ r.2.mem ((c.tc : Thread Cert.Kernel9Ideal.nD Cert.Kernel9Ideal.τ).loc Cert.Kernel9Ideal.main_arg7) = m ((c.tc : Thread Cert.Kernel9Ideal.nD Cert.Kernel9Ideal.τ).loc Cert.Kernel9Ideal.main_arg7)
          ∧ r.2.mem ((c.tc : Thread Cert.Kernel9Ideal.nD Cert.Kernel9Ideal.τ).loc Cert.Kernel9Ideal.main_arg8) = m ((c.tc : Thread Cert.Kernel9Ideal.nD Cert.Kernel9Ideal.τ).loc Cert.Kernel9Ideal.main_arg8)
          ∧ r.2.mem ((c.tc : Thread Cert.Kernel9Ideal.nD Cert.Kernel9Ideal.τ).loc Cert.Kernel9Ideal.main_arg9) = m ((c.tc : Thread Cert.Kernel9Ideal.nD Cert.Kernel9Ideal.τ).loc Cert.Kernel9Ideal.main_arg9)
          ∧ r.2.mem ((c.tc : Thread Cert.Kernel9Ideal.nD Cert.Kernel9Ideal.τ).loc Cert.Kernel9Ideal.main_arg10) = m ((c.tc : Thread Cert.Kernel9Ideal.nD Cert.Kernel9Ideal.τ).loc Cert.Kernel9Ideal.main_arg10)
          ∧ r.2.mem ((c.tc : Thread Cert.Kernel9Ideal.nD Cert.Kernel9Ideal.τ).loc Cert.Kernel9Ideal.main_arg11) = m ((c.tc : Thread Cert.Kernel9Ideal.nD Cert.Kernel9Ideal.τ).loc Cert.Kernel9Ideal.main_arg11))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v23) = v0 c
          ∧ r.2.mem ((c.tc : Thread Cert.Reference9Ideal.nD Cert.Reference9Ideal.τ).loc Cert.Reference9Ideal.main_v47) = v1 c
          ∧ r.2.mem ((c.tc : Thread Cert.Reference9Ideal.nD Cert.Reference9Ideal.τ).loc Cert.Reference9Ideal.main_v71) = v2 c
          ∧ r.2.mem ((c.tc : Thread Cert.Reference9Ideal.nD Cert.Reference9Ideal.τ).loc Cert.Reference9Ideal.main_v4) = v3 c
          ∧ r.2.mem ((c.tc : Thread Cert.Reference9Ideal.nD Cert.Reference9Ideal.τ).loc Cert.Reference9Ideal.main_v28) = v4 c
          ∧ r.2.mem ((c.tc : Thread Cert.Reference9Ideal.nD Cert.Reference9Ideal.τ).loc Cert.Reference9Ideal.main_v52) = v5 c
          ∧ r.2.mem ((c.tc : Thread Cert.Reference9Ideal.nD Cert.Reference9Ideal.τ).loc Cert.Reference9Ideal.main_v10) = v6 c
          ∧ r.2.mem ((c.tc : Thread Cert.Reference9Ideal.nD Cert.Reference9Ideal.τ).loc Cert.Reference9Ideal.main_v34) = v7 c
          ∧ r.2.mem ((c.tc : Thread Cert.Reference9Ideal.nD Cert.Reference9Ideal.τ).loc Cert.Reference9Ideal.main_v58) = v8 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1)
          ∧ r.2.mem ((c.tc : Thread Cert.Reference9Ideal.nD Cert.Reference9Ideal.τ).loc Cert.Reference9Ideal.main_arg2) = m' ((c.tc : Thread Cert.Reference9Ideal.nD Cert.Reference9Ideal.τ).loc Cert.Reference9Ideal.main_arg2)
          ∧ r.2.mem ((c.tc : Thread Cert.Reference9Ideal.nD Cert.Reference9Ideal.τ).loc Cert.Reference9Ideal.main_arg3) = m' ((c.tc : Thread Cert.Reference9Ideal.nD Cert.Reference9Ideal.τ).loc Cert.Reference9Ideal.main_arg3)
          ∧ r.2.mem ((c.tc : Thread Cert.Reference9Ideal.nD Cert.Reference9Ideal.τ).loc Cert.Reference9Ideal.main_arg4) = m' ((c.tc : Thread Cert.Reference9Ideal.nD Cert.Reference9Ideal.τ).loc Cert.Reference9Ideal.main_arg4)
          ∧ r.2.mem ((c.tc : Thread Cert.Reference9Ideal.nD Cert.Reference9Ideal.τ).loc Cert.Reference9Ideal.main_arg5) = m' ((c.tc : Thread Cert.Reference9Ideal.nD Cert.Reference9Ideal.τ).loc Cert.Reference9Ideal.main_arg5)
          ∧ r.2.mem ((c.tc : Thread Cert.Reference9Ideal.nD Cert.Reference9Ideal.τ).loc Cert.Reference9Ideal.main_arg6) = m' ((c.tc : Thread Cert.Reference9Ideal.nD Cert.Reference9Ideal.τ).loc Cert.Reference9Ideal.main_arg6)
          ∧ r.2.mem ((c.tc : Thread Cert.Reference9Ideal.nD Cert.Reference9Ideal.τ).loc Cert.Reference9Ideal.main_arg7) = m' ((c.tc : Thread Cert.Reference9Ideal.nD Cert.Reference9Ideal.τ).loc Cert.Reference9Ideal.main_arg7)
          ∧ r.2.mem ((c.tc : Thread Cert.Reference9Ideal.nD Cert.Reference9Ideal.τ).loc Cert.Reference9Ideal.main_arg8) = m' ((c.tc : Thread Cert.Reference9Ideal.nD Cert.Reference9Ideal.τ).loc Cert.Reference9Ideal.main_arg8)
          ∧ r.2.mem ((c.tc : Thread Cert.Reference9Ideal.nD Cert.Reference9Ideal.τ).loc Cert.Reference9Ideal.main_arg9) = m' ((c.tc : Thread Cert.Reference9Ideal.nD Cert.Reference9Ideal.τ).loc Cert.Reference9Ideal.main_arg9)
          ∧ r.2.mem ((c.tc : Thread Cert.Reference9Ideal.nD Cert.Reference9Ideal.τ).loc Cert.Reference9Ideal.main_arg10) = m' ((c.tc : Thread Cert.Reference9Ideal.nD Cert.Reference9Ideal.τ).loc Cert.Reference9Ideal.main_arg10)
          ∧ r.2.mem ((c.tc : Thread Cert.Reference9Ideal.nD Cert.Reference9Ideal.τ).loc Cert.Reference9Ideal.main_arg11) = m' ((c.tc : Thread Cert.Reference9Ideal.nD Cert.Reference9Ideal.τ).loc Cert.Reference9Ideal.main_arg11))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)
      ∧ m' ((c.tc : Thread Cert.Reference10Ideal.nD Cert.Reference10Ideal.τ).loc Cert.Reference10Ideal.main_arg2) = m ((c.tc : Thread Cert.Kernel10Ideal.nD Cert.Kernel10Ideal.τ).loc Cert.Kernel10Ideal.main_arg2)
      ∧ m' ((c.tc : Thread Cert.Reference10Ideal.nD Cert.Reference10Ideal.τ).loc Cert.Reference10Ideal.main_arg3) = m ((c.tc : Thread Cert.Kernel10Ideal.nD Cert.Kernel10Ideal.τ).loc Cert.Kernel10Ideal.main_arg3)
      ∧ m' ((c.tc : Thread Cert.Reference10Ideal.nD Cert.Reference10Ideal.τ).loc Cert.Reference10Ideal.main_arg4) = m ((c.tc : Thread Cert.Kernel10Ideal.nD Cert.Kernel10Ideal.τ).loc Cert.Kernel10Ideal.main_arg4)
      ∧ m' ((c.tc : Thread Cert.Reference10Ideal.nD Cert.Reference10Ideal.τ).loc Cert.Reference10Ideal.main_arg5) = m ((c.tc : Thread Cert.Kernel10Ideal.nD Cert.Kernel10Ideal.τ).loc Cert.Kernel10Ideal.main_arg5)
      ∧ m' ((c.tc : Thread Cert.Reference10Ideal.nD Cert.Reference10Ideal.τ).loc Cert.Reference10Ideal.main_arg6) = m ((c.tc : Thread Cert.Kernel10Ideal.nD Cert.Kernel10Ideal.τ).loc Cert.Kernel10Ideal.main_arg6)
      ∧ m' ((c.tc : Thread Cert.Reference10Ideal.nD Cert.Reference10Ideal.τ).loc Cert.Reference10Ideal.main_arg7) = m ((c.tc : Thread Cert.Kernel10Ideal.nD Cert.Kernel10Ideal.τ).loc Cert.Kernel10Ideal.main_arg7)
      ∧ m' ((c.tc : Thread Cert.Reference10Ideal.nD Cert.Reference10Ideal.τ).loc Cert.Reference10Ideal.main_arg8) = m ((c.tc : Thread Cert.Kernel10Ideal.nD Cert.Kernel10Ideal.τ).loc Cert.Kernel10Ideal.main_arg8)
      ∧ m' ((c.tc : Thread Cert.Reference10Ideal.nD Cert.Reference10Ideal.τ).loc Cert.Reference10Ideal.main_arg9) = m ((c.tc : Thread Cert.Kernel10Ideal.nD Cert.Kernel10Ideal.τ).loc Cert.Kernel10Ideal.main_arg9)
      ∧ m' ((c.tc : Thread Cert.Reference10Ideal.nD Cert.Reference10Ideal.τ).loc Cert.Reference10Ideal.main_arg10) = m ((c.tc : Thread Cert.Kernel10Ideal.nD Cert.Kernel10Ideal.τ).loc Cert.Kernel10Ideal.main_arg10)
      ∧ m' ((c.tc : Thread Cert.Reference10Ideal.nD Cert.Reference10Ideal.τ).loc Cert.Reference10Ideal.main_arg11) = m ((c.tc : Thread Cert.Kernel10Ideal.nD Cert.Kernel10Ideal.τ).loc Cert.Kernel10Ideal.main_arg11)) →
    ∃ (v0 : (c : Dev Cert.Kernel10Ideal.nD) → Buf (Elt Ideal) ((c.tc : Thread Cert.Kernel10Ideal.nD Cert.Kernel10Ideal.τ).loc Cert.Kernel10Ideal.main_v0_0)) (v1 : (c : Dev Cert.Kernel10Ideal.nD) → Buf (Elt Ideal) ((c.tc : Thread Cert.Kernel10Ideal.nD Cert.Kernel10Ideal.τ).loc Cert.Kernel10Ideal.main_v0_1)) (v2 : (c : Dev Cert.Kernel10Ideal.nD) → Buf (Elt Ideal) ((c.tc : Thread Cert.Kernel10Ideal.nD Cert.Kernel10Ideal.τ).loc Cert.Kernel10Ideal.main_v0_2)) (v3 : (c : Dev Cert.Kernel10Ideal.nD) → Buf (Elt Ideal) ((c.tc : Thread Cert.Kernel10Ideal.nD Cert.Kernel10Ideal.τ).loc Cert.Kernel10Ideal.main_v0_3)) (v4 : (c : Dev Cert.Kernel10Ideal.nD) → Buf (Elt Ideal) ((c.tc : Thread Cert.Kernel10Ideal.nD Cert.Kernel10Ideal.τ).loc Cert.Kernel10Ideal.main_v0_4)) (v5 : (c : Dev Cert.Kernel10Ideal.nD) → Buf (Elt Ideal) ((c.tc : Thread Cert.Kernel10Ideal.nD Cert.Kernel10Ideal.τ).loc Cert.Kernel10Ideal.main_v0_5)) (v6 : (c : Dev Cert.Kernel10Ideal.nD) → Buf (Elt Ideal) ((c.tc : Thread Cert.Kernel10Ideal.nD Cert.Kernel10Ideal.τ).loc Cert.Kernel10Ideal.main_v0_6)) (v7 : (c : Dev Cert.Kernel10Ideal.nD) → Buf (Elt Ideal) ((c.tc : Thread Cert.Kernel10Ideal.nD Cert.Kernel10Ideal.τ).loc Cert.Kernel10Ideal.main_v0_7)) (v8 : (c : Dev Cert.Kernel10Ideal.nD) → Buf (Elt Ideal) ((c.tc : Thread Cert.Kernel10Ideal.nD Cert.Kernel10Ideal.τ).loc Cert.Kernel10Ideal.main_v0_8)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v0_0) = v0 c
          ∧ r.2.mem ((c.tc : Thread Cert.Kernel10Ideal.nD Cert.Kernel10Ideal.τ).loc Cert.Kernel10Ideal.main_v0_1) = v1 c
          ∧ r.2.mem ((c.tc : Thread Cert.Kernel10Ideal.nD Cert.Kernel10Ideal.τ).loc Cert.Kernel10Ideal.main_v0_2) = v2 c
          ∧ r.2.mem ((c.tc : Thread Cert.Kernel10Ideal.nD Cert.Kernel10Ideal.τ).loc Cert.Kernel10Ideal.main_v0_3) = v3 c
          ∧ r.2.mem ((c.tc : Thread Cert.Kernel10Ideal.nD Cert.Kernel10Ideal.τ).loc Cert.Kernel10Ideal.main_v0_4) = v4 c
          ∧ r.2.mem ((c.tc : Thread Cert.Kernel10Ideal.nD Cert.Kernel10Ideal.τ).loc Cert.Kernel10Ideal.main_v0_5) = v5 c
          ∧ r.2.mem ((c.tc : Thread Cert.Kernel10Ideal.nD Cert.Kernel10Ideal.τ).loc Cert.Kernel10Ideal.main_v0_6) = v6 c
          ∧ r.2.mem ((c.tc : Thread Cert.Kernel10Ideal.nD Cert.Kernel10Ideal.τ).loc Cert.Kernel10Ideal.main_v0_7) = v7 c
          ∧ r.2.mem ((c.tc : Thread Cert.Kernel10Ideal.nD Cert.Kernel10Ideal.τ).loc Cert.Kernel10Ideal.main_v0_8) = v8 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
          ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
          ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3)
          ∧ r.2.mem ((c.tc : Thread Cert.Kernel10Ideal.nD Cert.Kernel10Ideal.τ).loc Cert.Kernel10Ideal.main_arg4) = m ((c.tc : Thread Cert.Kernel10Ideal.nD Cert.Kernel10Ideal.τ).loc Cert.Kernel10Ideal.main_arg4)
          ∧ r.2.mem ((c.tc : Thread Cert.Kernel10Ideal.nD Cert.Kernel10Ideal.τ).loc Cert.Kernel10Ideal.main_arg5) = m ((c.tc : Thread Cert.Kernel10Ideal.nD Cert.Kernel10Ideal.τ).loc Cert.Kernel10Ideal.main_arg5)
          ∧ r.2.mem ((c.tc : Thread Cert.Kernel10Ideal.nD Cert.Kernel10Ideal.τ).loc Cert.Kernel10Ideal.main_arg6) = m ((c.tc : Thread Cert.Kernel10Ideal.nD Cert.Kernel10Ideal.τ).loc Cert.Kernel10Ideal.main_arg6)
          ∧ r.2.mem ((c.tc : Thread Cert.Kernel10Ideal.nD Cert.Kernel10Ideal.τ).loc Cert.Kernel10Ideal.main_arg7) = m ((c.tc : Thread Cert.Kernel10Ideal.nD Cert.Kernel10Ideal.τ).loc Cert.Kernel10Ideal.main_arg7)
          ∧ r.2.mem ((c.tc : Thread Cert.Kernel10Ideal.nD Cert.Kernel10Ideal.τ).loc Cert.Kernel10Ideal.main_arg8) = m ((c.tc : Thread Cert.Kernel10Ideal.nD Cert.Kernel10Ideal.τ).loc Cert.Kernel10Ideal.main_arg8)
          ∧ r.2.mem ((c.tc : Thread Cert.Kernel10Ideal.nD Cert.Kernel10Ideal.τ).loc Cert.Kernel10Ideal.main_arg9) = m ((c.tc : Thread Cert.Kernel10Ideal.nD Cert.Kernel10Ideal.τ).loc Cert.Kernel10Ideal.main_arg9)
          ∧ r.2.mem ((c.tc : Thread Cert.Kernel10Ideal.nD Cert.Kernel10Ideal.τ).loc Cert.Kernel10Ideal.main_arg10) = m ((c.tc : Thread Cert.Kernel10Ideal.nD Cert.Kernel10Ideal.τ).loc Cert.Kernel10Ideal.main_arg10)
          ∧ r.2.mem ((c.tc : Thread Cert.Kernel10Ideal.nD Cert.Kernel10Ideal.τ).loc Cert.Kernel10Ideal.main_arg11) = m ((c.tc : Thread Cert.Kernel10Ideal.nD Cert.Kernel10Ideal.τ).loc Cert.Kernel10Ideal.main_arg11))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v23) = v0 c
          ∧ r.2.mem ((c.tc : Thread Cert.Reference10Ideal.nD Cert.Reference10Ideal.τ).loc Cert.Reference10Ideal.main_v47) = v1 c
          ∧ r.2.mem ((c.tc : Thread Cert.Reference10Ideal.nD Cert.Reference10Ideal.τ).loc Cert.Reference10Ideal.main_v71) = v2 c
          ∧ r.2.mem ((c.tc : Thread Cert.Reference10Ideal.nD Cert.Reference10Ideal.τ).loc Cert.Reference10Ideal.main_v4) = v3 c
          ∧ r.2.mem ((c.tc : Thread Cert.Reference10Ideal.nD Cert.Reference10Ideal.τ).loc Cert.Reference10Ideal.main_v28) = v4 c
          ∧ r.2.mem ((c.tc : Thread Cert.Reference10Ideal.nD Cert.Reference10Ideal.τ).loc Cert.Reference10Ideal.main_v52) = v5 c
          ∧ r.2.mem ((c.tc : Thread Cert.Reference10Ideal.nD Cert.Reference10Ideal.τ).loc Cert.Reference10Ideal.main_v10) = v6 c
          ∧ r.2.mem ((c.tc : Thread Cert.Reference10Ideal.nD Cert.Reference10Ideal.τ).loc Cert.Reference10Ideal.main_v34) = v7 c
          ∧ r.2.mem ((c.tc : Thread Cert.Reference10Ideal.nD Cert.Reference10Ideal.τ).loc Cert.Reference10Ideal.main_v58) = v8 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1)
          ∧ r.2.mem ((c.tc : Thread Cert.Reference10Ideal.nD Cert.Reference10Ideal.τ).loc Cert.Reference10Ideal.main_arg2) = m' ((c.tc : Thread Cert.Reference10Ideal.nD Cert.Reference10Ideal.τ).loc Cert.Reference10Ideal.main_arg2)
          ∧ r.2.mem ((c.tc : Thread Cert.Reference10Ideal.nD Cert.Reference10Ideal.τ).loc Cert.Reference10Ideal.main_arg3) = m' ((c.tc : Thread Cert.Reference10Ideal.nD Cert.Reference10Ideal.τ).loc Cert.Reference10Ideal.main_arg3)
          ∧ r.2.mem ((c.tc : Thread Cert.Reference10Ideal.nD Cert.Reference10Ideal.τ).loc Cert.Reference10Ideal.main_arg4) = m' ((c.tc : Thread Cert.Reference10Ideal.nD Cert.Reference10Ideal.τ).loc Cert.Reference10Ideal.main_arg4)
          ∧ r.2.mem ((c.tc : Thread Cert.Reference10Ideal.nD Cert.Reference10Ideal.τ).loc Cert.Reference10Ideal.main_arg5) = m' ((c.tc : Thread Cert.Reference10Ideal.nD Cert.Reference10Ideal.τ).loc Cert.Reference10Ideal.main_arg5)
          ∧ r.2.mem ((c.tc : Thread Cert.Reference10Ideal.nD Cert.Reference10Ideal.τ).loc Cert.Reference10Ideal.main_arg6) = m' ((c.tc : Thread Cert.Reference10Ideal.nD Cert.Reference10Ideal.τ).loc Cert.Reference10Ideal.main_arg6)
          ∧ r.2.mem ((c.tc : Thread Cert.Reference10Ideal.nD Cert.Reference10Ideal.τ).loc Cert.Reference10Ideal.main_arg7) = m' ((c.tc : Thread Cert.Reference10Ideal.nD Cert.Reference10Ideal.τ).loc Cert.Reference10Ideal.main_arg7)
          ∧ r.2.mem ((c.tc : Thread Cert.Reference10Ideal.nD Cert.Reference10Ideal.τ).loc Cert.Reference10Ideal.main_arg8) = m' ((c.tc : Thread Cert.Reference10Ideal.nD Cert.Reference10Ideal.τ).loc Cert.Reference10Ideal.main_arg8)
          ∧ r.2.mem ((c.tc : Thread Cert.Reference10Ideal.nD Cert.Reference10Ideal.τ).loc Cert.Reference10Ideal.main_arg9) = m' ((c.tc : Thread Cert.Reference10Ideal.nD Cert.Reference10Ideal.τ).loc Cert.Reference10Ideal.main_arg9)
          ∧ r.2.mem ((c.tc : Thread Cert.Reference10Ideal.nD Cert.Reference10Ideal.τ).loc Cert.Reference10Ideal.main_arg10) = m' ((c.tc : Thread Cert.Reference10Ideal.nD Cert.Reference10Ideal.τ).loc Cert.Reference10Ideal.main_arg10)
          ∧ r.2.mem ((c.tc : Thread Cert.Reference10Ideal.nD Cert.Reference10Ideal.τ).loc Cert.Reference10Ideal.main_arg11) = m' ((c.tc : Thread Cert.Reference10Ideal.nD Cert.Reference10Ideal.τ).loc Cert.Reference10Ideal.main_arg11))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)
      ∧ m' ((c.tc : Thread Cert.Reference11Ideal.nD Cert.Reference11Ideal.τ).loc Cert.Reference11Ideal.main_arg2) = m ((c.tc : Thread Cert.Kernel11Ideal.nD Cert.Kernel11Ideal.τ).loc Cert.Kernel11Ideal.main_arg2)
      ∧ m' ((c.tc : Thread Cert.Reference11Ideal.nD Cert.Reference11Ideal.τ).loc Cert.Reference11Ideal.main_arg3) = m ((c.tc : Thread Cert.Kernel11Ideal.nD Cert.Kernel11Ideal.τ).loc Cert.Kernel11Ideal.main_arg3)
      ∧ m' ((c.tc : Thread Cert.Reference11Ideal.nD Cert.Reference11Ideal.τ).loc Cert.Reference11Ideal.main_arg4) = m ((c.tc : Thread Cert.Kernel11Ideal.nD Cert.Kernel11Ideal.τ).loc Cert.Kernel11Ideal.main_arg4)
      ∧ m' ((c.tc : Thread Cert.Reference11Ideal.nD Cert.Reference11Ideal.τ).loc Cert.Reference11Ideal.main_arg5) = m ((c.tc : Thread Cert.Kernel11Ideal.nD Cert.Kernel11Ideal.τ).loc Cert.Kernel11Ideal.main_arg5)
      ∧ m' ((c.tc : Thread Cert.Reference11Ideal.nD Cert.Reference11Ideal.τ).loc Cert.Reference11Ideal.main_arg6) = m ((c.tc : Thread Cert.Kernel11Ideal.nD Cert.Kernel11Ideal.τ).loc Cert.Kernel11Ideal.main_arg6)
      ∧ m' ((c.tc : Thread Cert.Reference11Ideal.nD Cert.Reference11Ideal.τ).loc Cert.Reference11Ideal.main_arg7) = m ((c.tc : Thread Cert.Kernel11Ideal.nD Cert.Kernel11Ideal.τ).loc Cert.Kernel11Ideal.main_arg7)
      ∧ m' ((c.tc : Thread Cert.Reference11Ideal.nD Cert.Reference11Ideal.τ).loc Cert.Reference11Ideal.main_arg8) = m ((c.tc : Thread Cert.Kernel11Ideal.nD Cert.Kernel11Ideal.τ).loc Cert.Kernel11Ideal.main_arg8)
      ∧ m' ((c.tc : Thread Cert.Reference11Ideal.nD Cert.Reference11Ideal.τ).loc Cert.Reference11Ideal.main_arg9) = m ((c.tc : Thread Cert.Kernel11Ideal.nD Cert.Kernel11Ideal.τ).loc Cert.Kernel11Ideal.main_arg9)
      ∧ m' ((c.tc : Thread Cert.Reference11Ideal.nD Cert.Reference11Ideal.τ).loc Cert.Reference11Ideal.main_arg10) = m ((c.tc : Thread Cert.Kernel11Ideal.nD Cert.Kernel11Ideal.τ).loc Cert.Kernel11Ideal.main_arg10)
      ∧ m' ((c.tc : Thread Cert.Reference11Ideal.nD Cert.Reference11Ideal.τ).loc Cert.Reference11Ideal.main_arg11) = m ((c.tc : Thread Cert.Kernel11Ideal.nD Cert.Kernel11Ideal.τ).loc Cert.Kernel11Ideal.main_arg11)) →
    ∃ (v0 : (c : Dev Cert.Kernel11Ideal.nD) → Buf (Elt Ideal) ((c.tc : Thread Cert.Kernel11Ideal.nD Cert.Kernel11Ideal.τ).loc Cert.Kernel11Ideal.main_v0_0)) (v1 : (c : Dev Cert.Kernel11Ideal.nD) → Buf (Elt Ideal) ((c.tc : Thread Cert.Kernel11Ideal.nD Cert.Kernel11Ideal.τ).loc Cert.Kernel11Ideal.main_v0_1)) (v2 : (c : Dev Cert.Kernel11Ideal.nD) → Buf (Elt Ideal) ((c.tc : Thread Cert.Kernel11Ideal.nD Cert.Kernel11Ideal.τ).loc Cert.Kernel11Ideal.main_v0_2)) (v3 : (c : Dev Cert.Kernel11Ideal.nD) → Buf (Elt Ideal) ((c.tc : Thread Cert.Kernel11Ideal.nD Cert.Kernel11Ideal.τ).loc Cert.Kernel11Ideal.main_v0_3)) (v4 : (c : Dev Cert.Kernel11Ideal.nD) → Buf (Elt Ideal) ((c.tc : Thread Cert.Kernel11Ideal.nD Cert.Kernel11Ideal.τ).loc Cert.Kernel11Ideal.main_v0_4)) (v5 : (c : Dev Cert.Kernel11Ideal.nD) → Buf (Elt Ideal) ((c.tc : Thread Cert.Kernel11Ideal.nD Cert.Kernel11Ideal.τ).loc Cert.Kernel11Ideal.main_v0_5)) (v6 : (c : Dev Cert.Kernel11Ideal.nD) → Buf (Elt Ideal) ((c.tc : Thread Cert.Kernel11Ideal.nD Cert.Kernel11Ideal.τ).loc Cert.Kernel11Ideal.main_v0_6)) (v7 : (c : Dev Cert.Kernel11Ideal.nD) → Buf (Elt Ideal) ((c.tc : Thread Cert.Kernel11Ideal.nD Cert.Kernel11Ideal.τ).loc Cert.Kernel11Ideal.main_v0_7)) (v8 : (c : Dev Cert.Kernel11Ideal.nD) → Buf (Elt Ideal) ((c.tc : Thread Cert.Kernel11Ideal.nD Cert.Kernel11Ideal.τ).loc Cert.Kernel11Ideal.main_v0_8)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v0_0) = v0 c
          ∧ r.2.mem ((c.tc : Thread Cert.Kernel11Ideal.nD Cert.Kernel11Ideal.τ).loc Cert.Kernel11Ideal.main_v0_1) = v1 c
          ∧ r.2.mem ((c.tc : Thread Cert.Kernel11Ideal.nD Cert.Kernel11Ideal.τ).loc Cert.Kernel11Ideal.main_v0_2) = v2 c
          ∧ r.2.mem ((c.tc : Thread Cert.Kernel11Ideal.nD Cert.Kernel11Ideal.τ).loc Cert.Kernel11Ideal.main_v0_3) = v3 c
          ∧ r.2.mem ((c.tc : Thread Cert.Kernel11Ideal.nD Cert.Kernel11Ideal.τ).loc Cert.Kernel11Ideal.main_v0_4) = v4 c
          ∧ r.2.mem ((c.tc : Thread Cert.Kernel11Ideal.nD Cert.Kernel11Ideal.τ).loc Cert.Kernel11Ideal.main_v0_5) = v5 c
          ∧ r.2.mem ((c.tc : Thread Cert.Kernel11Ideal.nD Cert.Kernel11Ideal.τ).loc Cert.Kernel11Ideal.main_v0_6) = v6 c
          ∧ r.2.mem ((c.tc : Thread Cert.Kernel11Ideal.nD Cert.Kernel11Ideal.τ).loc Cert.Kernel11Ideal.main_v0_7) = v7 c
          ∧ r.2.mem ((c.tc : Thread Cert.Kernel11Ideal.nD Cert.Kernel11Ideal.τ).loc Cert.Kernel11Ideal.main_v0_8) = v8 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
          ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2)
          ∧ r.2.mem ((c.tc : Thread Cert.Kernel11Ideal.nD Cert.Kernel11Ideal.τ).loc Cert.Kernel11Ideal.main_arg3) = m ((c.tc : Thread Cert.Kernel11Ideal.nD Cert.Kernel11Ideal.τ).loc Cert.Kernel11Ideal.main_arg3)
          ∧ r.2.mem ((c.tc : Thread Cert.Kernel11Ideal.nD Cert.Kernel11Ideal.τ).loc Cert.Kernel11Ideal.main_arg4) = m ((c.tc : Thread Cert.Kernel11Ideal.nD Cert.Kernel11Ideal.τ).loc Cert.Kernel11Ideal.main_arg4)
          ∧ r.2.mem ((c.tc : Thread Cert.Kernel11Ideal.nD Cert.Kernel11Ideal.τ).loc Cert.Kernel11Ideal.main_arg5) = m ((c.tc : Thread Cert.Kernel11Ideal.nD Cert.Kernel11Ideal.τ).loc Cert.Kernel11Ideal.main_arg5)
          ∧ r.2.mem ((c.tc : Thread Cert.Kernel11Ideal.nD Cert.Kernel11Ideal.τ).loc Cert.Kernel11Ideal.main_arg6) = m ((c.tc : Thread Cert.Kernel11Ideal.nD Cert.Kernel11Ideal.τ).loc Cert.Kernel11Ideal.main_arg6)
          ∧ r.2.mem ((c.tc : Thread Cert.Kernel11Ideal.nD Cert.Kernel11Ideal.τ).loc Cert.Kernel11Ideal.main_arg7) = m ((c.tc : Thread Cert.Kernel11Ideal.nD Cert.Kernel11Ideal.τ).loc Cert.Kernel11Ideal.main_arg7)
          ∧ r.2.mem ((c.tc : Thread Cert.Kernel11Ideal.nD Cert.Kernel11Ideal.τ).loc Cert.Kernel11Ideal.main_arg8) = m ((c.tc : Thread Cert.Kernel11Ideal.nD Cert.Kernel11Ideal.τ).loc Cert.Kernel11Ideal.main_arg8)
          ∧ r.2.mem ((c.tc : Thread Cert.Kernel11Ideal.nD Cert.Kernel11Ideal.τ).loc Cert.Kernel11Ideal.main_arg9) = m ((c.tc : Thread Cert.Kernel11Ideal.nD Cert.Kernel11Ideal.τ).loc Cert.Kernel11Ideal.main_arg9)
          ∧ r.2.mem ((c.tc : Thread Cert.Kernel11Ideal.nD Cert.Kernel11Ideal.τ).loc Cert.Kernel11Ideal.main_arg10) = m ((c.tc : Thread Cert.Kernel11Ideal.nD Cert.Kernel11Ideal.τ).loc Cert.Kernel11Ideal.main_arg10)
          ∧ r.2.mem ((c.tc : Thread Cert.Kernel11Ideal.nD Cert.Kernel11Ideal.τ).loc Cert.Kernel11Ideal.main_arg11) = m ((c.tc : Thread Cert.Kernel11Ideal.nD Cert.Kernel11Ideal.τ).loc Cert.Kernel11Ideal.main_arg11))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v23) = v0 c
          ∧ r.2.mem ((c.tc : Thread Cert.Reference11Ideal.nD Cert.Reference11Ideal.τ).loc Cert.Reference11Ideal.main_v47) = v1 c
          ∧ r.2.mem ((c.tc : Thread Cert.Reference11Ideal.nD Cert.Reference11Ideal.τ).loc Cert.Reference11Ideal.main_v71) = v2 c
          ∧ r.2.mem ((c.tc : Thread Cert.Reference11Ideal.nD Cert.Reference11Ideal.τ).loc Cert.Reference11Ideal.main_v4) = v3 c
          ∧ r.2.mem ((c.tc : Thread Cert.Reference11Ideal.nD Cert.Reference11Ideal.τ).loc Cert.Reference11Ideal.main_v28) = v4 c
          ∧ r.2.mem ((c.tc : Thread Cert.Reference11Ideal.nD Cert.Reference11Ideal.τ).loc Cert.Reference11Ideal.main_v52) = v5 c
          ∧ r.2.mem ((c.tc : Thread Cert.Reference11Ideal.nD Cert.Reference11Ideal.τ).loc Cert.Reference11Ideal.main_v10) = v6 c
          ∧ r.2.mem ((c.tc : Thread Cert.Reference11Ideal.nD Cert.Reference11Ideal.τ).loc Cert.Reference11Ideal.main_v34) = v7 c
          ∧ r.2.mem ((c.tc : Thread Cert.Reference11Ideal.nD Cert.Reference11Ideal.τ).loc Cert.Reference11Ideal.main_v58) = v8 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1)
          ∧ r.2.mem ((c.tc : Thread Cert.Reference11Ideal.nD Cert.Reference11Ideal.τ).loc Cert.Reference11Ideal.main_arg2) = m' ((c.tc : Thread Cert.Reference11Ideal.nD Cert.Reference11Ideal.τ).loc Cert.Reference11Ideal.main_arg2)
          ∧ r.2.mem ((c.tc : Thread Cert.Reference11Ideal.nD Cert.Reference11Ideal.τ).loc Cert.Reference11Ideal.main_arg3) = m' ((c.tc : Thread Cert.Reference11Ideal.nD Cert.Reference11Ideal.τ).loc Cert.Reference11Ideal.main_arg3)
          ∧ r.2.mem ((c.tc : Thread Cert.Reference11Ideal.nD Cert.Reference11Ideal.τ).loc Cert.Reference11Ideal.main_arg4) = m' ((c.tc : Thread Cert.Reference11Ideal.nD Cert.Reference11Ideal.τ).loc Cert.Reference11Ideal.main_arg4)
          ∧ r.2.mem ((c.tc : Thread Cert.Reference11Ideal.nD Cert.Reference11Ideal.τ).loc Cert.Reference11Ideal.main_arg5) = m' ((c.tc : Thread Cert.Reference11Ideal.nD Cert.Reference11Ideal.τ).loc Cert.Reference11Ideal.main_arg5)
          ∧ r.2.mem ((c.tc : Thread Cert.Reference11Ideal.nD Cert.Reference11Ideal.τ).loc Cert.Reference11Ideal.main_arg6) = m' ((c.tc : Thread Cert.Reference11Ideal.nD Cert.Reference11Ideal.τ).loc Cert.Reference11Ideal.main_arg6)
          ∧ r.2.mem ((c.tc : Thread Cert.Reference11Ideal.nD Cert.Reference11Ideal.τ).loc Cert.Reference11Ideal.main_arg7) = m' ((c.tc : Thread Cert.Reference11Ideal.nD Cert.Reference11Ideal.τ).loc Cert.Reference11Ideal.main_arg7)
          ∧ r.2.mem ((c.tc : Thread Cert.Reference11Ideal.nD Cert.Reference11Ideal.τ).loc Cert.Reference11Ideal.main_arg8) = m' ((c.tc : Thread Cert.Reference11Ideal.nD Cert.Reference11Ideal.τ).loc Cert.Reference11Ideal.main_arg8)
          ∧ r.2.mem ((c.tc : Thread Cert.Reference11Ideal.nD Cert.Reference11Ideal.τ).loc Cert.Reference11Ideal.main_arg9) = m' ((c.tc : Thread Cert.Reference11Ideal.nD Cert.Reference11Ideal.τ).loc Cert.Reference11Ideal.main_arg9)
          ∧ r.2.mem ((c.tc : Thread Cert.Reference11Ideal.nD Cert.Reference11Ideal.τ).loc Cert.Reference11Ideal.main_arg10) = m' ((c.tc : Thread Cert.Reference11Ideal.nD Cert.Reference11Ideal.τ).loc Cert.Reference11Ideal.main_arg10)
          ∧ r.2.mem ((c.tc : Thread Cert.Reference11Ideal.nD Cert.Reference11Ideal.τ).loc Cert.Reference11Ideal.main_arg11) = m' ((c.tc : Thread Cert.Reference11Ideal.nD Cert.Reference11Ideal.τ).loc Cert.Reference11Ideal.main_arg11))

def preserves_Kernel12_Kernel12Ideal : Prop :=
  True

def algebraic_Kernel12Ideal_Reference12Ideal [hKernel12Ideal : Cert.Kernel12Ideal.Facts] [hReference12Ideal : Cert.Reference12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)
      ∧ m' ((c.tc : Thread Cert.Reference12Ideal.nD Cert.Reference12Ideal.τ).loc Cert.Reference12Ideal.main_arg2) = m ((c.tc : Thread Cert.Kernel12Ideal.nD Cert.Kernel12Ideal.τ).loc Cert.Kernel12Ideal.main_arg2)
      ∧ m' ((c.tc : Thread Cert.Reference12Ideal.nD Cert.Reference12Ideal.τ).loc Cert.Reference12Ideal.main_arg3) = m ((c.tc : Thread Cert.Kernel12Ideal.nD Cert.Kernel12Ideal.τ).loc Cert.Kernel12Ideal.main_arg3)
      ∧ m' ((c.tc : Thread Cert.Reference12Ideal.nD Cert.Reference12Ideal.τ).loc Cert.Reference12Ideal.main_arg4) = m ((c.tc : Thread Cert.Kernel12Ideal.nD Cert.Kernel12Ideal.τ).loc Cert.Kernel12Ideal.main_arg4)
      ∧ m' ((c.tc : Thread Cert.Reference12Ideal.nD Cert.Reference12Ideal.τ).loc Cert.Reference12Ideal.main_arg5) = m ((c.tc : Thread Cert.Kernel12Ideal.nD Cert.Kernel12Ideal.τ).loc Cert.Kernel12Ideal.main_arg5)
      ∧ m' ((c.tc : Thread Cert.Reference12Ideal.nD Cert.Reference12Ideal.τ).loc Cert.Reference12Ideal.main_arg6) = m ((c.tc : Thread Cert.Kernel12Ideal.nD Cert.Kernel12Ideal.τ).loc Cert.Kernel12Ideal.main_arg6)
      ∧ m' ((c.tc : Thread Cert.Reference12Ideal.nD Cert.Reference12Ideal.τ).loc Cert.Reference12Ideal.main_arg7) = m ((c.tc : Thread Cert.Kernel12Ideal.nD Cert.Kernel12Ideal.τ).loc Cert.Kernel12Ideal.main_arg7)
      ∧ m' ((c.tc : Thread Cert.Reference12Ideal.nD Cert.Reference12Ideal.τ).loc Cert.Reference12Ideal.main_arg8) = m ((c.tc : Thread Cert.Kernel12Ideal.nD Cert.Kernel12Ideal.τ).loc Cert.Kernel12Ideal.main_arg8)
      ∧ m' ((c.tc : Thread Cert.Reference12Ideal.nD Cert.Reference12Ideal.τ).loc Cert.Reference12Ideal.main_arg9) = m ((c.tc : Thread Cert.Kernel12Ideal.nD Cert.Kernel12Ideal.τ).loc Cert.Kernel12Ideal.main_arg9)
      ∧ m' ((c.tc : Thread Cert.Reference12Ideal.nD Cert.Reference12Ideal.τ).loc Cert.Reference12Ideal.main_arg10) = m ((c.tc : Thread Cert.Kernel12Ideal.nD Cert.Kernel12Ideal.τ).loc Cert.Kernel12Ideal.main_arg10)
      ∧ m' ((c.tc : Thread Cert.Reference12Ideal.nD Cert.Reference12Ideal.τ).loc Cert.Reference12Ideal.main_arg11) = m ((c.tc : Thread Cert.Kernel12Ideal.nD Cert.Kernel12Ideal.τ).loc Cert.Kernel12Ideal.main_arg11)) →
    ∃ (v0 : (c : Dev Cert.Kernel12Ideal.nD) → Buf (Elt Ideal) ((c.tc : Thread Cert.Kernel12Ideal.nD Cert.Kernel12Ideal.τ).loc Cert.Kernel12Ideal.main_v0_0)) (v1 : (c : Dev Cert.Kernel12Ideal.nD) → Buf (Elt Ideal) ((c.tc : Thread Cert.Kernel12Ideal.nD Cert.Kernel12Ideal.τ).loc Cert.Kernel12Ideal.main_v0_1)) (v2 : (c : Dev Cert.Kernel12Ideal.nD) → Buf (Elt Ideal) ((c.tc : Thread Cert.Kernel12Ideal.nD Cert.Kernel12Ideal.τ).loc Cert.Kernel12Ideal.main_v0_2)) (v3 : (c : Dev Cert.Kernel12Ideal.nD) → Buf (Elt Ideal) ((c.tc : Thread Cert.Kernel12Ideal.nD Cert.Kernel12Ideal.τ).loc Cert.Kernel12Ideal.main_v0_3)) (v4 : (c : Dev Cert.Kernel12Ideal.nD) → Buf (Elt Ideal) ((c.tc : Thread Cert.Kernel12Ideal.nD Cert.Kernel12Ideal.τ).loc Cert.Kernel12Ideal.main_v0_4)) (v5 : (c : Dev Cert.Kernel12Ideal.nD) → Buf (Elt Ideal) ((c.tc : Thread Cert.Kernel12Ideal.nD Cert.Kernel12Ideal.τ).loc Cert.Kernel12Ideal.main_v0_5)) (v6 : (c : Dev Cert.Kernel12Ideal.nD) → Buf (Elt Ideal) ((c.tc : Thread Cert.Kernel12Ideal.nD Cert.Kernel12Ideal.τ).loc Cert.Kernel12Ideal.main_v0_6)) (v7 : (c : Dev Cert.Kernel12Ideal.nD) → Buf (Elt Ideal) ((c.tc : Thread Cert.Kernel12Ideal.nD Cert.Kernel12Ideal.τ).loc Cert.Kernel12Ideal.main_v0_7)) (v8 : (c : Dev Cert.Kernel12Ideal.nD) → Buf (Elt Ideal) ((c.tc : Thread Cert.Kernel12Ideal.nD Cert.Kernel12Ideal.τ).loc Cert.Kernel12Ideal.main_v0_8)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v0_0) = v0 c
          ∧ r.2.mem ((c.tc : Thread Cert.Kernel12Ideal.nD Cert.Kernel12Ideal.τ).loc Cert.Kernel12Ideal.main_v0_1) = v1 c
          ∧ r.2.mem ((c.tc : Thread Cert.Kernel12Ideal.nD Cert.Kernel12Ideal.τ).loc Cert.Kernel12Ideal.main_v0_2) = v2 c
          ∧ r.2.mem ((c.tc : Thread Cert.Kernel12Ideal.nD Cert.Kernel12Ideal.τ).loc Cert.Kernel12Ideal.main_v0_3) = v3 c
          ∧ r.2.mem ((c.tc : Thread Cert.Kernel12Ideal.nD Cert.Kernel12Ideal.τ).loc Cert.Kernel12Ideal.main_v0_4) = v4 c
          ∧ r.2.mem ((c.tc : Thread Cert.Kernel12Ideal.nD Cert.Kernel12Ideal.τ).loc Cert.Kernel12Ideal.main_v0_5) = v5 c
          ∧ r.2.mem ((c.tc : Thread Cert.Kernel12Ideal.nD Cert.Kernel12Ideal.τ).loc Cert.Kernel12Ideal.main_v0_6) = v6 c
          ∧ r.2.mem ((c.tc : Thread Cert.Kernel12Ideal.nD Cert.Kernel12Ideal.τ).loc Cert.Kernel12Ideal.main_v0_7) = v7 c
          ∧ r.2.mem ((c.tc : Thread Cert.Kernel12Ideal.nD Cert.Kernel12Ideal.τ).loc Cert.Kernel12Ideal.main_v0_8) = v8 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
          ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2)
          ∧ r.2.mem ((c.tc : Thread Cert.Kernel12Ideal.nD Cert.Kernel12Ideal.τ).loc Cert.Kernel12Ideal.main_arg3) = m ((c.tc : Thread Cert.Kernel12Ideal.nD Cert.Kernel12Ideal.τ).loc Cert.Kernel12Ideal.main_arg3)
          ∧ r.2.mem ((c.tc : Thread Cert.Kernel12Ideal.nD Cert.Kernel12Ideal.τ).loc Cert.Kernel12Ideal.main_arg4) = m ((c.tc : Thread Cert.Kernel12Ideal.nD Cert.Kernel12Ideal.τ).loc Cert.Kernel12Ideal.main_arg4)
          ∧ r.2.mem ((c.tc : Thread Cert.Kernel12Ideal.nD Cert.Kernel12Ideal.τ).loc Cert.Kernel12Ideal.main_arg5) = m ((c.tc : Thread Cert.Kernel12Ideal.nD Cert.Kernel12Ideal.τ).loc Cert.Kernel12Ideal.main_arg5)
          ∧ r.2.mem ((c.tc : Thread Cert.Kernel12Ideal.nD Cert.Kernel12Ideal.τ).loc Cert.Kernel12Ideal.main_arg6) = m ((c.tc : Thread Cert.Kernel12Ideal.nD Cert.Kernel12Ideal.τ).loc Cert.Kernel12Ideal.main_arg6)
          ∧ r.2.mem ((c.tc : Thread Cert.Kernel12Ideal.nD Cert.Kernel12Ideal.τ).loc Cert.Kernel12Ideal.main_arg7) = m ((c.tc : Thread Cert.Kernel12Ideal.nD Cert.Kernel12Ideal.τ).loc Cert.Kernel12Ideal.main_arg7)
          ∧ r.2.mem ((c.tc : Thread Cert.Kernel12Ideal.nD Cert.Kernel12Ideal.τ).loc Cert.Kernel12Ideal.main_arg8) = m ((c.tc : Thread Cert.Kernel12Ideal.nD Cert.Kernel12Ideal.τ).loc Cert.Kernel12Ideal.main_arg8)
          ∧ r.2.mem ((c.tc : Thread Cert.Kernel12Ideal.nD Cert.Kernel12Ideal.τ).loc Cert.Kernel12Ideal.main_arg9) = m ((c.tc : Thread Cert.Kernel12Ideal.nD Cert.Kernel12Ideal.τ).loc Cert.Kernel12Ideal.main_arg9)
          ∧ r.2.mem ((c.tc : Thread Cert.Kernel12Ideal.nD Cert.Kernel12Ideal.τ).loc Cert.Kernel12Ideal.main_arg10) = m ((c.tc : Thread Cert.Kernel12Ideal.nD Cert.Kernel12Ideal.τ).loc Cert.Kernel12Ideal.main_arg10)
          ∧ r.2.mem ((c.tc : Thread Cert.Kernel12Ideal.nD Cert.Kernel12Ideal.τ).loc Cert.Kernel12Ideal.main_arg11) = m ((c.tc : Thread Cert.Kernel12Ideal.nD Cert.Kernel12Ideal.τ).loc Cert.Kernel12Ideal.main_arg11))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v23) = v0 c
          ∧ r.2.mem ((c.tc : Thread Cert.Reference12Ideal.nD Cert.Reference12Ideal.τ).loc Cert.Reference12Ideal.main_v47) = v1 c
          ∧ r.2.mem ((c.tc : Thread Cert.Reference12Ideal.nD Cert.Reference12Ideal.τ).loc Cert.Reference12Ideal.main_v71) = v2 c
          ∧ r.2.mem ((c.tc : Thread Cert.Reference12Ideal.nD Cert.Reference12Ideal.τ).loc Cert.Reference12Ideal.main_v4) = v3 c
          ∧ r.2.mem ((c.tc : Thread Cert.Reference12Ideal.nD Cert.Reference12Ideal.τ).loc Cert.Reference12Ideal.main_v28) = v4 c
          ∧ r.2.mem ((c.tc : Thread Cert.Reference12Ideal.nD Cert.Reference12Ideal.τ).loc Cert.Reference12Ideal.main_v52) = v5 c
          ∧ r.2.mem ((c.tc : Thread Cert.Reference12Ideal.nD Cert.Reference12Ideal.τ).loc Cert.Reference12Ideal.main_v10) = v6 c
          ∧ r.2.mem ((c.tc : Thread Cert.Reference12Ideal.nD Cert.Reference12Ideal.τ).loc Cert.Reference12Ideal.main_v34) = v7 c
          ∧ r.2.mem ((c.tc : Thread Cert.Reference12Ideal.nD Cert.Reference12Ideal.τ).loc Cert.Reference12Ideal.main_v58) = v8 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1)
          ∧ r.2.mem ((c.tc : Thread Cert.Reference12Ideal.nD Cert.Reference12Ideal.τ).loc Cert.Reference12Ideal.main_arg2) = m' ((c.tc : Thread Cert.Reference12Ideal.nD Cert.Reference12Ideal.τ).loc Cert.Reference12Ideal.main_arg2)
          ∧ r.2.mem ((c.tc : Thread Cert.Reference12Ideal.nD Cert.Reference12Ideal.τ).loc Cert.Reference12Ideal.main_arg3) = m' ((c.tc : Thread Cert.Reference12Ideal.nD Cert.Reference12Ideal.τ).loc Cert.Reference12Ideal.main_arg3)
          ∧ r.2.mem ((c.tc : Thread Cert.Reference12Ideal.nD Cert.Reference12Ideal.τ).loc Cert.Reference12Ideal.main_arg4) = m' ((c.tc : Thread Cert.Reference12Ideal.nD Cert.Reference12Ideal.τ).loc Cert.Reference12Ideal.main_arg4)
          ∧ r.2.mem ((c.tc : Thread Cert.Reference12Ideal.nD Cert.Reference12Ideal.τ).loc Cert.Reference12Ideal.main_arg5) = m' ((c.tc : Thread Cert.Reference12Ideal.nD Cert.Reference12Ideal.τ).loc Cert.Reference12Ideal.main_arg5)
          ∧ r.2.mem ((c.tc : Thread Cert.Reference12Ideal.nD Cert.Reference12Ideal.τ).loc Cert.Reference12Ideal.main_arg6) = m' ((c.tc : Thread Cert.Reference12Ideal.nD Cert.Reference12Ideal.τ).loc Cert.Reference12Ideal.main_arg6)
          ∧ r.2.mem ((c.tc : Thread Cert.Reference12Ideal.nD Cert.Reference12Ideal.τ).loc Cert.Reference12Ideal.main_arg7) = m' ((c.tc : Thread Cert.Reference12Ideal.nD Cert.Reference12Ideal.τ).loc Cert.Reference12Ideal.main_arg7)
          ∧ r.2.mem ((c.tc : Thread Cert.Reference12Ideal.nD Cert.Reference12Ideal.τ).loc Cert.Reference12Ideal.main_arg8) = m' ((c.tc : Thread Cert.Reference12Ideal.nD Cert.Reference12Ideal.τ).loc Cert.Reference12Ideal.main_arg8)
          ∧ r.2.mem ((c.tc : Thread Cert.Reference12Ideal.nD Cert.Reference12Ideal.τ).loc Cert.Reference12Ideal.main_arg9) = m' ((c.tc : Thread Cert.Reference12Ideal.nD Cert.Reference12Ideal.τ).loc Cert.Reference12Ideal.main_arg9)
          ∧ r.2.mem ((c.tc : Thread Cert.Reference12Ideal.nD Cert.Reference12Ideal.τ).loc Cert.Reference12Ideal.main_arg10) = m' ((c.tc : Thread Cert.Reference12Ideal.nD Cert.Reference12Ideal.τ).loc Cert.Reference12Ideal.main_arg10)
          ∧ r.2.mem ((c.tc : Thread Cert.Reference12Ideal.nD Cert.Reference12Ideal.τ).loc Cert.Reference12Ideal.main_arg11) = m' ((c.tc : Thread Cert.Reference12Ideal.nD Cert.Reference12Ideal.τ).loc Cert.Reference12Ideal.main_arg11))

def preserves_Kernel13_Kernel13Ideal : Prop :=
  True

def algebraic_Kernel13Ideal_Reference13Ideal [hKernel13Ideal : Cert.Kernel13Ideal.Facts] [hReference13Ideal : Cert.Reference13Ideal.Facts] [hPre_is_half : Cert.Pre_is_half.Facts] : Prop :=
  ∀ (m : (ℓ : Loc Cert.Kernel13Ideal.nD Cert.Kernel13Ideal.τ Cert.Kernel13Ideal.sig) → Buf (Elt Ideal) ℓ) (g : Dev Cert.Kernel13Ideal.nD → PrngReg)
    (m' : (ℓ : Loc Cert.Reference13Ideal.nD Cert.Reference13Ideal.τ Cert.Reference13Ideal.sig) → Buf (Elt Ideal) ℓ) (g' : Dev Cert.Reference13Ideal.nD → PrngReg), Pre_Kernel13Ideal m →
    (∀ c : Dev Cert.Kernel13Ideal.nD,
      m' ((c.tc : Thread Cert.Reference13Ideal.nD Cert.Reference13Ideal.τ).loc Cert.Reference13Ideal.main_arg0) = m ((c.tc : Thread Cert.Kernel13Ideal.nD Cert.Kernel13Ideal.τ).loc Cert.Kernel13Ideal.main_arg0)
      ∧ m' ((c.tc : Thread Cert.Reference13Ideal.nD Cert.Reference13Ideal.τ).loc Cert.Reference13Ideal.main_arg1) = m ((c.tc : Thread Cert.Kernel13Ideal.nD Cert.Kernel13Ideal.τ).loc Cert.Kernel13Ideal.main_arg1)
      ∧ m' ((c.tc : Thread Cert.Reference13Ideal.nD Cert.Reference13Ideal.τ).loc Cert.Reference13Ideal.main_arg2) = m ((c.tc : Thread Cert.Kernel13Ideal.nD Cert.Kernel13Ideal.τ).loc Cert.Kernel13Ideal.main_arg2)) →
    ∃ (v0 : (c : Dev Cert.Kernel13Ideal.nD) → Buf (Elt Ideal) ((c.tc : Thread Cert.Kernel13Ideal.nD Cert.Kernel13Ideal.τ).loc Cert.Kernel13Ideal.main_v0_0)) (v1 : (c : Dev Cert.Kernel13Ideal.nD) → Buf (Elt Ideal) ((c.tc : Thread Cert.Kernel13Ideal.nD Cert.Kernel13Ideal.τ).loc Cert.Kernel13Ideal.main_v0_1)),
      θ_run (Cert.Kernel13Ideal.defs (F := Ideal)) (onTc (τ := Cert.Kernel13Ideal.τ) (Cert.Kernel13Ideal.main (F := Ideal))) ⟨m, fun _ => 0, g⟩ (fun r => ∀ c : Dev Cert.Kernel13Ideal.nD,
          r.2.mem ((c.tc : Thread Cert.Kernel13Ideal.nD Cert.Kernel13Ideal.τ).loc Cert.Kernel13Ideal.main_v0_0) = v0 c
          ∧ r.2.mem ((c.tc : Thread Cert.Kernel13Ideal.nD Cert.Kernel13Ideal.τ).loc Cert.Kernel13Ideal.main_v0_1) = v1 c
          ∧ r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
          ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
          ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2))
      ∧ θ_run (Cert.Reference13Ideal.defs (F := Ideal)) (onTc (τ := Cert.Reference13Ideal.τ) (Cert.Reference13Ideal.main (F := Ideal))) ⟨m', fun _ => 0, g'⟩ (fun r => ∀ c : Dev Cert.Reference13Ideal.nD,
          r.2.mem ((c.tc : Thread Cert.Reference13Ideal.nD Cert.Reference13Ideal.τ).loc Cert.Reference13Ideal.main_v5) = v0 c
          ∧ r.2.mem ((c.tc : Thread Cert.Reference13Ideal.nD Cert.Reference13Ideal.τ).loc Cert.Reference13Ideal.main_v6) = v1 c
          ∧ r.2.mem ((c.tc : Thread Cert.Reference13Ideal.nD Cert.Reference13Ideal.τ).loc Cert.Reference13Ideal.main_arg0) = m' ((c.tc : Thread Cert.Reference13Ideal.nD Cert.Reference13Ideal.τ).loc Cert.Reference13Ideal.main_arg0)
          ∧ r.2.mem ((c.tc : Thread Cert.Reference13Ideal.nD Cert.Reference13Ideal.τ).loc Cert.Reference13Ideal.main_arg1) = m' ((c.tc : Thread Cert.Reference13Ideal.nD Cert.Reference13Ideal.τ).loc Cert.Reference13Ideal.main_arg1)
          ∧ r.2.mem ((c.tc : Thread Cert.Reference13Ideal.nD Cert.Reference13Ideal.τ).loc Cert.Reference13Ideal.main_arg2) = m' ((c.tc : Thread Cert.Reference13Ideal.nD Cert.Reference13Ideal.τ).loc Cert.Reference13Ideal.main_arg2))

def preserves_Kernel14_Kernel14Ideal : Prop :=
  True

def algebraic_Kernel14Ideal_Reference14Ideal [hKernel14Ideal : Cert.Kernel14Ideal.Facts] [hReference14Ideal : Cert.Reference14Ideal.Facts] [hPre_is_half_out : Cert.Pre_is_half_out.Facts] : Prop :=
  ∀ (m : (ℓ : Loc Cert.Kernel14Ideal.nD Cert.Kernel14Ideal.τ Cert.Kernel14Ideal.sig) → Buf (Elt Ideal) ℓ) (g : Dev Cert.Kernel14Ideal.nD → PrngReg)
    (m' : (ℓ : Loc Cert.Reference14Ideal.nD Cert.Reference14Ideal.τ Cert.Reference14Ideal.sig) → Buf (Elt Ideal) ℓ) (g' : Dev Cert.Reference14Ideal.nD → PrngReg), Pre_Kernel14Ideal m →
    (∀ c : Dev Cert.Kernel14Ideal.nD,
      m' ((c.tc : Thread Cert.Reference14Ideal.nD Cert.Reference14Ideal.τ).loc Cert.Reference14Ideal.main_arg0) = m ((c.tc : Thread Cert.Kernel14Ideal.nD Cert.Kernel14Ideal.τ).loc Cert.Kernel14Ideal.main_arg0)
      ∧ m' ((c.tc : Thread Cert.Reference14Ideal.nD Cert.Reference14Ideal.τ).loc Cert.Reference14Ideal.main_arg1) = m ((c.tc : Thread Cert.Kernel14Ideal.nD Cert.Kernel14Ideal.τ).loc Cert.Kernel14Ideal.main_arg1)
      ∧ m' ((c.tc : Thread Cert.Reference14Ideal.nD Cert.Reference14Ideal.τ).loc Cert.Reference14Ideal.main_arg2) = m ((c.tc : Thread Cert.Kernel14Ideal.nD Cert.Kernel14Ideal.τ).loc Cert.Kernel14Ideal.main_arg2)) →
    ∃ (v0 : (c : Dev Cert.Kernel14Ideal.nD) → Buf (Elt Ideal) ((c.tc : Thread Cert.Kernel14Ideal.nD Cert.Kernel14Ideal.τ).loc Cert.Kernel14Ideal.main_v0_0)) (v1 : (c : Dev Cert.Kernel14Ideal.nD) → Buf (Elt Ideal) ((c.tc : Thread Cert.Kernel14Ideal.nD Cert.Kernel14Ideal.τ).loc Cert.Kernel14Ideal.main_v0_1)),
      θ_run (Cert.Kernel14Ideal.defs (F := Ideal)) (onTc (τ := Cert.Kernel14Ideal.τ) (Cert.Kernel14Ideal.main (F := Ideal))) ⟨m, fun _ => 0, g⟩ (fun r => ∀ c : Dev Cert.Kernel14Ideal.nD,
          r.2.mem ((c.tc : Thread Cert.Kernel14Ideal.nD Cert.Kernel14Ideal.τ).loc Cert.Kernel14Ideal.main_v0_0) = v0 c
          ∧ r.2.mem ((c.tc : Thread Cert.Kernel14Ideal.nD Cert.Kernel14Ideal.τ).loc Cert.Kernel14Ideal.main_v0_1) = v1 c
          ∧ r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
          ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
          ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2))
      ∧ θ_run (Cert.Reference14Ideal.defs (F := Ideal)) (onTc (τ := Cert.Reference14Ideal.τ) (Cert.Reference14Ideal.main (F := Ideal))) ⟨m', fun _ => 0, g'⟩ (fun r => ∀ c : Dev Cert.Reference14Ideal.nD,
          r.2.mem ((c.tc : Thread Cert.Reference14Ideal.nD Cert.Reference14Ideal.τ).loc Cert.Reference14Ideal.main_v5) = v0 c
          ∧ r.2.mem ((c.tc : Thread Cert.Reference14Ideal.nD Cert.Reference14Ideal.τ).loc Cert.Reference14Ideal.main_v6) = v1 c
          ∧ r.2.mem ((c.tc : Thread Cert.Reference14Ideal.nD Cert.Reference14Ideal.τ).loc Cert.Reference14Ideal.main_arg0) = m' ((c.tc : Thread Cert.Reference14Ideal.nD Cert.Reference14Ideal.τ).loc Cert.Reference14Ideal.main_arg0)
          ∧ r.2.mem ((c.tc : Thread Cert.Reference14Ideal.nD Cert.Reference14Ideal.τ).loc Cert.Reference14Ideal.main_arg1) = m' ((c.tc : Thread Cert.Reference14Ideal.nD Cert.Reference14Ideal.τ).loc Cert.Reference14Ideal.main_arg1)
          ∧ r.2.mem ((c.tc : Thread Cert.Reference14Ideal.nD Cert.Reference14Ideal.τ).loc Cert.Reference14Ideal.main_arg2) = m' ((c.tc : Thread Cert.Reference14Ideal.nD Cert.Reference14Ideal.τ).loc Cert.Reference14Ideal.main_arg2))

def Claim : Prop :=
  ∃ (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts) (hKernel13 : Cert.Kernel13.Facts) (hKernel13Ideal : Cert.Kernel13Ideal.Facts) (hReference13Ideal : Cert.Reference13Ideal.Facts) (hKernel14 : Cert.Kernel14.Facts) (hKernel14Ideal : Cert.Kernel14Ideal.Facts) (hReference14Ideal : Cert.Reference14Ideal.Facts) (hPre_is_half : Cert.Pre_is_half.Facts) (hPre_is_half_out : Cert.Pre_is_half_out.Facts),
    quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Reference11Ideal (hReference11Ideal := hReference11Ideal)
    ∧ quiescent_Kernel12 (hKernel12 := hKernel12)
    ∧ quiescent_Kernel12Ideal (hKernel12Ideal := hKernel12Ideal)
    ∧ quiescent_Reference12Ideal (hReference12Ideal := hReference12Ideal)
    ∧ quiescent_Kernel13 (hKernel13 := hKernel13) (hPre_is_half := hPre_is_half)
    ∧ quiescent_Kernel13Ideal (hKernel13Ideal := hKernel13Ideal) (hPre_is_half := hPre_is_half)
    ∧ quiescent_Reference13Ideal (hReference13Ideal := hReference13Ideal)
    ∧ quiescent_Reference13Ideal_pre_is_half (hReference13Ideal := hReference13Ideal) (hPre_is_half := hPre_is_half)
    ∧ quiescent_Kernel14 (hKernel14 := hKernel14) (hPre_is_half_out := hPre_is_half_out)
    ∧ quiescent_Kernel14Ideal (hKernel14Ideal := hKernel14Ideal) (hPre_is_half_out := hPre_is_half_out)
    ∧ quiescent_Reference14Ideal (hReference14Ideal := hReference14Ideal)
    ∧ quiescent_Reference14Ideal_pre_is_half_out (hReference14Ideal := hReference14Ideal) (hPre_is_half_out := hPre_is_half_out)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal (hKernel11Ideal := hKernel11Ideal) (hReference11Ideal := hReference11Ideal)
    ∧ preserves_Kernel12_Kernel12Ideal
    ∧ algebraic_Kernel12Ideal_Reference12Ideal (hKernel12Ideal := hKernel12Ideal) (hReference12Ideal := hReference12Ideal)
    ∧ preserves_Kernel13_Kernel13Ideal
    ∧ algebraic_Kernel13Ideal_Reference13Ideal (hKernel13Ideal := hKernel13Ideal) (hReference13Ideal := hReference13Ideal) (hPre_is_half := hPre_is_half)
    ∧ preserves_Kernel14_Kernel14Ideal
    ∧ algebraic_Kernel14Ideal_Reference14Ideal (hKernel14Ideal := hKernel14Ideal) (hReference14Ideal := hReference14Ideal) (hPre_is_half_out := hPre_is_half_out)
-- ==== Pre_is_half.lean ====
abbrev S12x1024x512 : Shape := ⟨3, ![12, 1024, 512]⟩
abbrev S12x512x512 : Shape := ⟨3, ![12, 512, 512]⟩
abbrev S1 : Shape := ⟨1, ![1]⟩
abbrev S_ : Shape := ⟨0, ![]⟩

class Facts : Prop where
  shapeCasts_S1_S_ : S1.ShapeCasts S_

variable [Facts]

def fn {F : FTy → Type} [FloatOps F] (main_arg0 : FVec F S12x1024x512 .f32) (main_arg1 : FVec F S12x512x512 .f32) (main_arg2 : IVec S1 32) : IVec S_ 1 :=
  let main_v0 : IVec S_ 32 := shapeCast S_ main_arg2 shapeCasts_S1_S_
  let main_c : IVec S_ 32 := constantI S_ 32 0#32
  let main_v1 : IVec S_ 1 := cmpi .sge main_v0 main_c
  let main_v2 : IVec S_ 32 := shapeCast S_ main_arg2 shapeCasts_S1_S_
  let main_c_0 : IVec S_ 32 := constantI S_ 32 1#32
  let main_v3 : IVec S_ 1 := cmpi .sle main_v2 main_c_0
  let main_v4 : IVec S_ 1 := andi main_v1 main_v3
  main_v4
-- ==== Pre_is_half_out.lean ====
abbrev S4x512x1024 : Shape := ⟨3, ![4, 512, 1024]⟩
abbrev S4x256x1024 : Shape := ⟨3, ![4, 256, 1024]⟩
abbrev S1 : Shape := ⟨1, ![1]⟩
abbrev S_ : Shape := ⟨0, ![]⟩

class Facts : Prop where
  shapeCasts_S1_S_ : S1.ShapeCasts S_

variable [Facts]

def fn {F : FTy → Type} [FloatOps F] (main_arg0 : FVec F S4x512x1024 .f32) (main_arg1 : FVec F S4x256x1024 .f32) (main_arg2 : IVec S1 32) : IVec S_ 1 :=
  let main_v0 : IVec S_ 32 := shapeCast S_ main_arg2 shapeCasts_S1_S_
  let main_c : IVec S_ 32 := constantI S_ 32 0#32
  let main_v1 : IVec S_ 1 := cmpi .sge main_v0 main_c
  let main_v2 : IVec S_ 32 := shapeCast S_ main_arg2 shapeCasts_S1_S_
  let main_c_0 : IVec S_ 32 := constantI S_ 32 1#32
  let main_v3 : IVec S_ 1 := cmpi .sle main_v2 main_c_0
  let main_v4 : IVec S_ 1 := andi main_v1 main_v3
  main_v4
-- ==== Kernel2.lean ====
abbrev S4096x1024 : Shape := ⟨2, ![4096, 1024]⟩
abbrev S2048x1024 : Shape := ⟨2, ![2048, 1024]⟩
abbrev S1x1024 : Shape := ⟨2, ![1, 1024]⟩
abbrev S4096x2048 : Shape := ⟨2, ![4096, 2048]⟩
abbrev S8x1024 : Shape := ⟨2, ![8, 1024]⟩
abbrev S256x1024 : Shape := ⟨2, ![256, 1024]⟩
abbrev S256x2048 : Shape := ⟨2, ![256, 2048]⟩
abbrev S1024x1024 : Shape := ⟨2, ![1024, 1024]⟩
abbrev S256 : Shape := ⟨1, ![256]⟩
abbrev S256x1 : Shape := ⟨2, ![256, 1]⟩
abbrev S1024 : Shape := ⟨1, ![1024]⟩
abbrev S1 : Shape := ⟨1, ![1]⟩
abbrev S1x1 : Shape := ⟨2, ![1, 1]⟩

abbrev nBuf : Space → Nat
  | .hbm => 10
  | .vmem => 17
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .bf16⟩
  | .hbm, ⟨2, _⟩ => ⟨S4096x1024, .f32⟩
  | .hbm, ⟨3, _⟩ => ⟨S4096x1024, .f32⟩
  | .hbm, ⟨4, _⟩ => ⟨S2048x1024, .bf16⟩
  | .hbm, ⟨5, _⟩ => ⟨S1x1024, .f32⟩
  | .hbm, ⟨6, _⟩ => ⟨S4096x1024, .f32⟩
  | .hbm, ⟨7, _⟩ => ⟨S4096x1024, .bf16⟩
  | .hbm, ⟨8, _⟩ => ⟨S4096x2048, .f32⟩
  | .hbm, ⟨9, _⟩ => ⟨S8x1024, .f32⟩
  | .local _ .vmem, ⟨0, _⟩ => ⟨S256x1024, .bf16⟩
  | .local _ .vmem, ⟨1, _⟩ => ⟨S256x1024, .bf16⟩
  | .local _ .vmem, ⟨2, _⟩ => ⟨S256x1024, .bf16⟩
  | .local _ .vmem, ⟨3, _⟩ => ⟨S256x1024, .bf16⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | .local _ .vmem, ⟨7, _⟩ => ⟨S256x1024, .f32⟩
  | .local _ .vmem, ⟨8, _⟩ => ⟨S2048x1024, .bf16⟩
  | .local _ .vmem, ⟨9, _⟩ => ⟨S1x1024, .f32⟩
  | .local _ .vmem, ⟨10, _⟩ => ⟨S256x1024, .f32⟩
  | .local _ .vmem, ⟨11, _⟩ => ⟨S256x1024, .f32⟩
  | .local _ .vmem, ⟨12, _⟩ => ⟨S256x1024, .bf16⟩
  | .local _ .vmem, ⟨13, _⟩ => ⟨S256x1024, .bf16⟩
  | .local _ .vmem, ⟨14, _⟩ => ⟨S256x2048, .f32⟩
  | .local _ .vmem, ⟨15, _⟩ => ⟨S256x2048, .f32⟩
  | .local _ .vmem, ⟨16, _⟩ => ⟨S8x1024, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev main_v0_2 : Ref sig .tc := ⟨.hbm, 8, rfl⟩
abbrev main_v0_3 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S2048x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x2048 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S8x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]
-- ==== Reference2Ideal.lean ====
abbrev S4096x1024 : Shape := ⟨2, ![4096, 1024]⟩
abbrev S2048x1024 : Shape := ⟨2, ![2048, 1024]⟩
abbrev S1x1024 : Shape := ⟨2, ![1, 1024]⟩
abbrev S4096x2048 : Shape := ⟨2, ![4096, 2048]⟩
abbrev S1024 : Shape := ⟨1, ![1024]⟩
abbrev S_ : Shape := ⟨0, ![]⟩
abbrev S4096 : Shape := ⟨1, ![4096]⟩
abbrev S4096x1 : Shape := ⟨2, ![4096, 1]⟩
abbrev S6x1024 : Shape := ⟨2, ![6, 1024]⟩
abbrev S8x1024 : Shape := ⟨2, ![8, 1024]⟩

abbrev nBuf : Space → Nat
  | .hbm => 88
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .bf16⟩
  | .hbm, ⟨2, _⟩ => ⟨S4096x1024, .f32⟩
  | .hbm, ⟨3, _⟩ => ⟨S4096x1024, .f32⟩
  | .hbm, ⟨4, _⟩ => ⟨S2048x1024, .bf16⟩
  | .hbm, ⟨5, _⟩ => ⟨S1x1024, .f32⟩
  | .hbm, ⟨6, _⟩ => ⟨S4096x1024, .f32⟩
  | .hbm, ⟨7, _⟩ => ⟨S4096x1024, .f32⟩
  | .hbm, ⟨8, _⟩ => ⟨S4096x2048, .f32⟩
  | .hbm, ⟨9, _⟩ => ⟨S1024, .f32⟩
  | .hbm, ⟨10, _⟩ => ⟨S2048x1024, .f32⟩
  | .hbm, ⟨11, _⟩ => ⟨S4096x1024, .f32⟩
  | .hbm, ⟨12, _⟩ => ⟨S4096x1024, .f32⟩
  | .hbm, ⟨13, _⟩ => ⟨S4096x1024, .f32⟩
  | .hbm, ⟨14, _⟩ => ⟨S_, .f32⟩
  | .hbm, ⟨15, _⟩ => ⟨S4096, .f32⟩
  | .hbm, ⟨16, _⟩ => ⟨S4096x1, .f32⟩
  | .hbm, ⟨17, _⟩ => ⟨S_, .f32⟩
  | .hbm, ⟨18, _⟩ => ⟨S4096x1, .f32⟩
  | .hbm, ⟨19, _⟩ => ⟨S4096x1, .f32⟩
  | .hbm, ⟨20, _⟩ => ⟨S_, .f32⟩
  | .hbm, ⟨21, _⟩ => ⟨S4096x1, .f32⟩
  | .hbm, ⟨22, _⟩ => ⟨S4096x1, .f32⟩
  | .hbm, ⟨23, _⟩ => ⟨S4096x1, .f32⟩
  | .hbm, ⟨24, _⟩ => ⟨S4096x1, .f32⟩
  | .hbm, ⟨25, _⟩ => ⟨S_, .f32⟩
  | .hbm, ⟨26, _⟩ => ⟨S4096x1, .f32⟩
  | .hbm, ⟨27, _⟩ => ⟨S4096x1, .f32⟩
  | .hbm, ⟨28, _⟩ => ⟨S4096x1024, .f32⟩
  | .hbm, ⟨29, _⟩ => ⟨S4096x1024, .f32⟩
  | .hbm, ⟨30, _⟩ => ⟨S1x1024, .f32⟩
  | .hbm, ⟨31, _⟩ => ⟨S4096x1024, .f32⟩
  | .hbm, ⟨32, _⟩ => ⟨S4096x1024, .f32⟩
  | .hbm, ⟨33, _⟩ => ⟨S4096x1024, .f32⟩
  | .hbm, ⟨34, _⟩ => ⟨S4096x1024, .f32⟩
  | .hbm, ⟨35, _⟩ => ⟨S_, .f32⟩
  | .hbm, ⟨36, _⟩ => ⟨S4096x1024, .f32⟩
  | .hbm, ⟨37, _⟩ => ⟨S4096x1024, .f32⟩
  | .hbm, ⟨38, _⟩ => ⟨S_, .f32⟩
  | .hbm, ⟨39, _⟩ => ⟨S4096, .f32⟩
  | .hbm, ⟨40, _⟩ => ⟨S_, .f32⟩
  | .hbm, ⟨41, _⟩ => ⟨S4096, .f32⟩
  | .hbm, ⟨42, _⟩ => ⟨S4096, .f32⟩
  | .hbm, ⟨43, _⟩ => ⟨S_, .f32⟩
  | .hbm, ⟨44, _⟩ => ⟨S_, .f32⟩
  | .hbm, ⟨45, _⟩ => ⟨S_, .f32⟩
  | .hbm, ⟨46, _⟩ => ⟨S_, .f32⟩
  | .hbm, ⟨47, _⟩ => ⟨S_, .f32⟩
  | .hbm, ⟨48, _⟩ => ⟨S_, .f32⟩
  | .hbm, ⟨49, _⟩ => ⟨S_, .f32⟩
  | .hbm, ⟨50, _⟩ => ⟨S4096, .f32⟩
  | .hbm, ⟨51, _⟩ => ⟨S_, .f32⟩
  | .hbm, ⟨52, _⟩ => ⟨S4096, .f32⟩
  | .hbm, ⟨53, _⟩ => ⟨S4096, .f32⟩
  | .hbm, ⟨54, _⟩ => ⟨S4096x1024, .f32⟩
  | .hbm, ⟨55, _⟩ => ⟨S4096x1024, .f32⟩
  | .hbm, ⟨56, _⟩ => ⟨S4096x1024, .f32⟩
  | .hbm, ⟨57, _⟩ => ⟨S_, .f32⟩
  | .hbm, ⟨58, _⟩ => ⟨S1024, .f32⟩
  | .hbm, ⟨59, _⟩ => ⟨S1x1024, .f32⟩
  | .hbm, ⟨60, _⟩ => ⟨S4096x1024, .f32⟩
  | .hbm, ⟨61, _⟩ => ⟨S4096x1024, .f32⟩
  | .hbm, ⟨62, _⟩ => ⟨S_, .f32⟩
  | .hbm, ⟨63, _⟩ => ⟨S1024, .f32⟩
  | .hbm, ⟨64, _⟩ => ⟨S4096x1024, .f32⟩
  | .hbm, ⟨65, _⟩ => ⟨S_, .f32⟩
  | .hbm, ⟨66, _⟩ => ⟨S4096, .f32⟩
  | .hbm, ⟨67, _⟩ => ⟨S4096x1, .f32⟩
  | .hbm, ⟨68, _⟩ => ⟨S4096x1024, .f32⟩
  | .hbm, ⟨69, _⟩ => ⟨S4096x1024, .f32⟩
  | .hbm, ⟨70, _⟩ => ⟨S4096x1, .f32⟩
  | .hbm, ⟨71, _⟩ => ⟨S_, .f32⟩
  | .hbm, ⟨72, _⟩ => ⟨S4096x1, .f32⟩
  | .hbm, ⟨73, _⟩ => ⟨S4096x1, .f32⟩
  | .hbm, ⟨74, _⟩ => ⟨S_, .f32⟩
  | .hbm, ⟨75, _⟩ => ⟨S4096, .f32⟩
  | .hbm, ⟨76, _⟩ => ⟨S4096x1024, .f32⟩
  | .hbm, ⟨77, _⟩ => ⟨S4096x1024, .f32⟩
  | .hbm, ⟨78, _⟩ => ⟨S4096x1024, .f32⟩
  | .hbm, ⟨79, _⟩ => ⟨S4096x1024, .f32⟩
  | .hbm, ⟨80, _⟩ => ⟨S4096x1024, .f32⟩
  | .hbm, ⟨81, _⟩ => ⟨S4096x2048, .f32⟩
  | .hbm, ⟨82, _⟩ => ⟨S1x1024, .f32⟩
  | .hbm, ⟨83, _⟩ => ⟨S1x1024, .f32⟩
  | .hbm, ⟨84, _⟩ => ⟨S_, .f32⟩
  | .hbm, ⟨85, _⟩ => ⟨S6x1024, .f32⟩
  | .hbm, ⟨86, _⟩ => ⟨S8x1024, .f32⟩
  | .hbm, ⟨87, _⟩ => ⟨S4096x1024, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst : Ref sig .tc := ⟨.hbm, 14, rfl⟩
abbrev main_v8 : Ref sig .tc := ⟨.hbm, 15, rfl⟩
abbrev main_v9 : Ref sig .tc := ⟨.hbm, 16, rfl⟩
abbrev main_cst_0 : Ref sig .tc := ⟨.hbm, 17, rfl⟩
abbrev main_v10 : Ref sig .tc := ⟨.hbm, 18, rfl⟩
abbrev main_v11 : Ref sig .tc := ⟨.hbm, 19, rfl⟩
abbrev main_cst_1 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_cst_2 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_cst_3 : Ref sig .tc := ⟨.hbm, 35, rfl⟩
abbrev main_v25 : Ref sig .tc := ⟨.hbm, 36, rfl⟩
abbrev main_v26 : Ref sig .tc := ⟨.hbm, 37, rfl⟩
abbrev main_cst_4 : Ref sig .tc := ⟨.hbm, 38, rfl⟩
abbrev main_v27 : Ref sig .tc := ⟨.hbm, 39, rfl⟩
abbrev main_cst_5 : Ref sig .tc := ⟨.hbm, 40, rfl⟩
abbrev main_v28 : Ref sig .tc := ⟨.hbm, 41, rfl⟩
abbrev main_v29 : Ref sig .tc := ⟨.hbm, 42, rfl⟩
abbrev main_cst_6 : Ref sig .tc := ⟨.hbm, 43, rfl⟩
abbrev main_v30 : Ref sig .tc := ⟨.hbm, 44, rfl⟩
abbrev main_cst_7 : Ref sig .tc := ⟨.hbm, 45, rfl⟩
abbrev main_v31 : Ref sig .tc := ⟨.hbm, 46, rfl⟩
abbrev main_cst_8 : Ref sig .tc := ⟨.hbm, 47, rfl⟩
abbrev main_cst_9 : Ref sig .tc := ⟨.hbm, 48, rfl⟩
abbrev main_v32 : Ref sig .tc := ⟨.hbm, 49, rfl⟩
abbrev main_v33 : Ref sig .tc := ⟨.hbm, 50, rfl⟩
abbrev main_cst_10 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_cst_11 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_cst_12 : Ref sig .tc := ⟨.hbm, 62, rfl⟩
abbrev main_v43 : Ref sig .tc := ⟨.hbm, 63, rfl⟩
abbrev main_v44 : Ref sig .tc := ⟨.hbm, 64, rfl⟩
abbrev main_cst_13 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_cst_14 : Ref sig .tc := ⟨.hbm, 71, rfl⟩
abbrev main_v50 : Ref sig .tc := ⟨.hbm, 72, rfl⟩
abbrev main_v51 : Ref sig .tc := ⟨.hbm, 73, rfl⟩
abbrev main_cst_15 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_cst_16 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩

abbrev nD : Nat := 1
abbrev τ : Topo := Topo.v7x

variable {F : FTy → Type} [FloatOps F]
-- ==== Kernel3.lean ====
abbrev S4096x1024 : Shape := ⟨2, ![4096, 1024]⟩
abbrev S6x4096x1024 : Shape := ⟨3, ![6, 4096, 1024]⟩
abbrev S12x1024x512 : Shape := ⟨3, ![12, 1024, 512]⟩
abbrev S1024x1024 : Shape := ⟨2, ![1024, 1024]⟩
abbrev S1x1024x1024 : Shape := ⟨3, ![1, 1024, 1024]⟩
abbrev S2x1024x512 : Shape := ⟨3, ![2, 1024, 512]⟩
abbrev S1x1024x512 : Shape := ⟨3, ![1, 1024, 512]⟩
abbrev S1024x512 : Shape := ⟨2, ![1024, 512]⟩

abbrev nBuf : Space → Nat
  | .hbm => 3
  | .vmem => 6
  | .smem => 0
  | _ => 0

abbrev bufTy : (tb : Table) → Fin (tcTables nBuf tb) → BufTy
  | .hbm, ⟨0, _⟩ => ⟨S4096x1024, .bf16⟩
  | .hbm, ⟨1, _⟩ => ⟨S6x4096x1024, .bf16⟩
  | .hbm, ⟨2, _⟩ => ⟨S12x1024x512, .f32⟩
  | .local _ .vmem, ⟨0, _⟩ => ⟨S1024x1024, .bf16⟩
  | .local _ .vmem, ⟨1, _⟩ => ⟨S1024x1024, .bf16⟩
  | .local _ .vmem, ⟨2, _⟩ => ⟨S1x1024x1024, .bf16⟩
  | .local _ .vmem, ⟨3, _⟩ => ⟨S1x1024x1024, .bf16⟩
  | .local _ .vmem, ⟨4, _⟩ => ⟨S2x1024x512, .f32⟩
  | .local _ .vmem, ⟨5, _⟩ => ⟨S2x1024x512, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![6, 4], ![false, false]⟩

def k0_cond1 (i : grid0.Coords) : BitVec 1 :=
  let arg1 : BitVec 32 := BitVec.ofNat 32 (i 1).val
  let c0_i32 : BitVec 32 := 0#32
  let v7 : BitVec 1 := Scalar.cmpi .eq arg1 c0_i32
  let v8 : BitVec 32 := Scalar.extui v7
  let c0_i32_7 : BitVec 32 := 0#32
  let v9 : BitVec 1 := Scalar.cmpi .ne v8 c0_i32_7
  v9

def k0_cond2 (i : grid0.Coords) : BitVec 1 :=
  let arg1 : BitVec 32 := BitVec.ofNat 32 (i 1).val
  let c0_i32_8 : BitVec 32 := 0#32
  let v10 : BitVec 1 := Scalar.cmpi .sgt arg1 c0_i32_8
  let v11 : BitVec 32 := Scalar.extui v10
  let c0_i32_9 : BitVec 32 := 0#32
  let v12 : BitVec 1 := Scalar.cmpi .ne v11 c0_i32_9
  v12

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S2x1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== Reference3Ideal.lean ====
abbrev S4096x1024 : Shape := ⟨2, ![4096, 1024]⟩
abbrev S6x4096x1024 : Shape := ⟨3, ![6, 4096, 1024]⟩
abbrev S_ : Shape := ⟨0, ![]⟩
abbrev S1024x6144 : Shape := ⟨2, ![1024, 6144]⟩
abbrev S4096x6144 : Shape := ⟨2, ![4096, 6144]⟩
abbrev S4096x6x1024 : Shape := ⟨3, ![4096, 6, 1024]⟩
abbrev S6144x1024 : Shape := ⟨2, ![6144, 1024]⟩
abbrev S1024x12x512 : Shape := ⟨3, ![1024, 12, 512]⟩
abbrev S12x1024x512 : Shape := ⟨3, ![12, 1024, 512]⟩

abbrev nBuf : Space → Nat
  | .hbm => 13
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S6x4096x1024, .bf16⟩
  | .hbm, ⟨2, _⟩ => ⟨S_, .f32⟩
  | .hbm, ⟨3, _⟩ => ⟨S1024x6144, .f32⟩
  | .hbm, ⟨4, _⟩ => ⟨S4096x1024, .f32⟩
  | .hbm, ⟨5, _⟩ => ⟨S4096x6144, .f32⟩
  | .hbm, ⟨6, _⟩ => ⟨S6x4096x1024, .f32⟩
  | .hbm, ⟨7, _⟩ => ⟨S4096x6x1024, .f32⟩
  | .hbm, ⟨8, _⟩ => ⟨S4096x6144, .f32⟩
  | .hbm, ⟨9, _⟩ => ⟨S6144x1024, .f32⟩
  | .hbm, ⟨10, _⟩ => ⟨S1024x6144, .f32⟩
  | .hbm, ⟨11, _⟩ => ⟨S1024x12x512, .f32⟩
  | .hbm, ⟨12, _⟩ => ⟨S12x1024x512, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩

abbrev nD : Nat := 1
abbrev τ : Topo := Topo.v7x

variable {F : FTy → Type} [FloatOps F]
-- ==== Kernel4.lean ====
abbrev S6x4096x1024 : Shape := ⟨3, ![6, 4096, 1024]⟩
abbrev S12x1024x512 : Shape := ⟨3, ![12, 1024, 512]⟩
abbrev S4096x1024 : Shape := ⟨2, ![4096, 1024]⟩
abbrev S1x1024 : Shape := ⟨2, ![1, 1024]⟩
abbrev S8x1024 : Shape := ⟨2, ![8, 1024]⟩
abbrev S1x1024x1024 : Shape := ⟨3, ![1, 1024, 1024]⟩
abbrev S2x1024x512 : Shape := ⟨3, ![2, 1024, 512]⟩
abbrev S1024x1024 : Shape := ⟨2, ![1024, 1024]⟩
abbrev S1x1024x512 : Shape := ⟨3, ![1, 1024, 512]⟩
abbrev S1024x512 : Shape := ⟨2, ![1024, 512]⟩
abbrev S128x1024 : Shape := ⟨2, ![128, 1024]⟩
abbrev S128 : Shape := ⟨1, ![128]⟩
abbrev S128x1 : Shape := ⟨2, ![128, 1]⟩
abbrev S1024 : Shape := ⟨1, ![1024]⟩

abbrev nBuf : Space → Nat
  | .hbm => 7
  | .vmem => 13
  | .smem => 0
  | _ => 0

abbrev bufTy : (tb : Table) → Fin (tcTables nBuf tb) → BufTy
  | .hbm, ⟨0, _⟩ => ⟨S6x4096x1024, .bf16⟩
  | .hbm, ⟨1, _⟩ => ⟨S12x1024x512, .bf16⟩
  | .hbm, ⟨2, _⟩ => ⟨S4096x1024, .f32⟩
  | .hbm, ⟨3, _⟩ => ⟨S4096x1024, .f32⟩
  | .hbm, ⟨4, _⟩ => ⟨S1x1024, .f32⟩
  | .hbm, ⟨5, _⟩ => ⟨S4096x1024, .f32⟩
  | .hbm, ⟨6, _⟩ => ⟨S8x1024, .f32⟩
  | .local _ .vmem, ⟨0, _⟩ => ⟨S1x1024x1024, .bf16⟩
  | .local _ .vmem, ⟨1, _⟩ => ⟨S1x1024x1024, .bf16⟩
  | .local _ .vmem, ⟨2, _⟩ => ⟨S2x1024x512, .bf16⟩
  | .local _ .vmem, ⟨3, _⟩ => ⟨S2x1024x512, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | .local _ .vmem, ⟨8, _⟩ => ⟨S1x1024, .f32⟩
  | .local _ .vmem, ⟨9, _⟩ => ⟨S1024x1024, .f32⟩
  | .local _ .vmem, ⟨10, _⟩ => ⟨S1024x1024, .f32⟩
  | .local _ .vmem, ⟨11, _⟩ => ⟨S8x1024, .f32⟩
  | .local _ .vmem, ⟨12, _⟩ => ⟨S1024x1024, .f32⟩
  | _, _ => ⟨S6x4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10
abbrev cc0_sem6_0 : DmaSem sig := 11

abbrev nD : Nat := 1
abbrev τ : Topo := Topo.v7x

variable {F : FTy → Type} [FloatOps F]

abbrev grid0 : Pipeline.Grid := ⟨2, ![4, 6], ![false, false]⟩

def k0_cond4 (i : grid0.Coords) : BitVec 1 :=
  let arg1 : BitVec 32 := BitVec.ofNat 32 (i 1).val
  let c5_i32 : BitVec 32 := 5#32
  let v22 : BitVec 1 := Scalar.cmpi .eq arg1 c5_i32
  let v23 : BitVec 32 := Scalar.extui v22
  let c0_i32_16 : BitVec 32 := 0#32
  let v24 : BitVec 1 := Scalar.cmpi .ne v23 c0_i32_16
  v24

@[reducible] def k0_t1_loop : Scf.Loop 32 :=
  let c0_i32_20 : BitVec 32 := 0#32
  let c8_i32 : BitVec 32 := 8#32
  let v28 : BitVec 32 := Scalar.addi c0_i32_20 c8_i32
  let c1_i32 : BitVec 32 := 1#32
  ⟨c0_i32_20, v28, c1_i32⟩
def k0_mult1 (k0_t1 : Fin k0_t1_loop.trips) : BitVec 32 :=
  let c0_i32_20 : BitVec 32 := 0#32
  let c1_i32 : BitVec 32 := 1#32
  let arg10 : BitVec 32 := Scf.iv c0_i32_20 c1_i32 k0_t1
  let c128_i32 : BitVec 32 := 128#32
  let v32 : BitVec 32 := Scalar.muli arg10 c128_i32
  v32
def k0_off1 (k0_t1 : Fin k0_t1_loop.trips) : Fin 2 → Nat :=
  let c0_i32_20 : BitVec 32 := 0#32
  let c1_i32 : BitVec 32 := 1#32
  let arg10 : BitVec 32 := Scf.iv c0_i32_20 c1_i32 k0_t1
  let c128_i32 : BitVec 32 := 128#32
  let v32 : BitVec 32 := Scalar.muli arg10 c128_i32
  let v33 : BitVec 32 := v32
  let v34 : Index := Scalar.indexCast v33
  let c0_24 : Index := 0#32
  ![v34.toNat, 0]
def k0_cond1 (i : grid0.Coords) : BitVec 1 :=
  let arg0 : BitVec 32 := BitVec.ofNat 32 (i 0).val
  let c0_i32 : BitVec 32 := 0#32
  let v0 : BitVec 1 := Scalar.cmpi .eq arg0 c0_i32
  let arg1 : BitVec 32 := BitVec.ofNat 32 (i 1).val
  let c0_i32_0 : BitVec 32 := 0#32
  let v1 : BitVec 1 := Scalar.cmpi .eq arg1 c0_i32_0
  let v2 : BitVec 1 := Scalar.andi v0 v1
  let v3 : BitVec 32 := Scalar.extui v2
  let c0_i32_1 : BitVec 32 := 0#32
  let v4 : BitVec 1 := Scalar.cmpi .ne v3 c0_i32_1
  v4

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1x1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2x1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 1 → Memref sig .tc .vmem S8x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]
-- ==== Reference4Ideal.lean ====
abbrev S6x4096x1024 : Shape := ⟨3, ![6, 4096, 1024]⟩
abbrev S12x1024x512 : Shape := ⟨3, ![12, 1024, 512]⟩
abbrev S4096x1024 : Shape := ⟨2, ![4096, 1024]⟩
abbrev S1x1024 : Shape := ⟨2, ![1, 1024]⟩
abbrev S1024x12x512 : Shape := ⟨3, ![1024, 12, 512]⟩
abbrev S1024x6144 : Shape := ⟨2, ![1024, 6144]⟩
abbrev S1024 : Shape := ⟨1, ![1024]⟩
abbrev S_ : Shape := ⟨0, ![]⟩
abbrev S4096 : Shape := ⟨1, ![4096]⟩
abbrev S4096x1 : Shape := ⟨2, ![4096, 1]⟩
abbrev S4096x6144 : Shape := ⟨2, ![4096, 6144]⟩
abbrev S4096x6x1024 : Shape := ⟨3, ![4096, 6, 1024]⟩
abbrev S7x1024 : Shape := ⟨2, ![7, 1024]⟩
abbrev S8x1024 : Shape := ⟨2, ![8, 1024]⟩

abbrev nBuf : Space → Nat
  | .hbm => 64
  | .vmem => 0
  | .smem => 0
  | _ => 0

abbrev bufTy : (tb : Table) → Fin (tcTables nBuf tb) → BufTy
  | .hbm, ⟨0, _⟩ => ⟨S6x4096x1024, .bf16⟩
  | .hbm, ⟨1, _⟩ => ⟨S12x1024x512, .bf16⟩
  | .hbm, ⟨2, _⟩ => ⟨S4096x1024, .f32⟩
  | .hbm, ⟨3, _⟩ => ⟨S4096x1024, .f32⟩
  | .hbm, ⟨4, _⟩ => ⟨S1x1024, .f32⟩
  | .hbm, ⟨5, _⟩ => ⟨S12x1024x512, .f32⟩
  | .hbm, ⟨6, _⟩ => ⟨S1024x12x512, .f32⟩
  | .hbm, ⟨7, _⟩ => ⟨S1024x6144, .f32⟩
  | .hbm, ⟨8, _⟩ => ⟨S1024, .f32⟩
  | .hbm, ⟨9, _⟩ => ⟨S4096x1024, .f32⟩
  | .hbm, ⟨10, _⟩ => ⟨S_, .f32⟩
  | .hbm, ⟨11, _⟩ => ⟨S4096, .f32⟩
  | .hbm, ⟨12, _⟩ => ⟨S4096x1, .f32⟩
  | .hbm, ⟨13, _⟩ => ⟨S_, .f32⟩
  | .hbm, ⟨14, _⟩ => ⟨S4096x1, .f32⟩
  | .hbm, ⟨15, _⟩ => ⟨S4096x1, .f32⟩
  | .hbm, ⟨16, _⟩ => ⟨S_, .f32⟩
  | .hbm, ⟨17, _⟩ => ⟨S4096x1, .f32⟩
  | .hbm, ⟨18, _⟩ => ⟨S4096x1, .f32⟩
  | .hbm, ⟨19, _⟩ => ⟨S4096x1, .f32⟩
  | .hbm, ⟨20, _⟩ => ⟨S4096x1, .f32⟩
  | .hbm, ⟨21, _⟩ => ⟨S_, .f32⟩
  | .hbm, ⟨22, _⟩ => ⟨S4096x1, .f32⟩
  | .hbm, ⟨23, _⟩ => ⟨S4096x1, .f32⟩
  | .hbm, ⟨24, _⟩ => ⟨S4096x1024, .f32⟩
  | .hbm, ⟨25, _⟩ => ⟨S4096x1024, .f32⟩
  | .hbm, ⟨26, _⟩ => ⟨S1x1024, .f32⟩
  | .hbm, ⟨27, _⟩ => ⟨S4096x1024, .f32⟩
  | .hbm, ⟨28, _⟩ => ⟨S4096x1024, .f32⟩
  | .hbm, ⟨29, _⟩ => ⟨S4096x6144, .f32⟩
  | .hbm, ⟨30, _⟩ => ⟨S6x4096x1024, .f32⟩
  | .hbm, ⟨31, _⟩ => ⟨S4096x6x1024, .f32⟩
  | .hbm, ⟨32, _⟩ => ⟨S4096x6144, .f32⟩
  | .hbm, ⟨33, _⟩ => ⟨S4096x1024, .f32⟩
  | .hbm, ⟨34, _⟩ => ⟨S4096x1024, .f32⟩
  | .hbm, ⟨35, _⟩ => ⟨S_, .f32⟩
  | .hbm, ⟨36, _⟩ => ⟨S1024, .f32⟩
  | .hbm, ⟨37, _⟩ => ⟨S1x1024, .f32⟩
  | .hbm, ⟨38, _⟩ => ⟨S4096x1024, .f32⟩
  | .hbm, ⟨39, _⟩ => ⟨S4096x1024, .f32⟩
  | .hbm, ⟨40, _⟩ => ⟨S_, .f32⟩
  | .hbm, ⟨41, _⟩ => ⟨S1024, .f32⟩
  | .hbm, ⟨42, _⟩ => ⟨S4096x1024, .f32⟩
  | .hbm, ⟨43, _⟩ => ⟨S_, .f32⟩
  | .hbm, ⟨44, _⟩ => ⟨S4096, .f32⟩
  | .hbm, ⟨45, _⟩ => ⟨S4096x1, .f32⟩
  | .hbm, ⟨46, _⟩ => ⟨S4096x1024, .f32⟩
  | .hbm, ⟨47, _⟩ => ⟨S4096x1024, .f32⟩
  | .hbm, ⟨48, _⟩ => ⟨S4096x1, .f32⟩
  | .hbm, ⟨49, _⟩ => ⟨S_, .f32⟩
  | .hbm, ⟨50, _⟩ => ⟨S4096x1, .f32⟩
  | .hbm, ⟨51, _⟩ => ⟨S4096x1, .f32⟩
  | .hbm, ⟨52, _⟩ => ⟨S_, .f32⟩
  | .hbm, ⟨53, _⟩ => ⟨S4096, .f32⟩
  | .hbm, ⟨54, _⟩ => ⟨S4096x1024, .f32⟩
  | .hbm, ⟨55, _⟩ => ⟨S4096x1024, .f32⟩
  | .hbm, ⟨56, _⟩ => ⟨S4096x1024, .f32⟩
  | .hbm, ⟨57, _⟩ => ⟨S4096x1024, .f32⟩
  | .hbm, ⟨58, _⟩ => ⟨S4096x1024, .f32⟩
  | .hbm, ⟨59, _⟩ => ⟨S4096x1024, .f32⟩
  | .hbm, ⟨60, _⟩ => ⟨S1x1024, .f32⟩
  | .hbm, ⟨61, _⟩ => ⟨S_, .f32⟩
  | .hbm, ⟨62, _⟩ => ⟨S7x1024, .f32⟩
  | .hbm, ⟨63, _⟩ => ⟨S8x1024, .f32⟩
  | _, _ => ⟨S6x4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst : Ref sig .tc := ⟨.hbm, 10, rfl⟩
abbrev main_v5 : Ref sig .tc := ⟨.hbm, 11, rfl⟩
abbrev main_v6 : Ref sig .tc := ⟨.hbm, 12, rfl⟩
abbrev main_cst_0 : Ref sig .tc := ⟨.hbm, 13, rfl⟩
abbrev main_v7 : Ref sig .tc := ⟨.hbm, 14, rfl⟩
abbrev main_v8 : Ref sig .tc := ⟨.hbm, 15, rfl⟩
abbrev main_cst_1 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_2 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_cst_3 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_cst_4 : Ref sig .tc := ⟨.hbm, 40, rfl⟩
abbrev main_v30 : Ref sig .tc := ⟨.hbm, 41, rfl⟩
abbrev main_v31 : Ref sig .tc := ⟨.hbm, 42, rfl⟩
abbrev main_cst_5 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_cst_6 : Ref sig .tc := ⟨.hbm, 49, rfl⟩
abbrev main_v37 : Ref sig .tc := ⟨.hbm, 50, rfl⟩
abbrev main_v38 : Ref sig .tc := ⟨.hbm, 51, rfl⟩
abbrev main_cst_7 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_cst_8 : Ref sig .tc := ⟨.hbm, 61, rfl⟩
abbrev main_v47 : Ref sig .tc := ⟨.hbm, 62, rfl⟩
abbrev main_v48 : Ref sig .tc := ⟨.hbm, 63, rfl⟩

abbrev nD : Nat := 1
abbrev τ : Topo := Topo.v7x

variable {F : FTy → Type} [FloatOps F]
-- ==== Kernel5.lean ====
abbrev S4096x1024 : Shape := ⟨2, ![4096, 1024]⟩
abbrev S2048x1024 : Shape := ⟨2, ![2048, 1024]⟩
abbrev S512x1024 : Shape := ⟨2, ![512, 1024]⟩
abbrev S1024x1024 : Shape := ⟨2, ![1024, 1024]⟩

abbrev nBuf : Space → Nat
  | .hbm => 4
  | .vmem => 7
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .bf16⟩
  | .hbm, ⟨2, _⟩ => ⟨S4096x1024, .bf16⟩
  | .hbm, ⟨3, _⟩ => ⟨S2048x1024, .f32⟩
  | .local _ .vmem, ⟨0, _⟩ => ⟨S512x1024, .bf16⟩
  | .local _ .vmem, ⟨1, _⟩ => ⟨S512x1024, .bf16⟩
  | .local _ .vmem, ⟨2, _⟩ => ⟨S512x1024, .bf16⟩
  | .local _ .vmem, ⟨3, _⟩ => ⟨S512x1024, .bf16⟩
  | .local _ .vmem, ⟨4, _⟩ => ⟨S512x1024, .bf16⟩
  | .local _ .vmem, ⟨5, _⟩ => ⟨S512x1024, .bf16⟩
  | .local _ .vmem, ⟨6, _⟩ => ⟨S2048x1024, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S2048x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]
-- ==== Reference5Ideal.lean ====
abbrev S4096x1024 : Shape := ⟨2, ![4096, 1024]⟩
abbrev S4096x2048 : Shape := ⟨2, ![4096, 2048]⟩
abbrev S_ : Shape := ⟨0, ![]⟩
abbrev S2048x1024 : Shape := ⟨2, ![2048, 1024]⟩
abbrev S1024x2048 : Shape := ⟨2, ![1024, 2048]⟩

abbrev nBuf : Space → Nat
  | .hbm => 12
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .bf16⟩
  | .hbm, ⟨2, _⟩ => ⟨S4096x1024, .bf16⟩
  | .hbm, ⟨3, _⟩ => ⟨S4096x1024, .f32⟩
  | .hbm, ⟨4, _⟩ => ⟨S4096x1024, .f32⟩
  | .hbm, ⟨5, _⟩ => ⟨S4096x2048, .f32⟩
  | .hbm, ⟨6, _⟩ => ⟨S_, .f32⟩
  | .hbm, ⟨7, _⟩ => ⟨S2048x1024, .f32⟩
  | .hbm, ⟨8, _⟩ => ⟨S4096x1024, .f32⟩
  | .hbm, ⟨9, _⟩ => ⟨S4096x1024, .f32⟩
  | .hbm, ⟨10, _⟩ => ⟨S1024x2048, .f32⟩
  | .hbm, ⟨11, _⟩ => ⟨S2048x1024, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩

abbrev nD : Nat := 1
abbrev τ : Topo := Topo.v7x

variable {F : FTy → Type} [FloatOps F]
-- ==== Kernel6.lean ====
abbrev S4096x1024 : Shape := ⟨2, ![4096, 1024]⟩
abbrev S1x1024 : Shape := ⟨2, ![1, 1024]⟩
abbrev S12x1024x512 : Shape := ⟨3, ![12, 1024, 512]⟩
abbrev S4096x6144 : Shape := ⟨2, ![4096, 6144]⟩
abbrev S1024x1024 : Shape := ⟨2, ![1024, 1024]⟩
abbrev S3x1024x512 : Shape := ⟨3, ![3, 1024, 512]⟩
abbrev S1024x1536 : Shape := ⟨2, ![1024, 1536]⟩
abbrev S128x1024 : Shape := ⟨2, ![128, 1024]⟩
abbrev S128 : Shape := ⟨1, ![128]⟩
abbrev S128x1 : Shape := ⟨2, ![128, 1]⟩
abbrev S1x1024x512 : Shape := ⟨3, ![1, 1024, 512]⟩
abbrev S1024x512 : Shape := ⟨2, ![1024, 512]⟩

abbrev nBuf : Space → Nat
  | .hbm => 5
  | .vmem => 10
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S12x1024x512, .bf16⟩
  | .hbm, ⟨3, _⟩ => ⟨S4096x6144, .f32⟩
  | .hbm, ⟨4, _⟩ => ⟨S4096x1024, .bf16⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S3x1024x512, .bf16⟩
  | .local _ .vmem, ⟨4, _⟩ => ⟨S3x1024x512, .bf16⟩
  | .local _ .vmem, ⟨5, _⟩ => ⟨S1024x1536, .f32⟩
  | .local _ .vmem, ⟨6, _⟩ => ⟨S1024x1536, .f32⟩
  | .local _ .vmem, ⟨7, _⟩ => ⟨S1024x1024, .bf16⟩
  | .local _ .vmem, ⟨8, _⟩ => ⟨S1024x1024, .bf16⟩
  | .local _ .vmem, ⟨9, _⟩ => ⟨S1024x1024, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_scratch0 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨2, ![4, 4], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

@[reducible] def k0_t1_loop : Scf.Loop 32 :=
  let c0_i32_15 : BitVec 32 := 0#32
  let c8_i32 : BitVec 32 := 8#32
  let v16 : BitVec 32 := Scalar.addi c0_i32_15 c8_i32
  let c1_i32 : BitVec 32 := 1#32
  ⟨c0_i32_15, v16, c1_i32⟩
def k0_mult1 (k0_t1 : Fin k0_t1_loop.trips) : BitVec 32 :=
  let c0_i32_15 : BitVec 32 := 0#32
  let c1_i32 : BitVec 32 := 1#32
  let arg8 : BitVec 32 := Scf.iv c0_i32_15 c1_i32 k0_t1
  let c128_i32 : BitVec 32 := 128#32
  let v17 : BitVec 32 := Scalar.muli arg8 c128_i32
  v17
def k0_off1 (k0_t1 : Fin k0_t1_loop.trips) : Fin 2 → Nat :=
  let c0_i32_15 : BitVec 32 := 0#32
  let c1_i32 : BitVec 32 := 1#32
  let arg8 : BitVec 32 := Scf.iv c0_i32_15 c1_i32 k0_t1
  let c128_i32 : BitVec 32 := 128#32
  let v17 : BitVec 32 := Scalar.muli arg8 c128_i32
  let v18 : BitVec 32 := v17
  let v19 : Index := Scalar.indexCast v18
  let c0_17 : Index := 0#32
  ![v19.toNat, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S3x1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x1536 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1024x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]
-- ==== Reference6Ideal.lean ====
abbrev S4096x1024 : Shape := ⟨2, ![4096, 1024]⟩
abbrev S1x1024 : Shape := ⟨2, ![1, 1024]⟩
abbrev S12x1024x512 : Shape := ⟨3, ![12, 1024, 512]⟩
abbrev S1024x12x512 : Shape := ⟨3, ![1024, 12, 512]⟩
abbrev S1024x6144 : Shape := ⟨2, ![1024, 6144]⟩
abbrev S1024 : Shape := ⟨1, ![1024]⟩
abbrev S_ : Shape := ⟨0, ![]⟩
abbrev S4096 : Shape := ⟨1, ![4096]⟩
abbrev S4096x1 : Shape := ⟨2, ![4096, 1]⟩
abbrev S4096x6144 : Shape := ⟨2, ![4096, 6144]⟩

abbrev nBuf : Space → Nat
  | .hbm => 26
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S12x1024x512, .bf16⟩
  | .hbm, ⟨3, _⟩ => ⟨S12x1024x512, .f32⟩
  | .hbm, ⟨4, _⟩ => ⟨S1024x12x512, .f32⟩
  | .hbm, ⟨5, _⟩ => ⟨S1024x6144, .f32⟩
  | .hbm, ⟨6, _⟩ => ⟨S1024, .f32⟩
  | .hbm, ⟨7, _⟩ => ⟨S4096x1024, .f32⟩
  | .hbm, ⟨8, _⟩ => ⟨S_, .f32⟩
  | .hbm, ⟨9, _⟩ => ⟨S4096, .f32⟩
  | .hbm, ⟨10, _⟩ => ⟨S4096x1, .f32⟩
  | .hbm, ⟨11, _⟩ => ⟨S_, .f32⟩
  | .hbm, ⟨12, _⟩ => ⟨S4096x1, .f32⟩
  | .hbm, ⟨13, _⟩ => ⟨S4096x1, .f32⟩
  | .hbm, ⟨14, _⟩ => ⟨S_, .f32⟩
  | .hbm, ⟨15, _⟩ => ⟨S4096x1, .f32⟩
  | .hbm, ⟨16, _⟩ => ⟨S4096x1, .f32⟩
  | .hbm, ⟨17, _⟩ => ⟨S4096x1, .f32⟩
  | .hbm, ⟨18, _⟩ => ⟨S4096x1024, .f32⟩
  | .hbm, ⟨19, _⟩ => ⟨S4096x1024, .f32⟩
  | .hbm, ⟨20, _⟩ => ⟨S1x1024, .f32⟩
  | .hbm, ⟨21, _⟩ => ⟨S4096x1024, .f32⟩
  | .hbm, ⟨22, _⟩ => ⟨S4096x1024, .f32⟩
  | .hbm, ⟨23, _⟩ => ⟨S4096x1024, .bf16⟩
  | .hbm, ⟨24, _⟩ => ⟨S4096x1024, .f32⟩
  | .hbm, ⟨25, _⟩ => ⟨S4096x6144, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst : Ref sig .tc := ⟨.hbm, 8, rfl⟩
abbrev main_v5 : Ref sig .tc := ⟨.hbm, 9, rfl⟩
abbrev main_v6 : Ref sig .tc := ⟨.hbm, 10, rfl⟩
abbrev main_cst_0 : Ref sig .tc := ⟨.hbm, 11, rfl⟩
abbrev main_v7 : Ref sig .tc := ⟨.hbm, 12, rfl⟩
abbrev main_v8 : Ref sig .tc := ⟨.hbm, 13, rfl⟩
abbrev main_cst_1 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩

abbrev nD : Nat := 1
abbrev τ : Topo := Topo.v7x

variable {F : FTy → Type} [FloatOps F]
-- ==== Kernel7.lean ====
abbrev S1024x1536 : Shape := ⟨2, ![1024, 1536]⟩
abbrev S3x1024x512 : Shape := ⟨3, ![3, 1024, 512]⟩
abbrev S128x1536 : Shape := ⟨2, ![128, 1536]⟩
abbrev S3x128x512 : Shape := ⟨3, ![3, 128, 512]⟩
abbrev S1x128x512 : Shape := ⟨3, ![1, 128, 512]⟩
abbrev S128x512 : Shape := ⟨2, ![128, 512]⟩

abbrev nBuf : Space → Nat
  | .hbm => 8
  | .vmem => 16
  | .smem => 0
  | _ => 0

abbrev bufTy : (tb : Table) → Fin (tcTables nBuf tb) → BufTy
  | .hbm, ⟨0, _⟩ => ⟨S1024x1536, .f32⟩
  | .hbm, ⟨1, _⟩ => ⟨S1024x1536, .f32⟩
  | .hbm, ⟨2, _⟩ => ⟨S1024x1536, .f32⟩
  | .hbm, ⟨3, _⟩ => ⟨S3x1024x512, .f32⟩
  | .hbm, ⟨4, _⟩ => ⟨S1024x1536, .f32⟩
  | .hbm, ⟨5, _⟩ => ⟨S1024x1536, .f32⟩
  | .hbm, ⟨6, _⟩ => ⟨S1024x1536, .f32⟩
  | .hbm, ⟨7, _⟩ => ⟨S1024x1536, .f32⟩
  | .local _ .vmem, ⟨0, _⟩ => ⟨S128x1536, .f32⟩
  | .local _ .vmem, ⟨1, _⟩ => ⟨S128x1536, .f32⟩
  | .local _ .vmem, ⟨2, _⟩ => ⟨S128x1536, .f32⟩
  | .local _ .vmem, ⟨3, _⟩ => ⟨S128x1536, .f32⟩
  | .local _ .vmem, ⟨4, _⟩ => ⟨S128x1536, .f32⟩
  | .local _ .vmem, ⟨5, _⟩ => ⟨S128x1536, .f32⟩
  | .local _ .vmem, ⟨6, _⟩ => ⟨S3x128x512, .f32⟩
  | .local _ .vmem, ⟨7, _⟩ => ⟨S3x128x512, .f32⟩
  | .local _ .vmem, ⟨8, _⟩ => ⟨S128x1536, .f32⟩
  | .local _ .vmem, ⟨9, _⟩ => ⟨S128x1536, .f32⟩
  | .local _ .vmem, ⟨10, _⟩ => ⟨S128x1536, .f32⟩
  | .local _ .vmem, ⟨11, _⟩ => ⟨S128x1536, .f32⟩
  | .local _ .vmem, ⟨12, _⟩ => ⟨S128x1536, .f32⟩
  | .local _ .vmem, ⟨13, _⟩ => ⟨S128x1536, .f32⟩
  | .local _ .vmem, ⟨14, _⟩ => ⟨S128x1536, .f32⟩
  | .local _ .vmem, ⟨15, _⟩ => ⟨S128x1536, .f32⟩
  | _, _ => ⟨S1024x1536, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x1536 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x1536 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x1536 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S3x128x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x1536 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x1536 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x1536 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S128x1536 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference7Ideal.lean ====
abbrev S1024x1536 : Shape := ⟨2, ![1024, 1536]⟩
abbrev S3x1024x512 : Shape := ⟨3, ![3, 1024, 512]⟩
abbrev S1024x3x512 : Shape := ⟨3, ![1024, 3, 512]⟩
abbrev S_ : Shape := ⟨0, ![]⟩

abbrev nBuf : Space → Nat
  | .hbm => 39
  | .vmem => 0
  | .smem => 0
  | _ => 0

abbrev bufTy : (tb : Table) → Fin (tcTables nBuf tb) → BufTy
  | .hbm, ⟨0, _⟩ => ⟨S1024x1536, .f32⟩
  | .hbm, ⟨1, _⟩ => ⟨S1024x1536, .f32⟩
  | .hbm, ⟨2, _⟩ => ⟨S1024x1536, .f32⟩
  | .hbm, ⟨3, _⟩ => ⟨S3x1024x512, .f32⟩
  | .hbm, ⟨4, _⟩ => ⟨S1024x3x512, .f32⟩
  | .hbm, ⟨5, _⟩ => ⟨S1024x1536, .f32⟩
  | .hbm, ⟨6, _⟩ => ⟨S_, .f32⟩
  | .hbm, ⟨7, _⟩ => ⟨S1024x1536, .f32⟩
  | .hbm, ⟨8, _⟩ => ⟨S1024x1536, .f32⟩
  | .hbm, ⟨9, _⟩ => ⟨S_, .f32⟩
  | .hbm, ⟨10, _⟩ => ⟨S1024x1536, .f32⟩
  | .hbm, ⟨11, _⟩ => ⟨S1024x1536, .f32⟩
  | .hbm, ⟨12, _⟩ => ⟨S1024x1536, .f32⟩
  | .hbm, ⟨13, _⟩ => ⟨S_, .f32⟩
  | .hbm, ⟨14, _⟩ => ⟨S1024x1536, .f32⟩
  | .hbm, ⟨15, _⟩ => ⟨S1024x1536, .f32⟩
  | .hbm, ⟨16, _⟩ => ⟨S1024x1536, .f32⟩
  | .hbm, ⟨17, _⟩ => ⟨S_, .f32⟩
  | .hbm, ⟨18, _⟩ => ⟨S1024x1536, .f32⟩
  | .hbm, ⟨19, _⟩ => ⟨S1024x1536, .f32⟩
  | .hbm, ⟨20, _⟩ => ⟨S1024x1536, .f32⟩
  | .hbm, ⟨21, _⟩ => ⟨S_, .f32⟩
  | .hbm, ⟨22, _⟩ => ⟨S1024x1536, .f32⟩
  | .hbm, ⟨23, _⟩ => ⟨S1024x1536, .f32⟩
  | .hbm, ⟨24, _⟩ => ⟨S_, .f32⟩
  | .hbm, ⟨25, _⟩ => ⟨S1024x1536, .f32⟩
  | .hbm, ⟨26, _⟩ => ⟨S1024x1536, .f32⟩
  | .hbm, ⟨27, _⟩ => ⟨S1024x1536, .f32⟩
  | .hbm, ⟨28, _⟩ => ⟨S_, .f32⟩
  | .hbm, ⟨29, _⟩ => ⟨S1024x1536, .f32⟩
  | .hbm, ⟨30, _⟩ => ⟨S1024x1536, .f32⟩
  | .hbm, ⟨31, _⟩ => ⟨S1024x1536, .f32⟩
  | .hbm, ⟨32, _⟩ => ⟨S_, .f32⟩
  | .hbm, ⟨33, _⟩ => ⟨S1024x1536, .f32⟩
  | .hbm, ⟨34, _⟩ => ⟨S1024x1536, .f32⟩
  | .hbm, ⟨35, _⟩ => ⟨S1024x1536, .f32⟩
  | .hbm, ⟨36, _⟩ => ⟨S_, .f32⟩
  | .hbm, ⟨37, _⟩ => ⟨S1024x1536, .f32⟩
  | .hbm, ⟨38, _⟩ => ⟨S1024x1536, .f32⟩
  | _, _ => ⟨S1024x1536, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst_2 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_3 : Ref sig .tc := ⟨.hbm, 21, rfl⟩
abbrev main_v13 : Ref sig .tc := ⟨.hbm, 22, rfl⟩
abbrev main_v14 : Ref sig .tc := ⟨.hbm, 23, rfl⟩
abbrev main_cst_4 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_cst_5 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_cst_6 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_cst_7 : Ref sig .tc := ⟨.hbm, 36, rfl⟩
abbrev main_v24 : Ref sig .tc := ⟨.hbm, 37, rfl⟩
abbrev main_v25 : Ref sig .tc := ⟨.hbm, 38, rfl⟩

abbrev nD : Nat := 1
abbrev τ : Topo := Topo.v7x

variable {F : FTy → Type} [FloatOps F]
-- ==== Kernel8.lean ====
abbrev S512x1024 : Shape := ⟨2, ![512, 1024]⟩
abbrev S128x1024 : Shape := ⟨2, ![128, 1024]⟩

abbrev nBuf : Space → Nat
  | .hbm => 7
  | .vmem => 14
  | .smem => 0
  | _ => 0

abbrev bufTy : (tb : Table) → Fin (tcTables nBuf tb) → BufTy
  | .hbm, ⟨0, _⟩ => ⟨S512x1024, .f32⟩
  | .hbm, ⟨1, _⟩ => ⟨S512x1024, .f32⟩
  | .hbm, ⟨2, _⟩ => ⟨S512x1024, .f32⟩
  | .hbm, ⟨3, _⟩ => ⟨S512x1024, .f32⟩
  | .hbm, ⟨4, _⟩ => ⟨S512x1024, .f32⟩
  | .hbm, ⟨5, _⟩ => ⟨S512x1024, .f32⟩
  | .hbm, ⟨6, _⟩ => ⟨S512x1024, .f32⟩
  | .local _ .vmem, ⟨0, _⟩ => ⟨S128x1024, .f32⟩
  | .local _ .vmem, ⟨1, _⟩ => ⟨S128x1024, .f32⟩
  | .local _ .vmem, ⟨2, _⟩ => ⟨S128x1024, .f32⟩
  | .local _ .vmem, ⟨3, _⟩ => ⟨S128x1024, .f32⟩
  | .local _ .vmem, ⟨4, _⟩ => ⟨S128x1024, .f32⟩
  | .local _ .vmem, ⟨5, _⟩ => ⟨S128x1024, .f32⟩
  | .local _ .vmem, ⟨6, _⟩ => ⟨S128x1024, .f32⟩
  | .local _ .vmem, ⟨7, _⟩ => ⟨S128x1024, .f32⟩
  | .local _ .vmem, ⟨8, _⟩ => ⟨S128x1024, .f32⟩
  | .local _ .vmem, ⟨9, _⟩ => ⟨S128x1024, .f32⟩
  | .local _ .vmem, ⟨10, _⟩ => ⟨S128x1024, .f32⟩
  | .local _ .vmem, ⟨11, _⟩ => ⟨S128x1024, .f32⟩
  | .local _ .vmem, ⟨12, _⟩ => ⟨S128x1024, .f32⟩
  | .local _ .vmem, ⟨13, _⟩ => ⟨S128x1024, .f32⟩
  | _, _ => ⟨S512x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference8Ideal.lean ====
abbrev S512x1024 : Shape := ⟨2, ![512, 1024]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S512x1024, .f32⟩
  | .hbm, ⟨1, _⟩ => ⟨S512x1024, .f32⟩
  | .hbm, ⟨2, _⟩ => ⟨S512x1024, .f32⟩
  | .hbm, ⟨3, _⟩ => ⟨S512x1024, .f32⟩
  | .hbm, ⟨4, _⟩ => ⟨S_, .f32⟩
  | .hbm, ⟨5, _⟩ => ⟨S512x1024, .f32⟩
  | .hbm, ⟨6, _⟩ => ⟨S512x1024, .f32⟩
  | .hbm, ⟨7, _⟩ => ⟨S_, .f32⟩
  | .hbm, ⟨8, _⟩ => ⟨S512x1024, .f32⟩
  | .hbm, ⟨9, _⟩ => ⟨S512x1024, .f32⟩
  | .hbm, ⟨10, _⟩ => ⟨S512x1024, .f32⟩
  | .hbm, ⟨11, _⟩ => ⟨S_, .f32⟩
  | .hbm, ⟨12, _⟩ => ⟨S512x1024, .f32⟩
  | .hbm, ⟨13, _⟩ => ⟨S512x1024, .f32⟩
  | .hbm, ⟨14, _⟩ => ⟨S512x1024, .f32⟩
  | .hbm, ⟨15, _⟩ => ⟨S_, .f32⟩
  | .hbm, ⟨16, _⟩ => ⟨S512x1024, .f32⟩
  | .hbm, ⟨17, _⟩ => ⟨S512x1024, .f32⟩
  | .hbm, ⟨18, _⟩ => ⟨S512x1024, .f32⟩
  | .hbm, ⟨19, _⟩ => ⟨S_, .f32⟩
  | .hbm, ⟨20, _⟩ => ⟨S512x1024, .f32⟩
  | .hbm, ⟨21, _⟩ => ⟨S512x1024, .f32⟩
  | .hbm, ⟨22, _⟩ => ⟨S_, .f32⟩
  | .hbm, ⟨23, _⟩ => ⟨S512x1024, .f32⟩
  | .hbm, ⟨24, _⟩ => ⟨S512x1024, .f32⟩
  | .hbm, ⟨25, _⟩ => ⟨S512x1024, .f32⟩
  | .hbm, ⟨26, _⟩ => ⟨S_, .f32⟩
  | .hbm, ⟨27, _⟩ => ⟨S512x1024, .f32⟩
  | .hbm, ⟨28, _⟩ => ⟨S512x1024, .f32⟩
  | .hbm, ⟨29, _⟩ => ⟨S512x1024, .f32⟩
  | .hbm, ⟨30, _⟩ => ⟨S_, .f32⟩
  | .hbm, ⟨31, _⟩ => ⟨S512x1024, .f32⟩
  | .hbm, ⟨32, _⟩ => ⟨S512x1024, .f32⟩
  | .hbm, ⟨33, _⟩ => ⟨S512x1024, .f32⟩
  | .hbm, ⟨34, _⟩ => ⟨S_, .f32⟩
  | .hbm, ⟨35, _⟩ => ⟨S512x1024, .f32⟩
  | .hbm, ⟨36, _⟩ => ⟨S512x1024, .f32⟩
  | _, _ => ⟨S512x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel9.lean ====
abbrev S1x1024 : Shape := ⟨2, ![1, 1024]⟩
abbrev S3x256 : Shape := ⟨2, ![3, 256]⟩
abbrev S4x256 : Shape := ⟨2, ![4, 256]⟩

abbrev nBuf : Space → Nat
  | .hbm => 21
  | .vmem => 21
  | .smem => 0
  | _ => 0

abbrev bufTy : (tb : Table) → Fin (tcTables nBuf tb) → BufTy
  | .hbm, ⟨0, _⟩ => ⟨S1x1024, .f32⟩
  | .hbm, ⟨1, _⟩ => ⟨S3x256, .f32⟩
  | .hbm, ⟨2, _⟩ => ⟨S4x256, .f32⟩
  | .hbm, ⟨3, _⟩ => ⟨S1x1024, .f32⟩
  | .hbm, ⟨4, _⟩ => ⟨S3x256, .f32⟩
  | .hbm, ⟨5, _⟩ => ⟨S4x256, .f32⟩
  | .hbm, ⟨6, _⟩ => ⟨S1x1024, .f32⟩
  | .hbm, ⟨7, _⟩ => ⟨S3x256, .f32⟩
  | .hbm, ⟨8, _⟩ => ⟨S4x256, .f32⟩
  | .hbm, ⟨9, _⟩ => ⟨S1x1024, .f32⟩
  | .hbm, ⟨10, _⟩ => ⟨S3x256, .f32⟩
  | .hbm, ⟨11, _⟩ => ⟨S4x256, .f32⟩
  | .hbm, ⟨12, _⟩ => ⟨S1x1024, .f32⟩
  | .hbm, ⟨13, _⟩ => ⟨S3x256, .f32⟩
  | .hbm, ⟨14, _⟩ => ⟨S4x256, .f32⟩
  | .hbm, ⟨15, _⟩ => ⟨S1x1024, .f32⟩
  | .hbm, ⟨16, _⟩ => ⟨S3x256, .f32⟩
  | .hbm, ⟨17, _⟩ => ⟨S4x256, .f32⟩
  | .hbm, ⟨18, _⟩ => ⟨S1x1024, .f32⟩
  | .hbm, ⟨19, _⟩ => ⟨S3x256, .f32⟩
  | .hbm, ⟨20, _⟩ => ⟨S4x256, .f32⟩
  | .local _ .vmem, ⟨0, _⟩ => ⟨S1x1024, .f32⟩
  | .local _ .vmem, ⟨1, _⟩ => ⟨S3x256, .f32⟩
  | .local _ .vmem, ⟨2, _⟩ => ⟨S4x256, .f32⟩
  | .local _ .vmem, ⟨3, _⟩ => ⟨S1x1024, .f32⟩
  | .local _ .vmem, ⟨4, _⟩ => ⟨S3x256, .f32⟩
  | .local _ .vmem, ⟨5, _⟩ => ⟨S4x256, .f32⟩
  | .local _ .vmem, ⟨6, _⟩ => ⟨S1x1024, .f32⟩
  | .local _ .vmem, ⟨7, _⟩ => ⟨S3x256, .f32⟩
  | .local _ .vmem, ⟨8, _⟩ => ⟨S4x256, .f32⟩
  | .local _ .vmem, ⟨9, _⟩ => ⟨S1x1024, .f32⟩
  | .local _ .vmem, ⟨10, _⟩ => ⟨S3x256, .f32⟩
  | .local _ .vmem, ⟨11, _⟩ => ⟨S4x256, .f32⟩
  | .local _ .vmem, ⟨12, _⟩ => ⟨S1x1024, .f32⟩
  | .local _ .vmem, ⟨13, _⟩ => ⟨S3x256, .f32⟩
  | .local _ .vmem, ⟨14, _⟩ => ⟨S4x256, .f32⟩
  | .local _ .vmem, ⟨15, _⟩ => ⟨S1x1024, .f32⟩
  | .local _ .vmem, ⟨16, _⟩ => ⟨S3x256, .f32⟩
  | .local _ .vmem, ⟨17, _⟩ => ⟨S4x256, .f32⟩
  | .local _ .vmem, ⟨18, _⟩ => ⟨S1x1024, .f32⟩
  | .local _ .vmem, ⟨19, _⟩ => ⟨S3x256, .f32⟩
  | .local _ .vmem, ⟨20, _⟩ => ⟨S4x256, .f32⟩
  | _, _ => ⟨S1x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0_0 : Ref sig .tc := ⟨.hbm, 12, rfl⟩
abbrev main_v0_1 : Ref sig .tc := ⟨.hbm, 13, rfl⟩
abbrev main_v0_2 : Ref sig .tc := ⟨.hbm, 14, rfl⟩
abbrev main_v0_3 : Ref sig .tc := ⟨.hbm, 15, rfl⟩
abbrev main_v0_4 : Ref sig .tc := ⟨.hbm, 16, rfl⟩
abbrev main_v0_5 : Ref sig .tc := ⟨.hbm, 17, rfl⟩
abbrev main_v0_6 : Ref sig .tc := ⟨.hbm, 18, rfl⟩
abbrev main_v0_7 : Ref sig .tc := ⟨.hbm, 19, rfl⟩
abbrev main_v0_8 : Ref sig .tc := ⟨.hbm, 20, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_stg14_0 : Ref sig .tc := ⟨.vmem, 14, rfl⟩
abbrev cc0_stg15_0 : Ref sig .tc := ⟨.vmem, 15, rfl⟩
abbrev cc0_stg16_0 : Ref sig .tc := ⟨.vmem, 16, rfl⟩
abbrev cc0_stg17_0 : Ref sig .tc := ⟨.vmem, 17, rfl⟩
abbrev cc0_stg18_0 : Ref sig .tc := ⟨.vmem, 18, rfl⟩
abbrev cc0_stg19_0 : Ref sig .tc := ⟨.vmem, 19, rfl⟩
abbrev cc0_stg20_0 : Ref sig .tc := ⟨.vmem, 20, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13
abbrev cc0_sem14_0 : DmaSem sig := 14
abbrev cc0_sem15_0 : DmaSem sig := 15
abbrev cc0_sem16_0 : DmaSem sig := 16
abbrev cc0_sem17_0 : DmaSem sig := 17
abbrev cc0_sem18_0 : DmaSem sig := 18
abbrev cc0_sem19_0 : DmaSem sig := 19
abbrev cc0_sem20_0 : DmaSem sig := 20

abbrev nD : Nat := 1
abbrev τ : Topo := Topo.v7x

variable {F : FTy → Type} [FloatOps F]

abbrev grid0 : Pipeline.Grid := .none

abbrev stage0_0 : Fin 1 → Memref sig .tc .vmem S1x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S3x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S4x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S3x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S4x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S3x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S4x256 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S3x256 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S4x256 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))

abbrev stage0_12 : Fin 1 → Memref sig .tc .vmem S1x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))

abbrev stage0_13 : Fin 1 → Memref sig .tc .vmem S3x256 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))

abbrev stage0_14 : Fin 1 → Memref sig .tc .vmem S4x256 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))

abbrev stage0_15 : Fin 1 → Memref sig .tc .vmem S1x1024 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))

abbrev stage0_16 : Fin 1 → Memref sig .tc .vmem S3x256 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))

abbrev stage0_17 : Fin 1 → Memref sig .tc .vmem S4x256 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))

abbrev stage0_18 : Fin 1 → Memref sig .tc .vmem S1x1024 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))

abbrev stage0_19 : Fin 1 → Memref sig .tc .vmem S3x256 .f32 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))

abbrev stage0_20 : Fin 1 → Memref sig .tc .vmem S4x256 .f32 := fun | 0 => Memref.whole cc0_stg20_0 | ⟨_ + 1, h⟩ => absurd h (Nat.not_lt.2 (Nat.le_add_left _ _))
abbrev sem0_20 : Fin 1 → DmaSem sig := fun | 0 => cc0_sem20_0 | ⟨_ + 1, h⟩ => absurd h (Nat.not_lt.2 (Nat.le_add_left _ _))
-- ==== Kernel9Ideal.lean ====
abbrev S1x1024 : Shape := ⟨2, ![1, 1024]⟩
abbrev S3x256 : Shape := ⟨2, ![3, 256]⟩
abbrev S4x256 : Shape := ⟨2, ![4, 256]⟩

abbrev nBuf : Space → Nat
  | .hbm => 21
  | .vmem => 21
  | .smem => 0
  | _ => 0

abbrev bufTy : (tb : Table) → Fin (tcTables nBuf tb) → BufTy
  | .hbm, ⟨0, _⟩ => ⟨S1x1024, .f32⟩
  | .hbm, ⟨1, _⟩ => ⟨S3x256, .f32⟩
  | .hbm, ⟨2, _⟩ => ⟨S4x256, .f32⟩
  | .hbm, ⟨3, _⟩ => ⟨S1x1024, .f32⟩
  | .hbm, ⟨4, _⟩ => ⟨S3x256, .f32⟩
  | .hbm, ⟨5, _⟩ => ⟨S4x256, .f32⟩
  | .hbm, ⟨6, _⟩ => ⟨S1x1024, .f32⟩
  | .hbm, ⟨7, _⟩ => ⟨S3x256, .f32⟩
  | .hbm, ⟨8, _⟩ => ⟨S4x256, .f32⟩
  | .hbm, ⟨9, _⟩ => ⟨S1x1024, .f32⟩
  | .hbm, ⟨10, _⟩ => ⟨S3x256, .f32⟩
  | .hbm, ⟨11, _⟩ => ⟨S4x256, .f32⟩
  | .hbm, ⟨12, _⟩ => ⟨S1x1024, .f32⟩
  | .hbm, ⟨13, _⟩ => ⟨S3x256, .f32⟩
  | .hbm, ⟨14, _⟩ => ⟨S4x256, .f32⟩
  | .hbm, ⟨15, _⟩ => ⟨S1x1024, .f32⟩
  | .hbm, ⟨16, _⟩ => ⟨S3x256, .f32⟩
  | .hbm, ⟨17, _⟩ => ⟨S4x256, .f32⟩
  | .hbm, ⟨18, _⟩ => ⟨S1x1024, .f32⟩
  | .hbm, ⟨19, _⟩ => ⟨S3x256, .f32⟩
  | .hbm, ⟨20, _⟩ => ⟨S4x256, .f32⟩
  | .local _ .vmem, ⟨0, _⟩ => ⟨S1x1024, .f32⟩
  | .local _ .vmem, ⟨1, _⟩ => ⟨S3x256, .f32⟩
  | .local _ .vmem, ⟨2, _⟩ => ⟨S4x256, .f32⟩
  | .local _ .vmem, ⟨3, _⟩ => ⟨S1x1024, .f32⟩
  | .local _ .vmem, ⟨4, _⟩ => ⟨S3x256, .f32⟩
  | .local _ .vmem, ⟨5, _⟩ => ⟨S4x256, .f32⟩
  | .local _ .vmem, ⟨6, _⟩ => ⟨S1x1024, .f32⟩
  | .local _ .vmem, ⟨7, _⟩ => ⟨S3x256, .f32⟩
  | .local _ .vmem, ⟨8, _⟩ => ⟨S4x256, .f32⟩
  | .local _ .vmem, ⟨9, _⟩ => ⟨S1x1024, .f32⟩
  | .local _ .vmem, ⟨10, _⟩ => ⟨S3x256, .f32⟩
  | .local _ .vmem, ⟨11, _⟩ => ⟨S4x256, .f32⟩
  | .local _ .vmem, ⟨12, _⟩ => ⟨S1x1024, .f32⟩
  | .local _ .vmem, ⟨13, _⟩ => ⟨S3x256, .f32⟩
  | .local _ .vmem, ⟨14, _⟩ => ⟨S4x256, .f32⟩
  | .local _ .vmem, ⟨15, _⟩ => ⟨S1x1024, .f32⟩
  | .local _ .vmem, ⟨16, _⟩ => ⟨S3x256, .f32⟩
  | .local _ .vmem, ⟨17, _⟩ => ⟨S4x256, .f32⟩
  | .local _ .vmem, ⟨18, _⟩ => ⟨S1x1024, .f32⟩
  | .local _ .vmem, ⟨19, _⟩ => ⟨S3x256, .f32⟩
  | .local _ .vmem, ⟨20, _⟩ => ⟨S4x256, .f32⟩
  | _, _ => ⟨S1x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0_0 : Ref sig .tc := ⟨.hbm, 12, rfl⟩
abbrev main_v0_1 : Ref sig .tc := ⟨.hbm, 13, rfl⟩
abbrev main_v0_2 : Ref sig .tc := ⟨.hbm, 14, rfl⟩
abbrev main_v0_3 : Ref sig .tc := ⟨.hbm, 15, rfl⟩
abbrev main_v0_4 : Ref sig .tc := ⟨.hbm, 16, rfl⟩
abbrev main_v0_5 : Ref sig .tc := ⟨.hbm, 17, rfl⟩
abbrev main_v0_6 : Ref sig .tc := ⟨.hbm, 18, rfl⟩
abbrev main_v0_7 : Ref sig .tc := ⟨.hbm, 19, rfl⟩
abbrev main_v0_8 : Ref sig .tc := ⟨.hbm, 20, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_stg14_0 : Ref sig .tc := ⟨.vmem, 14, rfl⟩
abbrev cc0_stg15_0 : Ref sig .tc := ⟨.vmem, 15, rfl⟩
abbrev cc0_stg16_0 : Ref sig .tc := ⟨.vmem, 16, rfl⟩
abbrev cc0_stg17_0 : Ref sig .tc := ⟨.vmem, 17, rfl⟩
abbrev cc0_stg18_0 : Ref sig .tc := ⟨.vmem, 18, rfl⟩
abbrev cc0_stg19_0 : Ref sig .tc := ⟨.vmem, 19, rfl⟩
abbrev cc0_stg20_0 : Ref sig .tc := ⟨.vmem, 20, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13
abbrev cc0_sem14_0 : DmaSem sig := 14
abbrev cc0_sem15_0 : DmaSem sig := 15
abbrev cc0_sem16_0 : DmaSem sig := 16
abbrev cc0_sem17_0 : DmaSem sig := 17
abbrev cc0_sem18_0 : DmaSem sig := 18
abbrev cc0_sem19_0 : DmaSem sig := 19
abbrev cc0_sem20_0 : DmaSem sig := 20

abbrev nD : Nat := 1
abbrev τ : Topo := Topo.v7x

variable {F : FTy → Type} [FloatOps F]

abbrev grid0 : Pipeline.Grid := .none

abbrev stage0_0 : Fin 1 → Memref sig .tc .vmem S1x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S3x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S4x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S3x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S4x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S3x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S4x256 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S3x256 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S4x256 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))

abbrev stage0_12 : Fin 1 → Memref sig .tc .vmem S1x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))

abbrev stage0_13 : Fin 1 → Memref sig .tc .vmem S3x256 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))

abbrev stage0_14 : Fin 1 → Memref sig .tc .vmem S4x256 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))

abbrev stage0_15 : Fin 1 → Memref sig .tc .vmem S1x1024 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))

abbrev stage0_16 : Fin 1 → Memref sig .tc .vmem S3x256 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))

abbrev stage0_17 : Fin 1 → Memref sig .tc .vmem S4x256 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))

abbrev stage0_18 : Fin 1 → Memref sig .tc .vmem S1x1024 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))

abbrev stage0_19 : Fin 1 → Memref sig .tc .vmem S3x256 .f32 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))

abbrev stage0_20 : Fin 1 → Memref sig .tc .vmem S4x256 .f32 := fun | 0 => Memref.whole cc0_stg20_0 | ⟨_ + 1, h⟩ => absurd h (Nat.not_lt.2 (Nat.le_add_left _ _))
abbrev sem0_20 : Fin 1 → DmaSem sig := fun | 0 => cc0_sem20_0 | ⟨_ + 1, h⟩ => absurd h (Nat.not_lt.2 (Nat.le_add_left _ _))
-- ==== Reference9Ideal.lean ====
abbrev S1x1024 : Shape := ⟨2, ![1, 1024]⟩
abbrev S3x256 : Shape := ⟨2, ![3, 256]⟩
abbrev S4x256 : Shape := ⟨2, ![4, 256]⟩
abbrev S_ : Shape := ⟨0, ![]⟩

abbrev nBuf : Space → Nat
  | .hbm => 111
  | .vmem => 0
  | .smem => 0
  | _ => 0

abbrev bufTy : (tb : Table) → Fin (tcTables nBuf tb) → BufTy
  | .hbm, ⟨0, _⟩ => ⟨S1x1024, .f32⟩
  | .hbm, ⟨1, _⟩ => ⟨S3x256, .f32⟩
  | .hbm, ⟨2, _⟩ => ⟨S4x256, .f32⟩
  | .hbm, ⟨3, _⟩ => ⟨S1x1024, .f32⟩
  | .hbm, ⟨4, _⟩ => ⟨S3x256, .f32⟩
  | .hbm, ⟨5, _⟩ => ⟨S4x256, .f32⟩
  | .hbm, ⟨6, _⟩ => ⟨S1x1024, .f32⟩
  | .hbm, ⟨7, _⟩ => ⟨S3x256, .f32⟩
  | .hbm, ⟨8, _⟩ => ⟨S4x256, .f32⟩
  | .hbm, ⟨9, _⟩ => ⟨S1x1024, .f32⟩
  | .hbm, ⟨10, _⟩ => ⟨S3x256, .f32⟩
  | .hbm, ⟨11, _⟩ => ⟨S4x256, .f32⟩
  | .hbm, ⟨12, _⟩ => ⟨S_, .f32⟩
  | .hbm, ⟨13, _⟩ => ⟨S1x1024, .f32⟩
  | .hbm, ⟨14, _⟩ => ⟨S1x1024, .f32⟩
  | .hbm, ⟨15, _⟩ => ⟨S_, .f32⟩
  | .hbm, ⟨16, _⟩ => ⟨S1x1024, .f32⟩
  | .hbm, ⟨17, _⟩ => ⟨S1x1024, .f32⟩
  | .hbm, ⟨18, _⟩ => ⟨S1x1024, .f32⟩
  | .hbm, ⟨19, _⟩ => ⟨S_, .f32⟩
  | .hbm, ⟨20, _⟩ => ⟨S1x1024, .f32⟩
  | .hbm, ⟨21, _⟩ => ⟨S1x1024, .f32⟩
  | .hbm, ⟨22, _⟩ => ⟨S1x1024, .f32⟩
  | .hbm, ⟨23, _⟩ => ⟨S_, .f32⟩
  | .hbm, ⟨24, _⟩ => ⟨S1x1024, .f32⟩
  | .hbm, ⟨25, _⟩ => ⟨S1x1024, .f32⟩
  | .hbm, ⟨26, _⟩ => ⟨S1x1024, .f32⟩
  | .hbm, ⟨27, _⟩ => ⟨S_, .f32⟩
  | .hbm, ⟨28, _⟩ => ⟨S1x1024, .f32⟩
  | .hbm, ⟨29, _⟩ => ⟨S1x1024, .f32⟩
  | .hbm, ⟨30, _⟩ => ⟨S_, .f32⟩
  | .hbm, ⟨31, _⟩ => ⟨S1x1024, .f32⟩
  | .hbm, ⟨32, _⟩ => ⟨S1x1024, .f32⟩
  | .hbm, ⟨33, _⟩ => ⟨S1x1024, .f32⟩
  | .hbm, ⟨34, _⟩ => ⟨S_, .f32⟩
  | .hbm, ⟨35, _⟩ => ⟨S1x1024, .f32⟩
  | .hbm, ⟨36, _⟩ => ⟨S1x1024, .f32⟩
  | .hbm, ⟨37, _⟩ => ⟨S1x1024, .f32⟩
  | .hbm, ⟨38, _⟩ => ⟨S_, .f32⟩
  | .hbm, ⟨39, _⟩ => ⟨S1x1024, .f32⟩
  | .hbm, ⟨40, _⟩ => ⟨S1x1024, .f32⟩
  | .hbm, ⟨41, _⟩ => ⟨S1x1024, .f32⟩
  | .hbm, ⟨42, _⟩ => ⟨S_, .f32⟩
  | .hbm, ⟨43, _⟩ => ⟨S1x1024, .f32⟩
  | .hbm, ⟨44, _⟩ => ⟨S1x1024, .f32⟩
  | .hbm, ⟨45, _⟩ => ⟨S_, .f32⟩
  | .hbm, ⟨46, _⟩ => ⟨S3x256, .f32⟩
  | .hbm, ⟨47, _⟩ => ⟨S3x256, .f32⟩
  | .hbm, ⟨48, _⟩ => ⟨S_, .f32⟩
  | .hbm, ⟨49, _⟩ => ⟨S3x256, .f32⟩
  | .hbm, ⟨50, _⟩ => ⟨S3x256, .f32⟩
  | .hbm, ⟨51, _⟩ => ⟨S3x256, .f32⟩
  | .hbm, ⟨52, _⟩ => ⟨S_, .f32⟩
  | .hbm, ⟨53, _⟩ => ⟨S3x256, .f32⟩
  | .hbm, ⟨54, _⟩ => ⟨S3x256, .f32⟩
  | .hbm, ⟨55, _⟩ => ⟨S3x256, .f32⟩
  | .hbm, ⟨56, _⟩ => ⟨S_, .f32⟩
  | .hbm, ⟨57, _⟩ => ⟨S3x256, .f32⟩
  | .hbm, ⟨58, _⟩ => ⟨S3x256, .f32⟩
  | .hbm, ⟨59, _⟩ => ⟨S3x256, .f32⟩
  | .hbm, ⟨60, _⟩ => ⟨S_, .f32⟩
  | .hbm, ⟨61, _⟩ => ⟨S3x256, .f32⟩
  | .hbm, ⟨62, _⟩ => ⟨S3x256, .f32⟩
  | .hbm, ⟨63, _⟩ => ⟨S_, .f32⟩
  | .hbm, ⟨64, _⟩ => ⟨S3x256, .f32⟩
  | .hbm, ⟨65, _⟩ => ⟨S3x256, .f32⟩
  | .hbm, ⟨66, _⟩ => ⟨S3x256, .f32⟩
  | .hbm, ⟨67, _⟩ => ⟨S_, .f32⟩
  | .hbm, ⟨68, _⟩ => ⟨S3x256, .f32⟩
  | .hbm, ⟨69, _⟩ => ⟨S3x256, .f32⟩
  | .hbm, ⟨70, _⟩ => ⟨S3x256, .f32⟩
  | .hbm, ⟨71, _⟩ => ⟨S_, .f32⟩
  | .hbm, ⟨72, _⟩ => ⟨S3x256, .f32⟩
  | .hbm, ⟨73, _⟩ => ⟨S3x256, .f32⟩
  | .hbm, ⟨74, _⟩ => ⟨S3x256, .f32⟩
  | .hbm, ⟨75, _⟩ => ⟨S_, .f32⟩
  | .hbm, ⟨76, _⟩ => ⟨S3x256, .f32⟩
  | .hbm, ⟨77, _⟩ => ⟨S3x256, .f32⟩
  | .hbm, ⟨78, _⟩ => ⟨S_, .f32⟩
  | .hbm, ⟨79, _⟩ => ⟨S4x256, .f32⟩
  | .hbm, ⟨80, _⟩ => ⟨S4x256, .f32⟩
  | .hbm, ⟨81, _⟩ => ⟨S_, .f32⟩
  | .hbm, ⟨82, _⟩ => ⟨S4x256, .f32⟩
  | .hbm, ⟨83, _⟩ => ⟨S4x256, .f32⟩
  | .hbm, ⟨84, _⟩ => ⟨S4x256, .f32⟩
  | .hbm, ⟨85, _⟩ => ⟨S_, .f32⟩
  | .hbm, ⟨86, _⟩ => ⟨S4x256, .f32⟩
  | .hbm, ⟨87, _⟩ => ⟨S4x256, .f32⟩
  | .hbm, ⟨88, _⟩ => ⟨S4x256, .f32⟩
  | .hbm, ⟨89, _⟩ => ⟨S_, .f32⟩
  | .hbm, ⟨90, _⟩ => ⟨S4x256, .f32⟩
  | .hbm, ⟨91, _⟩ => ⟨S4x256, .f32⟩
  | .hbm, ⟨92, _⟩ => ⟨S4x256, .f32⟩
  | .hbm, ⟨93, _⟩ => ⟨S_, .f32⟩
  | .hbm, ⟨94, _⟩ => ⟨S4x256, .f32⟩
  | .hbm, ⟨95, _⟩ => ⟨S4x256, .f32⟩
  | .hbm, ⟨96, _⟩ => ⟨S_, .f32⟩
  | .hbm, ⟨97, _⟩ => ⟨S4x256, .f32⟩
  | .hbm, ⟨98, _⟩ => ⟨S4x256, .f32⟩
  | .hbm, ⟨99, _⟩ => ⟨S4x256, .f32⟩
  | .hbm, ⟨100, _⟩ => ⟨S_, .f32⟩
  | .hbm, ⟨101, _⟩ => ⟨S4x256, .f32⟩
  | .hbm, ⟨102, _⟩ => ⟨S4x256, .f32⟩
  | .hbm, ⟨103, _⟩ => ⟨S4x256, .f32⟩
  | .hbm, ⟨104, _⟩ => ⟨S_, .f32⟩
  | .hbm, ⟨105, _⟩ => ⟨S4x256, .f32⟩
  | .hbm, ⟨106, _⟩ => ⟨S4x256, .f32⟩
  | .hbm, ⟨107, _⟩ => ⟨S4x256, .f32⟩
  | .hbm, ⟨108, _⟩ => ⟨S_, .f32⟩
  | .hbm, ⟨109, _⟩ => ⟨S4x256, .f32⟩
  | .hbm, ⟨110, _⟩ => ⟨S4x256, .f32⟩
  | _, _ => ⟨S1x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_cst : Ref sig .tc := ⟨.hbm, 12, rfl⟩
abbrev main_v0 : Ref sig .tc := ⟨.hbm, 13, rfl⟩
abbrev main_v1 : Ref sig .tc := ⟨.hbm, 14, rfl⟩
abbrev main_cst_0 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_cst_1 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_cst_2 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_cst_3 : Ref sig .tc := ⟨.hbm, 27, rfl⟩
abbrev main_v11 : Ref sig .tc := ⟨.hbm, 28, rfl⟩
abbrev main_v12 : Ref sig .tc := ⟨.hbm, 29, rfl⟩
abbrev main_cst_4 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_cst_5 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_cst_6 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_cst_7 : Ref sig .tc := ⟨.hbm, 42, rfl⟩
abbrev main_v22 : Ref sig .tc := ⟨.hbm, 43, rfl⟩
abbrev main_v23 : Ref sig .tc := ⟨.hbm, 44, rfl⟩
abbrev main_cst_8 : Ref sig .tc := ⟨.hbm, 45, rfl⟩
abbrev main_v24 : Ref sig .tc := ⟨.hbm, 46, rfl⟩
abbrev main_v25 : Ref sig .tc := ⟨.hbm, 47, rfl⟩
abbrev main_cst_9 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_cst_10 : Ref sig .tc := ⟨.hbm, 52, rfl⟩
abbrev main_v29 : Ref sig .tc := ⟨.hbm, 53, rfl⟩
abbrev main_v30 : Ref sig .tc := ⟨.hbm, 54, rfl⟩
abbrev main_v31 : Ref sig .tc := ⟨.hbm, 55, rfl⟩
abbrev main_cst_11 : Ref sig .tc := ⟨.hbm, 56, rfl⟩
abbrev main_v32 : Ref sig .tc := ⟨.hbm, 57, rfl⟩
abbrev main_v33 : Ref sig .tc := ⟨.hbm, 58, rfl⟩
abbrev main_v34 : Ref sig .tc := ⟨.hbm, 59, rfl⟩
abbrev main_cst_12 : Ref sig .tc := ⟨.hbm, 60, rfl⟩
abbrev main_v35 : Ref sig .tc := ⟨.hbm, 61, rfl⟩
abbrev main_v36 : Ref sig .tc := ⟨.hbm, 62, rfl⟩
abbrev main_cst_13 : Ref sig .tc := ⟨.hbm, 63, rfl⟩
abbrev main_v37 : Ref sig .tc := ⟨.hbm, 64, rfl⟩
abbrev main_v38 : Ref sig .tc := ⟨.hbm, 65, rfl⟩
abbrev main_v39 : Ref sig .tc := ⟨.hbm, 66, rfl⟩
abbrev main_cst_14 : Ref sig .tc := ⟨.hbm, 67, rfl⟩
abbrev main_v40 : Ref sig .tc := ⟨.hbm, 68, rfl⟩
abbrev main_v41 : Ref sig .tc := ⟨.hbm, 69, rfl⟩
abbrev main_v42 : Ref sig .tc := ⟨.hbm, 70, rfl⟩
abbrev main_cst_15 : Ref sig .tc := ⟨.hbm, 71, rfl⟩
abbrev main_v43 : Ref sig .tc := ⟨.hbm, 72, rfl⟩
abbrev main_v44 : Ref sig .tc := ⟨.hbm, 73, rfl⟩
abbrev main_v45 : Ref sig .tc := ⟨.hbm, 74, rfl⟩
abbrev main_cst_16 : Ref sig .tc := ⟨.hbm, 75, rfl⟩
abbrev main_v46 : Ref sig .tc := ⟨.hbm, 76, rfl⟩
abbrev main_v47 : Ref sig .tc := ⟨.hbm, 77, rfl⟩
abbrev main_cst_17 : Ref sig .tc := ⟨.hbm, 78, rfl⟩
abbrev main_v48 : Ref sig .tc := ⟨.hbm, 79, rfl⟩
abbrev main_v49 : Ref sig .tc := ⟨.hbm, 80, rfl⟩
abbrev main_cst_18 : Ref sig .tc := ⟨.hbm, 81, rfl⟩
abbrev main_v50 : Ref sig .tc := ⟨.hbm, 82, rfl⟩
abbrev main_v51 : Ref sig .tc := ⟨.hbm, 83, rfl⟩
abbrev main_v52 : Ref sig .tc := ⟨.hbm, 84, rfl⟩
abbrev main_cst_19 : Ref sig .tc := ⟨.hbm, 85, rfl⟩
abbrev main_v53 : Ref sig .tc := ⟨.hbm, 86, rfl⟩
abbrev main_v54 : Ref sig .tc := ⟨.hbm, 87, rfl⟩
abbrev main_v55 : Ref sig .tc := ⟨.hbm, 88, rfl⟩
abbrev main_cst_20 : Ref sig .tc := ⟨.hbm, 89, rfl⟩
abbrev main_v56 : Ref sig .tc := ⟨.hbm, 90, rfl⟩
abbrev main_v57 : Ref sig .tc := ⟨.hbm, 91, rfl⟩
abbrev main_v58 : Ref sig .tc := ⟨.hbm, 92, rfl⟩
abbrev main_cst_21 : Ref sig .tc := ⟨.hbm, 93, rfl⟩
abbrev main_v59 : Ref sig .tc := ⟨.hbm, 94, rfl⟩
abbrev main_v60 : Ref sig .tc := ⟨.hbm, 95, rfl⟩
abbrev main_cst_22 : Ref sig .tc := ⟨.hbm, 96, rfl⟩
abbrev main_v61 : Ref sig .tc := ⟨.hbm, 97, rfl⟩
abbrev main_v62 : Ref sig .tc := ⟨.hbm, 98, rfl⟩
abbrev main_v63 : Ref sig .tc := ⟨.hbm, 99, rfl⟩
abbrev main_cst_23 : Ref sig .tc := ⟨.hbm, 100, rfl⟩
abbrev main_v64 : Ref sig .tc := ⟨.hbm, 101, rfl⟩
abbrev main_v65 : Ref sig .tc := ⟨.hbm, 102, rfl⟩
abbrev main_v66 : Ref sig .tc := ⟨.hbm, 103, rfl⟩
abbrev main_cst_24 : Ref sig .tc := ⟨.hbm, 104, rfl⟩
abbrev main_v67 : Ref sig .tc := ⟨.hbm, 105, rfl⟩
abbrev main_v68 : Ref sig .tc := ⟨.hbm, 106, rfl⟩
abbrev main_v69 : Ref sig .tc := ⟨.hbm, 107, rfl⟩
abbrev main_cst_25 : Ref sig .tc := ⟨.hbm, 108, rfl⟩
abbrev main_v70 : Ref sig .tc := ⟨.hbm, 109, rfl⟩
abbrev main_v71 : Ref sig .tc := ⟨.hbm, 110, rfl⟩

abbrev nD : Nat := 1
abbrev τ : Topo := Topo.v7x

variable {F : FTy → Type} [FloatOps F]
-- ==== Kernel10.lean ====
abbrev S1x1024 : Shape := ⟨2, ![1, 1024]⟩
abbrev S16x64x64 : Shape := ⟨3, ![16, 64, 64]⟩

abbrev nBuf : Space → Nat
  | .hbm => 21
  | .vmem => 21
  | .smem => 0
  | _ => 0

abbrev bufTy : (tb : Table) → Fin (tcTables nBuf tb) → BufTy
  | .hbm, ⟨0, _⟩ => ⟨S1x1024, .f32⟩
  | .hbm, ⟨1, _⟩ => ⟨S16x64x64, .f32⟩
  | .hbm, ⟨2, _⟩ => ⟨S1x1024, .f32⟩
  | .hbm, ⟨3, _⟩ => ⟨S1x1024, .f32⟩
  | .hbm, ⟨4, _⟩ => ⟨S16x64x64, .f32⟩
  | .hbm, ⟨5, _⟩ => ⟨S1x1024, .f32⟩
  | .hbm, ⟨6, _⟩ => ⟨S1x1024, .f32⟩
  | .hbm, ⟨7, _⟩ => ⟨S16x64x64, .f32⟩
  | .hbm, ⟨8, _⟩ => ⟨S1x1024, .f32⟩
  | .hbm, ⟨9, _⟩ => ⟨S1x1024, .f32⟩
  | .hbm, ⟨10, _⟩ => ⟨S16x64x64, .f32⟩
  | .hbm, ⟨11, _⟩ => ⟨S1x1024, .f32⟩
  | .hbm, ⟨12, _⟩ => ⟨S1x1024, .f32⟩
  | .hbm, ⟨13, _⟩ => ⟨S16x64x64, .f32⟩
  | .hbm, ⟨14, _⟩ => ⟨S1x1024, .f32⟩
  | .hbm, ⟨15, _⟩ => ⟨S1x1024, .f32⟩
  | .hbm, ⟨16, _⟩ => ⟨S16x64x64, .f32⟩
  | .hbm, ⟨17, _⟩ => ⟨S1x1024, .f32⟩
  | .hbm, ⟨18, _⟩ => ⟨S1x1024, .f32⟩
  | .hbm, ⟨19, _⟩ => ⟨S16x64x64, .f32⟩
  | .hbm, ⟨20, _⟩ => ⟨S1x1024, .f32⟩
  | .local _ .vmem, ⟨0, _⟩ => ⟨S1x1024, .f32⟩
  | .local _ .vmem, ⟨1, _⟩ => ⟨S16x64x64, .f32⟩
  | .local _ .vmem, ⟨2, _⟩ => ⟨S1x1024, .f32⟩
  | .local _ .vmem, ⟨3, _⟩ => ⟨S1x1024, .f32⟩
  | .local _ .vmem, ⟨4, _⟩ => ⟨S16x64x64, .f32⟩
  | .local _ .vmem, ⟨5, _⟩ => ⟨S1x1024, .f32⟩
  | .local _ .vmem, ⟨6, _⟩ => ⟨S1x1024, .f32⟩
  | .local _ .vmem, ⟨7, _⟩ => ⟨S16x64x64, .f32⟩
  | .local _ .vmem, ⟨8, _⟩ => ⟨S1x1024, .f32⟩
  | .local _ .vmem, ⟨9, _⟩ => ⟨S1x1024, .f32⟩
  | .local _ .vmem, ⟨10, _⟩ => ⟨S16x64x64, .f32⟩
  | .local _ .vmem, ⟨11, _⟩ => ⟨S1x1024, .f32⟩
  | .local _ .vmem, ⟨12, _⟩ => ⟨S1x1024, .f32⟩
  | .local _ .vmem, ⟨13, _⟩ => ⟨S16x64x64, .f32⟩
  | .local _ .vmem, ⟨14, _⟩ => ⟨S1x1024, .f32⟩
  | .local _ .vmem, ⟨15, _⟩ => ⟨S1x1024, .f32⟩
  | .local _ .vmem, ⟨16, _⟩ => ⟨S16x64x64, .f32⟩
  | .local _ .vmem, ⟨17, _⟩ => ⟨S1x1024, .f32⟩
  | .local _ .vmem, ⟨18, _⟩ => ⟨S1x1024, .f32⟩
  | .local _ .vmem, ⟨19, _⟩ => ⟨S16x64x64, .f32⟩
  | .local _ .vmem, ⟨20, _⟩ => ⟨S1x1024, .f32⟩
  | _, _ => ⟨S1x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0_0 : Ref sig .tc := ⟨.hbm, 12, rfl⟩
abbrev main_v0_1 : Ref sig .tc := ⟨.hbm, 13, rfl⟩
abbrev main_v0_2 : Ref sig .tc := ⟨.hbm, 14, rfl⟩
abbrev main_v0_3 : Ref sig .tc := ⟨.hbm, 15, rfl⟩
abbrev main_v0_4 : Ref sig .tc := ⟨.hbm, 16, rfl⟩
abbrev main_v0_5 : Ref sig .tc := ⟨.hbm, 17, rfl⟩
abbrev main_v0_6 : Ref sig .tc := ⟨.hbm, 18, rfl⟩
abbrev main_v0_7 : Ref sig .tc := ⟨.hbm, 19, rfl⟩
abbrev main_v0_8 : Ref sig .tc := ⟨.hbm, 20, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_stg14_0 : Ref sig .tc := ⟨.vmem, 14, rfl⟩
abbrev cc0_stg15_0 : Ref sig .tc := ⟨.vmem, 15, rfl⟩
abbrev cc0_stg16_0 : Ref sig .tc := ⟨.vmem, 16, rfl⟩
abbrev cc0_stg17_0 : Ref sig .tc := ⟨.vmem, 17, rfl⟩
abbrev cc0_stg18_0 : Ref sig .tc := ⟨.vmem, 18, rfl⟩
abbrev cc0_stg19_0 : Ref sig .tc := ⟨.vmem, 19, rfl⟩
abbrev cc0_stg20_0 : Ref sig .tc := ⟨.vmem, 20, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13
abbrev cc0_sem14_0 : DmaSem sig := 14
abbrev cc0_sem15_0 : DmaSem sig := 15
abbrev cc0_sem16_0 : DmaSem sig := 16
abbrev cc0_sem17_0 : DmaSem sig := 17
abbrev cc0_sem18_0 : DmaSem sig := 18
abbrev cc0_sem19_0 : DmaSem sig := 19
abbrev cc0_sem20_0 : DmaSem sig := 20

abbrev nD : Nat := 1
abbrev τ : Topo := Topo.v7x

variable {F : FTy → Type} [FloatOps F]

abbrev grid0 : Pipeline.Grid := .none

abbrev stage0_0 : Fin 1 → Memref sig .tc .vmem S1x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S16x64x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S16x64x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S16x64x64 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S16x64x64 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))

abbrev stage0_12 : Fin 1 → Memref sig .tc .vmem S1x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))

abbrev stage0_13 : Fin 1 → Memref sig .tc .vmem S16x64x64 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))

abbrev stage0_14 : Fin 1 → Memref sig .tc .vmem S1x1024 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))

abbrev stage0_15 : Fin 1 → Memref sig .tc .vmem S1x1024 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))

abbrev stage0_16 : Fin 1 → Memref sig .tc .vmem S16x64x64 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))

abbrev stage0_17 : Fin 1 → Memref sig .tc .vmem S1x1024 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))

abbrev stage0_18 : Fin 1 → Memref sig .tc .vmem S1x1024 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))

abbrev stage0_19 : Fin 1 → Memref sig .tc .vmem S16x64x64 .f32 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))

abbrev stage0_20 : Fin 1 → Memref sig .tc .vmem S1x1024 .f32 := fun | 0 => Memref.whole cc0_stg20_0 | ⟨_ + 1, h⟩ => absurd h (Nat.not_lt.2 (Nat.le_add_left _ _))
abbrev sem0_20 : Fin 1 → DmaSem sig := fun | 0 => cc0_sem20_0 | ⟨_ + 1, h⟩ => absurd h (Nat.not_lt.2 (Nat.le_add_left _ _))
-- ==== Kernel10Ideal.lean ====
abbrev S1x1024 : Shape := ⟨2, ![1, 1024]⟩
abbrev S16x64x64 : Shape := ⟨3, ![16, 64, 64]⟩

abbrev nBuf : Space → Nat
  | .hbm => 21
  | .vmem => 21
  | .smem => 0
  | _ => 0

abbrev bufTy : (tb : Table) → Fin (tcTables nBuf tb) → BufTy
  | .hbm, ⟨0, _⟩ => ⟨S1x1024, .f32⟩
  | .hbm, ⟨1, _⟩ => ⟨S16x64x64, .f32⟩
  | .hbm, ⟨2, _⟩ => ⟨S1x1024, .f32⟩
  | .hbm, ⟨3, _⟩ => ⟨S1x1024, .f32⟩
  | .hbm, ⟨4, _⟩ => ⟨S16x64x64, .f32⟩
  | .hbm, ⟨5, _⟩ => ⟨S1x1024, .f32⟩
  | .hbm, ⟨6, _⟩ => ⟨S1x1024, .f32⟩
  | .hbm, ⟨7, _⟩ => ⟨S16x64x64, .f32⟩
  | .hbm, ⟨8, _⟩ => ⟨S1x1024, .f32⟩
  | .hbm, ⟨9, _⟩ => ⟨S1x1024, .f32⟩
  | .hbm, ⟨10, _⟩ => ⟨S16x64x64, .f32⟩
  | .hbm, ⟨11, _⟩ => ⟨S1x1024, .f32⟩
  | .hbm, ⟨12, _⟩ => ⟨S1x1024, .f32⟩
  | .hbm, ⟨13, _⟩ => ⟨S16x64x64, .f32⟩
  | .hbm, ⟨14, _⟩ => ⟨S1x1024, .f32⟩
  | .hbm, ⟨15, _⟩ => ⟨S1x1024, .f32⟩
  | .hbm, ⟨16, _⟩ => ⟨S16x64x64, .f32⟩
  | .hbm, ⟨17, _⟩ => ⟨S1x1024, .f32⟩
  | .hbm, ⟨18, _⟩ => ⟨S1x1024, .f32⟩
  | .hbm, ⟨19, _⟩ => ⟨S16x64x64, .f32⟩
  | .hbm, ⟨20, _⟩ => ⟨S1x1024, .f32⟩
  | .local _ .vmem, ⟨0, _⟩ => ⟨S1x1024, .f32⟩
  | .local _ .vmem, ⟨1, _⟩ => ⟨S16x64x64, .f32⟩
  | .local _ .vmem, ⟨2, _⟩ => ⟨S1x1024, .f32⟩
  | .local _ .vmem, ⟨3, _⟩ => ⟨S1x1024, .f32⟩
  | .local _ .vmem, ⟨4, _⟩ => ⟨S16x64x64, .f32⟩
  | .local _ .vmem, ⟨5, _⟩ => ⟨S1x1024, .f32⟩
  | .local _ .vmem, ⟨6, _⟩ => ⟨S1x1024, .f32⟩
  | .local _ .vmem, ⟨7, _⟩ => ⟨S16x64x64, .f32⟩
  | .local _ .vmem, ⟨8, _⟩ => ⟨S1x1024, .f32⟩
  | .local _ .vmem, ⟨9, _⟩ => ⟨S1x1024, .f32⟩
  | .local _ .vmem, ⟨10, _⟩ => ⟨S16x64x64, .f32⟩
  | .local _ .vmem, ⟨11, _⟩ => ⟨S1x1024, .f32⟩
  | .local _ .vmem, ⟨12, _⟩ => ⟨S1x1024, .f32⟩
  | .local _ .vmem, ⟨13, _⟩ => ⟨S16x64x64, .f32⟩
  | .local _ .vmem, ⟨14, _⟩ => ⟨S1x1024, .f32⟩
  | .local _ .vmem, ⟨15, _⟩ => ⟨S1x1024, .f32⟩
  | .local _ .vmem, ⟨16, _⟩ => ⟨S16x64x64, .f32⟩
  | .local _ .vmem, ⟨17, _⟩ => ⟨S1x1024, .f32⟩
  | .local _ .vmem, ⟨18, _⟩ => ⟨S1x1024, .f32⟩
  | .local _ .vmem, ⟨19, _⟩ => ⟨S16x64x64, .f32⟩
  | .local _ .vmem, ⟨20, _⟩ => ⟨S1x1024, .f32⟩
  | _, _ => ⟨S1x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0_0 : Ref sig .tc := ⟨.hbm, 12, rfl⟩
abbrev main_v0_1 : Ref sig .tc := ⟨.hbm, 13, rfl⟩
abbrev main_v0_2 : Ref sig .tc := ⟨.hbm, 14, rfl⟩
abbrev main_v0_3 : Ref sig .tc := ⟨.hbm, 15, rfl⟩
abbrev main_v0_4 : Ref sig .tc := ⟨.hbm, 16, rfl⟩
abbrev main_v0_5 : Ref sig .tc := ⟨.hbm, 17, rfl⟩
abbrev main_v0_6 : Ref sig .tc := ⟨.hbm, 18, rfl⟩
abbrev main_v0_7 : Ref sig .tc := ⟨.hbm, 19, rfl⟩
abbrev main_v0_8 : Ref sig .tc := ⟨.hbm, 20, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_stg14_0 : Ref sig .tc := ⟨.vmem, 14, rfl⟩
abbrev cc0_stg15_0 : Ref sig .tc := ⟨.vmem, 15, rfl⟩
abbrev cc0_stg16_0 : Ref sig .tc := ⟨.vmem, 16, rfl⟩
abbrev cc0_stg17_0 : Ref sig .tc := ⟨.vmem, 17, rfl⟩
abbrev cc0_stg18_0 : Ref sig .tc := ⟨.vmem, 18, rfl⟩
abbrev cc0_stg19_0 : Ref sig .tc := ⟨.vmem, 19, rfl⟩
abbrev cc0_stg20_0 : Ref sig .tc := ⟨.vmem, 20, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13
abbrev cc0_sem14_0 : DmaSem sig := 14
abbrev cc0_sem15_0 : DmaSem sig := 15
abbrev cc0_sem16_0 : DmaSem sig := 16
abbrev cc0_sem17_0 : DmaSem sig := 17
abbrev cc0_sem18_0 : DmaSem sig := 18
abbrev cc0_sem19_0 : DmaSem sig := 19
abbrev cc0_sem20_0 : DmaSem sig := 20

abbrev nD : Nat := 1
abbrev τ : Topo := Topo.v7x

variable {F : FTy → Type} [FloatOps F]

abbrev grid0 : Pipeline.Grid := .none

abbrev stage0_0 : Fin 1 → Memref sig .tc .vmem S1x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S16x64x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S16x64x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S16x64x64 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S16x64x64 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))

abbrev stage0_12 : Fin 1 → Memref sig .tc .vmem S1x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))

abbrev stage0_13 : Fin 1 → Memref sig .tc .vmem S16x64x64 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))

abbrev stage0_14 : Fin 1 → Memref sig .tc .vmem S1x1024 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))

abbrev stage0_15 : Fin 1 → Memref sig .tc .vmem S1x1024 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))

abbrev stage0_16 : Fin 1 → Memref sig .tc .vmem S16x64x64 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))

abbrev stage0_17 : Fin 1 → Memref sig .tc .vmem S1x1024 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))

abbrev stage0_18 : Fin 1 → Memref sig .tc .vmem S1x1024 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))

abbrev stage0_19 : Fin 1 → Memref sig .tc .vmem S16x64x64 .f32 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))

abbrev stage0_20 : Fin 1 → Memref sig .tc .vmem S1x1024 .f32 := fun | 0 => Memref.whole cc0_stg20_0 | ⟨_ + 1, h⟩ => absurd h (Nat.not_lt.2 (Nat.le_add_left _ _))
abbrev sem0_20 : Fin 1 → DmaSem sig := fun | 0 => cc0_sem20_0 | ⟨_ + 1, h⟩ => absurd h (Nat.not_lt.2 (Nat.le_add_left _ _))
-- ==== Reference10Ideal.lean ====
abbrev S1x1024 : Shape := ⟨2, ![1, 1024]⟩
abbrev S16x64x64 : Shape := ⟨3, ![16, 64, 64]⟩
abbrev S_ : Shape := ⟨0, ![]⟩

abbrev nBuf : Space → Nat
  | .hbm => 111
  | .vmem => 0
  | .smem => 0
  | _ => 0

abbrev bufTy : (tb : Table) → Fin (tcTables nBuf tb) → BufTy
  | .hbm, ⟨0, _⟩ => ⟨S1x1024, .f32⟩
  | .hbm, ⟨1, _⟩ => ⟨S16x64x64, .f32⟩
  | .hbm, ⟨2, _⟩ => ⟨S1x1024, .f32⟩
  | .hbm, ⟨3, _⟩ => ⟨S1x1024, .f32⟩
  | .hbm, ⟨4, _⟩ => ⟨S16x64x64, .f32⟩
  | .hbm, ⟨5, _⟩ => ⟨S1x1024, .f32⟩
  | .hbm, ⟨6, _⟩ => ⟨S1x1024, .f32⟩
  | .hbm, ⟨7, _⟩ => ⟨S16x64x64, .f32⟩
  | .hbm, ⟨8, _⟩ => ⟨S1x1024, .f32⟩
  | .hbm, ⟨9, _⟩ => ⟨S1x1024, .f32⟩
  | .hbm, ⟨10, _⟩ => ⟨S16x64x64, .f32⟩
  | .hbm, ⟨11, _⟩ => ⟨S1x1024, .f32⟩
  | .hbm, ⟨12, _⟩ => ⟨S_, .f32⟩
  | .hbm, ⟨13, _⟩ => ⟨S1x1024, .f32⟩
  | .hbm, ⟨14, _⟩ => ⟨S1x1024, .f32⟩
  | .hbm, ⟨15, _⟩ => ⟨S_, .f32⟩
  | .hbm, ⟨16, _⟩ => ⟨S1x1024, .f32⟩
  | .hbm, ⟨17, _⟩ => ⟨S1x1024, .f32⟩
  | .hbm, ⟨18, _⟩ => ⟨S1x1024, .f32⟩
  | .hbm, ⟨19, _⟩ => ⟨S_, .f32⟩
  | .hbm, ⟨20, _⟩ => ⟨S1x1024, .f32⟩
  | .hbm, ⟨21, _⟩ => ⟨S1x1024, .f32⟩
  | .hbm, ⟨22, _⟩ => ⟨S1x1024, .f32⟩
  | .hbm, ⟨23, _⟩ => ⟨S_, .f32⟩
  | .hbm, ⟨24, _⟩ => ⟨S1x1024, .f32⟩
  | .hbm, ⟨25, _⟩ => ⟨S1x1024, .f32⟩
  | .hbm, ⟨26, _⟩ => ⟨S1x1024, .f32⟩
  | .hbm, ⟨27, _⟩ => ⟨S_, .f32⟩
  | .hbm, ⟨28, _⟩ => ⟨S1x1024, .f32⟩
  | .hbm, ⟨29, _⟩ => ⟨S1x1024, .f32⟩
  | .hbm, ⟨30, _⟩ => ⟨S_, .f32⟩
  | .hbm, ⟨31, _⟩ => ⟨S1x1024, .f32⟩
  | .hbm, ⟨32, _⟩ => ⟨S1x1024, .f32⟩
  | .hbm, ⟨33, _⟩ => ⟨S1x1024, .f32⟩
  | .hbm, ⟨34, _⟩ => ⟨S_, .f32⟩
  | .hbm, ⟨35, _⟩ => ⟨S1x1024, .f32⟩
  | .hbm, ⟨36, _⟩ => ⟨S1x1024, .f32⟩
  | .hbm, ⟨37, _⟩ => ⟨S1x1024, .f32⟩
  | .hbm, ⟨38, _⟩ => ⟨S_, .f32⟩
  | .hbm, ⟨39, _⟩ => ⟨S1x1024, .f32⟩
  | .hbm, ⟨40, _⟩ => ⟨S1x1024, .f32⟩
  | .hbm, ⟨41, _⟩ => ⟨S1x1024, .f32⟩
  | .hbm, ⟨42, _⟩ => ⟨S_, .f32⟩
  | .hbm, ⟨43, _⟩ => ⟨S1x1024, .f32⟩
  | .hbm, ⟨44, _⟩ => ⟨S1x1024, .f32⟩
  | .hbm, ⟨45, _⟩ => ⟨S_, .f32⟩
  | .hbm, ⟨46, _⟩ => ⟨S16x64x64, .f32⟩
  | .hbm, ⟨47, _⟩ => ⟨S16x64x64, .f32⟩
  | .hbm, ⟨48, _⟩ => ⟨S_, .f32⟩
  | .hbm, ⟨49, _⟩ => ⟨S16x64x64, .f32⟩
  | .hbm, ⟨50, _⟩ => ⟨S16x64x64, .f32⟩
  | .hbm, ⟨51, _⟩ => ⟨S16x64x64, .f32⟩
  | .hbm, ⟨52, _⟩ => ⟨S_, .f32⟩
  | .hbm, ⟨53, _⟩ => ⟨S16x64x64, .f32⟩
  | .hbm, ⟨54, _⟩ => ⟨S16x64x64, .f32⟩
  | .hbm, ⟨55, _⟩ => ⟨S16x64x64, .f32⟩
  | .hbm, ⟨56, _⟩ => ⟨S_, .f32⟩
  | .hbm, ⟨57, _⟩ => ⟨S16x64x64, .f32⟩
  | .hbm, ⟨58, _⟩ => ⟨S16x64x64, .f32⟩
  | .hbm, ⟨59, _⟩ => ⟨S16x64x64, .f32⟩
  | .hbm, ⟨60, _⟩ => ⟨S_, .f32⟩
  | .hbm, ⟨61, _⟩ => ⟨S16x64x64, .f32⟩
  | .hbm, ⟨62, _⟩ => ⟨S16x64x64, .f32⟩
  | .hbm, ⟨63, _⟩ => ⟨S_, .f32⟩
  | .hbm, ⟨64, _⟩ => ⟨S16x64x64, .f32⟩
  | .hbm, ⟨65, _⟩ => ⟨S16x64x64, .f32⟩
  | .hbm, ⟨66, _⟩ => ⟨S16x64x64, .f32⟩
  | .hbm, ⟨67, _⟩ => ⟨S_, .f32⟩
  | .hbm, ⟨68, _⟩ => ⟨S16x64x64, .f32⟩
  | .hbm, ⟨69, _⟩ => ⟨S16x64x64, .f32⟩
  | .hbm, ⟨70, _⟩ => ⟨S16x64x64, .f32⟩
  | .hbm, ⟨71, _⟩ => ⟨S_, .f32⟩
  | .hbm, ⟨72, _⟩ => ⟨S16x64x64, .f32⟩
  | .hbm, ⟨73, _⟩ => ⟨S16x64x64, .f32⟩
  | .hbm, ⟨74, _⟩ => ⟨S16x64x64, .f32⟩
  | .hbm, ⟨75, _⟩ => ⟨S_, .f32⟩
  | .hbm, ⟨76, _⟩ => ⟨S16x64x64, .f32⟩
  | .hbm, ⟨77, _⟩ => ⟨S16x64x64, .f32⟩
  | .hbm, ⟨78, _⟩ => ⟨S_, .f32⟩
  | .hbm, ⟨79, _⟩ => ⟨S1x1024, .f32⟩
  | .hbm, ⟨80, _⟩ => ⟨S1x1024, .f32⟩
  | .hbm, ⟨81, _⟩ => ⟨S_, .f32⟩
  | .hbm, ⟨82, _⟩ => ⟨S1x1024, .f32⟩
  | .hbm, ⟨83, _⟩ => ⟨S1x1024, .f32⟩
  | .hbm, ⟨84, _⟩ => ⟨S1x1024, .f32⟩
  | .hbm, ⟨85, _⟩ => ⟨S_, .f32⟩
  | .hbm, ⟨86, _⟩ => ⟨S1x1024, .f32⟩
  | .hbm, ⟨87, _⟩ => ⟨S1x1024, .f32⟩
  | .hbm, ⟨88, _⟩ => ⟨S1x1024, .f32⟩
  | .hbm, ⟨89, _⟩ => ⟨S_, .f32⟩
  | .hbm, ⟨90, _⟩ => ⟨S1x1024, .f32⟩
  | .hbm, ⟨91, _⟩ => ⟨S1x1024, .f32⟩
  | .hbm, ⟨92, _⟩ => ⟨S1x1024, .f32⟩
  | .hbm, ⟨93, _⟩ => ⟨S_, .f32⟩
  | .hbm, ⟨94, _⟩ => ⟨S1x1024, .f32⟩
  | .hbm, ⟨95, _⟩ => ⟨S1x1024, .f32⟩
  | .hbm, ⟨96, _⟩ => ⟨S_, .f32⟩
  | .hbm, ⟨97, _⟩ => ⟨S1x1024, .f32⟩
  | .hbm, ⟨98, _⟩ => ⟨S1x1024, .f32⟩
  | .hbm, ⟨99, _⟩ => ⟨S1x1024, .f32⟩
  | .hbm, ⟨100, _⟩ => ⟨S_, .f32⟩
  | .hbm, ⟨101, _⟩ => ⟨S1x1024, .f32⟩
  | .hbm, ⟨102, _⟩ => ⟨S1x1024, .f32⟩
  | .hbm, ⟨103, _⟩ => ⟨S1x1024, .f32⟩
  | .hbm, ⟨104, _⟩ => ⟨S_, .f32⟩
  | .hbm, ⟨105, _⟩ => ⟨S1x1024, .f32⟩
  | .hbm, ⟨106, _⟩ => ⟨S1x1024, .f32⟩
  | .hbm, ⟨107, _⟩ => ⟨S1x1024, .f32⟩
  | .hbm, ⟨108, _⟩ => ⟨S_, .f32⟩
  | .hbm, ⟨109, _⟩ => ⟨S1x1024, .f32⟩
  | .hbm, ⟨110, _⟩ => ⟨S1x1024, .f32⟩
  | _, _ => ⟨S1x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_cst : Ref sig .tc := ⟨.hbm, 12, rfl⟩
abbrev main_v0 : Ref sig .tc := ⟨.hbm, 13, rfl⟩
abbrev main_v1 : Ref sig .tc := ⟨.hbm, 14, rfl⟩
abbrev main_cst_0 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_cst_1 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_cst_2 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_cst_3 : Ref sig .tc := ⟨.hbm, 27, rfl⟩
abbrev main_v11 : Ref sig .tc := ⟨.hbm, 28, rfl⟩
abbrev main_v12 : Ref sig .tc := ⟨.hbm, 29, rfl⟩
abbrev main_cst_4 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_cst_5 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_cst_6 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_cst_7 : Ref sig .tc := ⟨.hbm, 42, rfl⟩
abbrev main_v22 : Ref sig .tc := ⟨.hbm, 43, rfl⟩
abbrev main_v23 : Ref sig .tc := ⟨.hbm, 44, rfl⟩
abbrev main_cst_8 : Ref sig .tc := ⟨.hbm, 45, rfl⟩
abbrev main_v24 : Ref sig .tc := ⟨.hbm, 46, rfl⟩
abbrev main_v25 : Ref sig .tc := ⟨.hbm, 47, rfl⟩
abbrev main_cst_9 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_cst_10 : Ref sig .tc := ⟨.hbm, 52, rfl⟩
abbrev main_v29 : Ref sig .tc := ⟨.hbm, 53, rfl⟩
abbrev main_v30 : Ref sig .tc := ⟨.hbm, 54, rfl⟩
abbrev main_v31 : Ref sig .tc := ⟨.hbm, 55, rfl⟩
abbrev main_cst_11 : Ref sig .tc := ⟨.hbm, 56, rfl⟩
abbrev main_v32 : Ref sig .tc := ⟨.hbm, 57, rfl⟩
abbrev main_v33 : Ref sig .tc := ⟨.hbm, 58, rfl⟩
abbrev main_v34 : Ref sig .tc := ⟨.hbm, 59, rfl⟩
abbrev main_cst_12 : Ref sig .tc := ⟨.hbm, 60, rfl⟩
abbrev main_v35 : Ref sig .tc := ⟨.hbm, 61, rfl⟩
abbrev main_v36 : Ref sig .tc := ⟨.hbm, 62, rfl⟩
abbrev main_cst_13 : Ref sig .tc := ⟨.hbm, 63, rfl⟩
abbrev main_v37 : Ref sig .tc := ⟨.hbm, 64, rfl⟩
abbrev main_v38 : Ref sig .tc := ⟨.hbm, 65, rfl⟩
abbrev main_v39 : Ref sig .tc := ⟨.hbm, 66, rfl⟩
abbrev main_cst_14 : Ref sig .tc := ⟨.hbm, 67, rfl⟩
abbrev main_v40 : Ref sig .tc := ⟨.hbm, 68, rfl⟩
abbrev main_v41 : Ref sig .tc := ⟨.hbm, 69, rfl⟩
abbrev main_v42 : Ref sig .tc := ⟨.hbm, 70, rfl⟩
abbrev main_cst_15 : Ref sig .tc := ⟨.hbm, 71, rfl⟩
abbrev main_v43 : Ref sig .tc := ⟨.hbm, 72, rfl⟩
abbrev main_v44 : Ref sig .tc := ⟨.hbm, 73, rfl⟩
abbrev main_v45 : Ref sig .tc := ⟨.hbm, 74, rfl⟩
abbrev main_cst_16 : Ref sig .tc := ⟨.hbm, 75, rfl⟩
abbrev main_v46 : Ref sig .tc := ⟨.hbm, 76, rfl⟩
abbrev main_v47 : Ref sig .tc := ⟨.hbm, 77, rfl⟩
abbrev main_cst_17 : Ref sig .tc := ⟨.hbm, 78, rfl⟩
abbrev main_v48 : Ref sig .tc := ⟨.hbm, 79, rfl⟩
abbrev main_v49 : Ref sig .tc := ⟨.hbm, 80, rfl⟩
abbrev main_cst_18 : Ref sig .tc := ⟨.hbm, 81, rfl⟩
abbrev main_v50 : Ref sig .tc := ⟨.hbm, 82, rfl⟩
abbrev main_v51 : Ref sig .tc := ⟨.hbm, 83, rfl⟩
abbrev main_v52 : Ref sig .tc := ⟨.hbm, 84, rfl⟩
abbrev main_cst_19 : Ref sig .tc := ⟨.hbm, 85, rfl⟩
abbrev main_v53 : Ref sig .tc := ⟨.hbm, 86, rfl⟩
abbrev main_v54 : Ref sig .tc := ⟨.hbm, 87, rfl⟩
abbrev main_v55 : Ref sig .tc := ⟨.hbm, 88, rfl⟩
abbrev main_cst_20 : Ref sig .tc := ⟨.hbm, 89, rfl⟩
abbrev main_v56 : Ref sig .tc := ⟨.hbm, 90, rfl⟩
abbrev main_v57 : Ref sig .tc := ⟨.hbm, 91, rfl⟩
abbrev main_v58 : Ref sig .tc := ⟨.hbm, 92, rfl⟩
abbrev main_cst_21 : Ref sig .tc := ⟨.hbm, 93, rfl⟩
abbrev main_v59 : Ref sig .tc := ⟨.hbm, 94, rfl⟩
abbrev main_v60 : Ref sig .tc := ⟨.hbm, 95, rfl⟩
abbrev main_cst_22 : Ref sig .tc := ⟨.hbm, 96, rfl⟩
abbrev main_v61 : Ref sig .tc := ⟨.hbm, 97, rfl⟩
abbrev main_v62 : Ref sig .tc := ⟨.hbm, 98, rfl⟩
abbrev main_v63 : Ref sig .tc := ⟨.hbm, 99, rfl⟩
abbrev main_cst_23 : Ref sig .tc := ⟨.hbm, 100, rfl⟩
abbrev main_v64 : Ref sig .tc := ⟨.hbm, 101, rfl⟩
abbrev main_v65 : Ref sig .tc := ⟨.hbm, 102, rfl⟩
abbrev main_v66 : Ref sig .tc := ⟨.hbm, 103, rfl⟩
abbrev main_cst_24 : Ref sig .tc := ⟨.hbm, 104, rfl⟩
abbrev main_v67 : Ref sig .tc := ⟨.hbm, 105, rfl⟩
abbrev main_v68 : Ref sig .tc := ⟨.hbm, 106, rfl⟩
abbrev main_v69 : Ref sig .tc := ⟨.hbm, 107, rfl⟩
abbrev main_cst_25 : Ref sig .tc := ⟨.hbm, 108, rfl⟩
abbrev main_v70 : Ref sig .tc := ⟨.hbm, 109, rfl⟩
abbrev main_v71 : Ref sig .tc := ⟨.hbm, 110, rfl⟩

abbrev nD : Nat := 1
abbrev τ : Topo := Topo.v7x

variable {F : FTy → Type} [FloatOps F]
-- ==== Kernel11.lean ====
abbrev S16x64x64 : Shape := ⟨3, ![16, 64, 64]⟩
abbrev S1x1024 : Shape := ⟨2, ![1, 1024]⟩

abbrev nBuf : Space → Nat
  | .hbm => 21
  | .vmem => 21
  | .smem => 0
  | _ => 0

abbrev bufTy : (tb : Table) → Fin (tcTables nBuf tb) → BufTy
  | .hbm, ⟨0, _⟩ => ⟨S16x64x64, .f32⟩
  | .hbm, ⟨1, _⟩ => ⟨S1x1024, .f32⟩
  | .hbm, ⟨2, _⟩ => ⟨S1x1024, .f32⟩
  | .hbm, ⟨3, _⟩ => ⟨S16x64x64, .f32⟩
  | .hbm, ⟨4, _⟩ => ⟨S1x1024, .f32⟩
  | .hbm, ⟨5, _⟩ => ⟨S1x1024, .f32⟩
  | .hbm, ⟨6, _⟩ => ⟨S16x64x64, .f32⟩
  | .hbm, ⟨7, _⟩ => ⟨S1x1024, .f32⟩
  | .hbm, ⟨8, _⟩ => ⟨S1x1024, .f32⟩
  | .hbm, ⟨9, _⟩ => ⟨S16x64x64, .f32⟩
  | .hbm, ⟨10, _⟩ => ⟨S1x1024, .f32⟩
  | .hbm, ⟨11, _⟩ => ⟨S1x1024, .f32⟩
  | .hbm, ⟨12, _⟩ => ⟨S16x64x64, .f32⟩
  | .hbm, ⟨13, _⟩ => ⟨S1x1024, .f32⟩
  | .hbm, ⟨14, _⟩ => ⟨S1x1024, .f32⟩
  | .hbm, ⟨15, _⟩ => ⟨S16x64x64, .f32⟩
  | .hbm, ⟨16, _⟩ => ⟨S1x1024, .f32⟩
  | .hbm, ⟨17, _⟩ => ⟨S1x1024, .f32⟩
  | .hbm, ⟨18, _⟩ => ⟨S16x64x64, .f32⟩
  | .hbm, ⟨19, _⟩ => ⟨S1x1024, .f32⟩
  | .hbm, ⟨20, _⟩ => ⟨S1x1024, .f32⟩
  | .local _ .vmem, ⟨0, _⟩ => ⟨S16x64x64, .f32⟩
  | .local _ .vmem, ⟨1, _⟩ => ⟨S1x1024, .f32⟩
  | .local _ .vmem, ⟨2, _⟩ => ⟨S1x1024, .f32⟩
  | .local _ .vmem, ⟨3, _⟩ => ⟨S16x64x64, .f32⟩
  | .local _ .vmem, ⟨4, _⟩ => ⟨S1x1024, .f32⟩
  | .local _ .vmem, ⟨5, _⟩ => ⟨S1x1024, .f32⟩
  | .local _ .vmem, ⟨6, _⟩ => ⟨S16x64x64, .f32⟩
  | .local _ .vmem, ⟨7, _⟩ => ⟨S1x1024, .f32⟩
  | .local _ .vmem, ⟨8, _⟩ => ⟨S1x1024, .f32⟩
  | .local _ .vmem, ⟨9, _⟩ => ⟨S16x64x64, .f32⟩
  | .local _ .vmem, ⟨10, _⟩ => ⟨S1x1024, .f32⟩
  | .local _ .vmem, ⟨11, _⟩ => ⟨S1x1024, .f32⟩
  | .local _ .vmem, ⟨12, _⟩ => ⟨S16x64x64, .f32⟩
  | .local _ .vmem, ⟨13, _⟩ => ⟨S1x1024, .f32⟩
  | .local _ .vmem, ⟨14, _⟩ => ⟨S1x1024, .f32⟩
  | .local _ .vmem, ⟨15, _⟩ => ⟨S16x64x64, .f32⟩
  | .local _ .vmem, ⟨16, _⟩ => ⟨S1x1024, .f32⟩
  | .local _ .vmem, ⟨17, _⟩ => ⟨S1x1024, .f32⟩
  | .local _ .vmem, ⟨18, _⟩ => ⟨S16x64x64, .f32⟩
  | .local _ .vmem, ⟨19, _⟩ => ⟨S1x1024, .f32⟩
  | .local _ .vmem, ⟨20, _⟩ => ⟨S1x1024, .f32⟩
  | _, _ => ⟨S16x64x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0_0 : Ref sig .tc := ⟨.hbm, 12, rfl⟩
abbrev main_v0_1 : Ref sig .tc := ⟨.hbm, 13, rfl⟩
abbrev main_v0_2 : Ref sig .tc := ⟨.hbm, 14, rfl⟩
abbrev main_v0_3 : Ref sig .tc := ⟨.hbm, 15, rfl⟩
abbrev main_v0_4 : Ref sig .tc := ⟨.hbm, 16, rfl⟩
abbrev main_v0_5 : Ref sig .tc := ⟨.hbm, 17, rfl⟩
abbrev main_v0_6 : Ref sig .tc := ⟨.hbm, 18, rfl⟩
abbrev main_v0_7 : Ref sig .tc := ⟨.hbm, 19, rfl⟩
abbrev main_v0_8 : Ref sig .tc := ⟨.hbm, 20, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_stg14_0 : Ref sig .tc := ⟨.vmem, 14, rfl⟩
abbrev cc0_stg15_0 : Ref sig .tc := ⟨.vmem, 15, rfl⟩
abbrev cc0_stg16_0 : Ref sig .tc := ⟨.vmem, 16, rfl⟩
abbrev cc0_stg17_0 : Ref sig .tc := ⟨.vmem, 17, rfl⟩
abbrev cc0_stg18_0 : Ref sig .tc := ⟨.vmem, 18, rfl⟩
abbrev cc0_stg19_0 : Ref sig .tc := ⟨.vmem, 19, rfl⟩
abbrev cc0_stg20_0 : Ref sig .tc := ⟨.vmem, 20, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13
abbrev cc0_sem14_0 : DmaSem sig := 14
abbrev cc0_sem15_0 : DmaSem sig := 15
abbrev cc0_sem16_0 : DmaSem sig := 16
abbrev cc0_sem17_0 : DmaSem sig := 17
abbrev cc0_sem18_0 : DmaSem sig := 18
abbrev cc0_sem19_0 : DmaSem sig := 19
abbrev cc0_sem20_0 : DmaSem sig := 20

abbrev nD : Nat := 1
abbrev τ : Topo := Topo.v7x

variable {F : FTy → Type} [FloatOps F]

abbrev grid0 : Pipeline.Grid := .none

abbrev stage0_0 : Fin 1 → Memref sig .tc .vmem S16x64x64 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S16x64x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S16x64x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S16x64x64 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))

abbrev stage0_12 : Fin 1 → Memref sig .tc .vmem S16x64x64 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))

abbrev stage0_13 : Fin 1 → Memref sig .tc .vmem S1x1024 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))

abbrev stage0_14 : Fin 1 → Memref sig .tc .vmem S1x1024 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))

abbrev stage0_15 : Fin 1 → Memref sig .tc .vmem S16x64x64 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))

abbrev stage0_16 : Fin 1 → Memref sig .tc .vmem S1x1024 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))

abbrev stage0_17 : Fin 1 → Memref sig .tc .vmem S1x1024 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))

abbrev stage0_18 : Fin 1 → Memref sig .tc .vmem S16x64x64 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))

abbrev stage0_19 : Fin 1 → Memref sig .tc .vmem S1x1024 .f32 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))

abbrev stage0_20 : Fin 1 → Memref sig .tc .vmem S1x1024 .f32 := fun | 0 => Memref.whole cc0_stg20_0 | ⟨_ + 1, h⟩ => absurd h (Nat.not_lt.2 (Nat.le_add_left _ _))
abbrev sem0_20 : Fin 1 → DmaSem sig := fun | 0 => cc0_sem20_0 | ⟨_ + 1, h⟩ => absurd h (Nat.not_lt.2 (Nat.le_add_left _ _))
-- ==== Kernel11Ideal.lean ====
abbrev S16x64x64 : Shape := ⟨3, ![16, 64, 64]⟩
abbrev S1x1024 : Shape := ⟨2, ![1, 1024]⟩

abbrev nBuf : Space → Nat
  | .hbm => 21
  | .vmem => 21
  | .smem => 0
  | _ => 0

abbrev bufTy : (tb : Table) → Fin (tcTables nBuf tb) → BufTy
  | .hbm, ⟨0, _⟩ => ⟨S16x64x64, .f32⟩
  | .hbm, ⟨1, _⟩ => ⟨S1x1024, .f32⟩
  | .hbm, ⟨2, _⟩ => ⟨S1x1024, .f32⟩
  | .hbm, ⟨3, _⟩ => ⟨S16x64x64, .f32⟩
  | .hbm, ⟨4, _⟩ => ⟨S1x1024, .f32⟩
  | .hbm, ⟨5, _⟩ => ⟨S1x1024, .f32⟩
  | .hbm, ⟨6, _⟩ => ⟨S16x64x64, .f32⟩
  | .hbm, ⟨7, _⟩ => ⟨S1x1024, .f32⟩
  | .hbm, ⟨8, _⟩ => ⟨S1x1024, .f32⟩
  | .hbm, ⟨9, _⟩ => ⟨S16x64x64, .f32⟩
  | .hbm, ⟨10, _⟩ => ⟨S1x1024, .f32⟩
  | .hbm, ⟨11, _⟩ => ⟨S1x1024, .f32⟩
  | .hbm, ⟨12, _⟩ => ⟨S16x64x64, .f32⟩
  | .hbm, ⟨13, _⟩ => ⟨S1x1024, .f32⟩
  | .hbm, ⟨14, _⟩ => ⟨S1x1024, .f32⟩
  | .hbm, ⟨15, _⟩ => ⟨S16x64x64, .f32⟩
  | .hbm, ⟨16, _⟩ => ⟨S1x1024, .f32⟩
  | .hbm, ⟨17, _⟩ => ⟨S1x1024, .f32⟩
  | .hbm, ⟨18, _⟩ => ⟨S16x64x64, .f32⟩
  | .hbm, ⟨19, _⟩ => ⟨S1x1024, .f32⟩
  | .hbm, ⟨20, _⟩ => ⟨S1x1024, .f32⟩
  | .local _ .vmem, ⟨0, _⟩ => ⟨S16x64x64, .f32⟩
  | .local _ .vmem, ⟨1, _⟩ => ⟨S1x1024, .f32⟩
  | .local _ .vmem, ⟨2, _⟩ => ⟨S1x1024, .f32⟩
  | .local _ .vmem, ⟨3, _⟩ => ⟨S16x64x64, .f32⟩
  | .local _ .vmem, ⟨4, _⟩ => ⟨S1x1024, .f32⟩
  | .local _ .vmem, ⟨5, _⟩ => ⟨S1x1024, .f32⟩
  | .local _ .vmem, ⟨6, _⟩ => ⟨S16x64x64, .f32⟩
  | .local _ .vmem, ⟨7, _⟩ => ⟨S1x1024, .f32⟩
  | .local _ .vmem, ⟨8, _⟩ => ⟨S1x1024, .f32⟩
  | .local _ .vmem, ⟨9, _⟩ => ⟨S16x64x64, .f32⟩
  | .local _ .vmem, ⟨10, _⟩ => ⟨S1x1024, .f32⟩
  | .local _ .vmem, ⟨11, _⟩ => ⟨S1x1024, .f32⟩
  | .local _ .vmem, ⟨12, _⟩ => ⟨S16x64x64, .f32⟩
  | .local _ .vmem, ⟨13, _⟩ => ⟨S1x1024, .f32⟩
  | .local _ .vmem, ⟨14, _⟩ => ⟨S1x1024, .f32⟩
  | .local _ .vmem, ⟨15, _⟩ => ⟨S16x64x64, .f32⟩
  | .local _ .vmem, ⟨16, _⟩ => ⟨S1x1024, .f32⟩
  | .local _ .vmem, ⟨17, _⟩ => ⟨S1x1024, .f32⟩
  | .local _ .vmem, ⟨18, _⟩ => ⟨S16x64x64, .f32⟩
  | .local _ .vmem, ⟨19, _⟩ => ⟨S1x1024, .f32⟩
  | .local _ .vmem, ⟨20, _⟩ => ⟨S1x1024, .f32⟩
  | _, _ => ⟨S16x64x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0_0 : Ref sig .tc := ⟨.hbm, 12, rfl⟩
abbrev main_v0_1 : Ref sig .tc := ⟨.hbm, 13, rfl⟩
abbrev main_v0_2 : Ref sig .tc := ⟨.hbm, 14, rfl⟩
abbrev main_v0_3 : Ref sig .tc := ⟨.hbm, 15, rfl⟩
abbrev main_v0_4 : Ref sig .tc := ⟨.hbm, 16, rfl⟩
abbrev main_v0_5 : Ref sig .tc := ⟨.hbm, 17, rfl⟩
abbrev main_v0_6 : Ref sig .tc := ⟨.hbm, 18, rfl⟩
abbrev main_v0_7 : Ref sig .tc := ⟨.hbm, 19, rfl⟩
abbrev main_v0_8 : Ref sig .tc := ⟨.hbm, 20, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_stg14_0 : Ref sig .tc := ⟨.vmem, 14, rfl⟩
abbrev cc0_stg15_0 : Ref sig .tc := ⟨.vmem, 15, rfl⟩
abbrev cc0_stg16_0 : Ref sig .tc := ⟨.vmem, 16, rfl⟩
abbrev cc0_stg17_0 : Ref sig .tc := ⟨.vmem, 17, rfl⟩
abbrev cc0_stg18_0 : Ref sig .tc := ⟨.vmem, 18, rfl⟩
abbrev cc0_stg19_0 : Ref sig .tc := ⟨.vmem, 19, rfl⟩
abbrev cc0_stg20_0 : Ref sig .tc := ⟨.vmem, 20, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13
abbrev cc0_sem14_0 : DmaSem sig := 14
abbrev cc0_sem15_0 : DmaSem sig := 15
abbrev cc0_sem16_0 : DmaSem sig := 16
abbrev cc0_sem17_0 : DmaSem sig := 17
abbrev cc0_sem18_0 : DmaSem sig := 18
abbrev cc0_sem19_0 : DmaSem sig := 19
abbrev cc0_sem20_0 : DmaSem sig := 20

abbrev nD : Nat := 1
abbrev τ : Topo := Topo.v7x

variable {F : FTy → Type} [FloatOps F]

abbrev grid0 : Pipeline.Grid := .none

abbrev stage0_0 : Fin 1 → Memref sig .tc .vmem S16x64x64 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S16x64x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S16x64x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S16x64x64 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))

abbrev stage0_12 : Fin 1 → Memref sig .tc .vmem S16x64x64 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))

abbrev stage0_13 : Fin 1 → Memref sig .tc .vmem S1x1024 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))

abbrev stage0_14 : Fin 1 → Memref sig .tc .vmem S1x1024 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))

abbrev stage0_15 : Fin 1 → Memref sig .tc .vmem S16x64x64 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))

abbrev stage0_16 : Fin 1 → Memref sig .tc .vmem S1x1024 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))

abbrev stage0_17 : Fin 1 → Memref sig .tc .vmem S1x1024 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))

abbrev stage0_18 : Fin 1 → Memref sig .tc .vmem S16x64x64 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))

abbrev stage0_19 : Fin 1 → Memref sig .tc .vmem S1x1024 .f32 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))

abbrev stage0_20 : Fin 1 → Memref sig .tc .vmem S1x1024 .f32 := fun | 0 => Memref.whole cc0_stg20_0 | ⟨_ + 1, h⟩ => absurd h (Nat.not_lt.2 (Nat.le_add_left _ _))
abbrev sem0_20 : Fin 1 → DmaSem sig := fun | 0 => cc0_sem20_0 | ⟨_ + 1, h⟩ => absurd h (Nat.not_lt.2 (Nat.le_add_left _ _))
-- ==== Reference11Ideal.lean ====
abbrev S16x64x64 : Shape := ⟨3, ![16, 64, 64]⟩
abbrev S1x1024 : Shape := ⟨2, ![1, 1024]⟩
abbrev S_ : Shape := ⟨0, ![]⟩

abbrev nBuf : Space → Nat
  | .hbm => 111
  | .vmem => 0
  | .smem => 0
  | _ => 0

abbrev bufTy : (tb : Table) → Fin (tcTables nBuf tb) → BufTy
  | .hbm, ⟨0, _⟩ => ⟨S16x64x64, .f32⟩
  | .hbm, ⟨1, _⟩ => ⟨S1x1024, .f32⟩
  | .hbm, ⟨2, _⟩ => ⟨S1x1024, .f32⟩
  | .hbm, ⟨3, _⟩ => ⟨S16x64x64, .f32⟩
  | .hbm, ⟨4, _⟩ => ⟨S1x1024, .f32⟩
  | .hbm, ⟨5, _⟩ => ⟨S1x1024, .f32⟩
  | .hbm, ⟨6, _⟩ => ⟨S16x64x64, .f32⟩
  | .hbm, ⟨7, _⟩ => ⟨S1x1024, .f32⟩
  | .hbm, ⟨8, _⟩ => ⟨S1x1024, .f32⟩
  | .hbm, ⟨9, _⟩ => ⟨S16x64x64, .f32⟩
  | .hbm, ⟨10, _⟩ => ⟨S1x1024, .f32⟩
  | .hbm, ⟨11, _⟩ => ⟨S1x1024, .f32⟩
  | .hbm, ⟨12, _⟩ => ⟨S_, .f32⟩
  | .hbm, ⟨13, _⟩ => ⟨S16x64x64, .f32⟩
  | .hbm, ⟨14, _⟩ => ⟨S16x64x64, .f32⟩
  | .hbm, ⟨15, _⟩ => ⟨S_, .f32⟩
  | .hbm, ⟨16, _⟩ => ⟨S16x64x64, .f32⟩
  | .hbm, ⟨17, _⟩ => ⟨S16x64x64, .f32⟩
  | .hbm, ⟨18, _⟩ => ⟨S16x64x64, .f32⟩
  | .hbm, ⟨19, _⟩ => ⟨S_, .f32⟩
  | .hbm, ⟨20, _⟩ => ⟨S16x64x64, .f32⟩
  | .hbm, ⟨21, _⟩ => ⟨S16x64x64, .f32⟩
  | .hbm, ⟨22, _⟩ => ⟨S16x64x64, .f32⟩
  | .hbm, ⟨23, _⟩ => ⟨S_, .f32⟩
  | .hbm, ⟨24, _⟩ => ⟨S16x64x64, .f32⟩
  | .hbm, ⟨25, _⟩ => ⟨S16x64x64, .f32⟩
  | .hbm, ⟨26, _⟩ => ⟨S16x64x64, .f32⟩
  | .hbm, ⟨27, _⟩ => ⟨S_, .f32⟩
  | .hbm, ⟨28, _⟩ => ⟨S16x64x64, .f32⟩
  | .hbm, ⟨29, _⟩ => ⟨S16x64x64, .f32⟩
  | .hbm, ⟨30, _⟩ => ⟨S_, .f32⟩
  | .hbm, ⟨31, _⟩ => ⟨S16x64x64, .f32⟩
  | .hbm, ⟨32, _⟩ => ⟨S16x64x64, .f32⟩
  | .hbm, ⟨33, _⟩ => ⟨S16x64x64, .f32⟩
  | .hbm, ⟨34, _⟩ => ⟨S_, .f32⟩
  | .hbm, ⟨35, _⟩ => ⟨S16x64x64, .f32⟩
  | .hbm, ⟨36, _⟩ => ⟨S16x64x64, .f32⟩
  | .hbm, ⟨37, _⟩ => ⟨S16x64x64, .f32⟩
  | .hbm, ⟨38, _⟩ => ⟨S_, .f32⟩
  | .hbm, ⟨39, _⟩ => ⟨S16x64x64, .f32⟩
  | .hbm, ⟨40, _⟩ => ⟨S16x64x64, .f32⟩
  | .hbm, ⟨41, _⟩ => ⟨S16x64x64, .f32⟩
  | .hbm, ⟨42, _⟩ => ⟨S_, .f32⟩
  | .hbm, ⟨43, _⟩ => ⟨S16x64x64, .f32⟩
  | .hbm, ⟨44, _⟩ => ⟨S16x64x64, .f32⟩
  | .hbm, ⟨45, _⟩ => ⟨S_, .f32⟩
  | .hbm, ⟨46, _⟩ => ⟨S1x1024, .f32⟩
  | .hbm, ⟨47, _⟩ => ⟨S1x1024, .f32⟩
  | .hbm, ⟨48, _⟩ => ⟨S_, .f32⟩
  | .hbm, ⟨49, _⟩ => ⟨S1x1024, .f32⟩
  | .hbm, ⟨50, _⟩ => ⟨S1x1024, .f32⟩
  | .hbm, ⟨51, _⟩ => ⟨S1x1024, .f32⟩
  | .hbm, ⟨52, _⟩ => ⟨S_, .f32⟩
  | .hbm, ⟨53, _⟩ => ⟨S1x1024, .f32⟩
  | .hbm, ⟨54, _⟩ => ⟨S1x1024, .f32⟩
  | .hbm, ⟨55, _⟩ => ⟨S1x1024, .f32⟩
  | .hbm, ⟨56, _⟩ => ⟨S_, .f32⟩
  | .hbm, ⟨57, _⟩ => ⟨S1x1024, .f32⟩
  | .hbm, ⟨58, _⟩ => ⟨S1x1024, .f32⟩
  | .hbm, ⟨59, _⟩ => ⟨S1x1024, .f32⟩
  | .hbm, ⟨60, _⟩ => ⟨S_, .f32⟩
  | .hbm, ⟨61, _⟩ => ⟨S1x1024, .f32⟩
  | .hbm, ⟨62, _⟩ => ⟨S1x1024, .f32⟩
  | .hbm, ⟨63, _⟩ => ⟨S_, .f32⟩
  | .hbm, ⟨64, _⟩ => ⟨S1x1024, .f32⟩
  | .hbm, ⟨65, _⟩ => ⟨S1x1024, .f32⟩
  | .hbm, ⟨66, _⟩ => ⟨S1x1024, .f32⟩
  | .hbm, ⟨67, _⟩ => ⟨S_, .f32⟩
  | .hbm, ⟨68, _⟩ => ⟨S1x1024, .f32⟩
  | .hbm, ⟨69, _⟩ => ⟨S1x1024, .f32⟩
  | .hbm, ⟨70, _⟩ => ⟨S1x1024, .f32⟩
  | .hbm, ⟨71, _⟩ => ⟨S_, .f32⟩
  | .hbm, ⟨72, _⟩ => ⟨S1x1024, .f32⟩
  | .hbm, ⟨73, _⟩ => ⟨S1x1024, .f32⟩
  | .hbm, ⟨74, _⟩ => ⟨S1x1024, .f32⟩
  | .hbm, ⟨75, _⟩ => ⟨S_, .f32⟩
  | .hbm, ⟨76, _⟩ => ⟨S1x1024, .f32⟩
  | .hbm, ⟨77, _⟩ => ⟨S1x1024, .f32⟩
  | .hbm, ⟨78, _⟩ => ⟨S_, .f32⟩
  | .hbm, ⟨79, _⟩ => ⟨S1x1024, .f32⟩
  | .hbm, ⟨80, _⟩ => ⟨S1x1024, .f32⟩
  | .hbm, ⟨81, _⟩ => ⟨S_, .f32⟩
  | .hbm, ⟨82, _⟩ => ⟨S1x1024, .f32⟩
  | .hbm, ⟨83, _⟩ => ⟨S1x1024, .f32⟩
  | .hbm, ⟨84, _⟩ => ⟨S1x1024, .f32⟩
  | .hbm, ⟨85, _⟩ => ⟨S_, .f32⟩
  | .hbm, ⟨86, _⟩ => ⟨S1x1024, .f32⟩
  | .hbm, ⟨87, _⟩ => ⟨S1x1024, .f32⟩
  | .hbm, ⟨88, _⟩ => ⟨S1x1024, .f32⟩
  | .hbm, ⟨89, _⟩ => ⟨S_, .f32⟩
  | .hbm, ⟨90, _⟩ => ⟨S1x1024, .f32⟩
  | .hbm, ⟨91, _⟩ => ⟨S1x1024, .f32⟩
  | .hbm, ⟨92, _⟩ => ⟨S1x1024, .f32⟩
  | .hbm, ⟨93, _⟩ => ⟨S_, .f32⟩
  | .hbm, ⟨94, _⟩ => ⟨S1x1024, .f32⟩
  | .hbm, ⟨95, _⟩ => ⟨S1x1024, .f32⟩
  | .hbm, ⟨96, _⟩ => ⟨S_, .f32⟩
  | .hbm, ⟨97, _⟩ => ⟨S1x1024, .f32⟩
  | .hbm, ⟨98, _⟩ => ⟨S1x1024, .f32⟩
  | .hbm, ⟨99, _⟩ => ⟨S1x1024, .f32⟩
  | .hbm, ⟨100, _⟩ => ⟨S_, .f32⟩
  | .hbm, ⟨101, _⟩ => ⟨S1x1024, .f32⟩
  | .hbm, ⟨102, _⟩ => ⟨S1x1024, .f32⟩
  | .hbm, ⟨103, _⟩ => ⟨S1x1024, .f32⟩
  | .hbm, ⟨104, _⟩ => ⟨S_, .f32⟩
  | .hbm, ⟨105, _⟩ => ⟨S1x1024, .f32⟩
  | .hbm, ⟨106, _⟩ => ⟨S1x1024, .f32⟩
  | .hbm, ⟨107, _⟩ => ⟨S1x1024, .f32⟩
  | .hbm, ⟨108, _⟩ => ⟨S_, .f32⟩
  | .hbm, ⟨109, _⟩ => ⟨S1x1024, .f32⟩
  | .hbm, ⟨110, _⟩ => ⟨S1x1024, .f32⟩
  | _, _ => ⟨S16x64x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_cst : Ref sig .tc := ⟨.hbm, 12, rfl⟩
abbrev main_v0 : Ref sig .tc := ⟨.hbm, 13, rfl⟩
abbrev main_v1 : Ref sig .tc := ⟨.hbm, 14, rfl⟩
abbrev main_cst_0 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_cst_1 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_cst_2 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_cst_3 : Ref sig .tc := ⟨.hbm, 27, rfl⟩
abbrev main_v11 : Ref sig .tc := ⟨.hbm, 28, rfl⟩
abbrev main_v12 : Ref sig .tc := ⟨.hbm, 29, rfl⟩
abbrev main_cst_4 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_cst_5 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_cst_6 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_cst_7 : Ref sig .tc := ⟨.hbm, 42, rfl⟩
abbrev main_v22 : Ref sig .tc := ⟨.hbm, 43, rfl⟩
abbrev main_v23 : Ref sig .tc := ⟨.hbm, 44, rfl⟩
abbrev main_cst_8 : Ref sig .tc := ⟨.hbm, 45, rfl⟩
abbrev main_v24 : Ref sig .tc := ⟨.hbm, 46, rfl⟩
abbrev main_v25 : Ref sig .tc := ⟨.hbm, 47, rfl⟩
abbrev main_cst_9 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_cst_10 : Ref sig .tc := ⟨.hbm, 52, rfl⟩
abbrev main_v29 : Ref sig .tc := ⟨.hbm, 53, rfl⟩
abbrev main_v30 : Ref sig .tc := ⟨.hbm, 54, rfl⟩
abbrev main_v31 : Ref sig .tc := ⟨.hbm, 55, rfl⟩
abbrev main_cst_11 : Ref sig .tc := ⟨.hbm, 56, rfl⟩
abbrev main_v32 : Ref sig .tc := ⟨.hbm, 57, rfl⟩
abbrev main_v33 : Ref sig .tc := ⟨.hbm, 58, rfl⟩
abbrev main_v34 : Ref sig .tc := ⟨.hbm, 59, rfl⟩
abbrev main_cst_12 : Ref sig .tc := ⟨.hbm, 60, rfl⟩
abbrev main_v35 : Ref sig .tc := ⟨.hbm, 61, rfl⟩
abbrev main_v36 : Ref sig .tc := ⟨.hbm, 62, rfl⟩
abbrev main_cst_13 : Ref sig .tc := ⟨.hbm, 63, rfl⟩
abbrev main_v37 : Ref sig .tc := ⟨.hbm, 64, rfl⟩
abbrev main_v38 : Ref sig .tc := ⟨.hbm, 65, rfl⟩
abbrev main_v39 : Ref sig .tc := ⟨.hbm, 66, rfl⟩
abbrev main_cst_14 : Ref sig .tc := ⟨.hbm, 67, rfl⟩
abbrev main_v40 : Ref sig .tc := ⟨.hbm, 68, rfl⟩
abbrev main_v41 : Ref sig .tc := ⟨.hbm, 69, rfl⟩
abbrev main_v42 : Ref sig .tc := ⟨.hbm, 70, rfl⟩
abbrev main_cst_15 : Ref sig .tc := ⟨.hbm, 71, rfl⟩
abbrev main_v43 : Ref sig .tc := ⟨.hbm, 72, rfl⟩
abbrev main_v44 : Ref sig .tc := ⟨.hbm, 73, rfl⟩
abbrev main_v45 : Ref sig .tc := ⟨.hbm, 74, rfl⟩
abbrev main_cst_16 : Ref sig .tc := ⟨.hbm, 75, rfl⟩
abbrev main_v46 : Ref sig .tc := ⟨.hbm, 76, rfl⟩
abbrev main_v47 : Ref sig .tc := ⟨.hbm, 77, rfl⟩
abbrev main_cst_17 : Ref sig .tc := ⟨.hbm, 78, rfl⟩
abbrev main_v48 : Ref sig .tc := ⟨.hbm, 79, rfl⟩
abbrev main_v49 : Ref sig .tc := ⟨.hbm, 80, rfl⟩
abbrev main_cst_18 : Ref sig .tc := ⟨.hbm, 81, rfl⟩
abbrev main_v50 : Ref sig .tc := ⟨.hbm, 82, rfl⟩
abbrev main_v51 : Ref sig .tc := ⟨.hbm, 83, rfl⟩
abbrev main_v52 : Ref sig .tc := ⟨.hbm, 84, rfl⟩
abbrev main_cst_19 : Ref sig .tc := ⟨.hbm, 85, rfl⟩
abbrev main_v53 : Ref sig .tc := ⟨.hbm, 86, rfl⟩
abbrev main_v54 : Ref sig .tc := ⟨.hbm, 87, rfl⟩
abbrev main_v55 : Ref sig .tc := ⟨.hbm, 88, rfl⟩
abbrev main_cst_20 : Ref sig .tc := ⟨.hbm, 89, rfl⟩
abbrev main_v56 : Ref sig .tc := ⟨.hbm, 90, rfl⟩
abbrev main_v57 : Ref sig .tc := ⟨.hbm, 91, rfl⟩
abbrev main_v58 : Ref sig .tc := ⟨.hbm, 92, rfl⟩
abbrev main_cst_21 : Ref sig .tc := ⟨.hbm, 93, rfl⟩
abbrev main_v59 : Ref sig .tc := ⟨.hbm, 94, rfl⟩
abbrev main_v60 : Ref sig .tc := ⟨.hbm, 95, rfl⟩
abbrev main_cst_22 : Ref sig .tc := ⟨.hbm, 96, rfl⟩
abbrev main_v61 : Ref sig .tc := ⟨.hbm, 97, rfl⟩
abbrev main_v62 : Ref sig .tc := ⟨.hbm, 98, rfl⟩
abbrev main_v63 : Ref sig .tc := ⟨.hbm, 99, rfl⟩
abbrev main_cst_23 : Ref sig .tc := ⟨.hbm, 100, rfl⟩
abbrev main_v64 : Ref sig .tc := ⟨.hbm, 101, rfl⟩
abbrev main_v65 : Ref sig .tc := ⟨.hbm, 102, rfl⟩
abbrev main_v66 : Ref sig .tc := ⟨.hbm, 103, rfl⟩
abbrev main_cst_24 : Ref sig .tc := ⟨.hbm, 104, rfl⟩
abbrev main_v67 : Ref sig .tc := ⟨.hbm, 105, rfl⟩
abbrev main_v68 : Ref sig .tc := ⟨.hbm, 106, rfl⟩
abbrev main_v69 : Ref sig .tc := ⟨.hbm, 107, rfl⟩
abbrev main_cst_25 : Ref sig .tc := ⟨.hbm, 108, rfl⟩
abbrev main_v70 : Ref sig .tc := ⟨.hbm, 109, rfl⟩
abbrev main_v71 : Ref sig .tc := ⟨.hbm, 110, rfl⟩

abbrev nD : Nat := 1
abbrev τ : Topo := Topo.v7x

variable {F : FTy → Type} [FloatOps F]
-- ==== Kernel12.lean ====
abbrev S1x1024 : Shape := ⟨2, ![1, 1024]⟩

abbrev nBuf : Space → Nat
  | .hbm => 21
  | .vmem => 21
  | .smem => 0
  | _ => 0

abbrev bufTy : (tb : Table) → Fin (tcTables nBuf tb) → BufTy
  | .hbm, ⟨0, _⟩ => ⟨S1x1024, .f32⟩
  | .hbm, ⟨1, _⟩ => ⟨S1x1024, .f32⟩
  | .hbm, ⟨2, _⟩ => ⟨S1x1024, .f32⟩
  | .hbm, ⟨3, _⟩ => ⟨S1x1024, .f32⟩
  | .hbm, ⟨4, _⟩ => ⟨S1x1024, .f32⟩
  | .hbm, ⟨5, _⟩ => ⟨S1x1024, .f32⟩
  | .hbm, ⟨6, _⟩ => ⟨S1x1024, .f32⟩
  | .hbm, ⟨7, _⟩ => ⟨S1x1024, .f32⟩
  | .hbm, ⟨8, _⟩ => ⟨S1x1024, .f32⟩
  | .hbm, ⟨9, _⟩ => ⟨S1x1024, .f32⟩
  | .hbm, ⟨10, _⟩ => ⟨S1x1024, .f32⟩
  | .hbm, ⟨11, _⟩ => ⟨S1x1024, .f32⟩
  | .hbm, ⟨12, _⟩ => ⟨S1x1024, .f32⟩
  | .hbm, ⟨13, _⟩ => ⟨S1x1024, .f32⟩
  | .hbm, ⟨14, _⟩ => ⟨S1x1024, .f32⟩
  | .hbm, ⟨15, _⟩ => ⟨S1x1024, .f32⟩
  | .hbm, ⟨16, _⟩ => ⟨S1x1024, .f32⟩
  | .hbm, ⟨17, _⟩ => ⟨S1x1024, .f32⟩
  | .hbm, ⟨18, _⟩ => ⟨S1x1024, .f32⟩
  | .hbm, ⟨19, _⟩ => ⟨S1x1024, .f32⟩
  | .hbm, ⟨20, _⟩ => ⟨S1x1024, .f32⟩
  | .local _ .vmem, ⟨0, _⟩ => ⟨S1x1024, .f32⟩
  | .local _ .vmem, ⟨1, _⟩ => ⟨S1x1024, .f32⟩
  | .local _ .vmem, ⟨2, _⟩ => ⟨S1x1024, .f32⟩
  | .local _ .vmem, ⟨3, _⟩ => ⟨S1x1024, .f32⟩
  | .local _ .vmem, ⟨4, _⟩ => ⟨S1x1024, .f32⟩
  | .local _ .vmem, ⟨5, _⟩ => ⟨S1x1024, .f32⟩
  | .local _ .vmem, ⟨6, _⟩ => ⟨S1x1024, .f32⟩
  | .local _ .vmem, ⟨7, _⟩ => ⟨S1x1024, .f32⟩
  | .local _ .vmem, ⟨8, _⟩ => ⟨S1x1024, .f32⟩
  | .local _ .vmem, ⟨9, _⟩ => ⟨S1x1024, .f32⟩
  | .local _ .vmem, ⟨10, _⟩ => ⟨S1x1024, .f32⟩
  | .local _ .vmem, ⟨11, _⟩ => ⟨S1x1024, .f32⟩
  | .local _ .vmem, ⟨12, _⟩ => ⟨S1x1024, .f32⟩
  | .local _ .vmem, ⟨13, _⟩ => ⟨S1x1024, .f32⟩
  | .local _ .vmem, ⟨14, _⟩ => ⟨S1x1024, .f32⟩
  | .local _ .vmem, ⟨15, _⟩ => ⟨S1x1024, .f32⟩
  | .local _ .vmem, ⟨16, _⟩ => ⟨S1x1024, .f32⟩
  | .local _ .vmem, ⟨17, _⟩ => ⟨S1x1024, .f32⟩
  | .local _ .vmem, ⟨18, _⟩ => ⟨S1x1024, .f32⟩
  | .local _ .vmem, ⟨19, _⟩ => ⟨S1x1024, .f32⟩
  | .local _ .vmem, ⟨20, _⟩ => ⟨S1x1024, .f32⟩
  | _, _ => ⟨S1x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0_0 : Ref sig .tc := ⟨.hbm, 12, rfl⟩
abbrev main_v0_1 : Ref sig .tc := ⟨.hbm, 13, rfl⟩
abbrev main_v0_2 : Ref sig .tc := ⟨.hbm, 14, rfl⟩
abbrev main_v0_3 : Ref sig .tc := ⟨.hbm, 15, rfl⟩
abbrev main_v0_4 : Ref sig .tc := ⟨.hbm, 16, rfl⟩
abbrev main_v0_5 : Ref sig .tc := ⟨.hbm, 17, rfl⟩
abbrev main_v0_6 : Ref sig .tc := ⟨.hbm, 18, rfl⟩
abbrev main_v0_7 : Ref sig .tc := ⟨.hbm, 19, rfl⟩
abbrev main_v0_8 : Ref sig .tc := ⟨.hbm, 20, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_stg14_0 : Ref sig .tc := ⟨.vmem, 14, rfl⟩
abbrev cc0_stg15_0 : Ref sig .tc := ⟨.vmem, 15, rfl⟩
abbrev cc0_stg16_0 : Ref sig .tc := ⟨.vmem, 16, rfl⟩
abbrev cc0_stg17_0 : Ref sig .tc := ⟨.vmem, 17, rfl⟩
abbrev cc0_stg18_0 : Ref sig .tc := ⟨.vmem, 18, rfl⟩
abbrev cc0_stg19_0 : Ref sig .tc := ⟨.vmem, 19, rfl⟩
abbrev cc0_stg20_0 : Ref sig .tc := ⟨.vmem, 20, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13
abbrev cc0_sem14_0 : DmaSem sig := 14
abbrev cc0_sem15_0 : DmaSem sig := 15
abbrev cc0_sem16_0 : DmaSem sig := 16
abbrev cc0_sem17_0 : DmaSem sig := 17
abbrev cc0_sem18_0 : DmaSem sig := 18
abbrev cc0_sem19_0 : DmaSem sig := 19
abbrev cc0_sem20_0 : DmaSem sig := 20

abbrev nD : Nat := 1
abbrev τ : Topo := Topo.v7x

variable {F : FTy → Type} [FloatOps F]

abbrev grid0 : Pipeline.Grid := .none

abbrev stage0_0 : Fin 1 → Memref sig .tc .vmem S1x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))

abbrev stage0_12 : Fin 1 → Memref sig .tc .vmem S1x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))

abbrev stage0_13 : Fin 1 → Memref sig .tc .vmem S1x1024 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))

abbrev stage0_14 : Fin 1 → Memref sig .tc .vmem S1x1024 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))

abbrev stage0_15 : Fin 1 → Memref sig .tc .vmem S1x1024 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))

abbrev stage0_16 : Fin 1 → Memref sig .tc .vmem S1x1024 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))

abbrev stage0_17 : Fin 1 → Memref sig .tc .vmem S1x1024 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))

abbrev stage0_18 : Fin 1 → Memref sig .tc .vmem S1x1024 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))

abbrev stage0_19 : Fin 1 → Memref sig .tc .vmem S1x1024 .f32 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))

abbrev stage0_20 : Fin 1 → Memref sig .tc .vmem S1x1024 .f32 := fun | 0 => Memref.whole cc0_stg20_0 | ⟨_ + 1, h⟩ => absurd h (Nat.not_lt.2 (Nat.le_add_left _ _))
abbrev sem0_20 : Fin 1 → DmaSem sig := fun | 0 => cc0_sem20_0 | ⟨_ + 1, h⟩ => absurd h (Nat.not_lt.2 (Nat.le_add_left _ _))
-- ==== Reference12Ideal.lean ====
abbrev S1x1024 : Shape := ⟨2, ![1, 1024]⟩
abbrev S_ : Shape := ⟨0, ![]⟩

abbrev nBuf : Space → Nat
  | .hbm => 111
  | .vmem => 0
  | .smem => 0
  | _ => 0

abbrev bufTy : (tb : Table) → Fin (tcTables nBuf tb) → BufTy
  | .hbm, ⟨0, _⟩ => ⟨S1x1024, .f32⟩
  | .hbm, ⟨1, _⟩ => ⟨S1x1024, .f32⟩
  | .hbm, ⟨2, _⟩ => ⟨S1x1024, .f32⟩
  | .hbm, ⟨3, _⟩ => ⟨S1x1024, .f32⟩
  | .hbm, ⟨4, _⟩ => ⟨S1x1024, .f32⟩
  | .hbm, ⟨5, _⟩ => ⟨S1x1024, .f32⟩
  | .hbm, ⟨6, _⟩ => ⟨S1x1024, .f32⟩
  | .hbm, ⟨7, _⟩ => ⟨S1x1024, .f32⟩
  | .hbm, ⟨8, _⟩ => ⟨S1x1024, .f32⟩
  | .hbm, ⟨9, _⟩ => ⟨S1x1024, .f32⟩
  | .hbm, ⟨10, _⟩ => ⟨S1x1024, .f32⟩
  | .hbm, ⟨11, _⟩ => ⟨S1x1024, .f32⟩
  | .hbm, ⟨12, _⟩ => ⟨S_, .f32⟩
  | .hbm, ⟨13, _⟩ => ⟨S1x1024, .f32⟩
  | .hbm, ⟨14, _⟩ => ⟨S1x1024, .f32⟩
  | .hbm, ⟨15, _⟩ => ⟨S_, .f32⟩
  | .hbm, ⟨16, _⟩ => ⟨S1x1024, .f32⟩
  | .hbm, ⟨17, _⟩ => ⟨S1x1024, .f32⟩
  | .hbm, ⟨18, _⟩ => ⟨S1x1024, .f32⟩
  | .hbm, ⟨19, _⟩ => ⟨S_, .f32⟩
  | .hbm, ⟨20, _⟩ => ⟨S1x1024, .f32⟩
  | .hbm, ⟨21, _⟩ => ⟨S1x1024, .f32⟩
  | .hbm, ⟨22, _⟩ => ⟨S1x1024, .f32⟩
  | .hbm, ⟨23, _⟩ => ⟨S_, .f32⟩
  | .hbm, ⟨24, _⟩ => ⟨S1x1024, .f32⟩
  | .hbm, ⟨25, _⟩ => ⟨S1x1024, .f32⟩
  | .hbm, ⟨26, _⟩ => ⟨S1x1024, .f32⟩
  | .hbm, ⟨27, _⟩ => ⟨S_, .f32⟩
  | .hbm, ⟨28, _⟩ => ⟨S1x1024, .f32⟩
  | .hbm, ⟨29, _⟩ => ⟨S1x1024, .f32⟩
  | .hbm, ⟨30, _⟩ => ⟨S_, .f32⟩
  | .hbm, ⟨31, _⟩ => ⟨S1x1024, .f32⟩
  | .hbm, ⟨32, _⟩ => ⟨S1x1024, .f32⟩
  | .hbm, ⟨33, _⟩ => ⟨S1x1024, .f32⟩
  | .hbm, ⟨34, _⟩ => ⟨S_, .f32⟩
  | .hbm, ⟨35, _⟩ => ⟨S1x1024, .f32⟩
  | .hbm, ⟨36, _⟩ => ⟨S1x1024, .f32⟩
  | .hbm, ⟨37, _⟩ => ⟨S1x1024, .f32⟩
  | .hbm, ⟨38, _⟩ => ⟨S_, .f32⟩
  | .hbm, ⟨39, _⟩ => ⟨S1x1024, .f32⟩
  | .hbm, ⟨40, _⟩ => ⟨S1x1024, .f32⟩
  | .hbm, ⟨41, _⟩ => ⟨S1x1024, .f32⟩
  | .hbm, ⟨42, _⟩ => ⟨S_, .f32⟩
  | .hbm, ⟨43, _⟩ => ⟨S1x1024, .f32⟩
  | .hbm, ⟨44, _⟩ => ⟨S1x1024, .f32⟩
  | .hbm, ⟨45, _⟩ => ⟨S_, .f32⟩
  | .hbm, ⟨46, _⟩ => ⟨S1x1024, .f32⟩
  | .hbm, ⟨47, _⟩ => ⟨S1x1024, .f32⟩
  | .hbm, ⟨48, _⟩ => ⟨S_, .f32⟩
  | .hbm, ⟨49, _⟩ => ⟨S1x1024, .f32⟩
  | .hbm, ⟨50, _⟩ => ⟨S1x1024, .f32⟩
  | .hbm, ⟨51, _⟩ => ⟨S1x1024, .f32⟩
  | .hbm, ⟨52, _⟩ => ⟨S_, .f32⟩
  | .hbm, ⟨53, _⟩ => ⟨S1x1024, .f32⟩
  | .hbm, ⟨54, _⟩ => ⟨S1x1024, .f32⟩
  | .hbm, ⟨55, _⟩ => ⟨S1x1024, .f32⟩
  | .hbm, ⟨56, _⟩ => ⟨S_, .f32⟩
  | .hbm, ⟨57, _⟩ => ⟨S1x1024, .f32⟩
  | .hbm, ⟨58, _⟩ => ⟨S1x1024, .f32⟩
  | .hbm, ⟨59, _⟩ => ⟨S1x1024, .f32⟩
  | .hbm, ⟨60, _⟩ => ⟨S_, .f32⟩
  | .hbm, ⟨61, _⟩ => ⟨S1x1024, .f32⟩
  | .hbm, ⟨62, _⟩ => ⟨S1x1024, .f32⟩
  | .hbm, ⟨63, _⟩ => ⟨S_, .f32⟩
  | .hbm, ⟨64, _⟩ => ⟨S1x1024, .f32⟩
  | .hbm, ⟨65, _⟩ => ⟨S1x1024, .f32⟩
  | .hbm, ⟨66, _⟩ => ⟨S1x1024, .f32⟩
  | .hbm, ⟨67, _⟩ => ⟨S_, .f32⟩
  | .hbm, ⟨68, _⟩ => ⟨S1x1024, .f32⟩
  | .hbm, ⟨69, _⟩ => ⟨S1x1024, .f32⟩
  | .hbm, ⟨70, _⟩ => ⟨S1x1024, .f32⟩
  | .hbm, ⟨71, _⟩ => ⟨S_, .f32⟩
  | .hbm, ⟨72, _⟩ => ⟨S1x1024, .f32⟩
  | .hbm, ⟨73, _⟩ => ⟨S1x1024, .f32⟩
  | .hbm, ⟨74, _⟩ => ⟨S1x1024, .f32⟩
  | .hbm, ⟨75, _⟩ => ⟨S_, .f32⟩
  | .hbm, ⟨76, _⟩ => ⟨S1x1024, .f32⟩
  | .hbm, ⟨77, _⟩ => ⟨S1x1024, .f32⟩
  | .hbm, ⟨78, _⟩ => ⟨S_, .f32⟩
  | .hbm, ⟨79, _⟩ => ⟨S1x1024, .f32⟩
  | .hbm, ⟨80, _⟩ => ⟨S1x1024, .f32⟩
  | .hbm, ⟨81, _⟩ => ⟨S_, .f32⟩
  | .hbm, ⟨82, _⟩ => ⟨S1x1024, .f32⟩
  | .hbm, ⟨83, _⟩ => ⟨S1x1024, .f32⟩
  | .hbm, ⟨84, _⟩ => ⟨S1x1024, .f32⟩
  | .hbm, ⟨85, _⟩ => ⟨S_, .f32⟩
  | .hbm, ⟨86, _⟩ => ⟨S1x1024, .f32⟩
  | .hbm, ⟨87, _⟩ => ⟨S1x1024, .f32⟩
  | .hbm, ⟨88, _⟩ => ⟨S1x1024, .f32⟩
  | .hbm, ⟨89, _⟩ => ⟨S_, .f32⟩
  | .hbm, ⟨90, _⟩ => ⟨S1x1024, .f32⟩
  | .hbm, ⟨91, _⟩ => ⟨S1x1024, .f32⟩
  | .hbm, ⟨92, _⟩ => ⟨S1x1024, .f32⟩
  | .hbm, ⟨93, _⟩ => ⟨S_, .f32⟩
  | .hbm, ⟨94, _⟩ => ⟨S1x1024, .f32⟩
  | .hbm, ⟨95, _⟩ => ⟨S1x1024, .f32⟩
  | .hbm, ⟨96, _⟩ => ⟨S_, .f32⟩
  | .hbm, ⟨97, _⟩ => ⟨S1x1024, .f32⟩
  | .hbm, ⟨98, _⟩ => ⟨S1x1024, .f32⟩
  | .hbm, ⟨99, _⟩ => ⟨S1x1024, .f32⟩
  | .hbm, ⟨100, _⟩ => ⟨S_, .f32⟩
  | .hbm, ⟨101, _⟩ => ⟨S1x1024, .f32⟩
  | .hbm, ⟨102, _⟩ => ⟨S1x1024, .f32⟩
  | .hbm, ⟨103, _⟩ => ⟨S1x1024, .f32⟩
  | .hbm, ⟨104, _⟩ => ⟨S_, .f32⟩
  | .hbm, ⟨105, _⟩ => ⟨S1x1024, .f32⟩
  | .hbm, ⟨106, _⟩ => ⟨S1x1024, .f32⟩
  | .hbm, ⟨107, _⟩ => ⟨S1x1024, .f32⟩
  | .hbm, ⟨108, _⟩ => ⟨S_, .f32⟩
  | .hbm, ⟨109, _⟩ => ⟨S1x1024, .f32⟩
  | .hbm, ⟨110, _⟩ => ⟨S1x1024, .f32⟩
  | _, _ => ⟨S1x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_cst : Ref sig .tc := ⟨.hbm, 12, rfl⟩
abbrev main_v0 : Ref sig .tc := ⟨.hbm, 13, rfl⟩
abbrev main_v1 : Ref sig .tc := ⟨.hbm, 14, rfl⟩
abbrev main_cst_0 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_cst_1 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_cst_2 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_cst_3 : Ref sig .tc := ⟨.hbm, 27, rfl⟩
abbrev main_v11 : Ref sig .tc := ⟨.hbm, 28, rfl⟩
abbrev main_v12 : Ref sig .tc := ⟨.hbm, 29, rfl⟩
abbrev main_cst_4 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_cst_5 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_cst_6 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_cst_7 : Ref sig .tc := ⟨.hbm, 42, rfl⟩
abbrev main_v22 : Ref sig .tc := ⟨.hbm, 43, rfl⟩
abbrev main_v23 : Ref sig .tc := ⟨.hbm, 44, rfl⟩
abbrev main_cst_8 : Ref sig .tc := ⟨.hbm, 45, rfl⟩
abbrev main_v24 : Ref sig .tc := ⟨.hbm, 46, rfl⟩
abbrev main_v25 : Ref sig .tc := ⟨.hbm, 47, rfl⟩
abbrev main_cst_9 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_cst_10 : Ref sig .tc := ⟨.hbm, 52, rfl⟩
abbrev main_v29 : Ref sig .tc := ⟨.hbm, 53, rfl⟩
abbrev main_v30 : Ref sig .tc := ⟨.hbm, 54, rfl⟩
abbrev main_v31 : Ref sig .tc := ⟨.hbm, 55, rfl⟩
abbrev main_cst_11 : Ref sig .tc := ⟨.hbm, 56, rfl⟩
abbrev main_v32 : Ref sig .tc := ⟨.hbm, 57, rfl⟩
abbrev main_v33 : Ref sig .tc := ⟨.hbm, 58, rfl⟩
abbrev main_v34 : Ref sig .tc := ⟨.hbm, 59, rfl⟩
abbrev main_cst_12 : Ref sig .tc := ⟨.hbm, 60, rfl⟩
abbrev main_v35 : Ref sig .tc := ⟨.hbm, 61, rfl⟩
abbrev main_v36 : Ref sig .tc := ⟨.hbm, 62, rfl⟩
abbrev main_cst_13 : Ref sig .tc := ⟨.hbm, 63, rfl⟩
abbrev main_v37 : Ref sig .tc := ⟨.hbm, 64, rfl⟩
abbrev main_v38 : Ref sig .tc := ⟨.hbm, 65, rfl⟩
abbrev main_v39 : Ref sig .tc := ⟨.hbm, 66, rfl⟩
abbrev main_cst_14 : Ref sig .tc := ⟨.hbm, 67, rfl⟩
abbrev main_v40 : Ref sig .tc := ⟨.hbm, 68, rfl⟩
abbrev main_v41 : Ref sig .tc := ⟨.hbm, 69, rfl⟩
abbrev main_v42 : Ref sig .tc := ⟨.hbm, 70, rfl⟩
abbrev main_cst_15 : Ref sig .tc := ⟨.hbm, 71, rfl⟩
abbrev main_v43 : Ref sig .tc := ⟨.hbm, 72, rfl⟩
abbrev main_v44 : Ref sig .tc := ⟨.hbm, 73, rfl⟩
abbrev main_v45 : Ref sig .tc := ⟨.hbm, 74, rfl⟩
abbrev main_cst_16 : Ref sig .tc := ⟨.hbm, 75, rfl⟩
abbrev main_v46 : Ref sig .tc := ⟨.hbm, 76, rfl⟩
abbrev main_v47 : Ref sig .tc := ⟨.hbm, 77, rfl⟩
abbrev main_cst_17 : Ref sig .tc := ⟨.hbm, 78, rfl⟩
abbrev main_v48 : Ref sig .tc := ⟨.hbm, 79, rfl⟩
abbrev main_v49 : Ref sig .tc := ⟨.hbm, 80, rfl⟩
abbrev main_cst_18 : Ref sig .tc := ⟨.hbm, 81, rfl⟩
abbrev main_v50 : Ref sig .tc := ⟨.hbm, 82, rfl⟩
abbrev main_v51 : Ref sig .tc := ⟨.hbm, 83, rfl⟩
abbrev main_v52 : Ref sig .tc := ⟨.hbm, 84, rfl⟩
abbrev main_cst_19 : Ref sig .tc := ⟨.hbm, 85, rfl⟩
abbrev main_v53 : Ref sig .tc := ⟨.hbm, 86, rfl⟩
abbrev main_v54 : Ref sig .tc := ⟨.hbm, 87, rfl⟩
abbrev main_v55 : Ref sig .tc := ⟨.hbm, 88, rfl⟩
abbrev main_cst_20 : Ref sig .tc := ⟨.hbm, 89, rfl⟩
abbrev main_v56 : Ref sig .tc := ⟨.hbm, 90, rfl⟩
abbrev main_v57 : Ref sig .tc := ⟨.hbm, 91, rfl⟩
abbrev main_v58 : Ref sig .tc := ⟨.hbm, 92, rfl⟩
abbrev main_cst_21 : Ref sig .tc := ⟨.hbm, 93, rfl⟩
abbrev main_v59 : Ref sig .tc := ⟨.hbm, 94, rfl⟩
abbrev main_v60 : Ref sig .tc := ⟨.hbm, 95, rfl⟩
abbrev main_cst_22 : Ref sig .tc := ⟨.hbm, 96, rfl⟩
abbrev main_v61 : Ref sig .tc := ⟨.hbm, 97, rfl⟩
abbrev main_v62 : Ref sig .tc := ⟨.hbm, 98, rfl⟩
abbrev main_v63 : Ref sig .tc := ⟨.hbm, 99, rfl⟩
abbrev main_cst_23 : Ref sig .tc := ⟨.hbm, 100, rfl⟩
abbrev main_v64 : Ref sig .tc := ⟨.hbm, 101, rfl⟩
abbrev main_v65 : Ref sig .tc := ⟨.hbm, 102, rfl⟩
abbrev main_v66 : Ref sig .tc := ⟨.hbm, 103, rfl⟩
abbrev main_cst_24 : Ref sig .tc := ⟨.hbm, 104, rfl⟩
abbrev main_v67 : Ref sig .tc := ⟨.hbm, 105, rfl⟩
abbrev main_v68 : Ref sig .tc := ⟨.hbm, 106, rfl⟩
abbrev main_v69 : Ref sig .tc := ⟨.hbm, 107, rfl⟩
abbrev main_cst_25 : Ref sig .tc := ⟨.hbm, 108, rfl⟩
abbrev main_v70 : Ref sig .tc := ⟨.hbm, 109, rfl⟩
abbrev main_v71 : Ref sig .tc := ⟨.hbm, 110, rfl⟩

abbrev nD : Nat := 1
abbrev τ : Topo := Topo.v7x

variable {F : FTy → Type} [FloatOps F]
-- ==== Kernel13.lean ====
abbrev S12x1024x512 : Shape := ⟨3, ![12, 1024, 512]⟩
abbrev S12x512x512 : Shape := ⟨3, ![12, 512, 512]⟩
abbrev S1 : Shape := ⟨1, ![1]⟩
abbrev S1x512x512 : Shape := ⟨3, ![1, 512, 512]⟩

abbrev nBuf : Space → Nat
  | .hbm => 4
  | .vmem => 8
  | .smem => 1
  | _ => 0

abbrev bufTy : (tb : Table) → Fin (tcTables nBuf tb) → BufTy
  | .hbm, ⟨0, _⟩ => ⟨S12x1024x512, .f32⟩
  | .hbm, ⟨1, _⟩ => ⟨S12x512x512, .f32⟩
  | .hbm, ⟨2, _⟩ => ⟨S12x512x512, .f32⟩
  | .hbm, ⟨3, _⟩ => ⟨S12x512x512, .bf16⟩
  | .local _ .vmem, ⟨0, _⟩ => ⟨S1x512x512, .f32⟩
  | .local _ .vmem, ⟨1, _⟩ => ⟨S1x512x512, .f32⟩
  | .local _ .vmem, ⟨2, _⟩ => ⟨S1x512x512, .f32⟩
  | .local _ .vmem, ⟨3, _⟩ => ⟨S1x512x512, .f32⟩
  | .local _ .vmem, ⟨4, _⟩ => ⟨S1x512x512, .f32⟩
  | .local _ .vmem, ⟨5, _⟩ => ⟨S1x512x512, .f32⟩
  | .local _ .vmem, ⟨6, _⟩ => ⟨S1x512x512, .bf16⟩
  | .local _ .vmem, ⟨7, _⟩ => ⟨S1x512x512, .bf16⟩
  | .local _ .smem, ⟨0, _⟩ => ⟨S1, .i32⟩
  | _, _ => ⟨S12x1024x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev main_arg2 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨1, ![12], ![false]⟩

abbrev pre0 : Pipeline.Prefetch sig := ⟨1, ![main_arg2.idx], fun | 0 => main_arg2.names | ⟨_ + 1, h⟩ => absurd h (Nat.not_lt.2 (Nat.le_add_left _ _)), fun | 0 => rfl | ⟨_ + 1, h⟩ => absurd h (Nat.not_lt.2 (Nat.le_add_left _ _))⟩

def cc0_transform_0 (inb_S1_S1_0 : ∀ a, (![0] : Fin 1 → Nat) a + S1.size a ≤ S1.size a) (numel1_S1 : S1.numel = 1) (pf : pre0.Contents (Elt F)) (i : grid0.Coords) : Fin 3 → Nat :=
  let arg0 : BitVec 32 := BitVec.ofNat 32 (i 0).val
  let c0 : Index := 0#32
  let v0 : BitVec 32 := pf.at 0 (Rect.unit (s := S1) ![0] S1.size inb_S1_S1_0) numel1_S1
  let c0_i32 : BitVec 32 := 0#32
  let c0_i32_0 : BitVec 32 := 0#32
  ![arg0.toNat, v0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== Reference13Ideal.lean ====
abbrev S12x1024x512 : Shape := ⟨3, ![12, 1024, 512]⟩
abbrev S12x512x512 : Shape := ⟨3, ![12, 512, 512]⟩
abbrev S1 : Shape := ⟨1, ![1]⟩
abbrev S_ : Shape := ⟨0, ![]⟩

abbrev nBuf : Space → Nat
  | .hbm => 11
  | .vmem => 0
  | .smem => 0
  | _ => 0

abbrev bufTy : (tb : Table) → Fin (tcTables nBuf tb) → BufTy
  | .hbm, ⟨0, _⟩ => ⟨S12x1024x512, .f32⟩
  | .hbm, ⟨1, _⟩ => ⟨S12x512x512, .f32⟩
  | .hbm, ⟨2, _⟩ => ⟨S1, .i32⟩
  | .hbm, ⟨3, _⟩ => ⟨S_, .i32⟩
  | .hbm, ⟨4, _⟩ => ⟨S_, .i32⟩
  | .hbm, ⟨5, _⟩ => ⟨S_, .i1⟩
  | .hbm, ⟨6, _⟩ => ⟨S12x512x512, .f32⟩
  | .hbm, ⟨7, _⟩ => ⟨S12x512x512, .f32⟩
  | .hbm, ⟨8, _⟩ => ⟨S12x512x512, .f32⟩
  | .hbm, ⟨9, _⟩ => ⟨S12x512x512, .f32⟩
  | .hbm, ⟨10, _⟩ => ⟨S12x512x512, .bf16⟩
  | _, _ => ⟨S12x1024x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_c : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩

abbrev nD : Nat := 1
abbrev τ : Topo := Topo.v7x

variable {F : FTy → Type} [FloatOps F]
-- ==== Kernel14.lean ====
abbrev S4x512x1024 : Shape := ⟨3, ![4, 512, 1024]⟩
abbrev S4x256x1024 : Shape := ⟨3, ![4, 256, 1024]⟩
abbrev S1 : Shape := ⟨1, ![1]⟩
abbrev S1x256x1024 : Shape := ⟨3, ![1, 256, 1024]⟩

abbrev nBuf : Space → Nat
  | .hbm => 4
  | .vmem => 8
  | .smem => 1
  | _ => 0

abbrev bufTy : (tb : Table) → Fin (tcTables nBuf tb) → BufTy
  | .hbm, ⟨0, _⟩ => ⟨S4x512x1024, .f32⟩
  | .hbm, ⟨1, _⟩ => ⟨S4x256x1024, .f32⟩
  | .hbm, ⟨2, _⟩ => ⟨S4x256x1024, .f32⟩
  | .hbm, ⟨3, _⟩ => ⟨S4x256x1024, .bf16⟩
  | .local _ .vmem, ⟨0, _⟩ => ⟨S1x256x1024, .f32⟩
  | .local _ .vmem, ⟨1, _⟩ => ⟨S1x256x1024, .f32⟩
  | .local _ .vmem, ⟨2, _⟩ => ⟨S1x256x1024, .f32⟩
  | .local _ .vmem, ⟨3, _⟩ => ⟨S1x256x1024, .f32⟩
  | .local _ .vmem, ⟨4, _⟩ => ⟨S1x256x1024, .f32⟩
  | .local _ .vmem, ⟨5, _⟩ => ⟨S1x256x1024, .f32⟩
  | .local _ .vmem, ⟨6, _⟩ => ⟨S1x256x1024, .bf16⟩
  | .local _ .vmem, ⟨7, _⟩ => ⟨S1x256x1024, .bf16⟩
  | .local _ .smem, ⟨0, _⟩ => ⟨S1, .i32⟩
  | _, _ => ⟨S4x512x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev main_arg2 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨1, ![4], ![false]⟩

abbrev pre0 : Pipeline.Prefetch sig := ⟨1, ![main_arg2.idx], fun | 0 => main_arg2.names | ⟨_ + 1, h⟩ => absurd h (Nat.not_lt.2 (Nat.le_add_left _ _)), fun | 0 => rfl | ⟨_ + 1, h⟩ => absurd h (Nat.not_lt.2 (Nat.le_add_left _ _))⟩

def cc0_transform_0 (inb_S1_S1_0 : ∀ a, (![0] : Fin 1 → Nat) a + S1.size a ≤ S1.size a) (numel1_S1 : S1.numel = 1) (pf : pre0.Contents (Elt F)) (i : grid0.Coords) : Fin 3 → Nat :=
  let arg0 : BitVec 32 := BitVec.ofNat 32 (i 0).val
  let c0 : Index := 0#32
  let v0 : BitVec 32 := pf.at 0 (Rect.unit (s := S1) ![0] S1.size inb_S1_S1_0) numel1_S1
  let c0_i32 : BitVec 32 := 0#32
  let c0_i32_0 : BitVec 32 := 0#32
  ![arg0.toNat, v0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x256x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== Reference14Ideal.lean ====
abbrev S4x512x1024 : Shape := ⟨3, ![4, 512, 1024]⟩
abbrev S4x256x1024 : Shape := ⟨3, ![4, 256, 1024]⟩
abbrev S1 : Shape := ⟨1, ![1]⟩
abbrev S_ : Shape := ⟨0, ![]⟩

abbrev nBuf : Space → Nat
  | .hbm => 11
  | .vmem => 0
  | .smem => 0
  | _ => 0

abbrev bufTy : (tb : Table) → Fin (tcTables nBuf tb) → BufTy
  | .hbm, ⟨0, _⟩ => ⟨S4x512x1024, .f32⟩
  | .hbm, ⟨1, _⟩ => ⟨S4x256x1024, .f32⟩
  | .hbm, ⟨2, _⟩ => ⟨S1, .i32⟩
  | .hbm, ⟨3, _⟩ => ⟨S_, .i32⟩
  | .hbm, ⟨4, _⟩ => ⟨S_, .i32⟩
  | .hbm, ⟨5, _⟩ => ⟨S_, .i1⟩
  | .hbm, ⟨6, _⟩ => ⟨S4x256x1024, .f32⟩
  | .hbm, ⟨7, _⟩ => ⟨S4x256x1024, .f32⟩
  | .hbm, ⟨8, _⟩ => ⟨S4x256x1024, .f32⟩
  | .hbm, ⟨9, _⟩ => ⟨S4x256x1024, .f32⟩
  | .hbm, ⟨10, _⟩ => ⟨S4x256x1024, .bf16⟩
  | _, _ => ⟨S4x512x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_c : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩

abbrev nD : Nat := 1
abbrev τ : Topo := Topo.v7x

variable {F : FTy → Type} [FloatOps F]
-- ==== Proof.Norm.lean ====
/- Facts about the extended reals behind the normalisation by the root of the mean square and its gradient. -/
module

public import Idealize.ShloMosaic.PureOps.Ideal
public import Idealize.ShloMosaic.Lib.Pipeline.ReadBack

@[expose] public section

noncomputable section

open Idealize.ShloMosaic

namespace Cert.Norm

/-- The word of zero. -/
theorem zero32 : Ideal.ofBits .f32 0x00000000#32 = 0 := by simp [Ideal.ofBits, Ideal.ieee]
/-- The word of 1024. -/
theorem k1024 : Ideal.ofBits .f32 0x44800000#32 = ((1024 : ℝ) : EReal) := by
  simp [Ideal.ofBits, Ideal.ieee]; norm_num; rw [← EReal.coe_mul]; norm_num
/-- The word of 1/1024. -/
theorem kinv : Ideal.ofBits .f32 0x3A800000#32 = ((1 / 1024 : ℝ) : EReal) := by
  simp [Ideal.ofBits, Ideal.ieee]; norm_num; rw [← EReal.coe_mul]; norm_num
/-- The word of a half. -/
theorem khalf : Ideal.ofBits .f32 0x3F000000#32 = ((1 / 2 : ℝ) : EReal) := by
  simp [Ideal.ofBits, Ideal.ieee]; norm_num; rw [← EReal.coe_mul]; norm_num
/-- The word of minus a half. -/
theorem knhalf : Ideal.ofBits .f32 0xBF000000#32 = -((1 / 2 : ℝ) : EReal) := by
  rw [← EReal.coe_neg]
  simp [Ideal.ofBits, Ideal.ieee]; norm_num; rw [← EReal.coe_mul]; norm_num
/-- The word of two. -/
theorem ktwo : Ideal.ofBits .f32 0x40000000#32 = ((2 : ℝ) : EReal) := by
  simp [Ideal.ofBits, Ideal.ieee]; norm_num; rw [← EReal.coe_mul]; norm_num
/-- The word of one. -/
theorem kone : Ideal.ofBits .f32 0x3F800000#32 = ((1 : ℝ) : EReal) := by
  simp [Ideal.ofBits, Ideal.ieee]; rw [← EReal.coe_mul]; norm_num
/-- The guard is positive. -/
theorem eps_pos : (0 : EReal) < Ideal.ofBits .f32 0x358637BD#32 := by
  simp [Ideal.ofBits, Ideal.ieee]
  rw [← EReal.coe_zero, ← EReal.coe_mul, EReal.coe_lt_coe_iff]
  positivity

/-- Division by the row length is multiplication by its reciprocal. -/
theorem div1024 (x : EReal) : Ideal.div x (Ideal.ofBits .f32 0x44800000#32) = x * ((1 / 1024 : ℝ) : EReal) := by
  rw [k1024]; exact Ideal.div_coe (by norm_num) x

/-- A square is nonnegative. -/
theorem sq_nonneg' (x : EReal) : 0 ≤ x * x := by
  induction x with
  | bot => simp
  | top => simp
  | coe r => rw [← EReal.coe_mul]; exact_mod_cast mul_self_nonneg r

/-- A nonnegative real factor goes into a sum. -/
theorem mul_sum {ι : Type*} (s : Finset ι) (r : EReal) (h0 : 0 ≤ r) (ht : r ≠ ⊤) (f : ι → EReal) :
    r * ∑ i ∈ s, f i = ∑ i ∈ s, r * f i := by
  classical
  induction s using Finset.induction_on with
  | empty => simp
  | insert a s ha ih => rw [Finset.sum_insert ha, Finset.sum_insert ha, EReal.left_distrib_of_nonneg_of_ne_top h0 ht, ih]

/-- The reciprocal of the root of the mean square of a row. -/
def rs (o : Fin 1024 → EReal) : EReal :=
  Ideal.rsqrt (Ideal.div (∑ k, o k * o k) (Ideal.ofBits .f32 0x44800000#32) + Ideal.ofBits .f32 0x358637BD#32)

/-- A mean square plus the guard is positive. -/
theorem ms_pos (o : Fin 1024 → EReal) :
    0 < Ideal.div (∑ k, o k * o k) (Ideal.ofBits .f32 0x44800000#32) + Ideal.ofBits .f32 0x358637BD#32 := by
  refine lt_of_lt_of_le eps_pos (le_add_of_nonneg_left ?_)
  rw [div1024]
  exact mul_nonneg (Finset.sum_nonneg fun k _ => sq_nonneg' (o k)) (by exact_mod_cast (by norm_num : (0 : ℝ) ≤ 1 / 1024))

/-- The inverse root of a positive number is nonnegative and finite, and divided by the number it is its own cube. -/
theorem rsqrt_facts (m : EReal) (hm : 0 < m) : 0 ≤ Ideal.rsqrt m ∧ Ideal.rsqrt m ≠ ⊤
    ∧ Ideal.div (Ideal.rsqrt m) m = Ideal.rsqrt m * Ideal.rsqrt m * Ideal.rsqrt m := by
  induction m with
  | bot => simp at hm
  | top => simp [Ideal.div]
  | coe a =>
    have ha : 0 < a := by exact_mod_cast hm
    have e : Ideal.rsqrt (a : EReal) = (((Real.sqrt a)⁻¹ : ℝ) : EReal) := by
      simp [ha.le, ha.ne', not_lt.mpr ha.le]
    rw [e]
    refine ⟨by exact_mod_cast (by positivity), EReal.coe_ne_top _, ?_⟩
    rw [Ideal.div_coe ha.ne', ← EReal.coe_mul, ← EReal.coe_mul, ← EReal.coe_mul]
    congr 1
    have h : Real.sqrt a * Real.sqrt a = a := Real.mul_self_sqrt ha.le
    have hs : Real.sqrt a ≠ 0 := (Real.sqrt_pos.mpr ha).ne'
    rw [mul_assoc, ← mul_inv, h, one_div]

/-- The inverse root of a row is nonnegative. -/
theorem rs_nonneg (o : Fin 1024 → EReal) : 0 ≤ rs o := (rsqrt_facts _ (ms_pos o)).1
/-- It is finite. -/
theorem rs_ne_top (o : Fin 1024 → EReal) : rs o ≠ ⊤ := (rsqrt_facts _ (ms_pos o)).2.1
/-- Divided by the mean square plus the guard it is its cube. -/
theorem rs_div (o : Fin 1024 → EReal) :
    Ideal.div (rs o) (Ideal.div (∑ k, o k * o k) (Ideal.ofBits .f32 0x44800000#32) + Ideal.ofBits .f32 0x358637BD#32)
      = rs o * rs o * rs o := (rsqrt_facts _ (ms_pos o)).2.2

/-- Half of a number twice is the number. -/
theorem half_add (x : EReal) : ((1 / 2 : ℝ) : EReal) * x + ((1 / 2 : ℝ) : EReal) * x = x := by
  have h : (0 : EReal) ≤ ((1 / 2 : ℝ) : EReal) := by exact_mod_cast (by norm_num : (0 : ℝ) ≤ 1 / 2)
  rw [← EReal.right_distrib_of_nonneg h h, ← EReal.coe_add]
  norm_num

/-- The gradient of the normalisation in the form of a projection: `gp` the cotangent of the normalised row. -/
def back (o gp : Fin 1024 → EReal) (j : Fin 1024) : EReal :=
  rs o * (gp j - o j * rs o * Ideal.div (∑ k, gp k * (o k * rs o)) (Ideal.ofBits .f32 0x44800000#32))

/-- The same gradient as differentiating the formula leaves it: the direct term and twice half the term through the mean square. -/
theorem back_eq (o gp : Fin 1024 → EReal) (j : Fin 1024) :
    back o gp j = gp j * rs o
      + o j * Ideal.div ((∑ k, o k * gp k) * (Ideal.ofBits .f32 0xBF000000#32 * Ideal.div (rs o)
        (Ideal.div (∑ k, o k * o k) (Ideal.ofBits .f32 0x44800000#32) + Ideal.ofBits .f32 0x358637BD#32))) (Ideal.ofBits .f32 0x44800000#32)
      + Ideal.div ((∑ k, o k * gp k) * (Ideal.ofBits .f32 0xBF000000#32 * Ideal.div (rs o)
        (Ideal.div (∑ k, o k * o k) (Ideal.ofBits .f32 0x44800000#32) + Ideal.ofBits .f32 0x358637BD#32))) (Ideal.ofBits .f32 0x44800000#32) * o j := by
  unfold back
  have hs : ∑ k, gp k * (o k * rs o) = rs o * ∑ k, o k * gp k := by
    rw [mul_sum _ _ (rs_nonneg o) (rs_ne_top o)]
    refine Finset.sum_congr rfl fun k _ => ?_
    rw [mul_comm (gp k), mul_comm (o k) (rs o), mul_assoc]
  rw [hs, rs_div, knhalf, EReal.mul_sub_of_nonneg_of_ne_top (rs_nonneg o) (rs_ne_top o), div1024, div1024, add_assoc]
  generalize ((1 / 1024 : ℝ) : EReal) = c
  generalize rs o = r
  generalize ∑ k, o k * gp k = s
  rw [mul_comm (s * (-((1 / 2 : ℝ) : EReal) * (r * r * r)) * c) (o j)]
  have e : o j * (s * (-((1 / 2 : ℝ) : EReal) * (r * r * r)) * c) = ((1 / 2 : ℝ) : EReal) * -(r * (o j * r * (r * s * c))) := by
    simp only [neg_mul, mul_neg]
    congr 1
    generalize ((1 / 2 : ℝ) : EReal) = h
    ac_rfl
  rw [e, half_add, sub_eq_add_neg, mul_comm r (gp j)]

/-- What writes over given contents leave, read back: each write overlaid on the ones before it. -/
theorem read_writes_over {sig : RefSig} {κ : Kind} {sp : Space} {s : Shape} {e : EltTy} (v : View sig κ sp s e) (f : v.ty.Contents (Elt Ideal)) :
    ∀ L : List (View.Piece (Elt Ideal) s e), v.read (Elt Ideal) (v.writes (Elt Ideal) f L)
      = L.foldr (fun p g => p.1.overlay g p.2) (v.read (Elt Ideal) f)
  | [] => rfl
  | p :: L => by
    funext y
    rw [List.foldr_cons, ← read_writes_over v f L]
    by_cases hy : y ∈ p.1.set
    · obtain ⟨r, w⟩ := p
      obtain ⟨x, rfl⟩ : ∃ x, r.emb x = y := r.exists_idx_of_mem hy
      rw [View.read_writes_cons_emb]
      exact (Rect.overlay_emb _ _ _ _).symm
    · have hy' : y ∉ Finset.univ.map p.1.emb := by rwa [Rect.map_emb_univ]
      rw [View.writes_cons, View.read_slice_write_of_not_mem p.1 _ _ _ hy', Rect.overlay_of_not_mem _ _ _ hy]

/-- Pieces that are all rows of one function, read back where one of them lies. -/
theorem canon_of {s : Shape} {e : EltTy} (G : s.Idx → Elt Ideal e) (L : List (View.Piece (Elt Ideal) s e)) (h : View.PiecesOf G L) (y : s.Idx)
    (hc : ∃ p ∈ L, y ∈ p.1.set) : View.canon L y = G y := by
  have e := View.canon_append_of_piecesOf G [] L h y hc
  rwa [List.append_nil] at e

end Cert.Norm

end
-- ==== Proof.V2.lean ====
/- The out projection with the loss and its gradient back through the final norm: what one grid point computes. -/
module

public import proofs.«01_k».proof.Defs
public import proofs.«01_k».proof.Proof.Norm
public import proofs.«01_k».proof.Proof.Gen.Kernel2.Frame
public import proofs.«01_k».proof.Proof.Gen.Kernel2Ideal.Value
public import proofs.«01_k».proof.Proof.Gen.Reference2Ideal.Run
public import proofs.«01_k».proof.Proof.Gen.Reference2Ideal.Read
public import Idealize.ShloMosaic.Lib.Pipeline.ValueKit
public import Idealize.ShloMosaic.Lib.Pipeline.ReadBack
public import Idealize.ShloMosaic.Lib.Pointwise
public import Idealize.ShloMosaic.Lib.Tactic
public import Idealize.ShloMosaic.Lib.Quiescent

@[expose] public section

set_option maxRecDepth 16384

noncomputable section

open Idealize.ShloMosaic Idealize.ShloMosaic.TcCoe Idealize.SL.Sem
open Idealize.ShloMosaic.Pipeline (Dat)

namespace Cert.Kernel2Ideal.Hand

open Cert.Kernel2Ideal Cert.Kernel2Ideal.Gen Cert.Norm

/-- A row of the residual stream after the step: the input's row plus the two halves' projections. -/
def orow (yc yl x : Fin 1024 → EReal) (w : Fin 2048 → Fin 1024 → EReal) (j : Fin 1024) : EReal :=
  x j + (∑ k : Fin 1024, yc k * w ⟨k.val, by omega⟩ j + ∑ k : Fin 1024, yl k * w ⟨1024 + k.val, by omega⟩ j)

/-- The difference of the normalised, scaled row from the target's. -/
def drow (o g tg : Fin 1024 → EReal) (j : Fin 1024) : EReal := o j * rs o * g j - tg j

/-- The cotangent of the normalised row. -/
def gprow (o g tg : Fin 1024 → EReal) (j : Fin 1024) : EReal := drow o g tg j * Ideal.ofBits .f32 0x3A800000#32 * g j

/-- The gradient of a row of the stream. -/
def dorow (o g tg : Fin 1024 → EReal) (j : Fin 1024) : EReal := back o (gprow o g tg) j

/-- One row of a two-dimensional array. -/
def rowOf {n0 n1 : ℕ} (a : (⟨2, ![n0, n1]⟩ : Shape).Idx → EReal) (p : Fin n0) : Fin n1 → EReal := fun j => a (ix2 p j)

section Payloads
variable (v3 : Vec Ideal S256x1024 .f32) (v4 : Vec Ideal S256x1024 .bf16) (v5 : Vec Ideal S1024x1024 .bf16)
  (v7 : Vec Ideal S256x1024 .bf16) (v8 : Vec Ideal S1024x1024 .bf16) (v22 : Vec Ideal S1x1024 .f32) (v25 : Vec Ideal S256x1024 .f32)

/-- The row of the stream from the values read. -/
def ov (p : Fin 256) (j : Fin 1024) : EReal :=
  (v3 (ix2 p j) : EReal) + (∑ k : Fin 1024, (v4 (ix2 p k) : EReal) * (v5 (ix2 k j) : EReal) + ∑ k : Fin 1024, (v7 (ix2 p k) : EReal) * (v8 (ix2 k j) : EReal))

/-- A row of the stream. -/
theorem pay2_apply (p : Fin 256) (j : Fin 1024) : k0_pay2 v3 v4 v5 v7 v8 (ix2 p j) = ov v3 v4 v5 v7 v8 p j := by
  unfold k0_pay2 ov
  pointwise [zero32]

/-- The inverse root of the mean square of a row. -/
theorem pay3_apply (p : Fin 256) : k0_pay3 v3 v4 v5 v7 v8 (ix2 p (0 : Fin 1)) = rs (ov v3 v4 v5 v7 v8 p) := by
  unfold k0_pay3 rs
  pointwise [zero32, pay2_apply]

/-- The normalised row. -/
theorem pay4_apply (p : Fin 256) (j : Fin 1024) : k0_pay4 v3 v4 v5 v7 v8 (ix2 p j) = ov v3 v4 v5 v7 v8 p j * rs (ov v3 v4 v5 v7 v8 p) := by
  unfold k0_pay4
  pointwise [zero32, pay2_apply, pay3_apply]

/-- The difference from the target. -/
theorem pay5_apply (p : Fin 256) (j : Fin 1024) : k0_pay5 v3 v4 v5 v7 v8 v22 v25 (ix2 p j)
    = drow (ov v3 v4 v5 v7 v8 p) (fun j => v22 (ix2 (0 : Fin 1) j)) (fun j => v25 (ix2 p j)) j := by
  unfold k0_pay5 drow
  pointwise [zero32, pay4_apply]

/-- The cotangent of the difference. -/
theorem pay6_apply (p : Fin 256) (j : Fin 1024) : k0_pay6 v3 v4 v5 v7 v8 v22 v25 (ix2 p j)
    = drow (ov v3 v4 v5 v7 v8 p) (fun j => v22 (ix2 (0 : Fin 1) j)) (fun j => v25 (ix2 p j)) j * Ideal.ofBits .f32 0x3A800000#32 := by
  unfold k0_pay6
  pointwise [zero32, pay5_apply]

/-- The gradient of a row. -/
theorem pay7_apply (p : Fin 256) (j : Fin 1024) : k0_pay7 v3 v4 v5 v7 v8 v22 v25 (ix2 p j)
    = gprow (ov v3 v4 v5 v7 v8 p) (fun j => v22 (ix2 (0 : Fin 1) j)) (fun j => v25 (ix2 p j)) j := by
  unfold k0_pay7 gprow
  pointwise [zero32, pay6_apply]

/-- A row's term of the loss. -/
theorem pay8_apply (p : Fin 256) : k0_pay8 v3 v4 v5 v7 v8 v22 v25 (ix2 p (0 : Fin 1))
    = ∑ k, gprow (ov v3 v4 v5 v7 v8 p) (fun j => v22 (ix2 (0 : Fin 1) j)) (fun j => v25 (ix2 p j)) k
        * (ov v3 v4 v5 v7 v8 p k * rs (ov v3 v4 v5 v7 v8 p)) := by
  unfold k0_pay8
  pointwise [zero32, pay7_apply, pay4_apply]

end Payloads

/-- The gradient of a row, once the pieces are at hand. -/
theorem pay9_apply (a2 : Vec Ideal S256x1 .f32) (a4 a7 : Vec Ideal S256x1024 .f32) (a8 : Vec Ideal S256x1 .f32) (o g : Fin 1024 → EReal) (p : Fin 256) (j : Fin 1024)
    (e2 : a2 (ix2 p (0 : Fin 1)) = rs o) (e4 : a4 (ix2 p j) = o j * rs o) (e7 : a7 (ix2 p j) = g j) (e8 : a8 (ix2 p (0 : Fin 1)) = ∑ k, g k * (o k * rs o)) :
    k0_pay9 (F := Ideal) a2 a4 a7 a8 (Ideal.ofBits .f32 1149239296#32) (ix2 p j) = back o g j := by
  unfold k0_pay9 back
  pointwise [zero32]
  rw [e2, e4, e7, e8]

/-- The sum for the gradient of the scale. -/
theorem pay12_apply (a4 a6 : Vec Ideal S256x1024 .f32) (old : Vec Ideal S1x1024 .f32) (j : Fin 1024) :
    k0_pay12 (F := Ideal) a4 a6 old (ix2 (0 : Fin 1) j) = (old (ix2 (0 : Fin 1) j) : EReal) + ∑ p : Fin 256, (a6 (ix2 p j) : EReal) * (a4 (ix2 p j) : EReal) := by
  unfold k0_pay12
  pointwise [zero32]

/-- The sum for the loss. -/
theorem pay13_apply (a5 : Vec Ideal S256x1024 .f32) (old : Vec Ideal S1x1024 .f32) (j : Fin 1024) :
    k0_pay13 (F := Ideal) a5 old (ix2 (0 : Fin 1) j) = (old (ix2 (0 : Fin 1) j) : EReal)
      + Ideal.ofBits .f32 0x3F000000#32 * ∑ p : Fin 256, (∑ j : Fin 1024, (a5 (ix2 p j) : EReal) * (a5 (ix2 p j) : EReal)) * Ideal.ofBits .f32 0x3A800000#32 := by
  unfold k0_pay13
  pointwise [zero32]

/-- Reading row 0 or row 1 of what the two row stores leave over `g`. -/
theorem rows2 (w0 w1 : S1x1024.Idx → EReal) (g : S8x1024.Idx → EReal) (r : Fin 8) (j : Fin 1024) :
    (Rect.unit (s := S8x1024) ![1, 0] ![1, 1024] inb_S8x1024_S1x1024_1_0).overlay
      ((Rect.unit (s := S8x1024) ![0, 0] ![1, 1024] inb_S8x1024_S1x1024_0_0).overlay g w0) w1 (ix2 r j)
    = if r.val = 0 then w0 (ix2 (0 : Fin 1) j) else if r.val = 1 then w1 (ix2 (0 : Fin 1) j) else g (ix2 r j) := by
  by_cases h1 : r.val = 1
  · rw [if_neg (by omega), if_pos h1]
    have e : ix2 r j = (Rect.unit (s := S8x1024) ![1, 0] ![1, 1024] inb_S8x1024_S1x1024_1_0).emb (ix2 (0 : Fin 1) j) := by
      blk_ext []
    rw [e]
    exact Rect.overlay_emb _ _ _ _
  · have n1 : ix2 r j ∉ (Rect.unit (s := S8x1024) ![1, 0] ![1, 1024] inb_S8x1024_S1x1024_1_0).set := by
      intro h
      have := (Rect.mem_set_unit.mp h) 0
      simp at this
      omega
    rw [Rect.overlay_of_not_mem _ _ _ n1]
    by_cases h0 : r.val = 0
    · rw [if_pos h0]
      have e : ix2 r j = (Rect.unit (s := S8x1024) ![0, 0] ![1, 1024] inb_S8x1024_S1x1024_0_0).emb (ix2 (0 : Fin 1) j) := by
        blk_ext []
      rw [e]
      exact Rect.overlay_emb _ _ _ _
    · have n0 : ix2 r j ∉ (Rect.unit (s := S8x1024) ![0, 0] ![1, 1024] inb_S8x1024_S1x1024_0_0).set := by
        intro h
        have := (Rect.mem_set_unit.mp h) 0
        simp at this
        omega
      rw [Rect.overlay_of_not_mem _ _ _ n0, if_neg h0, if_neg h1]

section Outs
variable (c : Dev nD) (i : grid0.Coords) (a1 : Memref sig .tc .vmem S256x1024 .bf16) (h1 : a1.IsWhole)
    (a2 : Memref sig .tc .vmem S256x1024 .bf16) (h2 : a2.IsWhole) (a3 : Memref sig .tc .vmem S256x1024 .f32) (h3 : a3.IsWhole)
    (a4 : Memref sig .tc .vmem S256x1024 .f32) (h4 : a4.IsWhole) (a5 : Memref sig .tc .vmem S2048x1024 .bf16) (h5 : a5.IsWhole)
    (a6 : Memref sig .tc .vmem S1x1024 .f32) (h6 : a6.IsWhole) (a7 : Memref sig .tc .vmem S256x1024 .f32) (h7 : a7.IsWhole)
    (a8 : Memref sig .tc .vmem S256x1024 .bf16) (h8 : a8.IsWhole) (a9 : Memref sig .tc .vmem S256x2048 .f32) (h9 : a9.IsWhole)
    (a10 : Memref sig .tc .vmem S8x1024 .f32) (h10 : a10.IsWhole)
variable (x0 x1 : Vec Ideal S256x1024 .bf16) (x2 x3 : Vec Ideal S256x1024 .f32) (x4 : Vec Ideal S2048x1024 .bf16) (x5 : Vec Ideal S1x1024 .f32)

/-- The rows of the stream at a grid point. -/
def O (p : Fin 256) : Fin 1024 → EReal :=
  orow (fun j => x0 (ix2 p j)) (fun j => x1 (ix2 p j)) (fun j => x2 (ix2 p j)) (fun k j => x4 (ix2 k j))

/-- The gradients of those rows. -/
def DO (p : Fin 256) : Fin 1024 → EReal :=
  dorow (O x0 x1 x2 x4 p) (fun j => x5 (ix2 (0 : Fin 1) j)) (fun j => x3 (ix2 p j))

/-- What a grid point adds to the sums: the gradient of the final norm's scale in row 0, the loss in row 1. -/
def stat (r : Fin 8) (j : Fin 1024) : EReal :=
  if r.val = 0 then ∑ p : Fin 256, drow (O x0 x1 x2 x4 p) (fun j => x5 (ix2 (0 : Fin 1) j)) (fun j => x3 (ix2 p j)) j * Ideal.ofBits .f32 0x3A800000#32
      * (O x0 x1 x2 x4 p j * rs (O x0 x1 x2 x4 p))
  else if r.val = 1 then Ideal.ofBits .f32 0x3F000000#32 * ∑ p : Fin 256,
      (∑ j : Fin 1024, drow (O x0 x1 x2 x4 p) (fun j => x5 (ix2 (0 : Fin 1) j)) (fun j => x3 (ix2 p j)) j
        * drow (O x0 x1 x2 x4 p) (fun j => x5 (ix2 (0 : Fin 1) j)) (fun j => x3 (ix2 p j)) j) * Ideal.ofBits .f32 0x3A800000#32
  else 0

/-- The three blocks a point stores, and the block of sums, by index. -/
def DOy (y : S256x1024.Idx) : EReal := DO x0 x1 x2 x3 x4 x5 (y 0) (y 1)
/-- The gradient carried through the projection, at an index of the block. -/
def DYy (y : S256x2048.Idx) : EReal := ∑ k : Fin 1024, DO x0 x1 x2 x3 x4 x5 (y 0) k * (x4 (ix2 (y 1) k) : EReal)
/-- A point's contribution to the sums, at an index of the block. -/
def STy (y : S8x1024.Idx) : EReal := stat x0 x1 x2 x3 x4 x5 (y 0) (y 1)

/-- The rows of the stream from the two halves of the weight. -/
theorem ov_ld (p : Fin 256) : ov x2 x0 (View.ld x4 (Rect.unit (s := S2048x1024) ![0, 0] ![1024, 1024] inb_S2048x1024_S1024x1024_0_0)) x1
    (View.ld x4 (Rect.unit (s := S2048x1024) ![1024, 0] ![1024, 1024] inb_S2048x1024_S1024x1024_1024_0)) p = O x0 x1 x2 x4 p := by
  funext j
  unfold ov O orow
  congr 1
  congr 1
  · refine Finset.sum_congr rfl fun k _ => ?_
    refine congrArg (_ * ·) (congrArg x4 (show (Rect.unit (s := S2048x1024) ![0, 0] ![1024, 1024] inb_S2048x1024_S1024x1024_0_0).emb (ix2 k j) = _ from ?_))
    blk_ext []
  · refine Finset.sum_congr rfl fun k _ => ?_
    refine congrArg (_ * ·) (congrArg x4 (show (Rect.unit (s := S2048x1024) ![1024, 0] ![1024, 1024] inb_S2048x1024_S1024x1024_1024_0).emb (ix2 k j) = _ from ?_))
    blk_ext []

/-- The gradient's row from the payloads. -/
theorem do_val (p : Fin 256) (j : Fin 1024) (w0 w1 : Vec Ideal S1024x1024 .bf16) (hw : ∀ p, ov x2 x0 w0 x1 w1 p = O x0 x1 x2 x4 p) :
    k0_pay9 (F := Ideal) (k0_pay3 x2 x0 w0 x1 w1) (k0_pay4 x2 x0 w0 x1 w1) (k0_pay7 x2 x0 w0 x1 w1 x5 x3) (k0_pay8 x2 x0 w0 x1 w1 x5 x3)
      (Ideal.ofBits .f32 1149239296#32) (ix2 p j) = DO x0 x1 x2 x3 x4 x5 p j := by
  unfold DO dorow
  refine pay9_apply _ _ _ _ _ _ p j ?_ ?_ ?_ ?_
  · rw [pay3_apply, hw]
  · rw [pay4_apply, hw]
  · rw [pay7_apply, hw]
  · rw [pay8_apply, hw]

/-- The rounded gradient's row. -/
theorem dob_val (p : Fin 256) (j : Fin 1024) (w0 w1 : Vec Ideal S1024x1024 .bf16) (hw : ∀ p, ov x2 x0 w0 x1 w1 p = O x0 x1 x2 x4 p) :
    k0_pay10 (F := Ideal) (k0_pay3 x2 x0 w0 x1 w1) (k0_pay4 x2 x0 w0 x1 w1) (k0_pay7 x2 x0 w0 x1 w1 x5 x3) (k0_pay8 x2 x0 w0 x1 w1 x5 x3)
      (Ideal.ofBits .f32 1149239296#32) (ix2 p j) = DO x0 x1 x2 x3 x4 x5 p j := by
  unfold k0_pay10
  pointwise [do_val x0 x1 x2 x3 x4 x5 p j w0 w1 hw]

/-- The gradient carried through the projection. -/
theorem dy_val (p : Fin 256) (j : Fin 2048) (w0 w1 : Vec Ideal S1024x1024 .bf16) (hw : ∀ p, ov x2 x0 w0 x1 w1 p = O x0 x1 x2 x4 p) :
    k0_pay11 (F := Ideal) (k0_pay3 x2 x0 w0 x1 w1) (k0_pay4 x2 x0 w0 x1 w1) (k0_pay7 x2 x0 w0 x1 w1 x5 x3) (k0_pay8 x2 x0 w0 x1 w1 x5 x3)
      (Ideal.ofBits .f32 1149239296#32) x4 (ix2 p j) = ∑ k : Fin 1024, DO x0 x1 x2 x3 x4 x5 p k * (x4 (ix2 j k) : EReal) := by
  unfold k0_pay11
  pointwise [zero32]
  refine Finset.sum_congr rfl fun k _ => ?_
  rw [dob_val x0 x1 x2 x3 x4 x5 p k w0 w1 hw]

/-- Row 0 of what a point leaves in the sums, over what was there. -/
theorem row0_val (j : Fin 1024) (w0 w1 : Vec Ideal S1024x1024 .bf16) (hw : ∀ p, ov x2 x0 w0 x1 w1 p = O x0 x1 x2 x4 p) (old : Vec Ideal S1x1024 .f32) :
    k0_pay12 (F := Ideal) (k0_pay4 x2 x0 w0 x1 w1) (k0_pay6 x2 x0 w0 x1 w1 x5 x3) old (ix2 (0 : Fin 1) j)
      = (old (ix2 (0 : Fin 1) j) : EReal) + stat x0 x1 x2 x3 x4 x5 0 j := by
  rw [pay12_apply]
  unfold stat
  rw [if_pos (by rfl)]
  congr 1
  refine Finset.sum_congr rfl fun p _ => ?_
  rw [pay6_apply, pay4_apply, hw]

/-- Row 1 likewise. -/
theorem row1_val (j : Fin 1024) (w0 w1 : Vec Ideal S1024x1024 .bf16) (hw : ∀ p, ov x2 x0 w0 x1 w1 p = O x0 x1 x2 x4 p) (old : Vec Ideal S1x1024 .f32) :
    k0_pay13 (F := Ideal) (k0_pay5 x2 x0 w0 x1 w1 x5 x3) old (ix2 (0 : Fin 1) j)
      = (old (ix2 (0 : Fin 1) j) : EReal) + stat x0 x1 x2 x3 x4 x5 1 j := by
  rw [pay13_apply]
  unfold stat
  rw [if_neg (by decide), if_pos (by rfl)]
  congr 2
  refine Finset.sum_congr rfl fun p _ => ?_
  congr 1
  refine Finset.sum_congr rfl fun j _ => ?_
  rw [pay5_apply, hw]

/-- Output 6 of a point. -/
theorem out_A6 (hc0 : cond0_0 i) (y : S256x1024.Idx) : out0_A_6 (F := Ideal) c i a1 h1 a2 h2 a3 h3 a4 h4 a5 h5 a6 h6 a7 h7 a8 h8 a9 h9 a10 h10 hc0 x0 x1 x2 x3 x4 x5 y
    = DOy x0 x1 x2 x3 x4 x5 y := by
  frame_out
  unfold DOy
  idx_vars y
  exact do_val x0 x1 x2 x3 x4 x5 _ _ _ _ (ov_ld x0 x1 x2 x4)

/-- Output 7 of a point. -/
theorem out_A7 (hc0 : cond0_0 i) (y : S256x1024.Idx) : out0_A_7 (F := Ideal) c i a1 h1 a2 h2 a3 h3 a4 h4 a5 h5 a6 h6 a7 h7 a8 h8 a9 h9 a10 h10 hc0 x0 x1 x2 x3 x4 x5 y
    = DOy x0 x1 x2 x3 x4 x5 y := by
  frame_out
  unfold DOy
  idx_vars y
  exact dob_val x0 x1 x2 x3 x4 x5 _ _ _ _ (ov_ld x0 x1 x2 x4)

/-- Output 8 of a point. -/
theorem out_A8 (hc0 : cond0_0 i) (y : S256x2048.Idx) : out0_A_8 (F := Ideal) c i a1 h1 a2 h2 a3 h3 a4 h4 a5 h5 a6 h6 a7 h7 a8 h8 a9 h9 a10 h10 hc0 x0 x1 x2 x3 x4 x5 y
    = DYy x0 x1 x2 x3 x4 x5 y := by
  frame_out
  unfold DYy
  idx_vars y
  exact dy_val x0 x1 x2 x3 x4 x5 _ _ _ _ (ov_ld x0 x1 x2 x4)

/-- Output 6 of a point. -/
theorem out_B6 (hc0 : ¬cond0_0 i) (xo : Vec Ideal S8x1024 .f32) (y : S256x1024.Idx) : out0_B_6 (F := Ideal) c i a1 h1 a2 h2 a3 h3 a4 h4 a5 h5 a6 h6 a7 h7 a8 h8 a9 h9 a10 h10 hc0 x0 x1 x2 x3 x4 x5 xo y
    = DOy x0 x1 x2 x3 x4 x5 y := by
  frame_out
  unfold DOy
  idx_vars y
  exact do_val x0 x1 x2 x3 x4 x5 _ _ _ _ (ov_ld x0 x1 x2 x4)

/-- Output 7 of a point. -/
theorem out_B7 (hc0 : ¬cond0_0 i) (xo : Vec Ideal S8x1024 .f32) (y : S256x1024.Idx) : out0_B_7 (F := Ideal) c i a1 h1 a2 h2 a3 h3 a4 h4 a5 h5 a6 h6 a7 h7 a8 h8 a9 h9 a10 h10 hc0 x0 x1 x2 x3 x4 x5 xo y
    = DOy x0 x1 x2 x3 x4 x5 y := by
  frame_out
  unfold DOy
  idx_vars y
  exact dob_val x0 x1 x2 x3 x4 x5 _ _ _ _ (ov_ld x0 x1 x2 x4)

/-- Output 8 of a point. -/
theorem out_B8 (hc0 : ¬cond0_0 i) (xo : Vec Ideal S8x1024 .f32) (y : S256x2048.Idx) : out0_B_8 (F := Ideal) c i a1 h1 a2 h2 a3 h3 a4 h4 a5 h5 a6 h6 a7 h7 a8 h8 a9 h9 a10 h10 hc0 x0 x1 x2 x3 x4 x5 xo y
    = DYy x0 x1 x2 x3 x4 x5 y := by
  frame_out
  unfold DYy
  idx_vars y
  exact dy_val x0 x1 x2 x3 x4 x5 _ _ _ _ (ov_ld x0 x1 x2 x4)

/-- The sums a first point leaves. -/
theorem out_A9 (hc0 : cond0_0 i) (y : S8x1024.Idx) : out0_A_9 (F := Ideal) c i a1 h1 a2 h2 a3 h3 a4 h4 a5 h5 a6 h6 a7 h7 a8 h8 a9 h9 a10 h10 hc0 x0 x1 x2 x3 x4 x5 y
    = STy x0 x1 x2 x3 x4 x5 y := by
  frame_out
  unfold STy
  idx_vars y
  rw [View.canon_cons, View.canon_cons]
  refine (rows2 _ _ _ _ _).trans ?_
  dsimp only
  have e : ∀ r : Rect S8x1024, a10.view.readCov (Val := Elt Ideal) [⟨Rect.unit (s := S8x1024) ![0, 0] ![8, 1024] inb_S8x1024_S8x1024_0_0,
        k0_pay1 (F := Ideal)⟩] r.toLoadRect = View.ld (k0_pay1 (F := Ideal)) r := fun r => View.readCov_fill (s := S8x1024) (off := ![0, 0]) _ _ _ _ _ (by decide)
  rw [row0_val x0 x1 x2 x3 x4 x5 _ _ _ (ov_ld x0 x1 x2 x4), row1_val x0 x1 x2 x3 x4 x5 _ _ _ (ov_ld x0 x1 x2 x4),
    e, View.readCov_skip _ _ _ _ _ (by decide), e]
  have hz : ∀ y, (k0_pay1 (F := Ideal)) y = (0 : EReal) := fun y => by
    unfold k0_pay1
    pointwise [zero32]
  have hc : View.canon (Val := Elt Ideal) (e := .f32) [⟨Rect.unit (s := S8x1024) ![0, 0] ![8, 1024] inb_S8x1024_S8x1024_0_0, k0_pay1 (F := Ideal)⟩] = k0_pay1 (F := Ideal) :=
    View.canon_cons_unit_lit (S := S8x1024) (off := ![0, 0]) _ _ _ (by decide)
  rw [hc, hz]
  split
  · rename_i h
    rw [show y0 = 0 from Fin.ext h]
    unfold View.ld
    rw [hz, zero_add]
  · split
    · rename_i h
      rw [show y0 = 1 from Fin.ext h]
      unfold View.ld
      rw [hz, zero_add]
    · unfold stat
      rw [if_neg ‹_›, if_neg ‹_›]

/-- The sums a later point leaves. -/
theorem out_B9 (hc0 : ¬cond0_0 i) (xo : Vec Ideal S8x1024 .f32) (y : S8x1024.Idx) : out0_B_9 (F := Ideal) c i a1 h1 a2 h2 a3 h3 a4 h4 a5 h5 a6 h6 a7 h7 a8 h8 a9 h9 a10 h10 hc0 x0 x1 x2 x3 x4 x5 xo y
    = (xo y : EReal) + STy x0 x1 x2 x3 x4 x5 y := by
  frame_out
  unfold STy
  idx_vars y
  rw [read_writes_over, List.foldr_cons, List.foldr_cons, List.foldr_nil, h10.read_unread]
  refine (rows2 _ _ _ _ _).trans ?_
  dsimp only
  rw [row0_val x0 x1 x2 x3 x4 x5 _ _ _ (ov_ld x0 x1 x2 x4), row1_val x0 x1 x2 x3 x4 x5 _ _ _ (ov_ld x0 x1 x2 x4)]
  split
  · rename_i h
    rw [show y0 = 0 from Fin.ext h]
    congr 1
    refine congrArg xo (show (Rect.unit (s := S8x1024) ![0, 0] ![1, 1024] inb_S8x1024_S1x1024_0_0).emb (ix2 (0 : Fin 1) y1) = _ from ?_)
    blk_ext []
  · split
    · rename_i h
      rw [show y0 = 1 from Fin.ext h]
      congr 1
      refine congrArg xo (show (Rect.unit (s := S8x1024) ![1, 0] ![1, 1024] inb_S8x1024_S1x1024_1_0).emb (ix2 (0 : Fin 1) y1) = _ from ?_)
      blk_ext []
    · unfold stat
      rw [if_neg ‹_›, if_neg ‹_›, add_zero]

end Outs

/-- The index maps of the windows. -/
theorem idx : ∀ t : Fin grid0.N, win0_0.index t = ![t.val, 0] ∧ win0_1.index t = ![t.val, 0] ∧ win0_2.index t = ![t.val, 0]
    ∧ win0_3.index t = ![t.val, 0] ∧ win0_4.index t = ![0, 0] ∧ win0_5.index t = ![0, 0] ∧ win0_6.index t = ![t.val, 0]
    ∧ win0_7.index t = ![t.val, 0] ∧ win0_8.index t = ![t.val, 0] ∧ win0_9.index t = ![0, 0] := by decide +kernel

end Cert.Kernel2Ideal.Hand

end
-- ==== Proof.V2F.lean ====
/- The out projection with the loss and its gradient back through the final norm: what the kernel's results end at. -/
module

public import proofs.«01_k».proof.Defs
public import proofs.«01_k».proof.Proof.Norm
public import proofs.«01_k».proof.Proof.V2
public import proofs.«01_k».proof.Proof.Gen.Kernel2.Frame
public import proofs.«01_k».proof.Proof.Gen.Kernel2Ideal.Value
public import proofs.«01_k».proof.Proof.Gen.Reference2Ideal.Run
public import proofs.«01_k».proof.Proof.Gen.Reference2Ideal.Read
public import Idealize.ShloMosaic.Lib.Pipeline.ValueKit
public import Idealize.ShloMosaic.Lib.Pipeline.ReadBack
public import Idealize.ShloMosaic.Lib.Pointwise
public import Idealize.ShloMosaic.Lib.Tactic
public import Idealize.ShloMosaic.Lib.Quiescent

@[expose] public section

set_option maxRecDepth 16384

noncomputable section

open Idealize.ShloMosaic Idealize.ShloMosaic.TcCoe Idealize.SL.Sem
open Idealize.ShloMosaic.Pipeline (Dat)

namespace Cert.Kernel2Ideal.Hand

open Cert.Kernel2Ideal Cert.Kernel2Ideal.Gen Cert.Norm

section Finals
variable (m : (ℓ : Loc nD τ sig) → Buf (Elt Ideal) ℓ)

/-- The rows of the stream, over the whole sequence. -/
def OA (a0 a1 : Vec Ideal S4096x1024 .bf16) (a2 : Vec Ideal S4096x1024 .f32) (a4 : Vec Ideal S2048x1024 .bf16) (p : Fin 4096) : Fin 1024 → EReal :=
  orow (fun j => a0 (ix2 p j)) (fun j => a1 (ix2 p j)) (fun j => a2 (ix2 p j)) (fun k j => a4 (ix2 k j))

/-- The rows' differences from the target. -/
def DA (a0 a1 : Vec Ideal S4096x1024 .bf16) (a2 a3 : Vec Ideal S4096x1024 .f32) (a4 : Vec Ideal S2048x1024 .bf16) (a5 : Vec Ideal S1x1024 .f32) (p : Fin 4096) : Fin 1024 → EReal :=
  drow (OA a0 a1 a2 a4 p) (fun j => a5 (ix2 (0 : Fin 1) j)) (fun j => a3 (ix2 p j))

/-- The gradients of the rows. -/
def GA (a0 a1 : Vec Ideal S4096x1024 .bf16) (a2 a3 : Vec Ideal S4096x1024 .f32) (a4 : Vec Ideal S2048x1024 .bf16) (a5 : Vec Ideal S1x1024 .f32) (p : Fin 4096) : Fin 1024 → EReal :=
  dorow (OA a0 a1 a2 a4 p) (fun j => a5 (ix2 (0 : Fin 1) j)) (fun j => a3 (ix2 p j))

/-- The sums over the whole sequence. -/
def SA (a0 a1 : Vec Ideal S4096x1024 .bf16) (a2 a3 : Vec Ideal S4096x1024 .f32) (a4 : Vec Ideal S2048x1024 .bf16) (a5 : Vec Ideal S1x1024 .f32) (r : Fin 8) (j : Fin 1024) : EReal :=
  if r.val = 0 then ∑ p : Fin 4096, DA a0 a1 a2 a3 a4 a5 p j * Ideal.ofBits .f32 0x3A800000#32 * (OA a0 a1 a2 a4 p j * rs (OA a0 a1 a2 a4 p))
  else if r.val = 1 then Ideal.ofBits .f32 0x3F000000#32 * ∑ p : Fin 4096, (∑ j : Fin 1024, DA a0 a1 a2 a3 a4 a5 p j * DA a0 a1 a2 a3 a4 a5 p j) * Ideal.ofBits .f32 0x3A800000#32
  else 0

/-- The blocks of window 6 fill its array. -/
theorem cov6 : (cfg0.win 6).Covers := by decide +kernel

/-- The blocks of window 7 fill its array. -/
theorem cov7 : (cfg0.win 7).Covers := by decide +kernel

/-- The blocks of window 8 fill its array. -/
theorem cov8 : (cfg0.win 8).Covers := by decide +kernel

/-- The blocks of window 9 fill its array. -/
theorem cov9 : (cfg0.win 9).Covers := by decide +kernel

variable (c : Dev nD)

/-- A point's rows of the stream are rows of the whole. -/
theorem O_blk (t : Fin grid0.N) (p : Fin 256) (P : Fin 4096) (h : P.val = 256 * t.val + p.val) :
    O (iblk m c 0 t) (iblk m c 1 t) (iblk m c 2 t) (iblk m c 4 t) p = OA (m ((c : Thread nD τ).loc main_arg0)) (m ((c : Thread nD τ).loc main_arg1)) (m ((c : Thread nD τ).loc main_arg2)) (m ((c : Thread nD τ).loc main_arg4)) P := by
  unfold O OA
  congr 1
  · funext j
    blk_ext [iblk, V, idx _]
  · funext j
    blk_ext [iblk, V, idx _]
  · funext j
    blk_ext [iblk, V, idx _]
  · funext k j
    blk_ext [iblk, V, idx _]

/-- The final norm's scale as a point sees it. -/
theorem g_blk (t : Fin grid0.N) : (fun j => iblk m c 5 t (ix2 (0 : Fin 1) j)) = fun j : Fin 1024 => (m ((c : Thread nD τ).loc main_arg5)) (ix2 (0 : Fin 1) j) := by
  funext j
  blk_ext [iblk, V, idx _]

/-- A point's rows of the target. -/
theorem t_blk (t : Fin grid0.N) (p : Fin 256) (P : Fin 4096) (h : P.val = 256 * t.val + p.val) :
    (fun j => iblk m c 3 t (ix2 p j)) = fun j : Fin 1024 => (m ((c : Thread nD τ).loc main_arg3)) (ix2 P j) := by
  funext j
  blk_ext [iblk, V, idx _]

/-- A point's rows of the gradient are rows of the whole. -/
theorem DO_blk (t : Fin grid0.N) (p : Fin 256) (P : Fin 4096) (h : P.val = 256 * t.val + p.val) :
    DO (iblk m c 0 t) (iblk m c 1 t) (iblk m c 2 t) (iblk m c 3 t) (iblk m c 4 t) (iblk m c 5 t) p = GA (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) P := by
  unfold DO GA
  rw [O_blk m c t p P h, g_blk, t_blk m c t p P h]

/-- Row `p` of block `t`. -/
def pos (t : Fin grid0.N) (p : Fin 256) : Fin 4096 := ⟨256 * t.val + p.val, by
  have h : t.val < 16 := lt_of_lt_of_eq t.isLt (by decide)
  omega⟩

/-- Rows by block number. -/
theorem pos_eq (t : Fin grid0.N) (n : ℕ) (p : Fin 256) (h : t.val = n) (hl : n * 256 + p.val < 4096) : pos t p = ⟨n * 256 + p.val, hl⟩ := by
  subst h
  refine Fin.ext ?_
  unfold pos
  dsimp only
  rw [Nat.mul_comm]

/-- The weight as a point sees it. -/
theorem w_blk (t : Fin grid0.N) (j : Fin 2048) (k : Fin 1024) : iblk m c 4 t (ix2 j k) = (m ((c : Thread nD τ).loc main_arg4)) (ix2 j k) := by
  blk_ext [iblk, V, idx _]

/-- The first output ends at the gradient of the stream. -/
theorem final6 : (dats (F := Ideal) m 0 c).arrAt 6 cfg0.N = fun j => GA (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (j 0) (j 1) := by
  refine (dats m 0 c).arrAt_eq_of_covers 6 _ cov6 fun t hf y => ?_
  blk_simp
  rw [after0_6]
  have e0 : (((win0_6.blk t).view.emb y) 0) = pos t (y 0) := by
    have h : (((win0_6.blk t).view.emb y) 0).val = t.val * 256 + (y 0).val := by blk_point [idx t]
    exact Fin.ext (h.trans (by rw [Nat.mul_comm]; rfl))
  have e1 : (((win0_6.blk t).view.emb y) 1) = y 1 := by
    apply Fin.ext
    blk_point [idx t]
  rw [e0, e1, ← DO_blk m c t (y 0) _ rfl]
  refine Eq.trans ?_ (show DOy (iblk m c 0 t) (iblk m c 1 t) (iblk m c 2 t) (iblk m c 3 t) (iblk m c 4 t) (iblk m c 5 t) y = _ from rfl)
  by_cases h : t.val % 16 = 0
  · rw [outsAt0_A m c t h]
    dsimp only
    rw [out_A6]
  · rw [outsAt0_B m c t h]
    dsimp only
    rw [out_B6]

/-- The second to the same, rounded. -/
theorem final7 : (dats (F := Ideal) m 0 c).arrAt 7 cfg0.N = fun j => GA (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (j 0) (j 1) := by
  refine (dats m 0 c).arrAt_eq_of_covers 7 _ cov7 fun t hf y => ?_
  blk_simp
  rw [after0_7]
  have e0 : (((win0_7.blk t).view.emb y) 0) = pos t (y 0) := by
    have h : (((win0_7.blk t).view.emb y) 0).val = t.val * 256 + (y 0).val := by blk_point [idx t]
    exact Fin.ext (h.trans (by rw [Nat.mul_comm]; rfl))
  have e1 : (((win0_7.blk t).view.emb y) 1) = y 1 := by
    apply Fin.ext
    blk_point [idx t]
  rw [e0, e1, ← DO_blk m c t (y 0) _ rfl]
  refine Eq.trans ?_ (show DOy (iblk m c 0 t) (iblk m c 1 t) (iblk m c 2 t) (iblk m c 3 t) (iblk m c 4 t) (iblk m c 5 t) y = _ from rfl)
  by_cases h : t.val % 16 = 0
  · rw [outsAt0_A m c t h]
    dsimp only
    rw [out_A7]
  · rw [outsAt0_B m c t h]
    dsimp only
    rw [out_B7]

/-- The third to the gradient carried through the projection. -/
theorem final8 : (dats (F := Ideal) m 0 c).arrAt 8 cfg0.N = fun j => ∑ k : Fin 1024, GA (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (j 0) k * ((m ((c : Thread nD τ).loc main_arg4)) (ix2 (j 1) k) : EReal) := by
  refine (dats m 0 c).arrAt_eq_of_covers 8 _ cov8 fun t hf y => ?_
  blk_simp
  rw [after0_8]
  have e0 : (((win0_8.blk t).view.emb y) 0) = pos t (y 0) := by
    have h : (((win0_8.blk t).view.emb y) 0).val = t.val * 256 + (y 0).val := by blk_point [idx t]
    exact Fin.ext (h.trans (by rw [Nat.mul_comm]; rfl))
  have e1 : (((win0_8.blk t).view.emb y) 1) = y 1 := by
    apply Fin.ext
    blk_point [idx t]
  rw [e0, e1, ← DO_blk m c t (y 0) _ rfl]
  refine Eq.trans ?_ (show DYy (iblk m c 0 t) (iblk m c 1 t) (iblk m c 2 t) (iblk m c 3 t) (iblk m c 4 t) (iblk m c 5 t) y = _ from by
    unfold DYy
    refine Finset.sum_congr rfl fun k _ => ?_
    exact congrArg (_ * ·) (w_blk m c t (y 1) k))
  by_cases h : t.val % 16 = 0
  · rw [outsAt0_A m c t h]
    dsimp only
    rw [out_A8]
  · rw [outsAt0_B m c t h]
    dsimp only
    rw [out_B8]

/-- A point's contribution to the sums, in rows of the whole. -/
theorem stat_blk (t : Fin grid0.N) (r : Fin 8) (j : Fin 1024) :
    stat (iblk m c 0 t) (iblk m c 1 t) (iblk m c 2 t) (iblk m c 3 t) (iblk m c 4 t) (iblk m c 5 t) r j
    = if r.val = 0 then ∑ p : Fin 256, DA (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (pos t p) j * Ideal.ofBits .f32 0x3A800000#32 * (OA (m ((c : Thread nD τ).loc main_arg0)) (m ((c : Thread nD τ).loc main_arg1)) (m ((c : Thread nD τ).loc main_arg2)) (m ((c : Thread nD τ).loc main_arg4)) (pos t p) j * rs (OA (m ((c : Thread nD τ).loc main_arg0)) (m ((c : Thread nD τ).loc main_arg1)) (m ((c : Thread nD τ).loc main_arg2)) (m ((c : Thread nD τ).loc main_arg4)) (pos t p)))
      else if r.val = 1 then Ideal.ofBits .f32 0x3F000000#32 * ∑ p : Fin 256, (∑ j : Fin 1024, DA (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (pos t p) j * DA (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (pos t p) j) * Ideal.ofBits .f32 0x3A800000#32
      else 0 := by
  unfold stat DA
  simp only [O_blk m c t _ _ (rfl : (pos t _).val = _), g_blk, t_blk m c t _ _ (rfl : (pos t _).val = _)]

/-- The points' contributions add up to the sums over the whole sequence. -/
theorem sum_stat (f : Fin 16 → Fin grid0.N) (hf : ∀ s, (f s).val = s.val) (r : Fin 8) (j : Fin 1024) :
    ∑ s : Fin 16, stat (iblk m c 0 (f s)) (iblk m c 1 (f s)) (iblk m c 2 (f s)) (iblk m c 3 (f s)) (iblk m c 4 (f s)) (iblk m c 5 (f s)) r j
    = SA (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) r j := by
  simp only [stat_blk]
  unfold SA
  have e : ∀ (s : Fin 16) (k : Fin 256) (hl : s.val * 256 + k.val < 4096), pos (f s) k = ⟨s.val * 256 + k.val, hl⟩ := fun s k hl =>
    pos_eq (f s) s.val k (hf s) hl
  split
  · refine Fin.sum_mul_add_congr (S := 16) (n := 256) fun s k hl => ?_
    rw [e s k hl]
  · split
    · rw [← Norm.mul_sum _ _ (by rw [khalf]; exact_mod_cast (by norm_num : (0 : ℝ) ≤ 1 / 2)) (by rw [khalf]; exact EReal.coe_ne_top _)]
      refine congrArg (Ideal.ofBits .f32 0x3F000000#32 * ·) ?_
      refine Fin.sum_mul_add_congr (S := 16) (n := 256) fun s k hl => ?_
      rw [e s k hl]
    · exact Finset.sum_const_zero

/-- The sums. -/
theorem final9 : (dats (F := Ideal) m 0 c).arrAt 9 cfg0.N = fun j => SA (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (j 0) (j 1) := by
  refine (dats m 0 c).arrAt_eq_of_covers 9 _ cov9 fun t hf y => ?_
  have hr : t.val % 16 = 16 - 1 := (flush0_9 t).mp hf
  blk_simp
  rw [after0_9]
  rw [Pipeline.eq_sum_fin_of_reset_step_apply_of_flush (fun n h => (outsAt0 m c n h).2.2.2) 16 (fun _ => (0 : EReal))
    (fun t y => STy (iblk m c 0 t) (iblk m c 1 t) (iblk m c 2 t) (iblk m c 3 t) (iblk m c 4 t) (iblk m c 5 t) y)
    (fun t h j => by rw [outsAt0_A m c t h]; dsimp only; rw [out_A9, zero_add])
    (fun t h j => by rw [outsAt0_B m c t (by omega)]; dsimp only; rw [out_B9]) t hr _]
  rw [zero_add]
  have ht : t.val / 16 = 0 := by
    have h : t.val < 16 := lt_of_lt_of_eq t.isLt (by decide)
    omega
  have e0 : (((win0_9.blk t).view.emb y) 0) = y 0 := by
    apply Fin.ext
    blk_point [idx t]
  have e1 : (((win0_9.blk t).view.emb y) 1) = y 1 := by
    apply Fin.ext
    blk_point [idx t]
  rw [e0, e1]
  have hN : ∀ s : Fin 16, 16 * (t.val / 16) + s.val < grid0.N := fun s => lt_of_lt_of_eq (by omega) (by decide : 16 = grid0.N)
  have hf : ∀ s : Fin 16, 16 * (t.val / 16) + s.val = s.val := fun s => by omega
  exact sum_stat m c (fun s => ⟨16 * (t.val / 16) + s.val, hN s⟩) hf (y 0) (y 1)

end Finals

end Cert.Kernel2Ideal.Hand

end
-- ==== Proof.V2R.lean ====
/- The out projection with the loss and its gradient back through the final norm: the reference read element by element, and the claims. -/
module

public import proofs.«01_k».proof.Defs
public import proofs.«01_k».proof.Proof.Norm
public import proofs.«01_k».proof.Proof.V2
public import proofs.«01_k».proof.Proof.V2F
public import proofs.«01_k».proof.Proof.Gen.Kernel2.Frame
public import proofs.«01_k».proof.Proof.Gen.Kernel2Ideal.Value
public import proofs.«01_k».proof.Proof.Gen.Reference2Ideal.Run
public import proofs.«01_k».proof.Proof.Gen.Reference2Ideal.Read
public import Idealize.ShloMosaic.Lib.Pipeline.ValueKit
public import Idealize.ShloMosaic.Lib.Pipeline.ReadBack
public import Idealize.ShloMosaic.Lib.Pointwise
public import Idealize.ShloMosaic.Lib.Tactic
public import Idealize.ShloMosaic.Lib.Quiescent

@[expose] public section

set_option maxRecDepth 16384

noncomputable section

open Idealize.ShloMosaic Idealize.ShloMosaic.TcCoe Idealize.SL.Sem
open Idealize.ShloMosaic.Pipeline (Dat)

namespace Cert.Proof.C2

open Cert.Norm Cert.Kernel2Ideal.Hand Cert.Reference2Ideal.Read Cert.Reference2Ideal

section Ref
variable (x0 x1 : Vec Ideal S4096x1024 .bf16) (x2 x3 : Vec Ideal S4096x1024 .f32) (x4 : Vec Ideal S2048x1024 .bf16) (x5 : Vec Ideal S1x1024 .f32)

/-- The stream. -/
theorem v6_apply (p : Fin 4096) (j : Fin 1024) : val_main_v6 (F := Ideal) x0 x1 x2 x4 (ix2 p j) = OA x0 x1 x2 x4 p j := by
  unfold val_main_v6 val_main_v5 val_main_v4 val_main_v2 val_main_v1 val_main_v0 OA orow
  pointwise [zero32]

/-- The mean square and the guard. -/
theorem v13_apply (p : Fin 4096) : val_main_v13 (F := Ideal) x0 x1 x2 x4 (ix2 p (0 : Fin 1)) = Ideal.div (∑ k, OA x0 x1 x2 x4 p k * OA x0 x1 x2 x4 p k) (Ideal.ofBits .f32 0x44800000#32) + Ideal.ofBits .f32 0x358637BD#32 := by
  unfold val_main_v13 val_main_v12 val_main_v11 val_main_v10 val_main_v9 val_main_v8 val_main_v7 val_main_cst_1 val_main_cst_0 val_main_cst
  pointwise [zero32, v6_apply]

/-- Its inverse root. -/
theorem v14_apply (p : Fin 4096) : val_main_v14 (F := Ideal) x0 x1 x2 x4 (ix2 p (0 : Fin 1)) = rs (OA x0 x1 x2 x4 p) := by
  unfold val_main_v14 rs
  pointwise [zero32, v13_apply]

/-- Half the derivative of the root. -/
theorem v17_apply (p : Fin 4096) : val_main_v17 (F := Ideal) x0 x1 x2 x4 (ix2 p (0 : Fin 1)) = Ideal.ofBits .f32 0xBF000000#32 * Ideal.div (rs (OA x0 x1 x2 x4 p)) (Ideal.div (∑ k, OA x0 x1 x2 x4 p k * OA x0 x1 x2 x4 p k) (Ideal.ofBits .f32 0x44800000#32) + Ideal.ofBits .f32 0x358637BD#32) := by
  unfold val_main_v17 val_main_v16 val_main_v15 val_main_cst_2
  pointwise [zero32, v13_apply, v14_apply]

/-- The normalised stream. -/
theorem v19_apply (p : Fin 4096) (j : Fin 1024) : val_main_v19 (F := Ideal) x0 x1 x2 x4 (ix2 p j) = OA x0 x1 x2 x4 p j * rs (OA x0 x1 x2 x4 p) := by
  unfold val_main_v19 val_main_v18
  pointwise [zero32, v6_apply, v14_apply]

/-- The scale. -/
theorem v20_apply (j : Fin 1024) : val_main_v20 (F := Ideal) x5 (ix2 (0 : Fin 1) j) = x5 (ix2 (0 : Fin 1) j) := by
  unfold val_main_v20 val_main_v3
  pointwise [zero32]

/-- The difference from the target. -/
theorem v23_apply (p : Fin 4096) (j : Fin 1024) : val_main_v23 (F := Ideal) x0 x1 x2 x3 x4 x5 (ix2 p j) = DA x0 x1 x2 x3 x4 x5 p j := by
  unfold val_main_v23 val_main_v22 val_main_v21 DA drow
  pointwise [zero32, v19_apply, v20_apply]

/-- The cotangent of the difference. -/
theorem v37_apply (p : Fin 4096) (j : Fin 1024) : val_main_v37 (F := Ideal) x0 x1 x2 x3 x4 x5 (ix2 p j) = DA x0 x1 x2 x3 x4 x5 p j * Ideal.ofBits .f32 0x3A800000#32 := by
  unfold val_main_v37 val_main_v36 val_main_v35 val_main_v34 val_main_v33 val_main_v32 val_main_v26 val_main_v25 val_main_cst_10 val_main_cst_9 val_main_cst_8 val_main_cst_3
  pointwise [v23_apply]
  rw [khalf, div1024, ktwo, kinv]
  generalize DA x0 x1 x2 x3 x4 x5 p j = d
  rw [← mul_assoc, ← EReal.coe_mul, ← EReal.coe_mul, mul_comm]
  norm_num

/-- The cotangent of the normalised stream. -/
theorem v42_apply (p : Fin 4096) (j : Fin 1024) : val_main_v42 (F := Ideal) x0 x1 x2 x3 x4 x5 (ix2 p j) = gprow (OA x0 x1 x2 x4 p) (fun j => x5 (ix2 (0 : Fin 1) j)) (fun j => x3 (ix2 p j)) j := by
  unfold val_main_v42 val_main_v41 gprow
  pointwise [zero32, v37_apply, v20_apply]
  rfl

/-- The term through the mean square. -/
theorem v52_apply (p : Fin 4096) : val_main_v52 (F := Ideal) x0 x1 x2 x3 x4 x5 (ix1 p) = Ideal.div ((∑ k, OA x0 x1 x2 x4 p k * gprow (OA x0 x1 x2 x4 p) (fun j => x5 (ix2 (0 : Fin 1) j)) (fun j => x3 (ix2 p j)) k) * (Ideal.ofBits .f32 0xBF000000#32 * Ideal.div (rs (OA x0 x1 x2 x4 p)) (Ideal.div (∑ k, OA x0 x1 x2 x4 p k * OA x0 x1 x2 x4 p k) (Ideal.ofBits .f32 0x44800000#32) + Ideal.ofBits .f32 0x358637BD#32))) (Ideal.ofBits .f32 0x44800000#32) := by
  unfold val_main_v52 val_main_v51 val_main_v50 val_main_v49 val_main_v46 val_main_v45 val_main_v44 val_main_cst_15 val_main_cst_14 val_main_cst_13
  pointwise [zero32, v42_apply, v6_apply]
  rw [Fin.sum_univ_one, v17_apply]

/-- The gradient of the stream. -/
theorem v57_apply (p : Fin 4096) (j : Fin 1024) : val_main_v57 (F := Ideal) x0 x1 x2 x3 x4 x5 (ix2 p j) = GA x0 x1 x2 x3 x4 x5 p j := by
  unfold val_main_v57 val_main_v56 val_main_v55 val_main_v54 val_main_v53 val_main_v48 val_main_v47 GA dorow
  pointwise [zero32, v6_apply, v14_apply, v42_apply, v52_apply]
  exact (back_eq _ _ _).symm

/-- The rounded gradient. -/
theorem v63_apply (p : Fin 4096) (j : Fin 1024) : val_main_v63 (F := Ideal) x0 x1 x2 x3 x4 x5 (ix2 p j) = GA x0 x1 x2 x3 x4 x5 p j := by
  unfold val_main_v63
  pointwise [v57_apply]

/-- The gradient carried through the projection. -/
theorem v58_apply (p : Fin 4096) (j : Fin 2048) : val_main_v58 (F := Ideal) x0 x1 x2 x3 x4 x5 (ix2 p j) = ∑ k : Fin 1024, GA x0 x1 x2 x3 x4 x5 p k * (x4 (ix2 j k) : EReal) := by
  unfold val_main_v58 val_main_v4
  pointwise [zero32, v57_apply]

/-- The gradient of the scale. -/
theorem v43_apply (j : Fin 1024) : val_main_v43 (F := Ideal) x0 x1 x2 x3 x4 x5 (ix1 j) = ∑ p : Fin 4096, DA x0 x1 x2 x3 x4 x5 p j * Ideal.ofBits .f32 0x3A800000#32 * (OA x0 x1 x2 x4 p j * rs (OA x0 x1 x2 x4 p)) := by
  unfold val_main_v43 val_main_v40 val_main_v39 val_main_v38 val_main_cst_12 val_main_cst_11
  pointwise [zero32, v19_apply, v37_apply]
  rw [Fin.sum_univ_one]
  refine Finset.sum_congr rfl fun p _ => ?_
  rw [mul_comm]

/-- The loss. -/
theorem v31_apply (i : S_.Idx) : val_main_v31 (F := Ideal) x0 x1 x2 x3 x4 x5 i = Ideal.ofBits .f32 0x3F000000#32 * ∑ p : Fin 4096, (∑ j : Fin 1024, DA x0 x1 x2 x3 x4 x5 p j * DA x0 x1 x2 x3 x4 x5 p j) * Ideal.ofBits .f32 0x3A800000#32 := by
  unfold val_main_v31 val_main_v30 val_main_v29 val_main_v28 val_main_v27 val_main_v24 val_main_cst_7 val_main_cst_6 val_main_cst_5 val_main_cst_4
  pointwise [zero32, v23_apply, div1024, kinv]

/-- The sums. -/
theorem v62_apply (r : Fin 8) (j : Fin 1024) : val_main_v62 (F := Ideal) x0 x1 x2 x3 x4 x5 (ix2 r j) = SA x0 x1 x2 x3 x4 x5 r j := by
  unfold val_main_v62 val_main_v61 val_main_v60 val_main_v59 val_main_cst_16 SA
  pointwise [zero32, v43_apply, v31_apply]
  by_cases h0 : r.val = 0
  · rw [dif_pos (by omega), if_pos h0]
  · rw [dif_neg (by omega), if_neg h0]
    by_cases h1 : r.val = 1
    · rw [dif_pos (by omega), if_pos h1]
    · rw [dif_neg (by omega), if_neg h1]

end Ref

/-- The kernel comes to an end. -/
theorem frame_p : Cert.quiescent_Kernel2 := fun m ρ _ => Cert.Kernel2.Gen.frame m ρ

/-- So does its idealisation. -/
theorem frame_pi : Cert.quiescent_Kernel2Ideal := fun m ρ _ => Cert.Kernel2Ideal.Gen.frame m ρ

/-- So does the reference. -/
theorem frame_r : Cert.quiescent_Reference2Ideal := fun m ρ _ =>
  (θ_run Cert.Reference2Ideal.defs _ _).mono (fun r h => ⟨fun c => (h c).2.2.2.2,
      Idealize.ShloMosaic.sem_eq_zero_of_no_sems (by decide) r.2⟩)
    (Cert.Reference2Ideal.Value.run (F := Ideal) m ρ)

/-- The reference's four results are what the kernel's four arrays end at. -/
theorem algebraic : Cert.algebraic_Kernel2Ideal_Reference2Ideal := by
  intro m ρ m' ρ' _ hagree
  refine ⟨fun c => (Cert.Kernel2Ideal.Gen.dats (F := Ideal) m 0 c).arrAt 6 Cert.Kernel2Ideal.cfg0.N,
    fun c => (Cert.Kernel2Ideal.Gen.dats (F := Ideal) m 0 c).arrAt 7 Cert.Kernel2Ideal.cfg0.N,
    fun c => (Cert.Kernel2Ideal.Gen.dats (F := Ideal) m 0 c).arrAt 8 Cert.Kernel2Ideal.cfg0.N,
    fun c => (Cert.Kernel2Ideal.Gen.dats (F := Ideal) m 0 c).arrAt 9 Cert.Kernel2Ideal.cfg0.N,
    Cert.Kernel2Ideal.Value.run_blocks (F := Ideal) m ρ, ?_⟩
  refine (θ_run Cert.Reference2Ideal.defs _ _).mono (fun _ h c => ⟨(h c).1.trans ?_, (h c).2.1.trans ?_, (h c).2.2.1.trans ?_, (h c).2.2.2.1.trans ?_, (h c).2.2.2.2⟩)
    (Cert.Reference2Ideal.Value.run (F := Ideal) m' ρ')
  all_goals
    obtain ⟨g0, g1, g2, g3, g4, g5⟩ := hagree c
  · rw [val_main_v57_eq, g0, g1, g2, g3, g4, g5]
    refine Eq.trans ?_ (Cert.Kernel2Ideal.Hand.final6 m c).symm
    funext i
    idx_vars i
    exact v57_apply _ _ _ _ _ _ _ _
  · rw [val_main_v63_eq, g0, g1, g2, g3, g4, g5]
    refine Eq.trans ?_ (Cert.Kernel2Ideal.Hand.final7 m c).symm
    funext i
    idx_vars i
    exact v63_apply _ _ _ _ _ _ _ _
  · rw [val_main_v58_eq, g0, g1, g2, g3, g4, g5]
    refine Eq.trans ?_ (Cert.Kernel2Ideal.Hand.final8 m c).symm
    funext i
    idx_vars i
    exact v58_apply _ _ _ _ _ _ _ _
  · rw [val_main_v62_eq, g0, g1, g2, g3, g4, g5]
    refine Eq.trans ?_ (Cert.Kernel2Ideal.Hand.final9 m c).symm
    funext i
    idx_vars i
    exact v62_apply _ _ _ _ _ _ _ _

end Cert.Proof.C2

end
-- ==== Proof.V3.lean ====
/- The gradient of the in projection's weight: what the kernel's result array ends at, and the reference's. -/
module

public import proofs.«01_k».proof.Defs
public import proofs.«01_k».proof.Proof.Norm
public import proofs.«01_k».proof.Proof.Gen.Kernel3.Frame
public import proofs.«01_k».proof.Proof.Gen.Kernel3Ideal.Value
public import proofs.«01_k».proof.Proof.Gen.Reference3Ideal.Run
public import proofs.«01_k».proof.Proof.Gen.Reference3Ideal.Read
public import Idealize.ShloMosaic.Lib.Pipeline.ValueKit
public import Idealize.ShloMosaic.Lib.Pointwise
public import Idealize.ShloMosaic.Lib.Tactic
public import Idealize.ShloMosaic.Lib.Quiescent

@[expose] public section

set_option maxRecDepth 16384

noncomputable section

open Idealize.ShloMosaic Idealize.ShloMosaic.TcCoe Idealize.SL.Sem
open Idealize.ShloMosaic.Pipeline (Dat)

namespace Cert.Kernel3Ideal.Hand

open Cert.Kernel3Ideal Cert.Kernel3Ideal.Gen
open Cert.Norm (zero32)

/-- One grid point's contribution to its block of the result: the product of the point's rows of the normalised input,
    transposed, with the point's rows of one part of the cotangent. -/
def part (x0 : Vec Ideal S1024x1024 .bf16) (x1 : Vec Ideal S1x1024x1024 .bf16) (y : S2x1024x512.Idx) : EReal :=
  ∑ k : Fin 1024, (x0 (ix2 k (y 1)) : EReal) * (x1 (ix3 (0 : Fin 1) k (⟨512 * (y 0).val + (y 2).val, by
    have h0 : (y 0).val < 2 := (y 0).isLt; have h2 : (y 2).val < 512 := (y 2).isLt; omega⟩ : Fin 1024)) : EReal)

/-- The first point of a run stores its contribution. -/
theorem out_A (c : Dev nD) (i : grid0.Coords) (a2 : Memref sig .tc .vmem S1024x1024 .bf16) (h2 : a2.IsWhole)
    (a3 : Memref sig .tc .vmem S1x1024x1024 .bf16) (h3 : a3.IsWhole) (a4 : Memref sig .tc .vmem S2x1024x512 .f32) (h4 : a4.IsWhole)
    (hc0 : cond0_0 i) (hc1 : ¬cond0_1 i) (x0 : Vec Ideal S1024x1024 .bf16) (x1 : Vec Ideal S1x1024x1024 .bf16) (y : S2x1024x512.Idx) :
    out0_A_2 (F := Ideal) c i a2 h2 a3 h3 a4 h4 hc0 hc1 x0 x1 y = part x0 x1 y := by
  frame_out
  canon_tiles x h
  all_goals
    unfold_payloads
    unfold part
    pointwise [zero32]
    refine Finset.sum_congr rfl fun k _ => ?_
    congr 1 <;> blk_ext []

/-- A later point adds its contribution to what the block holds. -/
theorem out_B (c : Dev nD) (i : grid0.Coords) (a2 : Memref sig .tc .vmem S1024x1024 .bf16) (h2 : a2.IsWhole)
    (a3 : Memref sig .tc .vmem S1x1024x1024 .bf16) (h3 : a3.IsWhole) (a4 : Memref sig .tc .vmem S2x1024x512 .f32) (h4 : a4.IsWhole)
    (hc0 : ¬cond0_0 i) (hc1 : cond0_1 i) (x0 : Vec Ideal S1024x1024 .bf16) (x1 : Vec Ideal S1x1024x1024 .bf16)
    (xo : Vec Ideal S2x1024x512 .f32) (y : S2x1024x512.Idx) :
    out0_B_2 (F := Ideal) c i a2 h2 a3 h3 a4 h4 hc0 hc1 x0 x1 xo y = (xo y : EReal) + part x0 x1 y := by
  frame_out
  canon_tiles x h
  all_goals
    unfold_payloads
    unfold part
    pointwise [zero32]
    congr 1
    · blk_ext []
    · refine Finset.sum_congr rfl fun k _ => ?_
      congr 1 <;> blk_ext []

/-- The index maps of the windows. -/
theorem idx : ∀ t : Fin grid0.N, win0_0.index t = ![t.val % 4, 0] ∧ win0_1.index t = ![t.val / 4, t.val % 4, 0]
    ∧ win0_2.index t = ![t.val / 4, 0, 0] := by decide +kernel

/-- The result: every element is the sum over the positions of the normalised input times the cotangent. -/
def G (a0 : Vec Ideal S4096x1024 .bf16) (a1 : Vec Ideal S6x4096x1024 .bf16) (j : S12x1024x512.Idx) : EReal :=
  ∑ k : Fin 4096, (a0 (ix2 k (j 1)) : EReal) * (a1 (ix3 (⟨(j 0).val / 2, by
    have h0 : (j 0).val < 12 := (j 0).isLt; omega⟩ : Fin 6) k (⟨512 * ((j 0).val % 2) + (j 2).val, by
    have h2 : (j 2).val < 512 := (j 2).isLt; omega⟩ : Fin 1024)) : EReal)

variable (m : (ℓ : Loc nD τ sig) → Buf (Elt Ideal) ℓ)

/-- The result array ends at the product over all positions. -/
theorem final (c : Dev nD) : (dats (F := Ideal) m 0 c).arrAt 2 cfg0.N
    = fun j => G (m ((c : Thread nD τ).loc main_arg0)) (m ((c : Thread nD τ).loc main_arg1)) j := by
  refine (dats m 0 c).arrAt_eq_of_covers 2 _ (by decide +kernel) fun t hf y => ?_
  have hr : t.val % 4 = 4 - 1 := (flush0_2 t).mp hf
  blk_simp
  rw [after0_2]
  rw [Pipeline.eq_sum_fin_of_reset_step_apply_of_flush (fun n h => outsAt0 m c n h) 4 (fun _ => (0 : EReal))
    (fun t y => part (iblk m c 0 t) (iblk m c 1 t) y)
    (fun t h j => by rw [outsAt0_A m c t h (by omega), out_A, zero_add])
    (fun t h j => by rw [outsAt0_B m c t h (by omega), out_B]) t hr _]
  rw [zero_add]
  unfold part G
  refine Fin.sum_mul_add_congr fun s k hl => ?_
  congr 1 <;> blk_ext [iblk, V, idx _]

end Cert.Kernel3Ideal.Hand

namespace Cert.Proof.C3

/-- The reference's result, element by element. -/
theorem ref_apply (a0 : Vec Ideal Cert.Kernel3Ideal.S4096x1024 .bf16) (a1 : Vec Ideal Cert.Kernel3Ideal.S6x4096x1024 .bf16) :
    Cert.Reference3Ideal.Read.val_main_v9 (F := Ideal) a0 a1 = fun j => Cert.Kernel3Ideal.Hand.G a0 a1 j := by
  funext j
  unfold Cert.Reference3Ideal.Read.val_main_v9 Cert.Reference3Ideal.Read.val_main_v8 Cert.Reference3Ideal.Read.val_main_v7 Cert.Reference3Ideal.Read.val_main_v6 Cert.Reference3Ideal.Read.val_main_v5 Cert.Reference3Ideal.Read.val_main_v4 Cert.Reference3Ideal.Read.val_main_v3 Cert.Reference3Ideal.Read.val_main_v1
  unfold Cert.Kernel3Ideal.Hand.G
  idx_vars j
  pointwise
  refine Finset.sum_congr rfl fun k _ => ?_
  rw [mul_comm]
  congr 1 <;> blk_ext []

/-- The kernel comes to an end. -/
theorem frame_p : Cert.quiescent_Kernel3 := fun m ρ _ => Cert.Kernel3.Gen.frame m ρ
/-- So does its idealisation. -/
theorem frame_pi : Cert.quiescent_Kernel3Ideal := fun m ρ _ => Cert.Kernel3Ideal.Gen.frame m ρ
/-- So does the reference. -/
theorem frame_r : Cert.quiescent_Reference3Ideal := fun m ρ _ =>
  (θ_run Cert.Reference3Ideal.defs _ _).mono (fun r h => ⟨fun c => (h c).2,
      Idealize.ShloMosaic.sem_eq_zero_of_no_sems (by decide) r.2⟩)
    (Cert.Reference3Ideal.Value.run (F := Ideal) m ρ)

/-- The reference's result is what the kernel's array ends at. -/
theorem algebraic : Cert.algebraic_Kernel3Ideal_Reference3Ideal := by
  intro m ρ m' ρ' _ hagree
  refine ⟨fun c => (Cert.Kernel3Ideal.Gen.dats (F := Ideal) m 0 c).arrAt 2 Cert.Kernel3Ideal.cfg0.N,
    Cert.Kernel3Ideal.Value.run_blocks (F := Ideal) m ρ, ?_⟩
  refine (θ_run Cert.Reference3Ideal.defs _ _).mono (fun _ h c => ⟨(h c).1.trans ?_, (h c).2⟩)
    (Cert.Reference3Ideal.Value.run (F := Ideal) m' ρ')
  refine Eq.trans ?_ (Cert.Kernel3Ideal.Hand.final m c).symm
  rw [(hagree c).1, (hagree c).2]
  exact ref_apply _ _

end Cert.Proof.C3

end
-- ==== Proof.V4.lean ====
/- The gradient of the input: what one grid point computes. -/
module

public import proofs.«01_k».proof.Defs
public import proofs.«01_k».proof.Proof.Norm
public import proofs.«01_k».proof.Proof.Gen.Kernel4.Frame
public import proofs.«01_k».proof.Proof.Gen.Kernel4Ideal.Value
public import proofs.«01_k».proof.Proof.Gen.Reference4Ideal.Run
public import proofs.«01_k».proof.Proof.Gen.Reference4Ideal.Read
public import Idealize.ShloMosaic.Lib.Pipeline.ValueKit
public import Idealize.ShloMosaic.Lib.Pipeline.ReadBack
public import Idealize.ShloMosaic.Lib.Pointwise
public import Idealize.ShloMosaic.Lib.Tactic
public import Idealize.ShloMosaic.Lib.Quiescent

@[expose] public section

set_option maxRecDepth 16384

noncomputable section

open Idealize.ShloMosaic Idealize.ShloMosaic.TcCoe Idealize.SL.Sem
open Idealize.ShloMosaic.Pipeline (Dat)

namespace Cert.Kernel4Ideal.Hand

open Cert.Kernel4Ideal Cert.Kernel4Ideal.Gen Cert.Norm

/-- One point's contribution to the cotangent of the normalised input: two column blocks against two weight blocks. -/
def part (x0 : Vec Ideal S1x1024x1024 .bf16) (x1 : Vec Ideal S2x1024x512 .bf16) (y : S1024x1024.Idx) : EReal :=
  ∑ k : Fin 512, (x0 (ix3 (0 : Fin 1) (y 0) (⟨k.val, by omega⟩ : Fin 1024)) : EReal) * (x1 (ix3 (0 : Fin 2) (y 1) k) : EReal)
    + ∑ k : Fin 512, (x0 (ix3 (0 : Fin 1) (y 0) (⟨512 + k.val, by omega⟩ : Fin 1024)) : EReal) * (x1 (ix3 (1 : Fin 2) (y 1) k) : EReal)

section Payloads
variable (v35 v47 : Vec Ideal S128x1024 .f32) (v48 : Vec Ideal S1x1024 .f32) (v52 : Vec Ideal S128x1024 .f32)

/-- The inverse root of the mean square of a row. -/
theorem pay6_apply (p : Fin 128) : k0_pay6 v35 (ix2 p (0 : Fin 1)) = rs (fun j => v35 (ix2 p j)) := by
  unfold k0_pay6 rs
  pointwise [zero32]

/-- The normalised row. -/
theorem pay7_apply (p : Fin 128) (j : Fin 1024) : k0_pay7 v35 (ix2 p j) = (v35 (ix2 p j) : EReal) * rs (fun j => v35 (ix2 p j)) := by
  unfold k0_pay7
  pointwise [zero32, pay6_apply]

/-- The gradient of a row. -/
theorem pay8_apply (p : Fin 128) (j : Fin 1024) : k0_pay8 v35 v47 v48 v52 (ix2 p j)
    = (v52 (ix2 p j) : EReal) + back (fun j => v35 (ix2 p j)) (fun j => (v47 (ix2 p j) : EReal) * (v48 (ix2 (0 : Fin 1) j) : EReal)) j := by
  unfold k0_pay8 back
  pointwise [zero32, pay6_apply, pay7_apply]

/-- The slab's contribution to the gradient of the scale. -/
theorem pay9_apply (acc : FVec Ideal S1x1024 .f32) (j : Fin 1024) : k0_pay9 acc v35 v47 (ix2 (0 : Fin 1) j)
    = (acc (ix2 (0 : Fin 1) j) : EReal) + ∑ p : Fin 128, (v47 (ix2 p j) : EReal) * ((v35 (ix2 p j) : EReal) * rs (fun j => v35 (ix2 p j))) := by
  unfold k0_pay9
  pointwise [zero32, pay7_apply]

end Payloads

/-- The first contribution stored. -/
theorem pay3_apply (x0 : Vec Ideal S1x1024x1024 .bf16) (x1 : Vec Ideal S2x1024x512 .bf16) (y : S1024x1024.Idx) : k0_pay3 (View.ld x0 (Rect.unit (s := S1x1024x1024) ![0, 0, 0] ![1, 1024, 512] inb_S1x1024x1024_S1x1024x512_0_0_0))
      (View.ld x1 (Rect.unit (s := S2x1024x512) ![0, 0, 0] ![1, 1024, 512] inb_S2x1024x512_S1x1024x512_0_0_0))
      (View.ld x0 (Rect.unit (s := S1x1024x1024) ![0, 0, 512] ![1, 1024, 512] inb_S1x1024x1024_S1x1024x512_0_0_512))
      (View.ld x1 (Rect.unit (s := S2x1024x512) ![1, 0, 0] ![1, 1024, 512] inb_S2x1024x512_S1x1024x512_1_0_0)) y = part x0 x1 y := by
  unfold k0_pay3 k0_pay2 part
  pointwise [zero32]

/-- A later contribution added. -/
theorem pay4_apply (x0 : Vec Ideal S1x1024x1024 .bf16) (x1 : Vec Ideal S2x1024x512 .bf16) (xs : Vec Ideal S1024x1024 .f32) (y : S1024x1024.Idx) : k0_pay4 (View.ld x0 (Rect.unit (s := S1x1024x1024) ![0, 0, 0] ![1, 1024, 512] inb_S1x1024x1024_S1x1024x512_0_0_0))
      (View.ld x1 (Rect.unit (s := S2x1024x512) ![0, 0, 0] ![1, 1024, 512] inb_S2x1024x512_S1x1024x512_0_0_0))
      (View.ld x0 (Rect.unit (s := S1x1024x1024) ![0, 0, 512] ![1, 1024, 512] inb_S1x1024x1024_S1x1024x512_0_0_512))
      (View.ld x1 (Rect.unit (s := S2x1024x512) ![1, 0, 0] ![1, 1024, 512] inb_S2x1024x512_S1x1024x512_1_0_0)) xs y = (xs y : EReal) + part x0 x1 y := by
  unfold k0_pay4 k0_pay2 part
  pointwise [zero32]

/-- The gradient of the input on one block: `d` the cotangent of the normalised rows. -/
def gx (d x2 x3 : S1024x1024.Idx → EReal) (x4 : S1x1024.Idx → EReal) (y : S1024x1024.Idx) : EReal :=
  x3 y + back (fun j => x2 (ix2 (y 0) j)) (fun j => d (ix2 (y 0) j) * x4 (ix2 (0 : Fin 1) j)) (y 1)

/-- One row's term of the gradient of the scale. -/
def term (d x2 : S1024x1024.Idx → EReal) (j : Fin 1024) (p : Fin 1024) : EReal :=
  d (ix2 p j) * (x2 (ix2 p j) * rs (fun j => x2 (ix2 p j)))

/-- The row stored at the end of a row block. -/
theorem pay10_apply (v25 v29 : Vec Ideal S1x1024 .f32) (j : Fin 1024) : k0_pay10 v25 v29 (ix2 (0 : Fin 1) j) = (v25 (ix2 (0 : Fin 1) j) : EReal) + v29 (ix2 (0 : Fin 1) j) := by
  unfold k0_pay10
  pointwise [zero32]

/-- A first row laid over a block. -/
theorem row0 (w : S1x1024.Idx → EReal) (g : S8x1024.Idx → EReal) (r : Fin 8) (j : Fin 1024) :
    (Rect.unit (s := S8x1024) ![0, 0] ![1, 1024] inb_S8x1024_S1x1024_0_0).overlay g w (ix2 r j)
      = if r.val = 0 then w (ix2 (0 : Fin 1) j) else g (ix2 r j) := by
  by_cases h : r.val = 0
  · rw [if_pos h]
    have e : ix2 r j = (Rect.unit (s := S8x1024) ![0, 0] ![1, 1024] inb_S8x1024_S1x1024_0_0).emb (ix2 (0 : Fin 1) j) := by
      blk_ext []
    rw [e]
    exact Rect.overlay_emb _ _ _ _
  · rw [if_neg h]
    refine Rect.overlay_of_not_mem _ _ _ fun hm => ?_
    have := (Rect.mem_set_unit.mp hm) 0
    have h2 : r.val < 0 + 1 := this.2
    omega

/-- A row block's contribution to the gradient of the scale, laid out as its result block. -/
def stat (d x2 : S1024x1024.Idx → EReal) (r : Fin 8) (j : Fin 1024) : EReal :=
  if r.val = 0 then ∑ p : Fin 1024, term d x2 j p else 0

section Trips
variable (c : Dev nD) (i : grid0.Coords) (a2 : Memref sig .tc .vmem S1x1024x1024 .bf16) (h2 : a2.IsWhole) (a3 : Memref sig .tc .vmem S2x1024x512 .bf16) (h3 : a3.IsWhole) (a4 : Memref sig .tc .vmem S1024x1024 .f32) (h4 : a4.IsWhole) (a5 : Memref sig .tc .vmem S1024x1024 .f32) (h5 : a5.IsWhole) (a6 : Memref sig .tc .vmem S1x1024 .f32) (h6 : a6.IsWhole) (a7 : Memref sig .tc .vmem S1024x1024 .f32) (h7 : a7.IsWhole) (a8 : Memref sig .tc .vmem S8x1024 .f32) (h8 : a8.IsWhole) (a9 : Memref sig .tc .vmem S1024x1024 .f32) (h9 : a9.IsWhole)
variable (f4 : BufTy.Contents (Elt Ideal) a4.view.ty) (f5 : BufTy.Contents (Elt Ideal) a5.view.ty) (f6 : BufTy.Contents (Elt Ideal) a6.view.ty) (f9 : BufTy.Contents (Elt Ideal) a9.view.ty)
variable (x2 x3 d : Vec Ideal S1024x1024 .f32) (x4 : Vec Ideal S1x1024 .f32)
variable (e4 : a4.view.read (Elt Ideal) f4 = x2) (e5 : a5.view.read (Elt Ideal) f5 = x3) (e6 : a6.view.read (Elt Ideal) f6 = x4) (e9 : a9.view.read (Elt Ideal) f9 = d)

/-- Where row `p` of trip `k`'s slab lies in the block. -/
theorem slab_emb (h : k0_cond4 i = 1#1) (k : Fin k0_t1_loop.trips) (p : Fin 128) (j : Fin 1024) (hl : k.val * 128 + p.val < 1024) :
    (Rect.unit (s := S1024x1024) (k0_off1 k) S128x1024.size (k0_off1_inb i k h)).emb (ix2 p j) = ix2 (⟨k.val * 128 + p.val, hl⟩ : Fin 1024) j := by
  have e := k0_off1_eq k
  funext a
  refine Fin.ext ?_
  refine (ValueKit.rect_emb_unit_val _ _ _ _ _).trans ?_
  have e0 : k0_off1 k 0 = 128 * k.val := congrFun e 0
  have e1 : k0_off1 k 1 = 0 := congrFun e 1
  match a with
  | ⟨0, _⟩ => show k0_off1 k 0 + p.val = k.val * 128 + p.val; omega
  | ⟨1, _⟩ => show k0_off1 k 1 + j.val = j.val; omega

/-- There are eight trips. -/
theorem trips_eq : k0_t1_loop.trips = 8 := by decide

/-- A slab's row lies in the block. -/
theorem slab_lt (k : Fin k0_t1_loop.trips) (p : Fin 128) : k.val * 128 + p.val < 1024 := by
  have h : k.val < 8 := lt_of_lt_of_eq k.isLt trips_eq
  omega

include e4 e9 in
/-- What a trip carries on. -/
theorem tripR (h : k0_cond4 i = 1#1) (k : Fin k0_t1_loop.trips) (acc : FVec Ideal S1x1024 .f32) (j : Fin 1024) :
    tripR_k0_t1 (F := Ideal) Variants.none c none i a2 h2 a3 h3 a4 h4 a5 h5 a6 h6 a7 h7 a8 h8 a9 h9 h f4 f5 f6 f9 k acc (ix2 (0 : Fin 1) j)
      = (acc (ix2 (0 : Fin 1) j) : EReal) + ∑ p : Fin 128, term d x2 j ⟨k.val * 128 + p.val, slab_lt k p⟩ := by
  unfold tripR_k0_t1 trip_k0_t1
  dsimp only
  rw [pay9_apply]
  subst e4 e9
  refine congrArg (_ + ·) (Finset.sum_congr rfl fun p _ => ?_)
  unfold term
  have e : ∀ j, View.readAt (Elt Ideal) a4.view (Rect.unit (s := S1024x1024) (k0_off1 k) S128x1024.size (k0_off1_inb i k h)).toLoadRect f4 (ix2 p j)
      = a4.view.read (Elt Ideal) f4 (ix2 (⟨k.val * 128 + p.val, slab_lt k p⟩ : Fin 1024) j) := fun j =>
    congrArg (a4.view.read (Elt Ideal) f4) (slab_emb i h k p j _)
  have e' : ∀ j, View.readAt (Elt Ideal) a9.view (Rect.unit (s := S1024x1024) (k0_off1 k) S128x1024.size (k0_off1_inb i k h)).toLoadRect f9 (ix2 p j)
      = a9.view.read (Elt Ideal) f9 (ix2 (⟨k.val * 128 + p.val, slab_lt k p⟩ : Fin 1024) j) := fun j =>
    congrArg (a9.view.read (Elt Ideal) f9) (slab_emb i h k p j _)
  simp only [e, e']

include e4 e5 e6 e9 in
/-- What a trip stores is the gradient's rows. -/
theorem tripL (h : k0_cond4 i = 1#1) (k : Fin k0_t1_loop.trips) (acc : FVec Ideal S1x1024 .f32) (L : List (View.Piece (Elt Ideal) S1024x1024 .f32))
    (hL : View.PiecesOf (Val := Elt Ideal) (e := .f32) (s := S1024x1024) (gx d x2 x3 x4) L) :
    View.PiecesOf (Val := Elt Ideal) (e := .f32) (s := S1024x1024) (gx d x2 x3 x4) (tripL_k0_t1 (F := Ideal) Variants.none c none i a2 h2 a3 h3 a4 h4 a5 h5 a6 h6 a7 h7 a8 h8 a9 h9 h f4 f5 f6 f9 k acc ++ L) := by
  unfold tripL_k0_t1 trip_k0_t1
  dsimp only
  refine ⟨fun y => ?_, hL⟩
  idx_vars y
  refine (pay8_apply _ _ _ _ _ _).trans ?_
  refine Eq.trans ?_ (congrArg (gx d x2 x3 x4) (slab_emb i h k y0 y1 (slab_lt k y0))).symm
  subst e4 e5 e6 e9
  unfold gx
  have e : ∀ j, View.readAt (Elt Ideal) a4.view (Rect.unit (s := S1024x1024) (k0_off1 k) S128x1024.size (k0_off1_inb i k h)).toLoadRect f4 (ix2 y0 j)
      = a4.view.read (Elt Ideal) f4 (ix2 (⟨k.val * 128 + y0.val, slab_lt k y0⟩ : Fin 1024) j) := fun j =>
    congrArg (a4.view.read (Elt Ideal) f4) (slab_emb i h k y0 j _)
  have e' : ∀ j, View.readAt (Elt Ideal) a9.view (Rect.unit (s := S1024x1024) (k0_off1 k) S128x1024.size (k0_off1_inb i k h)).toLoadRect f9 (ix2 y0 j)
      = a9.view.read (Elt Ideal) f9 (ix2 (⟨k.val * 128 + y0.val, slab_lt k y0⟩ : Fin 1024) j) := fun j =>
    congrArg (a9.view.read (Elt Ideal) f9) (slab_emb i h k y0 j _)
  have e'' : ∀ j, View.readAt (Elt Ideal) a5.view (Rect.unit (s := S1024x1024) (k0_off1 k) S128x1024.size (k0_off1_inb i k h)).toLoadRect f5 (ix2 y0 j)
      = a5.view.read (Elt Ideal) f5 (ix2 (⟨k.val * 128 + y0.val, slab_lt k y0⟩ : Fin 1024) j) := fun j =>
    congrArg (a5.view.read (Elt Ideal) f5) (slab_emb i h k y0 j _)
  have e6 : ∀ j : Fin 1024, View.readAt (Elt Ideal) a6.view (Rect.unit (s := S1x1024) ![0, 0] S1x1024.size inb_S1x1024_S1x1024_0_0).toLoadRect f6 (ix2 (0 : Fin 1) j)
      = a6.view.read (Elt Ideal) f6 (ix2 (0 : Fin 1) j) := fun j =>
    congrArg (a6.view.read (Elt Ideal) f6) (show (Rect.unit (s := S1x1024) ![0, 0] S1x1024.size inb_S1x1024_S1x1024_0_0).emb (ix2 (0 : Fin 1) j) = _ from by blk_ext [])
  exact congrArg₂ (· + ·) (e'' y1) (congrFun (congrArg₂ back (funext e) (funext fun j => congrArg₂ (· * ·) (e' j) (e6 j))) y1)

include e4 e9 in
/-- What the loop carries after `n` trips. -/
theorem st_fst (h : k0_cond4 i = 1#1) (j : Fin 1024) : ∀ (n : ℕ) (hn : n ≤ 8),
    (st_k0_t1 (F := Ideal) Variants.none c none i a2 h2 a3 h3 a4 h4 a5 h5 a6 h6 a7 h7 a8 h8 a9 h9 h f4 f5 f6 f9 (k0_pay5 (F := Ideal)) n).1 (ix2 (0 : Fin 1) j)
      = ∑ s : Fin n, ∑ p : Fin 128, term d x2 j ⟨s.val * 128 + p.val, by have := s.isLt; omega⟩
  | 0, _ => by
    rw [st_k0_t1_zero, Fin.sum_univ_zero]
    unfold k0_pay5
    pointwise [zero32]
  | n + 1, hn => by
    have hk : n < k0_t1_loop.trips := lt_of_lt_of_eq hn trips_eq.symm
    have e := st_k0_t1_succ (F := Ideal) Variants.none c none i a2 h2 a3 h3 a4 h4 a5 h5 a6 h6 a7 h7 a8 h8 a9 h9 h f4 f5 f6 f9 (k0_pay5 (F := Ideal)) ⟨n, hk⟩
    refine (congrArg (fun z => z.1 (ix2 (0 : Fin 1) j)) e).trans ?_
    dsimp only
    rw [tripR (x2 := x2) (d := d) (e4 := e4) (e9 := e9), st_fst h j n (by omega)]
    exact (Fin.sum_univ_castSucc (fun s : Fin (n + 1) => ∑ p : Fin 128, term d x2 j ⟨s.val * 128 + p.val, by have := s.isLt; omega⟩)).symm

include e4 e5 e6 e9 in
/-- What the loop has stored after `n` trips. -/
theorem st_snd (h : k0_cond4 i = 1#1) : ∀ (n : ℕ) (hn : n ≤ 8),
    View.PiecesOf (Val := Elt Ideal) (e := .f32) (s := S1024x1024) (gx d x2 x3 x4) (st_k0_t1 (F := Ideal) Variants.none c none i a2 h2 a3 h3 a4 h4 a5 h5 a6 h6 a7 h7 a8 h8 a9 h9 h f4 f5 f6 f9 (k0_pay5 (F := Ideal)) n).2
  | 0, _ => trivial
  | n + 1, hn => by
    have hk : n < k0_t1_loop.trips := lt_of_lt_of_eq hn trips_eq.symm
    have e := st_k0_t1_succ (F := Ideal) Variants.none c none i a2 h2 a3 h3 a4 h4 a5 h5 a6 h6 a7 h7 a8 h8 a9 h9 h f4 f5 f6 f9 (k0_pay5 (F := Ideal)) ⟨n, hk⟩
    refine Eq.mpr (congrArg (fun z => View.PiecesOf (Val := Elt Ideal) (e := .f32) (s := S1024x1024) (gx d x2 x3 x4) z.2) e) ?_
    dsimp only
    exact tripL c i a2 h2 a3 h3 a4 h4 a5 h5 a6 h6 a7 h7 a8 h8 a9 h9 f4 f5 f6 f9 x2 x3 d x4 e4 e5 e6 e9 h _ _ _ (st_snd h n (by omega))

end Trips

section Outs
variable (c : Dev nD) (i : grid0.Coords) (a2 : Memref sig .tc .vmem S1x1024x1024 .bf16) (h2 : a2.IsWhole) (a3 : Memref sig .tc .vmem S2x1024x512 .bf16) (h3 : a3.IsWhole) (a4 : Memref sig .tc .vmem S1024x1024 .f32) (h4 : a4.IsWhole) (a5 : Memref sig .tc .vmem S1024x1024 .f32) (h5 : a5.IsWhole) (a6 : Memref sig .tc .vmem S1x1024 .f32) (h6 : a6.IsWhole) (a7 : Memref sig .tc .vmem S1024x1024 .f32) (h7 : a7.IsWhole) (a8 : Memref sig .tc .vmem S8x1024 .f32) (h8 : a8.IsWhole) (a9 : Memref sig .tc .vmem S1024x1024 .f32) (h9 : a9.IsWhole)
variable (x0 : Vec Ideal S1x1024x1024 .bf16) (x1 : Vec Ideal S2x1024x512 .bf16) (x2 x3 : Vec Ideal S1024x1024 .f32) (x4 : Vec Ideal S1x1024 .f32)

/-- The accumulator after a first point of a row block. -/
theorem sout_A (hc0 : cond0_0 i) (hc1 : cond0_1 i) (hc2 : ¬cond0_2 i) (hc3 : ¬cond0_3 i) (y : S1024x1024.Idx) :
    sout0_A_0 (F := Ideal) c i a2 h2 a3 h3 a4 h4 a5 h5 a6 h6 a7 h7 a8 h8 a9 h9 hc0 hc1 hc2 hc3 x0 x1 x2 x3 x4 y = part x0 x1 y := by
  frame_out
  exact pay3_apply _ _ _

/-- The same, past the first row block. -/
theorem sout_D (hc0 : ¬cond0_0 i) (hc1 : cond0_1 i) (hc2 : ¬cond0_2 i) (hc3 : ¬cond0_3 i) (y : S1024x1024.Idx) :
    sout0_D_0 (F := Ideal) c i a2 h2 a3 h3 a4 h4 a5 h5 a6 h6 a7 h7 a8 h8 a9 h9 hc0 hc1 hc2 hc3 x0 x1 x2 x3 x4 y = part x0 x1 y := by
  frame_out
  exact pay3_apply _ _ _

/-- The accumulator after a middle point. -/
theorem sout_B (hc0 : ¬cond0_0 i) (hc1 : ¬cond0_1 i) (hc2 : cond0_2 i) (hc3 : ¬cond0_3 i) (xs : Vec Ideal S1024x1024 .f32) (y : S1024x1024.Idx) :
    sout0_B_0 (F := Ideal) c i a2 h2 a3 h3 a4 h4 a5 h5 a6 h6 a7 h7 a8 h8 a9 h9 hc0 hc1 hc2 hc3 x0 x1 x2 x3 x4 xs y = (xs y : EReal) + part x0 x1 y := by
  frame_out
  exact pay4_apply _ _ _ _

/-- The accumulator after a last point of a row block. -/
theorem sout_C (hc0 : ¬cond0_0 i) (hc1 : ¬cond0_1 i) (hc2 : cond0_2 i) (hc3 : cond0_3 i) (xo : Vec Ideal S8x1024 .f32) (xs : Vec Ideal S1024x1024 .f32) (y : S1024x1024.Idx) :
    sout0_C_0 (F := Ideal) c i a2 h2 a3 h3 a4 h4 a5 h5 a6 h6 a7 h7 a8 h8 a9 h9 hc0 hc1 hc2 hc3 x0 x1 x2 x3 x4 xo xs y = (xs y : EReal) + part x0 x1 y := by
  frame_out
  exact pay4_apply _ _ _ _

/-- The accumulator as the loop reads it. -/
theorem acc_read (xs : Vec Ideal S1024x1024 .f32) :
    a9.view.read (Elt Ideal) (a9.view.writes (Elt Ideal) a9.view.junk [⟨Rect.unit (s := S1024x1024) ![0, 0] ![1024, 1024] inb_S1024x1024_S1024x1024_0_0,
      k0_pay4 (View.ld x0 (Rect.unit (s := S1x1024x1024) ![0, 0, 0] ![1, 1024, 512] inb_S1x1024x1024_S1x1024x512_0_0_0))
      (View.ld x1 (Rect.unit (s := S2x1024x512) ![0, 0, 0] ![1, 1024, 512] inb_S2x1024x512_S1x1024x512_0_0_0))
      (View.ld x0 (Rect.unit (s := S1x1024x1024) ![0, 0, 512] ![1, 1024, 512] inb_S1x1024x1024_S1x1024x512_0_0_512))
      (View.ld x1 (Rect.unit (s := S2x1024x512) ![1, 0, 0] ![1, 1024, 512] inb_S2x1024x512_S1x1024x512_1_0_0)) xs⟩]) = fun y => (xs y : EReal) + part x0 x1 y := by
  refine (View.read_writes_junk_eq_canon (v := a9.view) _).trans ?_
  rw [View.canon_cons_unit_lit (Val := Elt Ideal) (e := .f32) (S := S1024x1024) (off := ![0, 0]) _ _ _ (by decide)]
  funext y
  exact pay4_apply _ _ _ _

/-- The gradient a last point of a row block stores. -/
theorem out_C5 (hc0 : ¬cond0_0 i) (hc1 : ¬cond0_1 i) (hc2 : cond0_2 i) (hc3 : cond0_3 i) (xo : Vec Ideal S8x1024 .f32) (xs : Vec Ideal S1024x1024 .f32) (y : S1024x1024.Idx) :
    out0_C_5 (F := Ideal) c i a2 h2 a3 h3 a4 h4 a5 h5 a6 h6 a7 h7 a8 h8 a9 h9 hc0 hc1 hc2 hc3 x0 x1 x2 x3 x4 xo xs y = gx (fun y => (xs y : EReal) + part x0 x1 y) x2 x3 x4 y := by
  have hc := cover0_C_5 (F := Ideal) c i a2 h2 a3 h3 a4 h4 a5 h5 a6 h6 a7 h7 a8 h8 a9 h9 hc0 hc1 hc2 hc3 x0 x1 x2 x3 x4 xo xs y
  revert hc
  frame_out
  intro hc
  refine canon_of (e := .f32) (s := S1024x1024) (gx (fun y => (xs y : EReal) + part x0 x1 y) x2 x3 x4) _ ?_ y hc
  exact st_snd c i a2 h2 a3 h3 a4 h4 a5 h5 a6 h6 a7 h7 a8 h8 a9 h9 _ _ _ _ x2 x3 (fun y => (xs y : EReal) + part x0 x1 y) x4 (h4.read_unread _) (h5.read_unread _) (h6.read_unread _) (acc_read a9 x0 x1 xs) hc3 8 (le_refl _)

/-- The gradient of the scale after a last point of a row block: the first row takes the block's terms, the rest stay. -/
theorem out_C6 (hc0 : ¬cond0_0 i) (hc1 : ¬cond0_1 i) (hc2 : cond0_2 i) (hc3 : cond0_3 i) (xo : Vec Ideal S8x1024 .f32) (xs : Vec Ideal S1024x1024 .f32) (y : S8x1024.Idx) :
    out0_C_6 (F := Ideal) c i a2 h2 a3 h3 a4 h4 a5 h5 a6 h6 a7 h7 a8 h8 a9 h9 hc0 hc1 hc2 hc3 x0 x1 x2 x3 x4 xo xs y
      = (xo y : EReal) + stat (fun y => (xs y : EReal) + part x0 x1 y) x2 (y 0) (y 1) := by
  frame_out
  rw [read_writes_over]
  dsimp only [List.foldr_cons, List.foldr_nil]
  rw [h8.read_unread]
  idx_vars y
  refine (row0 _ _ _ _).trans ?_
  by_cases h : y0.val = 0
  · rw [if_pos h]
    refine (pay10_apply _ _ _).trans ?_
    have hr := st_fst c i a2 h2 a3 h3 a4 h4 a5 h5 a6 h6 a7 h7 a8 h8 a9 h9 (h4.unread x2) (h5.unread x3) (h6.unread x4) _ x2 (fun y => (xs y : EReal) + part x0 x1 y) (h4.read_unread _) (acc_read a9 x0 x1 xs) hc3 y1 8 (le_refl _)
    have hs : stat (fun y => (xs y : EReal) + part x0 x1 y) x2 y0 y1 = _ := if_pos h
    refine congrArg₂ (· + ·) ?_ (hr.trans (Eq.trans ?_ hs.symm))
    · rw [show y0 = 0 from Fin.ext h]
      refine congrArg xo (show (Rect.unit (s := S8x1024) ![0, 0] ![1, 1024] inb_S8x1024_S1x1024_0_0).emb (ix2 (0 : Fin 1) y1) = _ from ?_)
      blk_ext []
    · exact Fin.sum_mul_add_congr (S := 8) (n := 128) fun s k hl => rfl
  · rw [if_neg h]
    have hs : stat (fun y => (xs y : EReal) + part x0 x1 y) x2 y0 y1 = 0 := if_neg h
    exact ((congrArg (xo (ix2 y0 y1) + ·) hs).trans (add_zero _)).symm

/-- The gradient of the scale is cleared at the first point. -/
theorem out_A6 (hc0 : cond0_0 i) (hc1 : cond0_1 i) (hc2 : ¬cond0_2 i) (hc3 : ¬cond0_3 i) (y : S8x1024.Idx) :
    out0_A_6 (F := Ideal) c i a2 h2 a3 h3 a4 h4 a5 h5 a6 h6 a7 h7 a8 h8 a9 h9 hc0 hc1 hc2 hc3 x0 x1 x2 x3 x4 y = (0 : EReal) := by
  frame_out
  unfold k0_pay1
  pointwise [zero32]

/-- It is carried over a middle point. -/
theorem out_B6 (hc0 : ¬cond0_0 i) (hc1 : ¬cond0_1 i) (hc2 : cond0_2 i) (hc3 : ¬cond0_3 i) (xs : Vec Ideal S1024x1024 .f32) (xo : Vec Ideal S8x1024 .f32) :
    out0_B_6 (F := Ideal) c i a2 h2 a3 h3 a4 h4 a5 h5 a6 h6 a7 h7 a8 h8 a9 h9 hc0 hc1 hc2 hc3 x0 x1 x2 x3 x4 xs xo = xo := by
  first | rfl | frame_out

/-- It is carried over a first point of a later row block. -/
theorem out_D6 (hc0 : ¬cond0_0 i) (hc1 : cond0_1 i) (hc2 : ¬cond0_2 i) (hc3 : ¬cond0_3 i) (xo : Vec Ideal S8x1024 .f32) :
    out0_D_6 (F := Ideal) c i a2 h2 a3 h3 a4 h4 a5 h5 a6 h6 a7 h7 a8 h8 a9 h9 hc0 hc1 hc2 hc3 x0 x1 x2 x3 x4 xo = xo := by
  first | rfl | frame_out

end Outs

end Cert.Kernel4Ideal.Hand

end
-- ==== Proof.V4F.lean ====
/- The gradient of the input: what the result arrays end at. -/
module

public import proofs.«01_k».proof.Defs
public import proofs.«01_k».proof.Proof.Norm
public import proofs.«01_k».proof.Proof.V4
public import proofs.«01_k».proof.Proof.Gen.Kernel4.Frame
public import proofs.«01_k».proof.Proof.Gen.Kernel4Ideal.Value
public import proofs.«01_k».proof.Proof.Gen.Reference4Ideal.Run
public import proofs.«01_k».proof.Proof.Gen.Reference4Ideal.Read
public import Idealize.ShloMosaic.Lib.Pipeline.ValueKit
public import Idealize.ShloMosaic.Lib.Pipeline.ReadBack
public import Idealize.ShloMosaic.Lib.Pointwise
public import Idealize.ShloMosaic.Lib.Tactic
public import Idealize.ShloMosaic.Lib.Quiescent

@[expose] public section

set_option maxRecDepth 16384

noncomputable section

open Idealize.ShloMosaic Idealize.ShloMosaic.TcCoe Idealize.SL.Sem
open Idealize.ShloMosaic.Pipeline (Dat)

namespace Cert.Kernel4Ideal.Hand

open Cert.Kernel4Ideal Cert.Kernel4Ideal.Gen Cert.Norm

/-- One part's contribution to the cotangent of the normalised input. -/
def partA (a0 : Vec Ideal S6x4096x1024 .bf16) (a1 : Vec Ideal S12x1024x512 .bf16) (s : Fin 6) (P : Fin 4096) (j : Fin 1024) : EReal :=
  ∑ k : Fin 512, (a0 (ix3 s P (⟨k.val, by omega⟩ : Fin 1024)) : EReal) * (a1 (ix3 (⟨2 * s.val, by omega⟩ : Fin 12) j k) : EReal)
    + ∑ k : Fin 512, (a0 (ix3 s P (⟨512 + k.val, by omega⟩ : Fin 1024)) : EReal) * (a1 (ix3 (⟨2 * s.val + 1, by omega⟩ : Fin 12) j k) : EReal)

/-- The cotangent of the normalised input: the product of the columns with the weight, transposed. -/
def DXA (a0 : Vec Ideal S6x4096x1024 .bf16) (a1 : Vec Ideal S12x1024x512 .bf16) (P : Fin 4096) (j : Fin 1024) : EReal := ∑ s : Fin 6, partA a0 a1 s P j

/-- The gradient of the input: the direct one and the one back through the norm. -/
def GXA (a0 : Vec Ideal S6x4096x1024 .bf16) (a1 : Vec Ideal S12x1024x512 .bf16) (a2 a3 : Vec Ideal S4096x1024 .f32) (a4 : Vec Ideal S1x1024 .f32) (P : Fin 4096) (j : Fin 1024) : EReal :=
  (a3 (ix2 P j) : EReal) + back (fun j => a2 (ix2 P j)) (fun j => DXA a0 a1 P j * (a4 (ix2 (0 : Fin 1) j) : EReal)) j

/-- One position's term of the gradient of the scale. -/
def TA (a0 : Vec Ideal S6x4096x1024 .bf16) (a1 : Vec Ideal S12x1024x512 .bf16) (a2 : Vec Ideal S4096x1024 .f32) (P : Fin 4096) (j : Fin 1024) : EReal :=
  DXA a0 a1 P j * ((a2 (ix2 P j) : EReal) * rs (fun j => a2 (ix2 P j)))

/-- The gradient of the scale, in the first row of a block. -/
def SXA (a0 : Vec Ideal S6x4096x1024 .bf16) (a1 : Vec Ideal S12x1024x512 .bf16) (a2 : Vec Ideal S4096x1024 .f32) (r : Fin 8) (j : Fin 1024) : EReal :=
  if r.val = 0 then ∑ P : Fin 4096, TA a0 a1 a2 P j else 0

/-- Where the windows' blocks lie. -/
theorem idx : ∀ t : Fin grid0.N, win0_0.index t = ![t.val % 6, t.val / 6, 0] ∧ win0_1.index t = ![t.val % 6, 0, 0]
    ∧ win0_2.index t = ![t.val / 6, 0] ∧ win0_3.index t = ![t.val / 6, 0] ∧ win0_4.index t = ![0, 0] ∧ win0_5.index t = ![t.val / 6, 0]
    ∧ win0_6.index t = ![0, 0] := by decide +kernel

/-- The blocks of window 5 fill its array. -/
theorem cov5 : (cfg0.win 5).Covers := by decide +kernel

/-- The blocks of window 6 fill its array. -/
theorem cov6 : (cfg0.win 6).Covers := by decide +kernel

/-- There are twenty-four points. -/
theorem lt24 (t : Fin grid0.N) : t.val < 24 := lt_of_lt_of_eq t.isLt (by decide)

/-- Row `p` of the row block of point `t`. -/
def pos (t : Fin grid0.N) (p : Fin 1024) : Fin 4096 := ⟨1024 * (t.val / 6) + p.val, by
  have h := lt24 t
  omega⟩

/-- The part a point takes. -/
def prt (t : Fin grid0.N) : Fin 6 := ⟨t.val % 6, Nat.mod_lt _ (by decide)⟩

variable (m : (ℓ : Loc nD τ sig) → Buf (Elt Ideal) ℓ) (c : Dev nD)

/-- A point's contribution in terms of the whole arrays. -/
theorem part_blk (t : Fin grid0.N) (p : Fin 1024) (j : Fin 1024) :
    part (iblk m c 0 t) (iblk m c 1 t) (ix2 p j) = partA (m ((c : Thread nD τ).loc main_arg0)) (m ((c : Thread nD τ).loc main_arg1)) (prt t) (pos t p) j := by
  unfold part partA pos prt
  refine congrArg₂ (· + ·) (Finset.sum_congr rfl fun k _ => ?_) (Finset.sum_congr rfl fun k _ => ?_)
  · congr 1 <;> blk_ext [iblk, V, idx _]
  · congr 1 <;> blk_ext [iblk, V, idx _]

/-- The same at a block's index. -/
theorem part_blk' (t : Fin grid0.N) (y : S1024x1024.Idx) :
    part (iblk m c 0 t) (iblk m c 1 t) y = partA (m ((c : Thread nD τ).loc main_arg0)) (m ((c : Thread nD τ).loc main_arg1)) (prt t) (pos t (y 0)) (y 1) := by
  idx_vars y
  exact part_blk m c t y0 y1

/-- A point's rows of the input. -/
theorem x_blk (t : Fin grid0.N) (p : Fin 1024) (j : Fin 1024) : iblk m c 2 t (ix2 p j) = (m ((c : Thread nD τ).loc main_arg2)) (ix2 (pos t p) j) := by
  unfold pos
  blk_ext [iblk, V, idx _]

/-- A point's rows of the direct gradient. -/
theorem do_blk (t : Fin grid0.N) (p : Fin 1024) (j : Fin 1024) : iblk m c 3 t (ix2 p j) = (m ((c : Thread nD τ).loc main_arg3)) (ix2 (pos t p) j) := by
  unfold pos
  blk_ext [iblk, V, idx _]

/-- The scale as a point sees it. -/
theorem g_blk (t : Fin grid0.N) (j : Fin 1024) : iblk m c 4 t (ix2 (0 : Fin 1) j) = (m ((c : Thread nD τ).loc main_arg4)) (ix2 (0 : Fin 1) j) := by
  blk_ext [iblk, V, idx _]

/-- The accumulator at the end of a row block is the cotangent's rows. -/
theorem acc_at (t : Fin grid0.N) (h5 : t.val % 6 = 6 - 1) (y : S1024x1024.Idx) :
    (outsAt0 m c t.val t.isLt).2.2 y = DXA (m ((c : Thread nD τ).loc main_arg0)) (m ((c : Thread nD τ).loc main_arg1)) (pos t (y 0)) (y 1) := by
  rw [Pipeline.eq_sum_fin_of_reset_step_apply_of_flush (fun n h => (outsAt0 m c n h).2.2) 6 (fun _ => (0 : EReal))
    (fun t y => part (iblk m c 0 t) (iblk m c 1 t) y)
    (fun t h j => by
      by_cases h0 : t.val % 24 = 0
      · rw [outsAt0_A m c t h0 h (by omega) (by omega)]; dsimp only; rw [sout_A, zero_add]
      · rw [outsAt0_D m c t h0 h (by omega) (by omega)]; dsimp only; rw [sout_D, zero_add])
    (fun t h j => by
      by_cases h5 : t.val % 6 = 5
      · rw [outsAt0_C m c t (by omega) h (by omega) h5]; dsimp only; rw [sout_C]
      · rw [outsAt0_B m c t (by omega) h (by omega) h5]; dsimp only; rw [sout_B]) t h5 _]
  rw [zero_add]
  unfold DXA
  refine Finset.sum_congr rfl fun s _ => ?_
  refine (part_blk' m c _ y).trans ?_
  have hs := s.isLt
  have e0 : ∀ h, prt ⟨6 * (t.val / 6) + s.val, h⟩ = s := fun h => Fin.ext (show (6 * (t.val / 6) + s.val) % 6 = s.val by omega)
  have e1 : ∀ h p, pos ⟨6 * (t.val / 6) + s.val, h⟩ p = pos t p := fun h p =>
    Fin.ext (show 1024 * ((6 * (t.val / 6) + s.val) / 6) + p.val = 1024 * (t.val / 6) + p.val by omega)
  rw [e0]
  exact congrArg (fun P => partA (m ((c : Thread nD τ).loc main_arg0)) (m ((c : Thread nD τ).loc main_arg1)) s P (y 1)) (e1 _ _)

/-- What the loop reads at the end of a row block. -/
theorem acc_C (t : Fin grid0.N) (h5 : t.val % 6 = 5) (hl : t.val - 1 < cfg0.N) :
    (fun y => ((outsAt0 m c (t.val - 1) hl).2.2 y : EReal) + part (iblk m c 0 t) (iblk m c 1 t) y)
      = fun y : S1024x1024.Idx => DXA (m ((c : Thread nD τ).loc main_arg0)) (m ((c : Thread nD τ).loc main_arg1)) (pos t (y 0)) (y 1) := by
  funext y
  refine Eq.trans ?_ (acc_at m c t h5 y)
  rw [outsAt0_C m c t (by omega) (by omega) (by omega) h5]
  dsimp only
  rw [sout_C]

/-- The first output ends at the gradient of the input. -/
theorem final5 : (dats (F := Ideal) m 0 c).arrAt 5 cfg0.N = fun j => GXA (m ((c : Thread nD τ).loc main_arg0)) (m ((c : Thread nD τ).loc main_arg1)) (m ((c : Thread nD τ).loc main_arg2)) (m ((c : Thread nD τ).loc main_arg3)) (m ((c : Thread nD τ).loc main_arg4)) (j 0) (j 1) := by
  refine (dats m 0 c).arrAt_eq_of_covers 5 _ cov5 fun t hf y => ?_
  have h5 : t.val % 6 = 5 := (flush0_5 t).mp hf
  blk_simp
  rw [after0_5]
  have e0 : (((win0_5.blk t).view.emb y) 0) = pos t (y 0) := by
    have h : (((win0_5.blk t).view.emb y) 0).val = (t.val / 6) * 1024 + (y 0).val := by blk_point [idx t]
    exact Fin.ext (h.trans (by rw [Nat.mul_comm]; rfl))
  have e1 : (((win0_5.blk t).view.emb y) 1) = y 1 := by
    apply Fin.ext
    blk_point [idx t]
  rw [e0, e1, outsAt0_C m c t (by omega) (by omega) (by omega) h5]
  dsimp only
  rw [out_C5, acc_C m c t h5]
  unfold gx GXA
  idx_vars y
  refine congrArg₂ (· + ·) (do_blk m c t y0 y1) ?_
  exact congrFun (congrArg₂ back (funext fun j => x_blk m c t y0 j) (funext fun j => congrArg (_ * ·) (g_blk m c t j))) y1

/-- What a point adds to the gradient of the scale. -/
def add6 (t : Fin grid0.N) (y : S8x1024.Idx) : EReal :=
  if t.val % 6 = 5 then (if (y 0).val = 0 then ∑ p : Fin 1024, TA (m ((c : Thread nD τ).loc main_arg0)) (m ((c : Thread nD τ).loc main_arg1)) (m ((c : Thread nD τ).loc main_arg2)) (pos t p) (y 1) else 0) else 0

/-- A last point's contribution in terms of the whole arrays. -/
theorem stat_blk (t : Fin grid0.N) (h5 : t.val % 6 = 5) (y : S8x1024.Idx) :
    stat (fun y : S1024x1024.Idx => DXA (m ((c : Thread nD τ).loc main_arg0)) (m ((c : Thread nD τ).loc main_arg1)) (pos t (y 0)) (y 1)) (iblk m c 2 t) (y 0) (y 1) = add6 m c t y := by
  unfold stat add6 term TA
  rw [if_pos h5]
  idx_vars y
  by_cases h : y0.val = 0
  · refine (if_pos h).trans (Eq.trans ?_ (if_pos h).symm)
    refine Finset.sum_congr rfl fun p _ => ?_
    exact congrArg (_ * ·) (congrArg₂ (· * ·) (x_blk m c t p y1) (congrArg rs (funext fun j => x_blk m c t p j)))
  · exact (if_neg h).trans (if_neg h).symm

/-- Only every sixth point adds. -/
theorem sum24 (T : Fin 24 → EReal) : ∑ s : Fin 24, (if s.val % 6 = 5 then T s else 0) = ∑ i : Fin 4, T ⟨i.val * 6 + 5, by omega⟩ := by
  rw [← Fin.sum_mul_add_congr (S := 4) (n := 6) (F := fun i q => if q.val = 5 then T ⟨i.val * 6 + q.val, by omega⟩ else 0)
    (f := fun s : Fin 24 => if s.val % 6 = 5 then T s else 0) fun s q hl => ?_]
  · refine Finset.sum_congr rfl fun i _ => ?_
    rw [Finset.sum_eq_single (5 : Fin 6)]
    · exact if_pos rfl
    · intro q _ hq
      exact if_neg fun h => hq (Fin.ext h)
    · intro h
      exact absurd (Finset.mem_univ _) h
  · dsimp only
    have hq := q.isLt
    by_cases h : q.val = 5
    · rw [if_pos h, if_pos (by omega)]
    · rw [if_neg h, if_neg (by omega)]

/-- The points' contributions add up to the gradient of the scale over the whole sequence. -/
theorem sum_add6 (f : Fin 24 → Fin grid0.N) (hf : ∀ s, (f s).val = s.val) (y : S8x1024.Idx) :
    ∑ s : Fin 24, add6 m c (f s) y = SXA (m ((c : Thread nD τ).loc main_arg0)) (m ((c : Thread nD τ).loc main_arg1)) (m ((c : Thread nD τ).loc main_arg2)) (y 0) (y 1) := by
  unfold add6 SXA
  simp only [hf]
  rw [sum24 (fun s => if (y 0).val = 0 then ∑ p : Fin 1024, TA (m ((c : Thread nD τ).loc main_arg0)) (m ((c : Thread nD τ).loc main_arg1)) (m ((c : Thread nD τ).loc main_arg2)) (pos (f s) p) (y 1) else 0)]
  by_cases h : (y 0).val = 0
  · simp only [if_pos h]
    refine Fin.sum_mul_add_congr (S := 4) (n := 1024) fun i p hl => ?_
    have e : pos (f ⟨i.val * 6 + 5, by omega⟩) p = ⟨i.val * 1024 + p.val, hl⟩ := by
      refine Fin.ext ?_
      show 1024 * ((f ⟨i.val * 6 + 5, _⟩).val / 6) + p.val = i.val * 1024 + p.val
      rw [hf]
      dsimp only
      omega
    rw [e]
  · simp only [if_neg h]
    exact Finset.sum_const_zero

/-- The second output ends at the gradient of the scale. -/
theorem final6 : (dats (F := Ideal) m 0 c).arrAt 6 cfg0.N = fun j => SXA (m ((c : Thread nD τ).loc main_arg0)) (m ((c : Thread nD τ).loc main_arg1)) (m ((c : Thread nD τ).loc main_arg2)) (j 0) (j 1) := by
  refine (dats m 0 c).arrAt_eq_of_covers 6 _ cov6 fun t hf y => ?_
  have hr : t.val % 24 = 24 - 1 := (flush0_6 t).mp hf
  blk_simp
  rw [after0_6]
  rw [Pipeline.eq_sum_fin_of_reset_step_apply_of_flush (fun n h => (outsAt0 m c n h).2.1) 24 (fun _ => (0 : EReal))
    (fun t y => add6 m c t y)
    (fun t h j => by
      rw [outsAt0_A m c t h (by omega) (by omega) (by omega)]
      dsimp only
      rw [out_A6]
      exact ((congrArg ((0 : EReal) + ·) (show add6 m c t j = 0 from if_neg (by omega))).trans (zero_add _)).symm)
    (fun t h j => by
      by_cases h5 : t.val % 6 = 5
      · rw [outsAt0_C m c t h (by omega) (by omega) h5]
        dsimp only
        rw [out_C6, acc_C m c t h5, stat_blk m c t h5]
      · refine Eq.trans ?_ ((congrArg (_ + ·) (show add6 m c t j = 0 from if_neg h5)).trans (add_zero _)).symm
        by_cases h6 : t.val % 6 = 0
        · rw [outsAt0_D m c t h h6 (by omega) h5]
          dsimp only
          rw [out_D6]
        · rw [outsAt0_B m c t h h6 (by omega) h5]
          dsimp only
          rw [out_B6]) t hr _]
  rw [zero_add]
  have ht : t.val / 24 = 0 := by
    have h := lt24 t
    omega
  have e0 : (((win0_6.blk t).view.emb y) 0) = y 0 := by
    apply Fin.ext
    blk_point [idx t]
  have e1 : (((win0_6.blk t).view.emb y) 1) = y 1 := by
    apply Fin.ext
    blk_point [idx t]
  rw [e0, e1]
  have hN : ∀ s : Fin 24, 24 * (t.val / 24) + s.val < grid0.N := fun s => lt_of_lt_of_eq (by omega) (by decide : 24 = grid0.N)
  have hf : ∀ s : Fin 24, 24 * (t.val / 24) + s.val = s.val := fun s => by omega
  exact sum_add6 m c (fun s => ⟨24 * (t.val / 24) + s.val, hN s⟩) hf y

end Cert.Kernel4Ideal.Hand

end
-- ==== Proof.V4R.lean ====
/- The gradient of the input: the reference read element by element, and the claims. -/
module

public import proofs.«01_k».proof.Defs
public import proofs.«01_k».proof.Proof.Norm
public import proofs.«01_k».proof.Proof.V4
public import proofs.«01_k».proof.Proof.V4F
public import proofs.«01_k».proof.Proof.Gen.Kernel4.Frame
public import proofs.«01_k».proof.Proof.Gen.Kernel4Ideal.Value
public import proofs.«01_k».proof.Proof.Gen.Reference4Ideal.Run
public import proofs.«01_k».proof.Proof.Gen.Reference4Ideal.Read
public import Idealize.ShloMosaic.Lib.Pipeline.ValueKit
public import Idealize.ShloMosaic.Lib.Pipeline.ReadBack
public import Idealize.ShloMosaic.Lib.Pointwise
public import Idealize.ShloMosaic.Lib.Tactic
public import Idealize.ShloMosaic.Lib.Quiescent

@[expose] public section

set_option maxRecDepth 16384

noncomputable section

open Idealize.ShloMosaic Idealize.ShloMosaic.TcCoe Idealize.SL.Sem
open Idealize.ShloMosaic.Pipeline (Dat)

namespace Cert.Proof.C4

open Cert.Norm Cert.Kernel4Ideal.Hand Cert.Reference4Ideal.Read Cert.Reference4Ideal

section Ref
variable (x0 : Vec Ideal S6x4096x1024 .bf16) (x1 : Vec Ideal S12x1024x512 .bf16) (x2 x3 : Vec Ideal S4096x1024 .f32) (x4 : Vec Ideal S1x1024 .f32)

/-- The mean square and the guard. -/
theorem v10_apply (p : Fin 4096) : val_main_v10 (F := Ideal) x2 (ix2 p (0 : Fin 1)) = Ideal.div (∑ k : Fin 1024, (x2 (ix2 p k) : EReal) * (x2 (ix2 p k) : EReal)) (Ideal.ofBits .f32 0x44800000#32) + Ideal.ofBits .f32 0x358637BD#32 := by
  unfold val_main_v10 val_main_v9 val_main_v8 val_main_v7 val_main_v6 val_main_v5 val_main_v4 val_main_cst_1 val_main_cst_0 val_main_cst
  pointwise [zero32]

/-- Its inverse root. -/
theorem v11_apply (p : Fin 4096) : val_main_v11 (F := Ideal) x2 (ix2 p (0 : Fin 1)) = rs (fun j => x2 (ix2 p j)) := by
  unfold val_main_v11 rs
  pointwise [zero32, v10_apply]

/-- Half the derivative of the root. -/
theorem v14_apply (p : Fin 4096) : val_main_v14 (F := Ideal) x2 (ix2 p (0 : Fin 1)) = Ideal.ofBits .f32 0xBF000000#32 * Ideal.div (rs (fun j => x2 (ix2 p j))) (Ideal.div (∑ k : Fin 1024, (x2 (ix2 p k) : EReal) * (x2 (ix2 p k) : EReal)) (Ideal.ofBits .f32 0x44800000#32) + Ideal.ofBits .f32 0x358637BD#32) := by
  unfold val_main_v14 val_main_v13 val_main_v12 val_main_cst_2
  pointwise [zero32, v10_apply, v11_apply]

/-- The normalised input. -/
theorem v16_apply (p : Fin 4096) (j : Fin 1024) : val_main_v16 (F := Ideal) x2 (ix2 p j) = (x2 (ix2 p j) : EReal) * rs (fun j => x2 (ix2 p j)) := by
  unfold val_main_v16 val_main_v15
  pointwise [zero32, v11_apply]

/-- The scale. -/
theorem v28_apply (p : Fin 4096) (j : Fin 1024) : val_main_v28 (F := Ideal) x4 (ix2 p j) = x4 (ix2 (0 : Fin 1) j) := by
  unfold val_main_v28 val_main_v17 val_main_v3
  pointwise [zero32]

/-- The weight, its columns in order. -/
theorem v2_apply (j : Fin 1024) (s : Fin 12) (k : Fin 512) (h : s.val * 512 + k.val < 6144) : val_main_v2 (F := Ideal) x1 (ix2 j (⟨s.val * 512 + k.val, h⟩ : Fin 6144)) = x1 (ix3 s j k) := by
  unfold val_main_v2 val_main_v1 val_main_v0
  pointwise [zero32]
  blk_ext []

/-- The cotangent, its columns in order. -/
theorem v23_apply (p : Fin 4096) (s : Fin 6) (k : Fin 1024) (h : s.val * 1024 + k.val < 6144) : val_main_v23 (F := Ideal) x0 (ix2 p (⟨s.val * 1024 + k.val, h⟩ : Fin 6144)) = x0 (ix3 s p k) := by
  unfold val_main_v23 val_main_v22 val_main_v21
  pointwise [zero32]
  blk_ext []

/-- The cotangent of the normalised input. -/
theorem v24_apply (p : Fin 4096) (j : Fin 1024) : val_main_v24 (F := Ideal) x0 x1 (ix2 p j) = DXA x0 x1 p j := by
  unfold val_main_v24
  pointwise [zero32]
  unfold DXA partA
  refine (Fin.sum_mul_add_congr (S := 6) (n := 1024) (F := fun s k => (x0 (ix3 s p k) : EReal) * val_main_v2 (F := Ideal) x1 (ix2 j (⟨s.val * 1024 + k.val, by omega⟩ : Fin 6144)))
    fun s k hl => ?_).symm.trans (Finset.sum_congr rfl fun s _ => ?_)
  · exact congrArg (· * _) (v23_apply x0 p s k hl).symm
  · refine (Fin.sum_mul_add_congr (S := 2) (n := 512) (F := fun q k => (x0 (ix3 s p (⟨q.val * 512 + k.val, by omega⟩ : Fin 1024)) : EReal) * x1 (ix3 (⟨2 * s.val + q.val, by omega⟩ : Fin 12) j k))
      fun q k hl => ?_).symm.trans ?_
    · refine congrArg (_ * ·) ((v2_apply x1 j ⟨2 * s.val + q.val, by omega⟩ k (by dsimp only; omega)).symm.trans (congrArg (fun l => val_main_v2 (F := Ideal) x1 (ix2 j l)) (Fin.ext ?_)))
      dsimp only
      omega
    · rw [Fin.sum_univ_two]
      refine congrArg₂ (· + ·) (Finset.sum_congr rfl fun k _ => ?_) (Finset.sum_congr rfl fun k _ => ?_)
      · congr 1
        blk_ext []
      · congr 1

/-- The cotangent of the scaled rows. -/
theorem v29_apply (p : Fin 4096) (j : Fin 1024) : val_main_v29 (F := Ideal) x0 x1 x4 (ix2 p j) = DXA x0 x1 p j * (x4 (ix2 (0 : Fin 1) j) : EReal) := by
  unfold val_main_v29
  pointwise [zero32, v24_apply, v28_apply]

/-- The term through the mean square. -/
theorem v39_apply (p : Fin 4096) : val_main_v39 (F := Ideal) x0 x1 x2 x4 (ix1 p) = Ideal.div ((∑ k : Fin 1024, (x2 (ix2 p k) : EReal) * (DXA x0 x1 p k * (x4 (ix2 (0 : Fin 1) k) : EReal))) * (Ideal.ofBits .f32 0xBF000000#32 * Ideal.div (rs (fun j => x2 (ix2 p j))) (Ideal.div (∑ k : Fin 1024, (x2 (ix2 p k) : EReal) * (x2 (ix2 p k) : EReal)) (Ideal.ofBits .f32 0x44800000#32) + Ideal.ofBits .f32 0x358637BD#32))) (Ideal.ofBits .f32 0x44800000#32) := by
  unfold val_main_v39 val_main_v38 val_main_v37 val_main_v36 val_main_v33 val_main_v32 val_main_v31 val_main_cst_7 val_main_cst_6 val_main_cst_5
  pointwise [zero32, v29_apply]
  rw [Fin.sum_univ_one, v14_apply]

/-- The gradient of the input. -/
theorem v45_apply (p : Fin 4096) (j : Fin 1024) : val_main_v45 (F := Ideal) x0 x1 x2 x3 x4 (ix2 p j) = GXA x0 x1 x2 x3 x4 p j := by
  unfold val_main_v45 val_main_v44 val_main_v43 val_main_v42 val_main_v41 val_main_v40 val_main_v35 val_main_v34 GXA
  pointwise [zero32, v11_apply, v29_apply, v39_apply]
  rw [back_eq]

/-- The gradient of the scale. -/
theorem v30_apply (j : Fin 1024) : val_main_v30 (F := Ideal) x0 x1 x2 (ix1 j) = ∑ P : Fin 4096, TA x0 x1 x2 P j := by
  unfold val_main_v30 val_main_v27 val_main_v26 val_main_v25 val_main_cst_4 val_main_cst_3 TA
  pointwise [zero32, v16_apply, v24_apply]
  rw [Fin.sum_univ_one]
  refine Finset.sum_congr rfl fun p _ => ?_
  rw [mul_comm]

/-- The gradient of the scale as a block. -/
theorem v48_apply (r : Fin 8) (j : Fin 1024) : val_main_v48 (F := Ideal) x0 x1 x2 (ix2 r j) = SXA x0 x1 x2 r j := by
  unfold val_main_v48 val_main_v47 val_main_v46 val_main_cst_8 SXA
  pointwise [zero32, v30_apply]
  by_cases h0 : r.val = 0
  · rw [dif_pos (by omega), if_pos h0]
  · rw [dif_neg (by omega), if_neg h0]

end Ref

/-- The kernel comes to an end. -/
theorem frame_p : Cert.quiescent_Kernel4 := fun m ρ _ => Cert.Kernel4.Gen.frame m ρ

/-- So does its idealisation. -/
theorem frame_pi : Cert.quiescent_Kernel4Ideal := fun m ρ _ => Cert.Kernel4Ideal.Gen.frame m ρ

/-- So does the reference. -/
theorem frame_r : Cert.quiescent_Reference4Ideal := fun m ρ _ =>
  (θ_run Cert.Reference4Ideal.defs _ _).mono (fun r h => ⟨fun c => (h c).2.2,
      Idealize.ShloMosaic.sem_eq_zero_of_no_sems (by decide) r.2⟩)
    (Cert.Reference4Ideal.Value.run (F := Ideal) m ρ)

/-- The reference's two results are what the kernel's two arrays end at. -/
theorem algebraic : Cert.algebraic_Kernel4Ideal_Reference4Ideal := by
  intro m ρ m' ρ' _ hagree
  refine ⟨fun c => (Cert.Kernel4Ideal.Gen.dats (F := Ideal) m 0 c).arrAt 5 Cert.Kernel4Ideal.cfg0.N,
    fun c => (Cert.Kernel4Ideal.Gen.dats (F := Ideal) m 0 c).arrAt 6 Cert.Kernel4Ideal.cfg0.N,
    Cert.Kernel4Ideal.Value.run_blocks (F := Ideal) m ρ, ?_⟩
  refine (θ_run Cert.Reference4Ideal.defs _ _).mono (fun _ h c => ⟨(h c).1.trans ?_, (h c).2.1.trans ?_, (h c).2.2⟩)
    (Cert.Reference4Ideal.Value.run (F := Ideal) m' ρ')
  all_goals
    obtain ⟨g0, g1, g2, g3, g4⟩ := hagree c
  · rw [val_main_v45_eq, g0, g1, g2, g3, g4]
    refine Eq.trans ?_ (Cert.Kernel4Ideal.Hand.final5 m c).symm
    funext i
    idx_vars i
    exact v45_apply _ _ _ _ _ _ _
  · rw [val_main_v48_eq, g0, g1, g2]
    refine Eq.trans ?_ (Cert.Kernel4Ideal.Hand.final6 m c).symm
    funext i
    idx_vars i
    exact v48_apply _ _ _ _ _

end Cert.Proof.C4

end
-- ==== Proof.V5.lean ====
/- The gradient of the out projection's weight: what the kernel's result array ends at, and the reference's. -/
module

public import proofs.«01_k».proof.Defs
public import proofs.«01_k».proof.Proof.Norm
public import proofs.«01_k».proof.Proof.Gen.Kernel5.Frame
public import proofs.«01_k».proof.Proof.Gen.Kernel5Ideal.Value
public import proofs.«01_k».proof.Proof.Gen.Reference5Ideal.Run
public import proofs.«01_k».proof.Proof.Gen.Reference5Ideal.Read
public import Idealize.ShloMosaic.Lib.Pipeline.ValueKit
public import Idealize.ShloMosaic.Lib.Pipeline.ReadBack
public import Idealize.ShloMosaic.Lib.Pointwise
public import Idealize.ShloMosaic.Lib.Tactic
public import Idealize.ShloMosaic.Lib.Quiescent

@[expose] public section

set_option maxRecDepth 16384

noncomputable section

open Idealize.ShloMosaic Idealize.ShloMosaic.TcCoe Idealize.SL.Sem
open Idealize.ShloMosaic.Pipeline (Dat)

namespace Cert.Kernel5Ideal.Hand

open Cert.Kernel5Ideal Cert.Kernel5Ideal.Gen
open Cert.Norm (zero32)

/-- A row of the two inputs side by side. -/
def side {n : ℕ} (x0 x1 : Fin n → Fin 1024 → EReal) (k : Fin n) (j : Fin 2048) : EReal :=
  if h : j.val < 1024 then x0 k ⟨j.val, h⟩ else x1 k ⟨j.val - 1024, by omega⟩

/-- One grid point's contribution: the point's rows of the two inputs side by side, transposed, times its rows of the cotangent. -/
def part (x0 x1 x2 : Vec Ideal S512x1024 .bf16) (y : S2048x1024.Idx) : EReal :=
  ∑ k : Fin 512, side (fun k j => x0 (ix2 k j)) (fun k j => x1 (ix2 k j)) k (y 0) * (x2 (ix2 k (y 1)) : EReal)

/-- The first point stores its contribution. -/
theorem out_A (c : Dev nD) (i : grid0.Coords) (a1 : Memref sig .tc .vmem S512x1024 .bf16) (h1 : a1.IsWhole)
    (a2 : Memref sig .tc .vmem S512x1024 .bf16) (h2 : a2.IsWhole) (a3 : Memref sig .tc .vmem S512x1024 .bf16) (h3 : a3.IsWhole)
    (a4 : Memref sig .tc .vmem S2048x1024 .f32) (h4 : a4.IsWhole)
    (hc0 : cond0_0 i) (x0 x1 x2 : Vec Ideal S512x1024 .bf16) (y : S2048x1024.Idx) :
    out0_A_3 (F := Ideal) c i a1 h1 a2 h2 a3 h3 a4 h4 hc0 x0 x1 x2 y = part x0 x1 x2 y := by
  frame_out
  refine View.canon_append_of_piecesOf (Val := Elt Ideal) (e := .f32) (s := S2048x1024) (part x0 x1 x2) [_] [_, _] ?_ y ?_
  swap
  · exact View.cover_of_tiledL (s := S2048x1024) _ S1024x1024.size (by sl_kernel_rfl) y
  refine ⟨fun x => ?_, fun x => ?_, trivial⟩
  · have e : ∀ r : Rect S2048x1024, a4.view.readCov (Val := Elt Ideal) [⟨Rect.unit (s := S2048x1024) ![0, 0] ![2048, 1024] inb_S2048x1024_S2048x1024_0_0,
        k0_pay1 (F := Ideal)⟩] r.toLoadRect = View.ld (k0_pay1 (F := Ideal)) r := fun r => View.readCov_fill (s := S2048x1024) (off := ![0, 0]) _ _ _ _ _ (by decide)
    dsimp only
    rw [View.readCov_skip _ _ _ _ _ (by decide), e]
    unfold_payloads
    unfold part side
    pointwise [zero32]
    refine Finset.sum_congr rfl fun k _ => ?_
    have e0 : ((Rect.unit (s := S2048x1024) ![1024, 0] ![1024, 1024] inb_S2048x1024_S1024x1024_1024_0).emb x 0).val = 1024 + (x 0).val := by
      blk_point []
    rw [dif_neg (by omega)]
    congr 1 <;> blk_ext []
  · have e : ∀ r : Rect S2048x1024, a4.view.readCov (Val := Elt Ideal) [⟨Rect.unit (s := S2048x1024) ![0, 0] ![2048, 1024] inb_S2048x1024_S2048x1024_0_0,
        k0_pay1 (F := Ideal)⟩] r.toLoadRect = View.ld (k0_pay1 (F := Ideal)) r := fun r => View.readCov_fill (s := S2048x1024) (off := ![0, 0]) _ _ _ _ _ (by decide)
    dsimp only
    rw [e]
    unfold_payloads
    unfold part side
    pointwise [zero32]
    refine Finset.sum_congr rfl fun k _ => ?_
    have e0 : ((Rect.unit (s := S2048x1024) ![0, 0] ![1024, 1024] inb_S2048x1024_S1024x1024_0_0).emb x 0).val = (x 0).val := by
      blk_point []
    have hx : (x 0).val < 1024 := (x 0).isLt
    rw [dif_pos (by omega)]
    congr 1 <;> blk_ext []

/-- A later point adds its contribution to what the block holds. -/
theorem out_B (c : Dev nD) (i : grid0.Coords) (a1 : Memref sig .tc .vmem S512x1024 .bf16) (h1 : a1.IsWhole)
    (a2 : Memref sig .tc .vmem S512x1024 .bf16) (h2 : a2.IsWhole) (a3 : Memref sig .tc .vmem S512x1024 .bf16) (h3 : a3.IsWhole)
    (a4 : Memref sig .tc .vmem S2048x1024 .f32) (h4 : a4.IsWhole)
    (hc0 : ¬cond0_0 i) (x0 x1 x2 : Vec Ideal S512x1024 .bf16) (xo : Vec Ideal S2048x1024 .f32) (y : S2048x1024.Idx) :
    out0_B_3 (F := Ideal) c i a1 h1 a2 h2 a3 h3 a4 h4 hc0 x0 x1 x2 xo y = (xo y : EReal) + part x0 x1 x2 y := by
  frame_out
  canon_tiles x h
  all_goals
    unfold_payloads
    unfold part side
    pointwise [zero32]
  · congr 1
    · blk_ext []
    · refine Finset.sum_congr rfl fun k _ => ?_
      rw [dif_neg (by omega)]
      congr 1 <;> blk_ext []
  · congr 1
    · blk_ext []
    · refine Finset.sum_congr rfl fun k _ => ?_
      rw [dif_pos (by omega)]
      congr 1 <;> blk_ext []

/-- The index maps of the windows. -/
theorem idx : ∀ t : Fin grid0.N, win0_0.index t = ![t.val, 0] ∧ win0_1.index t = ![t.val, 0] ∧ win0_2.index t = ![t.val, 0]
    ∧ win0_3.index t = ![0, 0] := by decide +kernel

/-- The result: every element is the sum over the positions of the inputs side by side times the cotangent. -/
def G (a0 a1 a2 : Vec Ideal S4096x1024 .bf16) (j : S2048x1024.Idx) : EReal :=
  ∑ k : Fin 4096, side (fun k j => a0 (ix2 k j)) (fun k j => a1 (ix2 k j)) k (j 0) * (a2 (ix2 k (j 1)) : EReal)

variable (m : (ℓ : Loc nD τ sig) → Buf (Elt Ideal) ℓ)

/-- The result array ends at the product over all positions. -/
theorem final (c : Dev nD) : (dats (F := Ideal) m 0 c).arrAt 3 cfg0.N
    = fun j => G (m ((c : Thread nD τ).loc main_arg0)) (m ((c : Thread nD τ).loc main_arg1)) (m ((c : Thread nD τ).loc main_arg2)) j := by
  refine (dats m 0 c).arrAt_eq_of_covers 3 _ (by decide +kernel) fun t hf y => ?_
  have hr : t.val % 8 = 8 - 1 := (flush0_3 t).mp hf
  blk_simp
  rw [after0_3]
  rw [Pipeline.eq_sum_fin_of_reset_step_apply_of_flush (fun n h => outsAt0 m c n h) 8 (fun _ => (0 : EReal))
    (fun t y => part (iblk m c 0 t) (iblk m c 1 t) (iblk m c 2 t) y)
    (fun t h j => by rw [outsAt0_A m c t h, out_A, zero_add])
    (fun t h j => by rw [outsAt0_B m c t (by omega), out_B]) t hr _]
  rw [zero_add]
  have ht : t.val / 8 = 0 := by
    have h : t.val < 8 := lt_of_lt_of_eq t.isLt (by decide)
    omega
  unfold part G
  refine Fin.sum_mul_add_congr (S := 8) (n := 512) fun s k hl => ?_
  unfold side
  have e0 : (((win0_3.blk t).view.emb y) 0).val = (y 0).val := by blk_point [idx t]
  simp only [e0]
  split
  · congr 1 <;> blk_ext [iblk, V, idx _]
  · congr 1 <;> blk_ext [iblk, V, idx _]

end Cert.Kernel5Ideal.Hand

namespace Cert.Proof.C5

/-- The reference's result, element by element. -/
theorem ref_apply (a0 a1 a2 : Vec Ideal Cert.Kernel5Ideal.S4096x1024 .bf16) :
    Cert.Reference5Ideal.Read.val_main_v7 (F := Ideal) a0 a1 a2 = fun j => Cert.Kernel5Ideal.Hand.G a0 a1 a2 j := by
  funext j
  unfold Cert.Kernel5Ideal.Hand.G Cert.Kernel5Ideal.Hand.side
  rw [Cert.Reference5Ideal.Read.val_main_v7_apply, Cert.Reference5Ideal.Read.val_main_v6_apply]
  refine Finset.sum_congr rfl fun k _ => ?_
  rw [mul_comm]
  unfold Cert.Reference5Ideal.Read.val_main_v5 Cert.Reference5Ideal.Read.val_main_v2 Cert.Reference5Ideal.Read.val_main_v1 Cert.Reference5Ideal.Read.val_main_v0
  idx_vars j
  pointwise
  congr 2
  funext a
  fin_cases a <;> rfl

/-- The kernel comes to an end. -/
theorem frame_p : Cert.quiescent_Kernel5 := fun m ρ _ => Cert.Kernel5.Gen.frame m ρ
/-- So does its idealisation. -/
theorem frame_pi : Cert.quiescent_Kernel5Ideal := fun m ρ _ => Cert.Kernel5Ideal.Gen.frame m ρ
/-- So does the reference. -/
theorem frame_r : Cert.quiescent_Reference5Ideal := fun m ρ _ =>
  (θ_run Cert.Reference5Ideal.defs _ _).mono (fun r h => ⟨fun c => (h c).2,
      Idealize.ShloMosaic.sem_eq_zero_of_no_sems (by decide) r.2⟩)
    (Cert.Reference5Ideal.Value.run (F := Ideal) m ρ)

/-- The reference's result is what the kernel's array ends at. -/
theorem algebraic : Cert.algebraic_Kernel5Ideal_Reference5Ideal := by
  intro m ρ m' ρ' _ hagree
  refine ⟨fun c => (Cert.Kernel5Ideal.Gen.dats (F := Ideal) m 0 c).arrAt 3 Cert.Kernel5Ideal.cfg0.N,
    Cert.Kernel5Ideal.Value.run_blocks (F := Ideal) m ρ, ?_⟩
  refine (θ_run Cert.Reference5Ideal.defs _ _).mono (fun _ h c => ⟨(h c).1.trans ?_, (h c).2⟩)
    (Cert.Reference5Ideal.Value.run (F := Ideal) m' ρ')
  refine Eq.trans ?_ (Cert.Kernel5Ideal.Hand.final m c).symm
  rw [(hagree c).1, (hagree c).2.1, (hagree c).2.2]
  exact ref_apply _ _ _

end Cert.Proof.C5

end
-- ==== Proof.V6F.lean ====
module

public import proofs.«01_k».proof.Proof.Gen.Kernel6Ideal.Frame
public import proofs.«01_k».proof.Proof.Gen.Kernel6Ideal.Loops
public import Idealize.ShloMosaic.Lib.Pipeline.TableIdle

/-! The in projection's run: a row block's normalised rows are computed at its first column block, kept in the
scratch and in the second output's buffer, and multiplied by the three weight blocks of every column block. -/

@[expose] public section

set_option maxRecDepth 16384

noncomputable section

namespace Cert.Kernel6Ideal.Hand

open Cert.Kernel6Ideal Cert.Kernel6Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The first column block of a row block. -/
abbrev first (i : grid0.Coords) : Prop := k0_cond1 i = 1#1

/-- Every fourth point is one. -/
theorem first_iff (t : Fin cfg0.N) : first (grid0.coords t) ↔ t.val % 4 = 0 :=
  (fun t => by
    have ht : t.val < 16 := Nat.lt_of_lt_of_eq t.isLt N_0
    have e0 : (grid0.coords t 0).val = t.val / 4 % 4 := Pipeline.Grid.coords_val t 0 (by decide) rfl
    have e1 : (grid0.coords t 1).val = t.val / 1 % 4 := Pipeline.Grid.coords_val t 1 (by decide) rfl
    simp only [first, k0_cond1, e0, e1]
    word_cmp
   : ∀ t : Fin grid0.N, first (grid0.coords t) ↔ t.val % 4 = 0) t

section Runs
variable (c : Dev nD) (i : grid0.Coords) (a2 : Memref sig .tc .vmem S1024x1024 .f32) (h2 : a2.IsWhole) (a3 : Memref sig .tc .vmem S1x1024 .f32) (h3 : a3.IsWhole) (a4 : Memref sig .tc .vmem S3x1024x512 .bf16) (h4 : a4.IsWhole) (a5 : Memref sig .tc .vmem S1024x1536 .f32) (h5 : a5.IsWhole) (a6 : Memref sig .tc .vmem S1024x1024 .bf16) (h6 : a6.IsWhole) (a7 : Memref sig .tc .vmem S1024x1024 .bf16) (h7 : a7.IsWhole)
variable (x0 : Vec F S1024x1024 .f32) (x1 : Vec F S1x1024 .f32) (x2 : Vec F S3x1024x512 .bf16) (xo xs : Vec F S1024x1024 .bf16)

/-- The pieces the eight trips store into the rows' buffer and into the scratch. -/
abbrev slabs (hc : first i) :=
  pb_k0_t1 (F := F) Variants.none c none i a2 h2 a3 h3 a4 h4 a5 h5 a6 h6 a7 h7 hc (h2.unread x0) (h3.unread x1) k0_t1_loop.trips

set_option maxHeartbeats 1000000 in
/-- The eight trips' run. -/
theorem loop_run (hc : first i) (f6 : BufTy.Contents (Elt F) a6.view.ty) (f7 : BufTy.Contents (Elt F) a7.view.ty) (E : Set ℕ) (K : PUnit → sProp 𝕄) :
    iprop((a2.view.loc (c : Thread nD τ) ↦[a2.view.set]{fullShare} h2.unread x0) ∗ (a3.view.loc (c : Thread nD τ) ↦[a3.view.set]{fullShare} h3.unread x1)
        ∗ (a6.view.loc (c : Thread nD τ) ↦[a6.view.set]{fullShare} f6) ∗ (a7.view.loc (c : Thread nD τ) ↦[a7.view.set]{fullShare} f7)
        ∗ (iprop((a2.view.loc (c : Thread nD τ) ↦[a2.view.set]{fullShare} h2.unread x0) ∗ (a3.view.loc (c : Thread nD τ) ↦[a3.view.set]{fullShare} h3.unread x1)
          ∗ (a6.view.loc (c : Thread nD τ) ↦[a6.view.set]{fullShare} a6.view.writes (Elt F) f6 (slabs c i a2 h2 a3 h3 a4 h4 a5 h5 a6 h6 a7 h7 x0 x1 hc).1)
          ∗ (a7.view.loc (c : Thread nD τ) ↦[a7.view.set]{fullShare} a7.view.writes (Elt F) f7 (slabs c i a2 h2 a3 h3 a4 h4 a5 h5 a6 h6 a7 h7 x0 x1 hc).2)) -∗ K ⟨⟩))
      ⊢ wp frame (wpE (defs₀ (F := F)) Variants.none c none) E
          (Scf.Loop.for k0_t1_loop (k0_t1_ok i hc) ⟨⟩ (k0_t1_body (F := F) i a2 h2 a3 h3 a4 h4 a5 h5 a6 h6 a7 h7 hc)) K := by
  iintro ⟨H2, H3, H6, H7, Hk⟩
  sl_exec
  iapply Hk
  isplitl [H2]; · iexact H2
  isplitl [H3]; · iexact H3
  isplitl [H6]; · iexact H6
  iexact H7

/-- The trips' slabs cover the rows' buffer. -/
theorem cover6 (hc : first i) (y : S1024x1024.Idx) :
    ∃ pc ∈ (slabs c i a2 h2 a3 h3 a4 h4 a5 h5 a6 h6 a7 h7 x0 x1 hc).1, y ∈ pc.1.set :=
  View.cover_of_tiledL (slabs c i a2 h2 a3 h3 a4 h4 a5 h5 a6 h6 a7 h7 x0 x1 hc).1 S128x1024.size (by sl_kernel_rfl) y
/-- They cover the scratch. -/
theorem cover7 (hc : first i) (y : S1024x1024.Idx) :
    ∃ pc ∈ (slabs c i a2 h2 a3 h3 a4 h4 a5 h5 a6 h6 a7 h7 x0 x1 hc).2, y ∈ pc.1.set :=
  View.cover_of_tiledL (slabs c i a2 h2 a3 h3 a4 h4 a5 h5 a6 h6 a7 h7 x0 x1 hc).2 S128x1024.size (by sl_kernel_rfl) y

/-- The product's buffers, the rows' buffers and the scratch, as views their contents are stated through. -/
abbrev VO5 : View sig .tc .vmem S1024x1536 .f32 := (Memref.whole cc0_stg3_0 : Memref sig .tc .vmem S1024x1536 .f32).view
/-- A buffer of the rows. -/
abbrev VO6 : View sig .tc .vmem S1024x1024 .bf16 := (Memref.whole cc0_stg4_0 : Memref sig .tc .vmem S1024x1024 .bf16).view
/-- The scratch. -/
abbrev scr : Memref sig .tc .vmem S1024x1024 .bf16 := Memref.whole cc0_scratch0

/-- The rows' buffer after the trips. -/
def rows6 (hc : first i) : Vec F S1024x1024 .bf16 :=
  VO6.read (Elt F) (VO6.writes (Elt F) VO6.junk (slabs c i a2 h2 a3 h3 a4 h4 a5 h5 a6 h6 a7 h7 x0 x1 hc).1)
/-- The scratch after the trips. -/
def rows7 (hc : first i) : Vec F S1024x1024 .bf16 :=
  scr.view.read (Elt F) (scr.view.writes (Elt F) scr.view.junk (slabs c i a2 h2 a3 h3 a4 h4 a5 h5 a6 h6 a7 h7 x0 x1 hc).2)

set_option maxHeartbeats 1000000 in
/-- The body at a row block's first column block: the pieces it stores into the product's buffer; the rows' buffer and the scratch end with the normalised rows. -/
def runA (hc : first i) :
    { L5 : List (View.Piece (Elt F) S1024x1536 .f32) //
      ∀ (E : Set ℕ) (K : PUnit → sProp 𝕄),
        iprop(owns (c : Thread nD τ) a2 fullShare x0 ∗ owns (c : Thread nD τ) a3 fullShare x1 ∗ owns (c : Thread nD τ) a4 fullShare x2
            ∗ (∃ d, owns (c : Thread nD τ) a5 fullShare d) ∗ (∃ d, owns (c : Thread nD τ) a6 fullShare d) ∗ (∃ d, owns (c : Thread nD τ) a7 fullShare d)
            ∗ (iprop(owns (c : Thread nD τ) a2 fullShare x0 ∗ owns (c : Thread nD τ) a3 fullShare x1 ∗ owns (c : Thread nD τ) a4 fullShare x2
              ∗ (∃ f, a5.view.loc (c : Thread nD τ) ↦[a5.view.set]{fullShare} a5.view.writes (Elt F) f L5)
              ∗ owns (c : Thread nD τ) a6 fullShare (rows6 c i a2 h2 a3 h3 a4 h4 a5 h5 a6 h6 a7 h7 x0 x1 hc)
              ∗ owns (c : Thread nD τ) a7 fullShare (rows7 c i a2 h2 a3 h3 a4 h4 a5 h5 a6 h6 a7 h7 x0 x1 hc)) -∗ K ⟨⟩))
          ⊢ wp frame (wpE (defs₀ (F := F)) Variants.none c none) E (cc0_in_projection i a2 h2 a3 h3 a4 h4 a5 h5 a6 h6 a7 h7) K } := by
  refine ⟨?_, fun E K => ?run⟩
  case run =>
    simp only [cc0_in_projection_eq_skeleton]; unfold cc0_in_projection_skel
    unfold owns
    iintro ⟨⟨%f2, %e2, H2⟩, ⟨%f3, %e3, H3⟩, ⟨%f4, %e4, H4⟩, ⟨%d5, %f5, -, H5⟩, ⟨%d6, %f6, -, H6⟩, ⟨%d7, %f7, -, H7⟩, Hk⟩
    obtain rfl := h2.eq_unread e2; obtain rfl := h3.eq_unread e3; obtain rfl := h4.eq_unread e4
    dsimp only
    rw [dif_pos hc, wp_bind]
    iapply (loop_run c i a2 h2 a3 h3 a4 h4 a5 h5 a6 h6 a7 h7 x0 x1 hc f6 f7 E _)
    isplitl [H2]; · iexact H2
    isplitl [H3]; · iexact H3
    isplitl [H6]; · iexact H6
    isplitl [H7]; · iexact H7
    iintro ⟨H2, H3, H6, H7⟩
    rw [h6.eq_unread (View.read_writes_of_cover _ _ VO6 VO6.junk _ (cover6 c i a2 h2 a3 h3 a4 h4 a5 h5 a6 h6 a7 h7 x0 x1 hc)),
      h7.eq_unread (View.read_writes_of_cover _ _ scr.view scr.view.junk _ (cover7 c i a2 h2 a3 h3 a4 h4 a5 h5 a6 h6 a7 h7 x0 x1 hc))]
    sl_exec
    sl_step
    iapply Hk
    isplitl [H2]
    · iexists _; isplitr; · ipureintro; exact h2.read_unread _
      iexact H2
    isplitl [H3]
    · iexists _; isplitr; · ipureintro; exact h3.read_unread _
      iexact H3
    isplitl [H4]
    · iexists _; isplitr; · ipureintro; exact h4.read_unread _
      iexact H4
    isplitl [H5]; · iexists _; iexact H5
    isplitl [H6]
    · iexists _; isplitr; · ipureintro; exact h6.read_unread _
      iexact H6
    iexists _; isplitr; · ipureintro; exact h7.read_unread _
    iexact H7

set_option maxHeartbeats 1000000 in
/-- The body at another column block: the pieces it stores into the product's buffer, with the rows' buffer and the scratch handed back. -/
def runB (hc : ¬first i) :
    { L5 : List (View.Piece (Elt F) S1024x1536 .f32) //
      ∀ (E : Set ℕ) (K : PUnit → sProp 𝕄),
        iprop(owns (c : Thread nD τ) a2 fullShare x0 ∗ owns (c : Thread nD τ) a3 fullShare x1 ∗ owns (c : Thread nD τ) a4 fullShare x2
            ∗ (∃ d, owns (c : Thread nD τ) a5 fullShare d) ∗ owns (c : Thread nD τ) a6 fullShare xo ∗ owns (c : Thread nD τ) a7 fullShare xs
            ∗ (iprop(owns (c : Thread nD τ) a2 fullShare x0 ∗ owns (c : Thread nD τ) a3 fullShare x1 ∗ owns (c : Thread nD τ) a4 fullShare x2
              ∗ (∃ f, a5.view.loc (c : Thread nD τ) ↦[a5.view.set]{fullShare} a5.view.writes (Elt F) f L5)
              ∗ owns (c : Thread nD τ) a6 fullShare xo ∗ owns (c : Thread nD τ) a7 fullShare xs) -∗ K ⟨⟩))
          ⊢ wp frame (wpE (defs₀ (F := F)) Variants.none c none) E (cc0_in_projection i a2 h2 a3 h3 a4 h4 a5 h5 a6 h6 a7 h7) K } := by
  refine ⟨?_, fun E K => ?run⟩
  case run =>
    simp only [cc0_in_projection_eq_skeleton]; unfold cc0_in_projection_skel
    unfold owns
    iintro ⟨⟨%f2, %e2, H2⟩, ⟨%f3, %e3, H3⟩, ⟨%f4, %e4, H4⟩, ⟨%d5, %f5, -, H5⟩, ⟨%f6, %e6, H6⟩, ⟨%f7, %e7, H7⟩, Hk⟩
    obtain rfl := h2.eq_unread e2; obtain rfl := h3.eq_unread e3; obtain rfl := h4.eq_unread e4
    obtain rfl := h6.eq_unread e6; obtain rfl := h7.eq_unread e7
    sl_exec (disch := sl_exact hc)
    sl_step
    iapply Hk
    isplitl [H2]
    · iexists _; isplitr; · ipureintro; exact h2.read_unread _
      iexact H2
    isplitl [H3]
    · iexists _; isplitr; · ipureintro; exact h3.read_unread _
      iexact H3
    isplitl [H4]
    · iexists _; isplitr; · ipureintro; exact h4.read_unread _
      iexact H4
    isplitl [H5]; · iexists _; iexact H5
    isplitl [H6]
    · iexists _; isplitr; · ipureintro; exact h6.read_unread _
      iexact H6
    iexists _; isplitr; · ipureintro; exact h7.read_unread _
    iexact H7

/-- What is stored at a first column block covers the product's buffer. -/
theorem coverA5 (hc : first i) (y : S1024x1536.Idx) :
    ∃ pc ∈ (runA c i a2 h2 a3 h3 a4 h4 a5 h5 a6 h6 a7 h7 x0 x1 x2 hc).1, y ∈ pc.1.set :=
  View.cover_of_tiledL (runA c i a2 h2 a3 h3 a4 h4 a5 h5 a6 h6 a7 h7 x0 x1 x2 hc).1 S1024x512.size (by sl_kernel_rfl) y
/-- What is stored at another column block covers it. -/
theorem coverB5 (hc : ¬first i) (y : S1024x1536.Idx) :
    ∃ pc ∈ (runB c i a2 h2 a3 h3 a4 h4 a5 h5 a6 h6 a7 h7 x0 x1 x2 xo xs hc).1, y ∈ pc.1.set :=
  View.cover_of_tiledL (runB c i a2 h2 a3 h3 a4 h4 a5 h5 a6 h6 a7 h7 x0 x1 x2 xo xs hc).1 S1024x512.size (by sl_kernel_rfl) y

/-- The product's buffer after a first column block. -/
def outA5 (hc : first i) : Vec F S1024x1536 .f32 :=
  VO5.read (Elt F) (VO5.writes (Elt F) VO5.junk (runA c i a2 h2 a3 h3 a4 h4 a5 h5 a6 h6 a7 h7 x0 x1 x2 hc).1)
/-- The product's buffer after another column block. -/
def outB5 (hc : ¬first i) : Vec F S1024x1536 .f32 :=
  VO5.read (Elt F) (VO5.writes (Elt F) VO5.junk (runB c i a2 h2 a3 h3 a4 h4 a5 h5 a6 h6 a7 h7 x0 x1 x2 xo xs hc).1)

end Runs

/-- The windows' buffers at a point. -/
abbrev ms0 (t : Fin cfg0.N) : Memref sig .tc .vmem S1024x1024 .f32 := win0_0.stage (cfg0.slots t 0)
/-- It is whole. -/
abbrev hs0 (t : Fin cfg0.N) : (ms0 t).IsWhole := hstage0_0 ((cfg0.slots t 0).cast nbuf0_0)
/-- The scale's buffer. -/
abbrev ms1 (t : Fin cfg0.N) : Memref sig .tc .vmem S1x1024 .f32 := win0_1.stage (cfg0.slots t 1)
/-- It is whole. -/
abbrev hs1 (t : Fin cfg0.N) : (ms1 t).IsWhole := hstage0_1 ((cfg0.slots t 1).cast nbuf0_1)
/-- The weights' buffer. -/
abbrev ms2 (t : Fin cfg0.N) : Memref sig .tc .vmem S3x1024x512 .bf16 := win0_2.stage (cfg0.slots t 2)
/-- It is whole. -/
abbrev hs2 (t : Fin cfg0.N) : (ms2 t).IsWhole := hstage0_2 ((cfg0.slots t 2).cast nbuf0_2)
/-- The product's buffer. -/
abbrev ms3 (t : Fin cfg0.N) : Memref sig .tc .vmem S1024x1536 .f32 := win0_3.stage (cfg0.slots t 3)
/-- It is whole. -/
abbrev hs3 (t : Fin cfg0.N) : (ms3 t).IsWhole := hstage0_3 ((cfg0.slots t 3).cast nbuf0_3)
/-- The rows' buffer. -/
abbrev ms4 (t : Fin cfg0.N) : Memref sig .tc .vmem S1024x1024 .bf16 := win0_4.stage (cfg0.slots t 4)
/-- It is whole. -/
abbrev hs4 (t : Fin cfg0.N) : (ms4 t).IsWhole := hstage0_4 ((cfg0.slots t 4).cast nbuf0_4)

/-- At a first column block the rows' buffer is stored into. -/
theorem live4 (t : Fin cfg0.N) (h : t.val % 4 = 0) : cfg0.idle 4 (grid0.coords t) = false :=
  (by decide +kernel : ∀ t : Fin cfg0.N, t.val % 4 = 0 → cfg0.idle 4 (grid0.coords t) = false) t h
/-- At the others it is not. -/
theorem idle4 (t : Fin cfg0.N) (h : ¬t.val % 4 = 0) : cfg0.idle 4 (grid0.coords t) = true :=
  (by decide +kernel : ∀ t : Fin cfg0.N, ¬t.val % 4 = 0 → cfg0.idle 4 (grid0.coords t) = true) t h

/-- Where the rows' buffer holds nothing of its row block yet. -/
def clean (n : ℕ) : Bool := n % 4 == 0
/-- It does so before a row block's first point. -/
theorem clean_step : ∀ t : Fin cfg0.N,
    clean (t.val + 1) = ((cfg0.win 4).flush t || (cfg0.idle 4 (cfg0.grid.coords t) && clean t.val)) := by decide +kernel
/-- Past the first point it holds the rows. -/
theorem notFresh (t : Fin cfg0.N) (h : ¬t.val % 4 = 0) : cfg0.fresh 4 t.val = false := by
  rw [Pipeline.Cfg.fresh_tab cfg0 4 clean rfl clean_step t.val (Nat.le_of_lt t.isLt)]
  exact beq_eq_false_iff_ne.mpr h

/-- The core's other memory with the scratch at some contents. -/
theorem PhiA_eq (c : Dev nD) :
    (Pipeline.ΦA spec0 c : sProp 𝕄) = iprop(iprop((∃ d, owns (c : Thread nD τ) scr fullShare d)) ∗ (∃ r, prngReg c r)) := by
  unfold Pipeline.ΦA; rw [scopedRest0_eq]; simp only [scr, owns_whole]; try rfl

variable (m : (ℓ : Loc nD τ sig) → Buf (Elt F) ℓ) (ρ : Dev nD → PrngReg)

/-- What a first column block leaves: the product, the rows, the scratch. -/
def ptA (c : Dev nD) (t : Fin cfg0.N) (h : t.val % 4 = 0) : Vec F S1024x1536 .f32 × Vec F S1024x1024 .bf16 × Vec F S1024x1024 .bf16 :=
  (outA5 c (grid0.coords t) (ms0 t) (hs0 t) (ms1 t) (hs1 t) (ms2 t) (hs2 t) (ms3 t) (hs3 t) (ms4 t) (hs4 t) scr (Memref.isWhole_whole _) (iblk m c 0 t) (iblk m c 1 t) (iblk m c 2 t) ((first_iff t).mpr h),
    rows6 c (grid0.coords t) (ms0 t) (hs0 t) (ms1 t) (hs1 t) (ms2 t) (hs2 t) (ms3 t) (hs3 t) (ms4 t) (hs4 t) scr (Memref.isWhole_whole _) (iblk m c 0 t) (iblk m c 1 t) ((first_iff t).mpr h),
    rows7 c (grid0.coords t) (ms0 t) (hs0 t) (ms1 t) (hs1 t) (ms2 t) (hs2 t) (ms3 t) (hs3 t) (ms4 t) (hs4 t) scr (Memref.isWhole_whole _) (iblk m c 0 t) (iblk m c 1 t) ((first_iff t).mpr h))

/-- The product another column block leaves, from the rows and the scratch it finds. -/
def ptB (c : Dev nD) (t : Fin cfg0.N) (h : ¬t.val % 4 = 0) (xo xs : Vec F S1024x1024 .bf16) : Vec F S1024x1536 .f32 :=
  outB5 c (grid0.coords t) (ms0 t) (hs0 t) (ms1 t) (hs1 t) (ms2 t) (hs2 t) (ms3 t) (hs3 t) (ms4 t) (hs4 t) scr (Memref.isWhole_whole _) (iblk m c 0 t) (iblk m c 1 t) (iblk m c 2 t) xo xs (fun hc => h ((first_iff t).mp hc))

/-- What the product's buffer, the rows' buffer and the scratch hold after each point. -/
def acc (c : Dev nD) : (n : ℕ) → n < cfg0.N → Vec F S1024x1536 .f32 × Vec F S1024x1024 .bf16 × Vec F S1024x1024 .bf16
  | 0, hn => ptA m c ⟨0, hn⟩ (Nat.zero_mod _)
  | n + 1, hn =>
    if h : (n + 1) % 4 = 0 then ptA m c ⟨n + 1, hn⟩ h
    else (ptB m c ⟨n + 1, hn⟩ h (acc c n (Nat.lt_of_succ_lt hn)).2.1 (acc c n (Nat.lt_of_succ_lt hn)).2.2,
      (acc c n (Nat.lt_of_succ_lt hn)).2.1, (acc c n (Nat.lt_of_succ_lt hn)).2.2)

/-- At a first column block. -/
theorem acc_A (c : Dev nD) (t : Fin cfg0.N) (h : t.val % 4 = 0) : acc m c t.val t.isLt = ptA m c t h := by
  obtain ⟨n, hn⟩ := t
  cases n with
  | zero => rfl
  | succ n => rw [acc]; exact dif_pos h

/-- At another one. -/
theorem acc_B (c : Dev nD) (t : Fin cfg0.N) (h : ¬t.val % 4 = 0) (hl : t.val - 1 < cfg0.N) :
    acc m c t.val t.isLt = (ptB m c t h (acc m c (t.val - 1) hl).2.1 (acc m c (t.val - 1) hl).2.2,
      (acc m c (t.val - 1) hl).2.1, (acc m c (t.val - 1) hl).2.2) := by
  obtain ⟨n, hn⟩ := t
  cases n with
  | zero => exact absurd (Nat.zero_mod _) h
  | succ n => rw [acc]; exact dif_neg h

/-- The invariant between points: the scratch at what the last point left. -/
def Inv (c : Dev nD) : (n : ℕ) → n ≤ cfg0.N → sProp 𝕄
  | 0, _ => Pipeline.ΦA spec0 c
  | n + 1, hn => iprop(iprop(owns (c : Thread nD τ) scr fullShare ((acc m c n hn).2.2)) ∗ (∃ r, prngReg c r))

/-- Before a later point. -/
theorem Inv_pos (c : Dev nD) (n : ℕ) (h : n ≤ cfg0.N) (hz : n ≠ 0) (hl : n - 1 < cfg0.N) :
    Inv m c n h = iprop(iprop(owns (c : Thread nD τ) scr fullShare ((acc m c (n - 1) hl).2.2)) ∗ (∃ r, prngReg c r)) := by
  cases n with
  | zero => exact absurd rfl hz
  | succ n => rfl

/-- Before any point the scratch holds something. -/
theorem Inv_any (c : Dev nD) (n : ℕ) (h : n ≤ cfg0.N) :
    Inv m c n h ⊢ iprop(iprop((∃ d, owns (c : Thread nD τ) scr fullShare d)) ∗ (∃ r, prngReg c r)) := by
  cases n with
  | zero => rw [← PhiA_eq]; exact Entails.refl _
  | succ n =>
    rw [Inv]
    iintro ⟨HS, Hg⟩
    isplitl [HS]
    · iexists _; iexact HS
    iexact Hg

/-- The pipeline's data: the arrays as the region finds them, each input's block in place, the two results and the scratch as `acc`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => (acc m c t.val t.isLt).1
    | ⟨4, _⟩ => (acc m c t.val t.isLt).2.1
  Φ t := Inv m c t.val (Nat.le_of_lt_succ t.isLt)
  q _ := fullShare
  owed _ := 0

/-- The arrays are those the region finds. -/
theorem A_eq (c : Dev nD) (w : Fin cfg0.W) : (dats m 0 c).A w = V m c (Pipeline.arrRef spec0 w) := by dsimp only [dats]
/-- The invariant at a point's start. -/
theorem Inv_start (c : Dev nD) (t : Fin cfg0.N) : (dats m 0 c).Φ t.castSucc = Inv m c t.val (Nat.le_of_lt t.isLt) := by
  dsimp only [dats]; exact Pipeline.Dat.Φ_castSucc (Inv m c) t
/-- The rows stay in place. -/
theorem after0 (c : Dev nD) (t : Fin cfg0.N) : (dats m 0 c).after 0 t = iblk m c 0 t := by dsimp only [dats]
/-- The scale stays in place. -/
theorem after1 (c : Dev nD) (t : Fin cfg0.N) : (dats m 0 c).after 1 t = iblk m c 1 t := by dsimp only [dats]
/-- The weights stay in place. -/
theorem after2 (c : Dev nD) (t : Fin cfg0.N) : (dats m 0 c).after 2 t = iblk m c 2 t := by dsimp only [dats]
/-- The product. -/
theorem after3 (c : Dev nD) (t : Fin cfg0.N) : (dats m 0 c).after 3 t = (acc m c t.val t.isLt).1 := by dsimp only [dats]
/-- The normalised rows. -/
theorem after4 (c : Dev nD) (t : Fin cfg0.N) : (dats m 0 c).after 4 t = (acc m c t.val t.isLt).2.1 := by dsimp only [dats]
/-- The rows' buffer holds its block at every point. -/
theorem before0 (c : Dev nD) (t : Fin cfg0.N) (d) : (dats m 0 c).before 0 t d = iblk m c 0 t :=
  before0_0_of m (dats m 0 c) (A_eq m c 0) (after0 m c) t d
/-- So does the scale's. -/
theorem before1 (c : Dev nD) (t : Fin cfg0.N) (d) : (dats m 0 c).before 1 t d = iblk m c 1 t :=
  before0_1_of m (dats m 0 c) (A_eq m c 1) (after1 m c) t d
/-- So does the weights'. -/
theorem before2 (c : Dev nD) (t : Fin cfg0.N) (d) : (dats m 0 c).before 2 t d = iblk m c 2 t :=
  before0_2_of m (dats m 0 c) (A_eq m c 2) (after2 m c) t d

/-- The normalised rows are carried through the later column blocks. -/
theorem carry4 (c : Dev nD) : ∀ (t : Fin cfg0.N) (_ : t.val ≠ 0), cfg0.idle 4 (grid0.coords t) = true → cfg0.fresh 4 t.val = false →
    (dats m 0 c).after 4 t = (dats m 0 c).after 4 ⟨t.val - 1, by omega⟩ := by
  intro t _ hi _
  rw [after4, after4]
  by_cases h : t.val % 4 = 0
  · rw [live4 t h] at hi
    exact absurd hi Bool.false_ne_true
  · rw [acc_B m c t h (by omega)]

/-- What a later column block finds in the buffer of the normalised rows. -/
theorem before4 (c : Dev nD) (t : Fin cfg0.N) (h : ¬t.val % 4 = 0) (d) :
    (dats m 0 c).before 4 t d = (acc m c (t.val - 1) (Nat.lt_of_le_of_lt (Nat.sub_le _ _) t.isLt)).2.1 := by
  rw [Dat.before_out_traj _ 4 rfl (fun _ _ => rfl) (carry4 m c) t.val t rfl d,
    if_neg (by rw [notFresh t h]; exact Bool.false_ne_true)]
  dsimp only [dats]

/-- What the body is handed at a point. -/
def pre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d)))

/-- What it hands back. -/
def post (c : Dev nD) (t : Fin cfg0.N) : sProp 𝕄 :=
  iprop((dats m 0 c).Φ t.succ ∗ (dats m 0 c).owesAt () t.succ
    ∗ (dats m 0 c).leavesExact 0 t ∗ (dats m 0 c).leavesExact 1 t ∗ (dats m 0 c).leavesExact 2 t
    ∗ (dats m 0 c).leavesExact 3 t ∗ (dats m 0 c).leavesExact 4 t)

/-- The buffer of the normalised rows is handed back at the rows carried so far, whether or not it is written back next. -/
theorem leave4 (c : Dev nD) (t : Fin cfg0.N) (h : ¬t.val % 4 = 0) (hl : t.val - 1 < cfg0.N) :
    owns (c : Thread nD τ) (ms4 t) fullShare ((acc m c (t.val - 1) hl).2.1) ⊢ (dats m 0 c).leavesExact 4 t := by
  cases hf : (cfg0.win 4).flush t with
  | false =>
    rw [Dat.leavesExact_idle (dats m 0 c) 4 t (idle4 t h) hf]
    iintro H
    iexists ((acc m c (t.val - 1) hl).2.1)
    rw [before4 m c t h]
    iexact H
  | true =>
    rw [show (dats m 0 c).leavesExact 4 t = owns (c : Thread nD τ) (ms4 t) fullShare ((dats m 0 c).after 4 t) from by
      unfold Dat.leavesExact; rw [idle4 t h, hf], after4, acc_B m c t h hl]

set_option maxHeartbeats 4000000 in
/-- The body at any point. -/
theorem sound (c : Dev nD) (t : Fin cfg0.N) :
    pre m c t ⊢ wp frame (wpE (defs₀ (F := F)) Variants.none c none) Set.univ (bodyAt0 t) (fun _ => post m c t) := by
  unfold pre post bodyAt0
  simp only [before0, before1, before2]
  rw [show (dats m 0 c).owesAt () t.succ = (dats m 0 c).owesAt () t.castSucc from rfl]
  rw [show (dats m 0 c).Φ t.succ = iprop(iprop(owns (c : Thread nD τ) scr fullShare ((acc m c t.val t.isLt).2.2)) ∗ (∃ r, prngReg c r)) from rfl]
  rw [show (dats m 0 c).leavesExact 0 t = owns (c : Thread nD τ) (ms0 t) fullShare ((dats m 0 c).after 0 t) from by
      unfold Dat.leavesExact; rw [show cfg0.idle 0 (cfg0.grid.coords t) = false from rfl], after0]
  rw [show (dats m 0 c).leavesExact 1 t = owns (c : Thread nD τ) (ms1 t) fullShare ((dats m 0 c).after 1 t) from by
      unfold Dat.leavesExact; rw [show cfg0.idle 1 (cfg0.grid.coords t) = false from rfl], after1]
  rw [show (dats m 0 c).leavesExact 2 t = owns (c : Thread nD τ) (ms2 t) fullShare ((dats m 0 c).after 2 t) from by
      unfold Dat.leavesExact; rw [show cfg0.idle 2 (cfg0.grid.coords t) = false from rfl], after2]
  rw [show (dats m 0 c).leavesExact 3 t = owns (c : Thread nD τ) (ms3 t) fullShare ((dats m 0 c).after 3 t) from by
      unfold Dat.leavesExact; rw [show cfg0.idle 3 (cfg0.grid.coords t) = false from rfl], after3]
  rw [Inv_start m c t]
  by_cases h : t.val % 4 = 0
  · rw [show (dats m 0 c).leavesExact 4 t = owns (c : Thread nD τ) (ms4 t) fullShare ((dats m 0 c).after 4 t) from by
      unfold Dat.leavesExact; rw [live4 t h], after4]
    rw [acc_A m c t h]
    unfold ptA outA5
    dsimp only
    refine BIBase.Entails.trans (sep_mono_left (Inv_any m c t.val _)) ?_
    iintro ⟨⟨HS, Hg⟩, Ho, ⟨%d0, H0⟩, ⟨%d1, H1⟩, ⟨%d2, H2⟩, ⟨%d3, H3⟩, ⟨%d4, H4⟩⟩
    iapply ((runA c (grid0.coords t) (ms0 t) (hs0 t) (ms1 t) (hs1 t) (ms2 t) (hs2 t) (ms3 t) (hs3 t) (ms4 t) (hs4 t) scr (Memref.isWhole_whole _) (iblk m c 0 t) (iblk m c 1 t) (iblk m c 2 t) ((first_iff t).mpr h)).2 Set.univ _)
    isplitl [H0]; · iexact H0
    isplitl [H1]; · iexact H1
    isplitl [H2]; · iexact H2
    isplitl [H3]; · iexists _; iexact H3
    isplitl [H4]; · iexists _; iexact H4
    isplitl [HS]; · iexact HS
    iintro ⟨H0, H1, H2, ⟨%e3, H3⟩, H4, HS⟩
    isplitl [HS Hg]
    · isplitl [HS]
      · iexact HS
      iexact Hg
    isplitl [Ho]; · iexact Ho
    isplitl [H0]; · iexact H0
    isplitl [H1]; · iexact H1
    isplitl [H2]; · iexact H2
    isplitl [H3]
    · unfold owns; iexists _; isplitr
      swap; · iexact H3
      ipureintro; exact View.read_writes_of_cover _ _ _ _ _ (coverA5 c _ _ _ _ _ _ _ _ _ _ _ _ _ _ _ _ _)
    iexact H4
  · have hz : t.val ≠ 0 := fun e => h (by rw [e])
    have hl : t.val - 1 < cfg0.N := Nat.lt_of_le_of_lt (Nat.sub_le _ _) t.isLt
    rw [Inv_pos m c t.val _ hz hl]
    simp only [before4 m c t h]
    rw [acc_B m c t h hl]
    unfold ptB outB5
    dsimp only
    iintro ⟨⟨HS, Hg⟩, Ho, ⟨%d0, H0⟩, ⟨%d1, H1⟩, ⟨%d2, H2⟩, ⟨%d3, H3⟩, ⟨%d4, H4⟩⟩
    iapply ((runB c (grid0.coords t) (ms0 t) (hs0 t) (ms1 t) (hs1 t) (ms2 t) (hs2 t) (ms3 t) (hs3 t) (ms4 t) (hs4 t) scr (Memref.isWhole_whole _) (iblk m c 0 t) (iblk m c 1 t) (iblk m c 2 t) ((acc m c (t.val - 1) hl).2.1) ((acc m c (t.val - 1) hl).2.2) (fun hc => h ((first_iff t).mp hc))).2 Set.univ _)
    isplitl [H0]; · iexact H0
    isplitl [H1]; · iexact H1
    isplitl [H2]; · iexact H2
    isplitl [H3]; · iexists _; iexact H3
    isplitl [H4]; · iexact H4
    isplitl [HS]; · iexact HS
    iintro ⟨H0, H1, H2, ⟨%e3, H3⟩, H4, HS⟩
    isplitl [HS Hg]
    · isplitl [HS]
      · iexact HS
      iexact Hg
    isplitl [Ho]; · iexact Ho
    isplitl [H0]; · iexact H0
    isplitl [H1]; · iexact H1
    isplitl [H2]; · iexact H2
    isplitl [H3]
    · unfold owns; iexists _; isplitr
      swap; · iexact H3
      ipureintro; exact View.read_writes_of_cover _ _ _ _ _ (coverB5 c _ _ _ _ _ _ _ _ _ _ _ _ _ _ _ _ _ _ _)
    iapply (leave4 m c t h hl)
    iexact H4

/-- The body table's row is the body. -/
theorem row_eq (t : Fin cfg0.N) : defs₀ (F := F) .tc cfg0.body (cfg0.bodyArgs t (cfg0.slots t)) = bodyAt0 t := by
  unfold defs₀; rw [Defs.onTc_tc]

/-- The body's obligation at every point. -/
theorem obligation (c : Dev nD) : BodyObligation (dats (F := F) m 0 c) (defs₀ (F := F)) Variants.none () Set.univ := fun t => by
  rw [bigSep_W0, bigSep_W0, row_eq]
  exact triple_restated (sound m c t) rfl .rfl fun _ => .rfl

/-- The launch gives the invariant before the first point. -/
theorem enter (c : Dev nD) : Pipeline.ΦA spec0 c ⊢ (dats m 0 c).Φ 0 := by
  rw [show (dats m 0 c).Φ 0 = Pipeline.ΦA spec0 c from rfl]
  try exact Entails.refl _

/-- The invariant after the last point gives the scratch back. -/
theorem leave (c : Dev nD) : (dats m 0 c).Φ (Fin.last cfg0.N) ⊢ Pipeline.ΦA spec0 c := by
  rw [show (dats m 0 c).Φ (Fin.last cfg0.N) = Inv m c (Fin.last cfg0.N).val (Nat.le_of_lt_succ (Fin.last cfg0.N).isLt) from rfl, PhiA_eq]
  exact Inv_any m c _ _

set_option backward.isDefEq.respectTransparency.types false in
/-- The run: it ends, every array at what the data computes, every counter at zero. -/
theorem run : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (obligation m c).loose) (hshare := fun c => (dats m 0 c).share_full fun _ => rfl)
    (howed := fun _ _ => rfl) (V := V m) (hmain := hmain m Variants.none) (hA := A_eq m) (hin := enter m) (hout := leave m)

end Cert.Kernel6Ideal.Hand

end
-- ==== Proof.V6.lean ====
/- The in projection's forward pass: what its run computes. -/
module

public import proofs.«01_k».proof.Defs
public import proofs.«01_k».proof.Proof.Norm
public import proofs.«01_k».proof.Proof.V6F
public import proofs.«01_k».proof.Proof.Gen.Kernel6.Frame
public import proofs.«01_k».proof.Proof.Gen.Kernel6Ideal.Frame
public import proofs.«01_k».proof.Proof.Gen.Reference6Ideal.Run
public import proofs.«01_k».proof.Proof.Gen.Reference6Ideal.Read
public import Idealize.ShloMosaic.Lib.Pipeline.Value
public import Idealize.ShloMosaic.Lib.Pipeline.ValueKit
public import Idealize.ShloMosaic.Lib.Pipeline.ReadBack
public import Idealize.ShloMosaic.Lib.Pointwise
public import Idealize.ShloMosaic.Lib.Tactic
public import Idealize.ShloMosaic.Lib.Quiescent

@[expose] public section

set_option maxRecDepth 16384

noncomputable section

open Idealize.ShloMosaic Idealize.ShloMosaic.TcCoe Idealize.SL.Sem
open Idealize.ShloMosaic.Pipeline (Dat)

namespace Cert.Kernel6Ideal.Hand

open Cert.Kernel6Ideal Cert.Kernel6Ideal.Gen Cert.Norm

/-- A normalised and scaled row of a block. -/
def xn (x0 : Vec Ideal S1024x1024 .f32) (x1 : Vec Ideal S1x1024 .f32) (y : S1024x1024.Idx) : EReal :=
  (x0 (ix2 (y 0) (y 1)) : EReal) * rs (fun j => x0 (ix2 (y 0) j)) * (x1 (ix2 (0 : Fin 1) (y 1)) : EReal)

/-- One row against one column of a column block. -/
def proj (x : S1024x1024.Idx → EReal) (x2 : Vec Ideal S3x1024x512 .bf16) (y : S1024x1536.Idx) : EReal :=
  ∑ k : Fin 1024, x (ix2 (y 0) k)
    * (x2 (ix3 (⟨(y 1).val / 512, by have h : (y 1).val < 1536 := (y 1).isLt; omega⟩ : Fin 3) k (⟨(y 1).val % 512, Nat.mod_lt _ (by decide)⟩ : Fin 512)) : EReal)

/-- The rows a trip stores. -/
theorem pay1_apply (v20 : Vec Ideal S128x1024 .f32) (v31 : Vec Ideal S1x1024 .f32) (p : Fin 128) (j : Fin 1024) :
    k0_pay1 v20 v31 (ix2 p j) = (v20 (ix2 p j) : EReal) * rs (fun j => v20 (ix2 p j)) * (v31 (ix2 (0 : Fin 1) j) : EReal) := by
  unfold k0_pay1 rs
  pointwise [zero32]

/-- The rows a trip stores into the scratch. -/
theorem pay2_apply (v20 : Vec Ideal S128x1024 .f32) (v31 : Vec Ideal S1x1024 .f32) (p : Fin 128) (j : Fin 1024) :
    k0_pay2 v20 v31 (ix2 p j) = (v20 (ix2 p j) : EReal) * rs (fun j => v20 (ix2 p j)) * (v31 (ix2 (0 : Fin 1) j) : EReal) := by
  unfold k0_pay2
  pointwise [zero32, pay1_apply]

section Runs
variable (c : Dev nD) (i : grid0.Coords) (a2 : Memref sig .tc .vmem S1024x1024 .f32) (h2 : a2.IsWhole) (a3 : Memref sig .tc .vmem S1x1024 .f32) (h3 : a3.IsWhole) (a4 : Memref sig .tc .vmem S3x1024x512 .bf16) (h4 : a4.IsWhole) (a5 : Memref sig .tc .vmem S1024x1536 .f32) (h5 : a5.IsWhole) (a6 : Memref sig .tc .vmem S1024x1024 .bf16) (h6 : a6.IsWhole) (a7 : Memref sig .tc .vmem S1024x1024 .bf16) (h7 : a7.IsWhole)
variable (x0 : Vec Ideal S1024x1024 .f32) (x1 : Vec Ideal S1x1024 .f32) (x2 : Vec Ideal S3x1024x512 .bf16) (xo xs : Vec Ideal S1024x1024 .bf16)

/-- Where row `p` of trip `k`'s slab lies in the block. -/
theorem slab_emb (h : first i) (k : Fin k0_t1_loop.trips) (p : Fin 128) (j : Fin 1024) (hl : k.val * 128 + p.val < 1024) :
    (Rect.unit (s := S1024x1024) (k0_off1 k) S128x1024.size (k0_off1_inb i k h)).emb (ix2 p j) = ix2 (⟨k.val * 128 + p.val, hl⟩ : Fin 1024) j := by
  have e := k0_off1_eq k
  funext a
  refine Fin.ext ?_
  refine (ValueKit.rect_emb_unit_val _ _ _ _ _).trans ?_
  have e0 : k0_off1 k 0 = 128 * k.val := congrFun e 0
  have e1 : k0_off1 k 1 = 0 := congrFun e 1
  match a with
  | ⟨0, _⟩ => show k0_off1 k 0 + p.val = k.val * 128 + p.val; omega
  | ⟨1, _⟩ => show k0_off1 k 1 + j.val = j.val; omega

/-- There are eight trips. -/
theorem trips_eq : k0_t1_loop.trips = 8 := by decide

/-- A slab's row lies in the block. -/
theorem slab_lt (k : Fin k0_t1_loop.trips) (p : Fin 128) : k.val * 128 + p.val < 1024 := by
  have h : k.val < 8 := lt_of_lt_of_eq k.isLt trips_eq
  omega

/-- A trip's rows are the block's. -/
theorem row_of (h : first i) (k : Fin k0_t1_loop.trips) (p : Fin 128) (j : Fin 1024) :
    (View.readAt (Elt Ideal) a2.view (Rect.unit (s := S1024x1024) (k0_off1 k) S128x1024.size (k0_off1_inb i k h)).toLoadRect (h2.unread x0) (ix2 p j) : EReal)
      * rs (fun j => View.readAt (Elt Ideal) a2.view (Rect.unit (s := S1024x1024) (k0_off1 k) S128x1024.size (k0_off1_inb i k h)).toLoadRect (h2.unread x0) (ix2 p j))
      * (View.readAt (Elt Ideal) a3.view (Rect.unit (s := S1x1024) ![0, 0] S1x1024.size inb_S1x1024_S1x1024_0_0).toLoadRect (h3.unread x1) (ix2 (0 : Fin 1) j) : EReal)
      = xn x0 x1 ((Rect.unit (s := S1024x1024) (k0_off1 k) S128x1024.size (k0_off1_inb i k h)).emb (ix2 p j)) := by
  refine Eq.trans ?_ (congrArg (xn x0 x1) (slab_emb i h k p j (slab_lt k p))).symm
  have e : ∀ j, View.readAt (Elt Ideal) a2.view (Rect.unit (s := S1024x1024) (k0_off1 k) S128x1024.size (k0_off1_inb i k h)).toLoadRect (h2.unread x0) (ix2 p j)
      = x0 (ix2 (⟨k.val * 128 + p.val, slab_lt k p⟩ : Fin 1024) j) := fun j =>
    (congrArg (a2.view.read (Elt Ideal) (h2.unread x0)) (slab_emb i h k p j _)).trans (congrFun (h2.read_unread x0) _)
  have e3 : View.readAt (Elt Ideal) a3.view (Rect.unit (s := S1x1024) ![0, 0] S1x1024.size inb_S1x1024_S1x1024_0_0).toLoadRect (h3.unread x1) (ix2 (0 : Fin 1) j)
      = x1 (ix2 (0 : Fin 1) j) :=
    (congrArg (a3.view.read (Elt Ideal) (h3.unread x1)) (show (Rect.unit (s := S1x1024) ![0, 0] S1x1024.size inb_S1x1024_S1x1024_0_0).emb (ix2 (0 : Fin 1) j) = _ from by blk_ext [])).trans
      (congrFun (h3.read_unread x1) _)
  exact congrArg₂ (· * ·) (congrArg₂ (· * ·) (e j) (congrArg rs (funext e))) e3

/-- The pieces of the trips so far are rows of the normalised block, in the buffer and in the scratch. -/
theorem pieces (h : first i) : ∀ (n : ℕ) (hn : n ≤ 8),
    View.PiecesOf (Val := Elt Ideal) (e := .bf16) (s := S1024x1024) (xn x0 x1)
        (pb_k0_t1 (F := Ideal) Variants.none c none i a2 h2 a3 h3 a4 h4 a5 h5 a6 h6 a7 h7 h (h2.unread x0) (h3.unread x1) n).1
      ∧ View.PiecesOf (Val := Elt Ideal) (e := .bf16) (s := S1024x1024) (xn x0 x1)
        (pb_k0_t1 (F := Ideal) Variants.none c none i a2 h2 a3 h3 a4 h4 a5 h5 a6 h6 a7 h7 h (h2.unread x0) (h3.unread x1) n).2
  | 0, _ => ⟨trivial, trivial⟩
  | n + 1, hn => by
    have hk : n < k0_t1_loop.trips := lt_of_lt_of_eq hn trips_eq.symm
    have e := pb_k0_t1_succ (F := Ideal) Variants.none c none i a2 h2 a3 h3 a4 h4 a5 h5 a6 h6 a7 h7 h (h2.unread x0) (h3.unread x1) ⟨n, hk⟩
    obtain ⟨i1, i2⟩ := pieces h n (Nat.le_of_succ_le hn)
    refine ⟨?_, ?_⟩
    · refine Eq.mpr (congrArg (fun z => View.PiecesOf (Val := Elt Ideal) (e := .bf16) (s := S1024x1024) (xn x0 x1) z.1) e) ?_
      unfold tripL_k0_t1 trip_k0_t1
      dsimp only
      refine ⟨fun y => ?_, i1⟩
      idx_vars y
      exact (pay1_apply _ _ _ _).trans (row_of i a2 h2 a3 h3 x0 x1 h ⟨n, hk⟩ y0 y1)
    · refine Eq.mpr (congrArg (fun z => View.PiecesOf (Val := Elt Ideal) (e := .bf16) (s := S1024x1024) (xn x0 x1) z.2) e) ?_
      unfold tripL_k0_t1 trip_k0_t1
      dsimp only
      refine ⟨fun y => ?_, i2⟩
      idx_vars y
      exact (pay2_apply _ _ _ _).trans (row_of i a2 h2 a3 h3 x0 x1 h ⟨n, hk⟩ y0 y1)

/-- The rows' buffer ends with the normalised block. -/
theorem rows6_eq (h : first i) (y : S1024x1024.Idx) : rows6 (F := Ideal) c i a2 h2 a3 h3 a4 h4 a5 h5 a6 h6 a7 h7 x0 x1 h y = xn x0 x1 y := by
  unfold rows6
  refine (congrFun (View.read_writes_junk_eq_canon (v := VO6) _) y).trans ?_
  exact canon_of (xn x0 x1) _ (pieces c i a2 h2 a3 h3 a4 h4 a5 h5 a6 h6 a7 h7 x0 x1 h k0_t1_loop.trips (le_of_eq trips_eq)).1 y (cover6 c i a2 h2 a3 h3 a4 h4 a5 h5 a6 h6 a7 h7 x0 x1 h y)

/-- So does the scratch. -/
theorem rows7_eq (h : first i) (y : S1024x1024.Idx) : rows7 (F := Ideal) c i a2 h2 a3 h3 a4 h4 a5 h5 a6 h6 a7 h7 x0 x1 h y = xn x0 x1 y := by
  unfold rows7
  refine (congrFun (View.read_writes_junk_eq_canon (v := scr.view) _) y).trans ?_
  exact canon_of (xn x0 x1) _ (pieces c i a2 h2 a3 h3 a4 h4 a5 h5 a6 h6 a7 h7 x0 x1 h k0_t1_loop.trips (le_of_eq trips_eq)).2 y (cover7 c i a2 h2 a3 h3 a4 h4 a5 h5 a6 h6 a7 h7 x0 x1 h y)

/-- A weight block's column, read where the product's column says. -/
theorem weight (q : ℕ) (hi : ∀ a, (![q, 0, 0] : Fin 3 → ℕ) a + (![1, 1024, 512] : Fin 3 → ℕ) a ≤ S3x1024x512.size a) (hq : q < 3) (k : Fin 1024) (l : Fin 512) (y : S1024x1536.Idx)
    (hy : (y 1).val = 512 * q + l.val) :
    View.readAt (Elt Ideal) a4.view (Rect.unit (s := S3x1024x512) ![q, 0, 0] ![1, 1024, 512] hi).toLoadRect (h4.unread x2) (ix3 (0 : Fin 1) k l)
      = x2 (ix3 (⟨(y 1).val / 512, by have h : (y 1).val < 1536 := (y 1).isLt; omega⟩ : Fin 3) k (⟨(y 1).val % 512, Nat.mod_lt _ (by decide)⟩ : Fin 512)) := by
  refine (congrArg (a4.view.read (Elt Ideal) (h4.unread x2)) (?_ : (Rect.unit (s := S3x1024x512) ![q, 0, 0] ![1, 1024, 512] hi).emb (ix3 (0 : Fin 1) k l) = _)).trans (congrFun (h4.read_unread x2) _)
  funext a
  refine Fin.ext ?_
  refine (ValueKit.rect_emb_unit_val _ _ _ _ _).trans ?_
  match a with
  | ⟨0, _⟩ => show q + 0 = (y 1).val / 512; omega
  | ⟨1, _⟩ => show 0 + k.val = k.val; omega
  | ⟨2, _⟩ => show 0 + l.val = (y 1).val % 512; omega

/-- The product's buffer after another column block. -/
theorem outB5_eq (h : ¬first i) (y : S1024x1536.Idx) : outB5 (F := Ideal) c i a2 h2 a3 h3 a4 h4 a5 h5 a6 h6 a7 h7 x0 x1 x2 xo xs h y = proj xs x2 y := by
  unfold outB5
  refine (congrFun (View.read_writes_junk_eq_canon (v := VO5) _) y).trans ?_
  unfold runB
  dsimp only
  canon_tiles x h
  all_goals
    unfold_payloads
    unfold proj
    pointwise [zero32]
    refine Finset.sum_congr rfl fun k _ => ?_
    refine congrArg₂ (· * ·) ?_ ?_
    · exact (congrArg (a7.view.read (Elt Ideal) (h7.unread xs)) (show (Rect.unit (s := S1024x1024) ![0, 0] ![1024, 1024] inb_S1024x1024_S1024x1024_0_0).emb (ix2 (x 0) k) = ix2 (y 0) k from by blk_ext [])).trans
        (congrFun (h7.read_unread xs) _)
    · exact weight a4 h4 x2 _ _ (by omega) k (x 1) y (by omega)

/-- The product's buffer after a first column block. -/
theorem outA5_eq (h : first i) (y : S1024x1536.Idx) : outA5 (F := Ideal) c i a2 h2 a3 h3 a4 h4 a5 h5 a6 h6 a7 h7 x0 x1 x2 h y = proj (xn x0 x1) x2 y := by
  unfold outA5
  refine (congrFun (View.read_writes_junk_eq_canon (v := VO5) _) y).trans ?_
  unfold runA
  dsimp only
  canon_tiles x h
  all_goals
    unfold_payloads
    unfold proj
    pointwise [zero32]
    refine Finset.sum_congr rfl fun k _ => ?_
    refine congrArg₂ (· * ·) ?_ ?_
    · refine Eq.trans ?_ (rows7_eq c i a2 h2 a3 h3 a4 h4 a5 h5 a6 h6 a7 h7 x0 x1 h (ix2 (y 0) k))
      exact (congrArg (a7.view.read (Elt Ideal) (h7.unread _)) (show (Rect.unit (s := S1024x1024) ![0, 0] ![1024, 1024] inb_S1024x1024_S1024x1024_0_0).emb (ix2 (x 0) k) = ix2 (y 0) k from by blk_ext [])).trans
        (congrFun (h7.read_unread _) _)
    · exact weight a4 h4 x2 _ _ (by omega) k (x 1) y (by omega)

end Runs

/-- The index maps of the windows. -/
theorem idx : ∀ t : Fin grid0.N, win0_0.index t = ![t.val / 4, 0] ∧ win0_1.index t = ![0, 0] ∧ win0_2.index t = ![t.val % 4, 0, 0]
    ∧ win0_3.index t = ![t.val / 4, t.val % 4] ∧ win0_4.index t = ![t.val / 4, 0] := by decide +kernel

/-- The normalised and scaled rows. -/
def XA (a0 : Vec Ideal S4096x1024 .f32) (a1 : Vec Ideal S1x1024 .f32) (p : Fin 4096) (j : Fin 1024) : EReal :=
  (a0 (ix2 p j) : EReal) * rs (fun j => a0 (ix2 p j)) * (a1 (ix2 (0 : Fin 1) j) : EReal)

/-- Their product with the weight's columns. -/
def PA (a0 : Vec Ideal S4096x1024 .f32) (a1 : Vec Ideal S1x1024 .f32) (a2 : Vec Ideal S12x1024x512 .bf16) (p : Fin 4096) (q : Fin 6144) : EReal :=
  ∑ k : Fin 1024, XA a0 a1 p k * (a2 (ix3 (⟨q.val / 512, by omega⟩ : Fin 12) k (⟨q.val % 512, Nat.mod_lt _ (by decide)⟩ : Fin 512)) : EReal)

variable (m : (ℓ : Loc nD τ sig) → Buf (Elt Ideal) ℓ) (c : Dev nD)

/-- There are sixteen points. -/
theorem lt16 (t : Fin cfg0.N) : t.val < 16 := lt_of_lt_of_eq t.isLt (by decide)

/-- A point's row of the whole. -/
def pos (t : Fin cfg0.N) (p : Fin 1024) : Fin 4096 := ⟨t.val / 4 * 1024 + p.val, by have := lt16 t; omega⟩

/-- The point's block of rows. -/
theorem blk0 (t : Fin cfg0.N) (p j : Fin 1024) : iblk (F := Ideal) m c 0 t (ix2 p j) = m ((c : Thread nD τ).loc main_arg0) (ix2 (pos t p) j) := by
  unfold pos
  blk_ext [iblk, V, idx t]
/-- The scale. -/
theorem blk1 (t : Fin cfg0.N) (j : Fin 1024) : iblk (F := Ideal) m c 1 t (ix2 (0 : Fin 1) j) = m ((c : Thread nD τ).loc main_arg1) (ix2 (0 : Fin 1) j) := by
  blk_ext [iblk, V, idx t]
/-- The point's normalised rows. -/
theorem xn_blk (t : Fin cfg0.N) (p j : Fin 1024) : xn (iblk m c 0 t) (iblk m c 1 t) (ix2 p j)
    = XA (m ((c : Thread nD τ).loc main_arg0)) (m ((c : Thread nD τ).loc main_arg1)) (pos t p) j := by
  unfold xn XA
  exact congrArg₂ (· * ·) (congrArg₂ (· * ·) (blk0 m c t p j) (congrArg rs (funext fun j => blk0 m c t p j))) (blk1 m c t j)

/-- At every point the rows' buffer and the scratch hold the row block's normalised rows. -/
theorem acc_rows : ∀ (n : ℕ) (hn : n < cfg0.N) (p j : Fin 1024),
    (acc (F := Ideal) m c n hn).2.1 (ix2 p j) = XA (m ((c : Thread nD τ).loc main_arg0)) (m ((c : Thread nD τ).loc main_arg1)) (pos ⟨n, hn⟩ p) j
      ∧ (acc (F := Ideal) m c n hn).2.2 (ix2 p j) = XA (m ((c : Thread nD τ).loc main_arg0)) (m ((c : Thread nD τ).loc main_arg1)) (pos ⟨n, hn⟩ p) j := by
  intro n
  induction n with
  | zero =>
    intro hn p j
    rw [acc_A m c ⟨0, hn⟩ (Nat.zero_mod _)]
    unfold ptA
    dsimp only
    rw [rows6_eq, rows7_eq]
    exact ⟨xn_blk m c ⟨0, hn⟩ p j, xn_blk m c ⟨0, hn⟩ p j⟩
  | succ n ih =>
    intro hn p j
    by_cases h : (n + 1) % 4 = 0
    · rw [acc_A m c ⟨n + 1, hn⟩ h]
      unfold ptA
      dsimp only
      rw [rows6_eq, rows7_eq]
      exact ⟨xn_blk m c ⟨n + 1, hn⟩ p j, xn_blk m c ⟨n + 1, hn⟩ p j⟩
    · have e : pos ⟨n + 1, hn⟩ p = pos ⟨n, Nat.lt_of_succ_lt hn⟩ p := by
        refine Fin.ext ?_
        show (n + 1) / 4 * 1024 + p.val = n / 4 * 1024 + p.val
        omega
      rw [acc_B m c ⟨n + 1, hn⟩ h (Nat.lt_of_succ_lt hn), e]
      exact ih (Nat.lt_of_succ_lt hn) p j

/-- A point's product. -/
theorem proj_blk (t : Fin cfg0.N) (x : S1024x1024.Idx → EReal)
    (hx : ∀ p j, x (ix2 p j) = XA (m ((c : Thread nD τ).loc main_arg0)) (m ((c : Thread nD τ).loc main_arg1)) (pos t p) j)
    (p : Fin 1024) (q : Fin 1536) (hq : t.val % 4 * 1536 + q.val < 6144) : proj x (iblk m c 2 t) (ix2 p q)
      = PA (m ((c : Thread nD τ).loc main_arg0)) (m ((c : Thread nD τ).loc main_arg1)) (m ((c : Thread nD τ).loc main_arg2)) (pos t p) ⟨t.val % 4 * 1536 + q.val, hq⟩ := by
  unfold proj PA
  refine Finset.sum_congr rfl fun k _ => ?_
  refine congrArg₂ (· * ·) (hx p k) ?_
  blk_ext [iblk, V, idx t]

/-- What every point leaves of the product. -/
theorem acc_proj (t : Fin cfg0.N) (p : Fin 1024) (q : Fin 1536) (hq : t.val % 4 * 1536 + q.val < 6144) :
    (acc (F := Ideal) m c t.val t.isLt).1 (ix2 p q)
      = PA (m ((c : Thread nD τ).loc main_arg0)) (m ((c : Thread nD τ).loc main_arg1)) (m ((c : Thread nD τ).loc main_arg2)) (pos t p) ⟨t.val % 4 * 1536 + q.val, hq⟩ := by
  by_cases h : t.val % 4 = 0
  · rw [acc_A m c t h]
    unfold ptA
    dsimp only
    rw [outA5_eq]
    exact proj_blk m c t _ (fun p j => xn_blk m c t p j) p q hq
  · have hl : t.val - 1 < cfg0.N := Nat.lt_of_le_of_lt (Nat.sub_le _ _) t.isLt
    rw [acc_B m c t h hl]
    unfold ptB
    dsimp only
    rw [outB5_eq]
    refine proj_blk m c t _ (fun p j => ((acc_rows m c (t.val - 1) hl p j).2).trans ?_) p q hq
    have e : pos ⟨t.val - 1, hl⟩ p = pos t p := by
      refine Fin.ext ?_
      show (t.val - 1) / 4 * 1024 + p.val = t.val / 4 * 1024 + p.val
      omega
    rw [e]

/-- The product's blocks cover its array. -/
theorem cov3 : (cfg0.win 3).Covers := by decide +kernel
/-- The rows' blocks cover theirs. -/
theorem cov4 : (cfg0.win 4).Covers := by decide +kernel

/-- The first output ends at the product. -/
theorem final3 : (dats (F := Ideal) m 0 c).arrAt 3 cfg0.N
    = fun j => PA (m ((c : Thread nD τ).loc main_arg0)) (m ((c : Thread nD τ).loc main_arg1)) (m ((c : Thread nD τ).loc main_arg2)) (j 0) (j 1) := by
  refine (dats m 0 c).arrAt_eq_of_covers 3 _ cov3 fun t hf y => ?_
  blk_simp
  rw [after3]
  idx_vars y
  rw [acc_proj m c t y0 y1 (by omega)]
  refine congrArg₂ (PA _ _ _) ?_ ?_
  · refine Fin.ext ?_
    unfold pos
    blk_point [idx t]
  · refine Fin.ext ?_
    blk_point [idx t]

/-- The second output ends at the normalised rows. -/
theorem final4 : (dats (F := Ideal) m 0 c).arrAt 4 cfg0.N
    = fun j => XA (m ((c : Thread nD τ).loc main_arg0)) (m ((c : Thread nD τ).loc main_arg1)) (j 0) (j 1) := by
  refine (dats m 0 c).arrAt_eq_of_covers 4 _ cov4 fun t hf y => ?_
  blk_simp
  rw [after4]
  idx_vars y
  rw [(acc_rows m c t.val t.isLt y0 y1).1]
  refine congrArg₂ (XA _ _) ?_ ?_
  · refine Fin.ext ?_
    unfold pos
    blk_point [idx t]
  · refine Fin.ext ?_
    blk_point [idx t]

end Cert.Kernel6Ideal.Hand

end
-- ==== Proof.V6R.lean ====
/- The in projection's forward pass: the reference read element by element, and the claims. -/
module

public import proofs.«01_k».proof.Defs
public import proofs.«01_k».proof.Proof.Norm
public import proofs.«01_k».proof.Proof.V6
public import proofs.«01_k».proof.Proof.V6F
public import proofs.«01_k».proof.Proof.Gen.Kernel6.Frame
public import proofs.«01_k».proof.Proof.Gen.Kernel6Ideal.Frame
public import proofs.«01_k».proof.Proof.Gen.Reference6Ideal.Run
public import proofs.«01_k».proof.Proof.Gen.Reference6Ideal.Read
public import Idealize.ShloMosaic.Lib.Pipeline.ValueKit
public import Idealize.ShloMosaic.Lib.Pipeline.ReadBack
public import Idealize.ShloMosaic.Lib.Pointwise
public import Idealize.ShloMosaic.Lib.Tactic
public import Idealize.ShloMosaic.Lib.Quiescent

@[expose] public section

set_option maxRecDepth 16384

noncomputable section

open Idealize.ShloMosaic Idealize.ShloMosaic.TcCoe Idealize.SL.Sem
open Idealize.ShloMosaic.Pipeline (Dat)

namespace Cert.Kernel6Ideal.Hand

open Cert.Kernel6Ideal Cert.Kernel6Ideal.Gen

variable {F : FTy → Type} [FloatOps F]
variable (m : (ℓ : Loc nD τ sig) → Buf (Elt F) ℓ) (ρ : Dev nD → PrngReg)

/-- After the run the arguments are as launched. -/
theorem kept (r : PUnit × MemSt nD τ sig (Elt F)) (h : Pipeline.FramePost cfgs (dats m) 0 (V m) r) (c : Dev nD) :
    r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  ⟨((h c).1 0).trans (((dats m 0 c).arrAt_in 0 rfl _).trans ((A_eq m c 0).trans (V_main_arg0 m c))),
    ((h c).1 1).trans (((dats m 0 c).arrAt_in 1 rfl _).trans ((A_eq m c 1).trans (V_main_arg1 m c))),
    ((h c).1 2).trans (((dats m 0 c).arrAt_in 2 rfl _).trans ((A_eq m c 2).trans (V_main_arg2 m c)))⟩

/-- The run: it ends, the arguments as launched, every counter at zero. -/
theorem ends : θ_run (defs (F := F)) (onTc (τ := τ) (main (F := F))) ⟨m, fun _ => 0, ρ⟩ fun r =>
    (∀ c : Dev nD, r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)) ∧ r.2.sem = fun _ => 0 :=
  (θ_run defs _ _).mono (fun r h => ⟨fun c => kept m r h.1 c, h.2⟩) (run m ρ)

/-- The run's results. -/
theorem results : θ_run (defs (F := F)) (onTc (τ := τ) (main (F := F))) ⟨m, fun _ => 0, ρ⟩ fun r => ∀ c : Dev nD,
      r.2.mem ((c : Thread nD τ).loc main_v0_0) = (dats m 0 c).arrAt 3 cfg0.N
      ∧ r.2.mem ((c : Thread nD τ).loc main_v0_1) = (dats m 0 c).arrAt 4 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h.1 c).1 3, (h.1 c).1 4, kept m r h.1 c⟩) (run m ρ)

end Cert.Kernel6Ideal.Hand

namespace Cert.Proof.C6

open Cert.Norm Cert.Kernel6Ideal.Hand Cert.Reference6Ideal.Read Cert.Reference6Ideal

section Ref
variable (x0 : Vec Ideal S4096x1024 .f32) (x1 : Vec Ideal S1x1024 .f32) (x2 : Vec Ideal S12x1024x512 .bf16)

/-- The inverse root of the mean square of a row. -/
theorem v11_apply (p : Fin 4096) : val_main_v11 (F := Ideal) x0 (ix2 p (0 : Fin 1)) = rs (fun j => x0 (ix2 p j)) := by
  unfold val_main_v11 val_main_v10 val_main_v9 val_main_v8 val_main_v7 val_main_v6 val_main_v5 val_main_v4 val_main_cst_1 val_main_cst_0 val_main_cst rs
  pointwise [zero32]

/-- The normalised and scaled rows. -/
theorem v17_apply (p : Fin 4096) (j : Fin 1024) : val_main_v17 (F := Ideal) x0 x1 (ix2 p j) = XA x0 x1 p j := by
  unfold val_main_v17 val_main_v16 val_main_v15 val_main_v14 val_main_v13 val_main_v12 val_main_v3 XA
  pointwise [zero32, v11_apply]

/-- The weight, its columns in order. -/
theorem v2_apply (k : Fin 1024) (q : Fin 6144) : val_main_v2 (F := Ideal) x2 (ix2 k q) = x2 (ix3 (⟨q.val / 512, by omega⟩ : Fin 12) k (⟨q.val % 512, Nat.mod_lt _ (by decide)⟩ : Fin 512)) := by
  unfold val_main_v2 val_main_v1 val_main_v0
  pointwise [zero32]
  blk_ext []

/-- The product. -/
theorem v19_apply (p : Fin 4096) (q : Fin 6144) : val_main_v19 (F := Ideal) x0 x1 x2 (ix2 p q) = PA x0 x1 x2 p q := by
  unfold val_main_v19 val_main_v18 PA
  pointwise [zero32, v17_apply, v2_apply]

end Ref

/-- The kernel's body table is its idealisation's, over any float values. -/
theorem body_eq {F : FTy → Type} [FloatOps F] : Cert.Kernel6.defs₀ (F := F) = Cert.Kernel6Ideal.defs₀ (F := F) := by
  unfold Cert.Kernel6.defs₀ Cert.Kernel6Ideal.defs₀
  refine congrArg Defs.onTc (funext fun l => funext fun a => ?_)
  match l, a with
  | ⟨0, _⟩, (t, s) => rfl
/-- So are its definitions. -/
theorem defs_eq {F : FTy → Type} [FloatOps F] : Cert.Kernel6.defs (F := F) = Cert.Kernel6Ideal.defs (F := F) :=
  congrArg (Pipeline.defs _) body_eq

/-- The kernel comes to an end: its text is the idealisation's. -/
theorem frame_p : Cert.quiescent_Kernel6 := fun m ρ _ => by
  rw [defs_eq]
  exact Cert.Kernel6Ideal.Hand.ends (F := Bits) m ρ

/-- So does its idealisation. -/
theorem frame_pi : Cert.quiescent_Kernel6Ideal := fun m ρ _ => Cert.Kernel6Ideal.Hand.ends (F := Ideal) m ρ

/-- So does the reference. -/
theorem frame_r : Cert.quiescent_Reference6Ideal := fun m ρ _ =>
  (θ_run Cert.Reference6Ideal.defs _ _).mono (fun r h => ⟨fun c => (h c).2.2,
      Idealize.ShloMosaic.sem_eq_zero_of_no_sems (by decide) r.2⟩)
    (Cert.Reference6Ideal.Value.run (F := Ideal) m ρ)

/-- The reference's two results are what the kernel's two arrays end at. -/
theorem algebraic : Cert.algebraic_Kernel6Ideal_Reference6Ideal := by
  intro m ρ m' ρ' _ hagree
  refine ⟨fun c => (Cert.Kernel6Ideal.Hand.dats (F := Ideal) m 0 c).arrAt 3 Cert.Kernel6Ideal.cfg0.N,
    fun c => (Cert.Kernel6Ideal.Hand.dats (F := Ideal) m 0 c).arrAt 4 Cert.Kernel6Ideal.cfg0.N,
    Cert.Kernel6Ideal.Hand.results (F := Ideal) m ρ, ?_⟩
  refine (θ_run Cert.Reference6Ideal.defs _ _).mono (fun _ h c => ⟨(h c).1.trans ?_, (h c).2.1.trans ?_, (h c).2.2⟩)
    (Cert.Reference6Ideal.Value.run (F := Ideal) m' ρ')
  all_goals
    obtain ⟨g0, g1, g2⟩ := hagree c
  · rw [val_main_v19_eq, g0, g1, g2]
    refine Eq.trans ?_ (Cert.Kernel6Ideal.Hand.final3 m c).symm
    funext i
    idx_vars i
    exact v19_apply _ _ _ _ _
  · rw [val_main_v17_eq, g0, g1]
    refine Eq.trans ?_ (Cert.Kernel6Ideal.Hand.final4 m c).symm
    funext i
    idx_vars i
    exact v17_apply _ _ _ _

end Cert.Proof.C6

end
-- ==== Proof.V7.lean ====
/- The optimiser's step on the in projection's weight: what the kernel's four result arrays end at, and the reference's. -/
module

public import proofs.«01_k».proof.Defs
public import proofs.«01_k».proof.Proof.Norm
public import proofs.«01_k».proof.Proof.Gen.Kernel7.Frame
public import proofs.«01_k».proof.Proof.Gen.Kernel7Ideal.Value
public import proofs.«01_k».proof.Proof.Gen.Reference7Ideal.Run
public import proofs.«01_k».proof.Proof.Gen.Reference7Ideal.Read
public import Idealize.ShloMosaic.Lib.Pipeline.ValueKit
public import Idealize.ShloMosaic.Lib.Pipeline.ReadBack
public import Idealize.ShloMosaic.Lib.Pointwise
public import Idealize.ShloMosaic.Lib.Tactic
public import Idealize.ShloMosaic.Lib.Quiescent

@[expose] public section

set_option maxRecDepth 16384

noncomputable section

open Idealize.ShloMosaic Idealize.ShloMosaic.TcCoe Idealize.SL.Sem
open Idealize.ShloMosaic.Pipeline (Dat)

namespace Cert.Kernel7Ideal.Hand

open Cert.Kernel7Ideal Cert.Kernel7Ideal.Gen
open Cert.Norm (canon_of)

section
variable {F : FTy → Type} [FloatOps F]

/-- The new first moment of one element. -/
def newM (g m : Elt F .f32) : Elt F .f32 :=
  FloatOps.addf (FloatOps.mulf (Scalar.ofBits .f32 0x3F666666#32) m) (FloatOps.mulf (Scalar.ofBits .f32 0x3DCCCCCD#32) g)

/-- The new second moment of one element. -/
def newV (g v : Elt F .f32) : Elt F .f32 :=
  FloatOps.addf (FloatOps.mulf (Scalar.ofBits .f32 0x3F7FBE77#32) v) (FloatOps.mulf (Scalar.ofBits .f32 0x3A83126F#32) (FloatOps.mulf g g))

/-- The change of one element of the weight. -/
def delta (g w m v : Elt F .f32) : Elt F .f32 :=
  FloatOps.mulf (Scalar.ofBits .f32 0xBA83126F#32)
    (FloatOps.addf
      (FloatOps.divf (FloatOps.divf (newM g m) (Scalar.ofBits .f32 0x3F26BD02#32))
        (FloatOps.addf (FloatOps.sqrt (FloatOps.divf (newV g v) (Scalar.ofBits .f32 0x3C231ACC#32))) (Scalar.ofBits .f32 0x322BCC77#32)))
      (FloatOps.mulf (Scalar.ofBits .f32 0x3C23D70A#32) w))

end

/-- The three column chunks of the gradient side by side: one element. -/
def chunk {n : ℕ} (x3 : Fin 3 → Fin n → Fin 512 → Elt Ideal .f32) (y0 : Fin n) (y1 : Fin 1536) : Elt Ideal .f32 :=
  x3 ⟨y1.val / 512, by omega⟩ y0 ⟨y1.val % 512, by omega⟩

/-- The same of one grid point's block of the gradient. -/
def chunkB (x3 : Vec Ideal S3x128x512 .f32) (y : S128x1536.Idx) : Elt Ideal .f32 := chunk (fun i j k => x3 (ix3 i j k)) (y 0) (y 1)

/-- Chunk 0 of the block, at an element of its columns. -/
theorem pay_0 (x3 : Vec Ideal S3x128x512 .f32) (x : S128x512.Idx) : k0_pay1 (F := Ideal) (View.ld x3 r0_0) x = chunkB x3 (r0_1.emb x) := by
  have e0 : (r0_1.emb x 0).val = (x 0).val := by blk_point []
  have e1 : (r0_1.emb x 1).val = 0 + (x 1).val := by blk_point []
  have hx : (x 1).val < 512 := (x 1).isLt
  unfold k0_pay1 chunkB chunk
  pointwise
  refine congrArg x3 (funext fun a => Fin.ext ?_)
  match a with
  | ⟨0, _⟩ => show 0 = (r0_1.emb x 1).val / 512; omega
  | ⟨1, _⟩ => exact e0.symm
  | ⟨2, _⟩ => show (x 1).val = (r0_1.emb x 1).val % 512; omega

/-- Chunk 1 of the block, at an element of its columns. -/
theorem pay_1 (x3 : Vec Ideal S3x128x512 .f32) (x : S128x512.Idx) : k0_pay5 (F := Ideal) (View.ld x3 r0_2) x = chunkB x3 (r0_3.emb x) := by
  have e0 : (r0_3.emb x 0).val = (x 0).val := by blk_point []
  have e1 : (r0_3.emb x 1).val = 512 + (x 1).val := by blk_point []
  have hx : (x 1).val < 512 := (x 1).isLt
  unfold k0_pay5 chunkB chunk
  pointwise
  refine congrArg x3 (funext fun a => Fin.ext ?_)
  match a with
  | ⟨0, _⟩ => show 1 = (r0_3.emb x 1).val / 512; omega
  | ⟨1, _⟩ => exact e0.symm
  | ⟨2, _⟩ => show (x 1).val = (r0_3.emb x 1).val % 512; omega

/-- Chunk 2 of the block, at an element of its columns. -/
theorem pay_2 (x3 : Vec Ideal S3x128x512 .f32) (x : S128x512.Idx) : k0_pay9 (F := Ideal) (View.ld x3 r0_4) x = chunkB x3 (r0_5.emb x) := by
  have e0 : (r0_5.emb x 0).val = (x 0).val := by blk_point []
  have e1 : (r0_5.emb x 1).val = 1024 + (x 1).val := by blk_point []
  have hx : (x 1).val < 512 := (x 1).isLt
  unfold k0_pay9 chunkB chunk
  pointwise
  refine congrArg x3 (funext fun a => Fin.ext ?_)
  match a with
  | ⟨0, _⟩ => show 2 = (r0_5.emb x 1).val / 512; omega
  | ⟨1, _⟩ => exact e0.symm
  | ⟨2, _⟩ => show (x 1).val = (r0_5.emb x 1).val % 512; omega

/-- One grid point's block of the gradient. -/
theorem out_4 (x0 x1 x2 : Vec Ideal S128x1536 .f32) (x3 : Vec Ideal S3x128x512 .f32) (y : S128x1536.Idx) :
    out0_4 (F := Ideal) x0 x1 x2 x3 y = chunkB x3 y := by
  unfold out0_4
  refine canon_of (s := S128x1536) (e := .f32) (fun y => chunkB x3 y) _ ?_ y (cover0_4 _ _ _ y)
  exact ⟨fun x => pay_2 x3 x, fun x => pay_1 x3 x, fun x => pay_0 x3 x, trivial⟩

/-- One grid point's block of the change of the weight. -/
theorem out_5 (x0 x1 x2 : Vec Ideal S128x1536 .f32) (x3 : Vec Ideal S3x128x512 .f32) (y : S128x1536.Idx) :
    out0_5 (F := Ideal) x0 x1 x2 x3 y = delta (chunkB x3 y) (x0 y) (x1 y) (x2 y) := by
  unfold out0_5
  refine canon_of (s := S128x1536) (e := .f32) (fun y => delta (chunkB x3 y) (x0 y) (x1 y) (x2 y)) _ ?_ y (cover0_5 _ _ _ y)
  exact ⟨fun x => congrArg (fun g => delta g (x0 (r0_5.emb x)) (x1 (r0_5.emb x)) (x2 (r0_5.emb x))) (pay_2 x3 x), fun x => congrArg (fun g => delta g (x0 (r0_3.emb x)) (x1 (r0_3.emb x)) (x2 (r0_3.emb x))) (pay_1 x3 x), fun x => congrArg (fun g => delta g (x0 (r0_1.emb x)) (x1 (r0_1.emb x)) (x2 (r0_1.emb x))) (pay_0 x3 x), trivial⟩

/-- One grid point's block of the new first moment. -/
theorem out_6 (x0 x1 x2 : Vec Ideal S128x1536 .f32) (x3 : Vec Ideal S3x128x512 .f32) (y : S128x1536.Idx) :
    out0_6 (F := Ideal) x0 x1 x2 x3 y = newM (chunkB x3 y) (x1 y) := by
  unfold out0_6
  refine canon_of (s := S128x1536) (e := .f32) (fun y => newM (chunkB x3 y) (x1 y)) _ ?_ y (cover0_6 _ _ _ y)
  exact ⟨fun x => congrArg (fun g => newM g (x1 (r0_5.emb x))) (pay_2 x3 x), fun x => congrArg (fun g => newM g (x1 (r0_3.emb x))) (pay_1 x3 x), fun x => congrArg (fun g => newM g (x1 (r0_1.emb x))) (pay_0 x3 x), trivial⟩

/-- One grid point's block of the new second moment. -/
theorem out_7 (x0 x1 x2 : Vec Ideal S128x1536 .f32) (x3 : Vec Ideal S3x128x512 .f32) (y : S128x1536.Idx) :
    out0_7 (F := Ideal) x0 x1 x2 x3 y = newV (chunkB x3 y) (x2 y) := by
  unfold out0_7
  refine canon_of (s := S128x1536) (e := .f32) (fun y => newV (chunkB x3 y) (x2 y)) _ ?_ y (cover0_7 _ _ _ y)
  exact ⟨fun x => congrArg (fun g => newV g (x2 (r0_5.emb x))) (pay_2 x3 x), fun x => congrArg (fun g => newV g (x2 (r0_3.emb x))) (pay_1 x3 x), fun x => congrArg (fun g => newV g (x2 (r0_1.emb x))) (pay_0 x3 x), trivial⟩

/-- The index maps of the windows. -/
theorem idx : ∀ t : Fin grid0.N, win0_0.index t = ![t.val, 0] ∧ win0_1.index t = ![t.val, 0] ∧ win0_2.index t = ![t.val, 0]
    ∧ win0_3.index t = ![0, t.val, 0] ∧ win0_4.index t = ![t.val, 0] ∧ win0_5.index t = ![t.val, 0] ∧ win0_6.index t = ![t.val, 0]
    ∧ win0_7.index t = ![t.val, 0] := by decide +kernel

/-- The three column chunks of the whole gradient side by side. -/
def chunkA (a3 : Vec Ideal S3x1024x512 .f32) (j : S1024x1536.Idx) : Elt Ideal .f32 := chunk (fun i j k => a3 (ix3 i j k)) (j 0) (j 1)

variable (m : (ℓ : Loc nD τ sig) → Buf (Elt Ideal) ℓ)

/-- A grid point's block of the gradient, at an element of the window's block. -/
theorem chunk_blk_4 (c : Dev nD) (t : Fin cfg0.N) (y : (cfg0.win 4).block.Idx) :
    chunkB (iblk m c 3 t) y = chunkA (m ((c : Thread nD τ).loc main_arg3)) (((cfg0.win 4).blk t).view.emb y) := by
  have e0 : (((cfg0.win 4).blk t).view.emb y 0).val = t.val * 128 + (y 0).val := by blk_point [idx t]
  have e1 : (((cfg0.win 4).blk t).view.emb y 1).val = (y 1).val := by blk_point [idx t]
  unfold chunkB chunkA chunk
  blk_ext [iblk, V, idx _]

/-- A grid point's block of the gradient, at an element of the window's block. -/
theorem chunk_blk_5 (c : Dev nD) (t : Fin cfg0.N) (y : (cfg0.win 5).block.Idx) :
    chunkB (iblk m c 3 t) y = chunkA (m ((c : Thread nD τ).loc main_arg3)) (((cfg0.win 5).blk t).view.emb y) := by
  have e0 : (((cfg0.win 5).blk t).view.emb y 0).val = t.val * 128 + (y 0).val := by blk_point [idx t]
  have e1 : (((cfg0.win 5).blk t).view.emb y 1).val = (y 1).val := by blk_point [idx t]
  unfold chunkB chunkA chunk
  blk_ext [iblk, V, idx _]

/-- A grid point's block of the gradient, at an element of the window's block. -/
theorem chunk_blk_6 (c : Dev nD) (t : Fin cfg0.N) (y : (cfg0.win 6).block.Idx) :
    chunkB (iblk m c 3 t) y = chunkA (m ((c : Thread nD τ).loc main_arg3)) (((cfg0.win 6).blk t).view.emb y) := by
  have e0 : (((cfg0.win 6).blk t).view.emb y 0).val = t.val * 128 + (y 0).val := by blk_point [idx t]
  have e1 : (((cfg0.win 6).blk t).view.emb y 1).val = (y 1).val := by blk_point [idx t]
  unfold chunkB chunkA chunk
  blk_ext [iblk, V, idx _]

/-- A grid point's block of the gradient, at an element of the window's block. -/
theorem chunk_blk_7 (c : Dev nD) (t : Fin cfg0.N) (y : (cfg0.win 7).block.Idx) :
    chunkB (iblk m c 3 t) y = chunkA (m ((c : Thread nD τ).loc main_arg3)) (((cfg0.win 7).blk t).view.emb y) := by
  have e0 : (((cfg0.win 7).blk t).view.emb y 0).val = t.val * 128 + (y 0).val := by blk_point [idx t]
  have e1 : (((cfg0.win 7).blk t).view.emb y 1).val = (y 1).val := by blk_point [idx t]
  unfold chunkB chunkA chunk
  blk_ext [iblk, V, idx _]

/-- The array of the gradient ends at it. -/
theorem final_4 (c : Dev nD) : (dats (F := Ideal) m 0 c).arrAt 4 cfg0.N = fun j => chunkA (m ((c : Thread nD τ).loc main_arg3)) j := by
  refine (dats m 0 c).arrAt_eq_of_covers 4 _ (by decide +kernel) fun t hf y => ?_
  blk_simp
  rw [after0_4, out_4]
  exact chunk_blk_4 m c t y

/-- The array of the change of the weight ends at it. -/
theorem final_5 (c : Dev nD) : (dats (F := Ideal) m 0 c).arrAt 5 cfg0.N = fun j => delta (chunkA (m ((c : Thread nD τ).loc main_arg3)) j) (m ((c : Thread nD τ).loc main_arg0) j) (m ((c : Thread nD τ).loc main_arg1) j) (m ((c : Thread nD τ).loc main_arg2) j) := by
  refine (dats m 0 c).arrAt_eq_of_covers 5 _ (by decide +kernel) fun t hf y => ?_
  blk_simp
  rw [after0_5, out_5]
  rw [chunk_blk_5 m c t y]
  congr 1 <;> blk_ext [iblk, V, idx _]

/-- The array of the new first moment ends at it. -/
theorem final_6 (c : Dev nD) : (dats (F := Ideal) m 0 c).arrAt 6 cfg0.N = fun j => newM (chunkA (m ((c : Thread nD τ).loc main_arg3)) j) (m ((c : Thread nD τ).loc main_arg1) j) := by
  refine (dats m 0 c).arrAt_eq_of_covers 6 _ (by decide +kernel) fun t hf y => ?_
  blk_simp
  rw [after0_6, out_6]
  rw [chunk_blk_6 m c t y]
  congr 1
  blk_ext [iblk, V, idx _]

/-- The array of the new second moment ends at it. -/
theorem final_7 (c : Dev nD) : (dats (F := Ideal) m 0 c).arrAt 7 cfg0.N = fun j => newV (chunkA (m ((c : Thread nD τ).loc main_arg3)) j) (m ((c : Thread nD τ).loc main_arg2) j) := by
  refine (dats m 0 c).arrAt_eq_of_covers 7 _ (by decide +kernel) fun t hf y => ?_
  blk_simp
  rw [after0_7, out_7]
  rw [chunk_blk_7 m c t y]
  congr 1
  blk_ext [iblk, V, idx _]

end Cert.Kernel7Ideal.Hand

namespace Cert.Proof.C7

open Cert.Kernel7Ideal.Hand

/-- The reference lays the chunks side by side. -/
theorem ref_g (x3 : Vec Ideal Cert.Kernel7Ideal.S3x1024x512 .f32) :
    Cert.Reference7Ideal.Read.val_main_v1 (F := Ideal) x3 = fun j => chunkA x3 j := by
  funext j
  rw [Cert.Reference7Ideal.Read.val_main_v1_apply, Cert.Reference7Ideal.Read.val_main_v0_apply]
  unfold chunkA chunk
  have h0 : (j 0).val < 1024 := (j 0).isLt
  have h1 : (j 1).val < 1536 := (j 1).isLt
  refine congrArg x3 (funext fun a => Fin.ext ?_)
  fin_cases a
  · show ((j 0).val * 1536 + (j 1).val) / 512 % 3 = (j 1).val / 512
    omega
  · show ((j 0).val * 1536 + (j 1).val) / 1536 = (j 0).val
    omega
  · show ((j 0).val * 1536 + (j 1).val) % 512 = (j 1).val % 512
    omega

/-- The reference's new first moment, element by element. -/
theorem ref_m (x1 : Vec Ideal Cert.Kernel7Ideal.S1024x1536 .f32) (x3 : Vec Ideal Cert.Kernel7Ideal.S3x1024x512 .f32) :
    Cert.Reference7Ideal.Read.val_main_v6 (F := Ideal) x1 x3 = fun j => newM (chunkA x3 j) (x1 j) := by
  funext j
  rw [Cert.Reference7Ideal.Read.val_main_v6_apply, Cert.Reference7Ideal.Read.val_main_v3_apply, Cert.Reference7Ideal.Read.val_main_v5_apply, Cert.Reference7Ideal.Read.val_main_v2_apply, Cert.Reference7Ideal.Read.val_main_v4_apply, ref_g]
  rfl

/-- The reference's new second moment, element by element. -/
theorem ref_v (x2 : Vec Ideal Cert.Kernel7Ideal.S1024x1536 .f32) (x3 : Vec Ideal Cert.Kernel7Ideal.S3x1024x512 .f32) :
    Cert.Reference7Ideal.Read.val_main_v12 (F := Ideal) x2 x3 = fun j => newV (chunkA x3 j) (x2 j) := by
  funext j
  rw [Cert.Reference7Ideal.Read.val_main_v12_apply, Cert.Reference7Ideal.Read.val_main_v8_apply, Cert.Reference7Ideal.Read.val_main_v11_apply, Cert.Reference7Ideal.Read.val_main_v7_apply, Cert.Reference7Ideal.Read.val_main_v10_apply, Cert.Reference7Ideal.Read.val_main_v9_apply, ref_g]
  rfl

/-- The reference's change of the weight, element by element. -/
theorem ref_d (x0 x1 x2 : Vec Ideal Cert.Kernel7Ideal.S1024x1536 .f32) (x3 : Vec Ideal Cert.Kernel7Ideal.S3x1024x512 .f32) :
    Cert.Reference7Ideal.Read.val_main_v25 (F := Ideal) x0 x1 x2 x3 = fun j => delta (chunkA x3 j) (x0 j) (x1 j) (x2 j) := by
  funext j
  rw [Cert.Reference7Ideal.Read.val_main_v25_apply, Cert.Reference7Ideal.Read.val_main_v24_apply, Cert.Reference7Ideal.Read.val_main_v23_apply, Cert.Reference7Ideal.Read.val_main_v22_apply, Cert.Reference7Ideal.Read.val_main_v21_apply, Cert.Reference7Ideal.Read.val_main_v20_apply, Cert.Reference7Ideal.Read.val_main_v19_apply, Cert.Reference7Ideal.Read.val_main_v18_apply, Cert.Reference7Ideal.Read.val_main_v17_apply, Cert.Reference7Ideal.Read.val_main_v16_apply, Cert.Reference7Ideal.Read.val_main_v15_apply, Cert.Reference7Ideal.Read.val_main_v14_apply, Cert.Reference7Ideal.Read.val_main_v13_apply, ref_m, ref_v]
  rfl

/-- The kernel comes to an end. -/
theorem frame_p : Cert.quiescent_Kernel7 := fun m ρ _ => Cert.Kernel7.Gen.frame m ρ
/-- So does its idealisation. -/
theorem frame_pi : Cert.quiescent_Kernel7Ideal := fun m ρ _ => Cert.Kernel7Ideal.Gen.frame m ρ
/-- So does the reference. -/
theorem frame_r : Cert.quiescent_Reference7Ideal := fun m ρ _ =>
  (θ_run Cert.Reference7Ideal.defs _ _).mono (fun r h => ⟨fun c => (h c).2.2.2.2,
      Idealize.ShloMosaic.sem_eq_zero_of_no_sems (by decide) r.2⟩)
    (Cert.Reference7Ideal.Value.run (F := Ideal) m ρ)

/-- The reference's four results are what the kernel's arrays end at. -/
theorem algebraic : Cert.algebraic_Kernel7Ideal_Reference7Ideal := by
  intro m ρ m' ρ' _ hagree
  refine ⟨_, _, _, _, Cert.Kernel7Ideal.Value.run_blocks (F := Ideal) m ρ, ?_⟩
  refine (θ_run Cert.Reference7Ideal.defs _ _).mono (fun _ h c =>
      ⟨(h c).1.trans ?_, (h c).2.1.trans ?_, (h c).2.2.1.trans ?_, (h c).2.2.2.1.trans ?_, (h c).2.2.2.2⟩)
    (Cert.Reference7Ideal.Value.run (F := Ideal) m' ρ')
  · refine Eq.trans ?_ (final_4 m c).symm
    rw [(hagree c).2.2.2]
    exact ref_g _
  · refine Eq.trans ?_ (final_5 m c).symm
    rw [(hagree c).1, (hagree c).2.1, (hagree c).2.2.1, (hagree c).2.2.2]
    exact ref_d _ _ _ _
  · refine Eq.trans ?_ (final_6 m c).symm
    rw [(hagree c).2.1, (hagree c).2.2.2]
    exact ref_m _ _
  · refine Eq.trans ?_ (final_7 m c).symm
    rw [(hagree c).2.2.1, (hagree c).2.2.2]
    exact ref_v _ _

end Cert.Proof.C7

end
-- ==== Proof.V8.lean ====
/- The optimiser's step on the out projection's weight: what the kernel's three result arrays end at, and the reference's. -/
module

public import proofs.«01_k».proof.Defs
public import proofs.«01_k».proof.Proof.Gen.Kernel8.Frame
public import proofs.«01_k».proof.Proof.Gen.Kernel8Ideal.Value
public import proofs.«01_k».proof.Proof.Gen.Reference8Ideal.Run
public import proofs.«01_k».proof.Proof.Gen.Reference8Ideal.Read
public import Idealize.ShloMosaic.Lib.Quiescent

@[expose] public section

set_option maxRecDepth 16384

noncomputable section

open Idealize.ShloMosaic Idealize.ShloMosaic.TcCoe Idealize.SL.Sem

namespace Cert.Proof.C8

/-- The reference's new first moment, element by element: the kernel's. -/
theorem ref_m (x1 x3 : Vec Ideal Cert.Kernel8Ideal.S512x1024 .f32) :
    Cert.Reference8Ideal.Read.val_main_v4 (F := Ideal) x1 x3 = Cert.Kernel8Ideal.Value.G5 (F := Ideal) x3 x1 := by
  funext j
  rw [Cert.Reference8Ideal.Read.val_main_v4_apply, Cert.Reference8Ideal.Read.val_main_v1_apply, Cert.Reference8Ideal.Read.val_main_v3_apply,
    Cert.Reference8Ideal.Read.val_main_v0_apply, Cert.Reference8Ideal.Read.val_main_v2_apply]
  rfl

/-- The reference's new second moment, element by element: the kernel's. -/
theorem ref_v (x2 x3 : Vec Ideal Cert.Kernel8Ideal.S512x1024 .f32) :
    Cert.Reference8Ideal.Read.val_main_v10 (F := Ideal) x2 x3 = Cert.Kernel8Ideal.Value.G6 (F := Ideal) x3 x2 := by
  funext j
  rw [Cert.Reference8Ideal.Read.val_main_v10_apply, Cert.Reference8Ideal.Read.val_main_v6_apply, Cert.Reference8Ideal.Read.val_main_v9_apply,
    Cert.Reference8Ideal.Read.val_main_v5_apply, Cert.Reference8Ideal.Read.val_main_v8_apply, Cert.Reference8Ideal.Read.val_main_v7_apply]
  rfl

/-- The reference's change of the weight, element by element: the kernel's. -/
theorem ref_d (x0 x1 x2 x3 : Vec Ideal Cert.Kernel8Ideal.S512x1024 .f32) :
    Cert.Reference8Ideal.Read.val_main_v23 (F := Ideal) x0 x1 x2 x3 = Cert.Kernel8Ideal.Value.G4 (F := Ideal) x0 x3 x1 x2 := by
  funext j
  rw [Cert.Reference8Ideal.Read.val_main_v23_apply, Cert.Reference8Ideal.Read.val_main_v22_apply, Cert.Reference8Ideal.Read.val_main_v21_apply,
    Cert.Reference8Ideal.Read.val_main_v20_apply, Cert.Reference8Ideal.Read.val_main_v19_apply, Cert.Reference8Ideal.Read.val_main_v18_apply,
    Cert.Reference8Ideal.Read.val_main_v17_apply, Cert.Reference8Ideal.Read.val_main_v16_apply, Cert.Reference8Ideal.Read.val_main_v15_apply,
    Cert.Reference8Ideal.Read.val_main_v14_apply, Cert.Reference8Ideal.Read.val_main_v13_apply, Cert.Reference8Ideal.Read.val_main_v12_apply,
    Cert.Reference8Ideal.Read.val_main_v11_apply, ref_m, ref_v]
  rfl

/-- The kernel comes to an end. -/
theorem frame_p : Cert.quiescent_Kernel8 := fun m ρ _ => Cert.Kernel8.Gen.frame m ρ
/-- So does its idealisation. -/
theorem frame_pi : Cert.quiescent_Kernel8Ideal := fun m ρ _ => Cert.Kernel8Ideal.Gen.frame m ρ
/-- So does the reference. -/
theorem frame_r : Cert.quiescent_Reference8Ideal := fun m ρ _ =>
  (θ_run Cert.Reference8Ideal.defs _ _).mono (fun r h => ⟨fun c => (h c).2.2.2,
      Idealize.ShloMosaic.sem_eq_zero_of_no_sems (by decide) r.2⟩)
    (Cert.Reference8Ideal.Value.run (F := Ideal) m ρ)

/-- The reference's three results are what the kernel's arrays end at. -/
theorem algebraic : Cert.algebraic_Kernel8Ideal_Reference8Ideal := by
  intro m ρ m' ρ' _ hagree
  refine ⟨_, _, _, Cert.Kernel8Ideal.Value.run (F := Ideal) m ρ, ?_⟩
  refine (θ_run Cert.Reference8Ideal.defs _ _).mono (fun _ h c => ⟨(h c).1.trans ?_, (h c).2.1.trans ?_, (h c).2.2.1.trans ?_, (h c).2.2.2⟩)
    (Cert.Reference8Ideal.Value.run (F := Ideal) m' ρ')
  · rw [(hagree c).1, (hagree c).2.1, (hagree c).2.2.1, (hagree c).2.2.2]
    exact ref_d _ _ _ _
  · rw [(hagree c).2.1, (hagree c).2.2.2]
    exact ref_m _ _
  · rw [(hagree c).2.2.1, (hagree c).2.2.2]
    exact ref_v _ _

end Cert.Proof.C8

end
-- ==== Proof.V9.lean ====
/- The optimiser's step on the first three of the twelve small weights: what the kernel's nine result arrays end at,
   and the reference's. -/
module

public import proofs.«01_k».proof.Defs
public import proofs.«01_k».proof.Proof.Gen.Kernel9.Frame
public import proofs.«01_k».proof.Proof.Gen.Kernel9Ideal.Value
public import proofs.«01_k».proof.Proof.Gen.Reference9Ideal.Run
public import proofs.«01_k».proof.Proof.Gen.Reference9Ideal.Read
public import Idealize.ShloMosaic.Lib.Quiescent

@[expose] public section

set_option maxRecDepth 16384

noncomputable section

open Idealize.ShloMosaic Idealize.ShloMosaic.TcCoe Idealize.SL.Sem

namespace Cert.Proof.C9

/-- The new first moment of weight 1 of twelve, element by element: the kernel's. -/
theorem ref_m0 (x1 x3 : Vec Ideal Cert.Kernel9Ideal.S1x1024 .f32) :
    Cert.Reference9Ideal.Read.val_main_v4 (F := Ideal) x1 x3 = Cert.Kernel9Ideal.Value.G15 (F := Ideal) x3 x1 := by
  funext j
  rw [Cert.Reference9Ideal.Read.val_main_v4_apply, Cert.Reference9Ideal.Read.val_main_v1_apply, Cert.Reference9Ideal.Read.val_main_v3_apply,
    Cert.Reference9Ideal.Read.val_main_v0_apply, Cert.Reference9Ideal.Read.val_main_v2_apply]
  rfl

/-- The new second moment of weight 1 of twelve, element by element: the kernel's. -/
theorem ref_v0 (x2 x3 : Vec Ideal Cert.Kernel9Ideal.S1x1024 .f32) :
    Cert.Reference9Ideal.Read.val_main_v10 (F := Ideal) x2 x3 = Cert.Kernel9Ideal.Value.G18 (F := Ideal) x3 x2 := by
  funext j
  rw [Cert.Reference9Ideal.Read.val_main_v10_apply, Cert.Reference9Ideal.Read.val_main_v6_apply, Cert.Reference9Ideal.Read.val_main_v9_apply,
    Cert.Reference9Ideal.Read.val_main_v5_apply, Cert.Reference9Ideal.Read.val_main_v8_apply, Cert.Reference9Ideal.Read.val_main_v7_apply]
  rfl

/-- The change of weight 1 of twelve, element by element: the kernel's. -/
theorem ref_d0 (x0 x1 x2 x3 : Vec Ideal Cert.Kernel9Ideal.S1x1024 .f32) :
    Cert.Reference9Ideal.Read.val_main_v23 (F := Ideal) x0 x1 x2 x3 = Cert.Kernel9Ideal.Value.G12 (F := Ideal) x0 x3 x1 x2 := by
  funext j
  rw [Cert.Reference9Ideal.Read.val_main_v23_apply, Cert.Reference9Ideal.Read.val_main_v22_apply, Cert.Reference9Ideal.Read.val_main_v21_apply,
    Cert.Reference9Ideal.Read.val_main_v20_apply, Cert.Reference9Ideal.Read.val_main_v19_apply, Cert.Reference9Ideal.Read.val_main_v18_apply,
    Cert.Reference9Ideal.Read.val_main_v17_apply, Cert.Reference9Ideal.Read.val_main_v16_apply, Cert.Reference9Ideal.Read.val_main_v15_apply,
    Cert.Reference9Ideal.Read.val_main_v14_apply, Cert.Reference9Ideal.Read.val_main_v13_apply, Cert.Reference9Ideal.Read.val_main_v12_apply,
    Cert.Reference9Ideal.Read.val_main_v11_apply,
    ref_m0, ref_v0]
  rfl

/-- The new first moment of weight 2 of twelve, element by element: the kernel's. -/
theorem ref_m1 (x1 x3 : Vec Ideal Cert.Kernel9Ideal.S3x256 .f32) :
    Cert.Reference9Ideal.Read.val_main_v28 (F := Ideal) x1 x3 = Cert.Kernel9Ideal.Value.G16 (F := Ideal) x3 x1 := by
  funext j
  rw [Cert.Reference9Ideal.Read.val_main_v28_apply, Cert.Reference9Ideal.Read.val_main_v25_apply, Cert.Reference9Ideal.Read.val_main_v27_apply,
    Cert.Reference9Ideal.Read.val_main_v24_apply, Cert.Reference9Ideal.Read.val_main_v26_apply]
  rfl

/-- The new second moment of weight 2 of twelve, element by element: the kernel's. -/
theorem ref_v1 (x2 x3 : Vec Ideal Cert.Kernel9Ideal.S3x256 .f32) :
    Cert.Reference9Ideal.Read.val_main_v34 (F := Ideal) x2 x3 = Cert.Kernel9Ideal.Value.G19 (F := Ideal) x3 x2 := by
  funext j
  rw [Cert.Reference9Ideal.Read.val_main_v34_apply, Cert.Reference9Ideal.Read.val_main_v30_apply, Cert.Reference9Ideal.Read.val_main_v33_apply,
    Cert.Reference9Ideal.Read.val_main_v29_apply, Cert.Reference9Ideal.Read.val_main_v32_apply, Cert.Reference9Ideal.Read.val_main_v31_apply]
  rfl

/-- The change of weight 2 of twelve, element by element: the kernel's. -/
theorem ref_d1 (x0 x1 x2 x3 : Vec Ideal Cert.Kernel9Ideal.S3x256 .f32) :
    Cert.Reference9Ideal.Read.val_main_v47 (F := Ideal) x0 x1 x2 x3 = Cert.Kernel9Ideal.Value.G13 (F := Ideal) x0 x3 x1 x2 := by
  funext j
  rw [Cert.Reference9Ideal.Read.val_main_v47_apply, Cert.Reference9Ideal.Read.val_main_v46_apply, Cert.Reference9Ideal.Read.val_main_v45_apply,
    Cert.Reference9Ideal.Read.val_main_v44_apply, Cert.Reference9Ideal.Read.val_main_v43_apply, Cert.Reference9Ideal.Read.val_main_v42_apply,
    Cert.Reference9Ideal.Read.val_main_v41_apply, Cert.Reference9Ideal.Read.val_main_v40_apply, Cert.Reference9Ideal.Read.val_main_v39_apply,
    Cert.Reference9Ideal.Read.val_main_v38_apply, Cert.Reference9Ideal.Read.val_main_v37_apply, Cert.Reference9Ideal.Read.val_main_v36_apply,
    Cert.Reference9Ideal.Read.val_main_v35_apply,
    ref_m1, ref_v1]
  rfl

/-- The new first moment of weight 3 of twelve, element by element: the kernel's. -/
theorem ref_m2 (x1 x3 : Vec Ideal Cert.Kernel9Ideal.S4x256 .f32) :
    Cert.Reference9Ideal.Read.val_main_v52 (F := Ideal) x1 x3 = Cert.Kernel9Ideal.Value.G17 (F := Ideal) x3 x1 := by
  funext j
  rw [Cert.Reference9Ideal.Read.val_main_v52_apply, Cert.Reference9Ideal.Read.val_main_v49_apply, Cert.Reference9Ideal.Read.val_main_v51_apply,
    Cert.Reference9Ideal.Read.val_main_v48_apply, Cert.Reference9Ideal.Read.val_main_v50_apply]
  rfl

/-- The new second moment of weight 3 of twelve, element by element: the kernel's. -/
theorem ref_v2 (x2 x3 : Vec Ideal Cert.Kernel9Ideal.S4x256 .f32) :
    Cert.Reference9Ideal.Read.val_main_v58 (F := Ideal) x2 x3 = Cert.Kernel9Ideal.Value.G20 (F := Ideal) x3 x2 := by
  funext j
  rw [Cert.Reference9Ideal.Read.val_main_v58_apply, Cert.Reference9Ideal.Read.val_main_v54_apply, Cert.Reference9Ideal.Read.val_main_v57_apply,
    Cert.Reference9Ideal.Read.val_main_v53_apply, Cert.Reference9Ideal.Read.val_main_v56_apply, Cert.Reference9Ideal.Read.val_main_v55_apply]
  rfl

/-- The change of weight 3 of twelve, element by element: the kernel's. -/
theorem ref_d2 (x0 x1 x2 x3 : Vec Ideal Cert.Kernel9Ideal.S4x256 .f32) :
    Cert.Reference9Ideal.Read.val_main_v71 (F := Ideal) x0 x1 x2 x3 = Cert.Kernel9Ideal.Value.G14 (F := Ideal) x0 x3 x1 x2 := by
  funext j
  rw [Cert.Reference9Ideal.Read.val_main_v71_apply, Cert.Reference9Ideal.Read.val_main_v70_apply, Cert.Reference9Ideal.Read.val_main_v69_apply,
    Cert.Reference9Ideal.Read.val_main_v68_apply, Cert.Reference9Ideal.Read.val_main_v67_apply, Cert.Reference9Ideal.Read.val_main_v66_apply,
    Cert.Reference9Ideal.Read.val_main_v65_apply, Cert.Reference9Ideal.Read.val_main_v64_apply, Cert.Reference9Ideal.Read.val_main_v63_apply,
    Cert.Reference9Ideal.Read.val_main_v62_apply, Cert.Reference9Ideal.Read.val_main_v61_apply, Cert.Reference9Ideal.Read.val_main_v60_apply,
    Cert.Reference9Ideal.Read.val_main_v59_apply,
    ref_m2, ref_v2]
  rfl

/-- The kernel comes to an end. -/
theorem frame_p : Cert.quiescent_Kernel9 := fun m ρ _ => Cert.Kernel9.Gen.frame m ρ
/-- So does its idealisation. -/
theorem frame_pi : Cert.quiescent_Kernel9Ideal := fun m ρ _ => Cert.Kernel9Ideal.Gen.frame m ρ
/-- So does the reference. -/
theorem frame_r : Cert.quiescent_Reference9Ideal := fun m ρ _ =>
  (θ_run Cert.Reference9Ideal.defs _ _).mono (fun r h => ⟨fun c => by
      obtain ⟨e0, e1, e2, e3, e4, e5, e6, e7, e8, e9⟩ := h c
      exact e9,
      Idealize.ShloMosaic.sem_eq_zero_of_no_sems (by decide) r.2⟩)
    (Cert.Reference9Ideal.Value.run (F := Ideal) m ρ)

/-- The reference's nine results are what the kernel's arrays end at. -/
theorem algebraic : Cert.algebraic_Kernel9Ideal_Reference9Ideal := by
  intro m ρ m' ρ' _ hagree
  refine ⟨_, _, _, _, _, _, _, _, _, Cert.Kernel9Ideal.Value.run (F := Ideal) m ρ, ?_⟩
  refine (θ_run Cert.Reference9Ideal.defs _ _).mono (fun _ h c => ?_) (Cert.Reference9Ideal.Value.run (F := Ideal) m' ρ')
  obtain ⟨e0, e1, e2, e3, e4, e5, e6, e7, e8, e9⟩ := h c
  obtain ⟨h0, h1, h2, h3, h4, h5, h6, h7, h8, h9, h10, h11⟩ := hagree c
  refine ⟨e0.trans ?_, e1.trans ?_, e2.trans ?_, e3.trans ?_, e4.trans ?_, e5.trans ?_, e6.trans ?_, e7.trans ?_, e8.trans ?_, e9⟩
  · rw [h0, h3, h6, h9]
    exact ref_d0 _ _ _ _
  · rw [h1, h4, h7, h10]
    exact ref_d1 _ _ _ _
  · rw [h2, h5, h8, h11]
    exact ref_d2 _ _ _ _
  · rw [h3, h9]
    exact ref_m0 _ _
  · rw [h4, h10]
    exact ref_m1 _ _
  · rw [h5, h11]
    exact ref_m2 _ _
  · rw [h6, h9]
    exact ref_v0 _ _
  · rw [h7, h10]
    exact ref_v1 _ _
  · rw [h8, h11]
    exact ref_v2 _ _

end Cert.Proof.C9

end
-- ==== Proof.V10.lean ====
/- The optimiser's step on the second three of the twelve small weights: what the kernel's nine result arrays end at,
   and the reference's. -/
module

public import proofs.«01_k».proof.Defs
public import proofs.«01_k».proof.Proof.Gen.Kernel10.Frame
public import proofs.«01_k».proof.Proof.Gen.Kernel10Ideal.Value
public import proofs.«01_k».proof.Proof.Gen.Reference10Ideal.Run
public import proofs.«01_k».proof.Proof.Gen.Reference10Ideal.Read
public import Idealize.ShloMosaic.Lib.Quiescent

@[expose] public section

set_option maxRecDepth 16384

noncomputable section

open Idealize.ShloMosaic Idealize.ShloMosaic.TcCoe Idealize.SL.Sem

namespace Cert.Proof.C10

/-- The new first moment of weight 4 of twelve, element by element: the kernel's. -/
theorem ref_m0 (x1 x3 : Vec Ideal Cert.Kernel10Ideal.S1x1024 .f32) :
    Cert.Reference10Ideal.Read.val_main_v4 (F := Ideal) x1 x3 = Cert.Kernel10Ideal.Value.G15 (F := Ideal) x3 x1 := by
  funext j
  rw [Cert.Reference10Ideal.Read.val_main_v4_apply, Cert.Reference10Ideal.Read.val_main_v1_apply, Cert.Reference10Ideal.Read.val_main_v3_apply,
    Cert.Reference10Ideal.Read.val_main_v0_apply, Cert.Reference10Ideal.Read.val_main_v2_apply]
  rfl

/-- The new second moment of weight 4 of twelve, element by element: the kernel's. -/
theorem ref_v0 (x2 x3 : Vec Ideal Cert.Kernel10Ideal.S1x1024 .f32) :
    Cert.Reference10Ideal.Read.val_main_v10 (F := Ideal) x2 x3 = Cert.Kernel10Ideal.Value.G18 (F := Ideal) x3 x2 := by
  funext j
  rw [Cert.Reference10Ideal.Read.val_main_v10_apply, Cert.Reference10Ideal.Read.val_main_v6_apply, Cert.Reference10Ideal.Read.val_main_v9_apply,
    Cert.Reference10Ideal.Read.val_main_v5_apply, Cert.Reference10Ideal.Read.val_main_v8_apply, Cert.Reference10Ideal.Read.val_main_v7_apply]
  rfl

/-- The change of weight 4 of twelve, element by element: the kernel's. -/
theorem ref_d0 (x0 x1 x2 x3 : Vec Ideal Cert.Kernel10Ideal.S1x1024 .f32) :
    Cert.Reference10Ideal.Read.val_main_v23 (F := Ideal) x0 x1 x2 x3 = Cert.Kernel10Ideal.Value.G12 (F := Ideal) x0 x3 x1 x2 := by
  funext j
  rw [Cert.Reference10Ideal.Read.val_main_v23_apply, Cert.Reference10Ideal.Read.val_main_v22_apply, Cert.Reference10Ideal.Read.val_main_v21_apply,
    Cert.Reference10Ideal.Read.val_main_v20_apply, Cert.Reference10Ideal.Read.val_main_v19_apply, Cert.Reference10Ideal.Read.val_main_v18_apply,
    Cert.Reference10Ideal.Read.val_main_v17_apply, Cert.Reference10Ideal.Read.val_main_v16_apply, Cert.Reference10Ideal.Read.val_main_v15_apply,
    Cert.Reference10Ideal.Read.val_main_v14_apply, Cert.Reference10Ideal.Read.val_main_v13_apply, Cert.Reference10Ideal.Read.val_main_v12_apply,
    Cert.Reference10Ideal.Read.val_main_v11_apply,
    ref_m0, ref_v0]
  rfl

/-- The new first moment of weight 5 of twelve, element by element: the kernel's. -/
theorem ref_m1 (x1 x3 : Vec Ideal Cert.Kernel10Ideal.S16x64x64 .f32) :
    Cert.Reference10Ideal.Read.val_main_v28 (F := Ideal) x1 x3 = Cert.Kernel10Ideal.Value.G16 (F := Ideal) x3 x1 := by
  funext j
  rw [Cert.Reference10Ideal.Read.val_main_v28_apply, Cert.Reference10Ideal.Read.val_main_v25_apply, Cert.Reference10Ideal.Read.val_main_v27_apply,
    Cert.Reference10Ideal.Read.val_main_v24_apply, Cert.Reference10Ideal.Read.val_main_v26_apply]
  rfl

/-- The new second moment of weight 5 of twelve, element by element: the kernel's. -/
theorem ref_v1 (x2 x3 : Vec Ideal Cert.Kernel10Ideal.S16x64x64 .f32) :
    Cert.Reference10Ideal.Read.val_main_v34 (F := Ideal) x2 x3 = Cert.Kernel10Ideal.Value.G19 (F := Ideal) x3 x2 := by
  funext j
  rw [Cert.Reference10Ideal.Read.val_main_v34_apply, Cert.Reference10Ideal.Read.val_main_v30_apply, Cert.Reference10Ideal.Read.val_main_v33_apply,
    Cert.Reference10Ideal.Read.val_main_v29_apply, Cert.Reference10Ideal.Read.val_main_v32_apply, Cert.Reference10Ideal.Read.val_main_v31_apply]
  rfl

/-- The change of weight 5 of twelve, element by element: the kernel's. -/
theorem ref_d1 (x0 x1 x2 x3 : Vec Ideal Cert.Kernel10Ideal.S16x64x64 .f32) :
    Cert.Reference10Ideal.Read.val_main_v47 (F := Ideal) x0 x1 x2 x3 = Cert.Kernel10Ideal.Value.G13 (F := Ideal) x0 x3 x1 x2 := by
  funext j
  rw [Cert.Reference10Ideal.Read.val_main_v47_apply, Cert.Reference10Ideal.Read.val_main_v46_apply, Cert.Reference10Ideal.Read.val_main_v45_apply,
    Cert.Reference10Ideal.Read.val_main_v44_apply, Cert.Reference10Ideal.Read.val_main_v43_apply, Cert.Reference10Ideal.Read.val_main_v42_apply,
    Cert.Reference10Ideal.Read.val_main_v41_apply, Cert.Reference10Ideal.Read.val_main_v40_apply, Cert.Reference10Ideal.Read.val_main_v39_apply,
    Cert.Reference10Ideal.Read.val_main_v38_apply, Cert.Reference10Ideal.Read.val_main_v37_apply, Cert.Reference10Ideal.Read.val_main_v36_apply,
    Cert.Reference10Ideal.Read.val_main_v35_apply,
    ref_m1, ref_v1]
  rfl

/-- The new first moment of weight 6 of twelve, element by element: the kernel's. -/
theorem ref_m2 (x1 x3 : Vec Ideal Cert.Kernel10Ideal.S1x1024 .f32) :
    Cert.Reference10Ideal.Read.val_main_v52 (F := Ideal) x1 x3 = Cert.Kernel10Ideal.Value.G17 (F := Ideal) x3 x1 := by
  funext j
  rw [Cert.Reference10Ideal.Read.val_main_v52_apply, Cert.Reference10Ideal.Read.val_main_v49_apply, Cert.Reference10Ideal.Read.val_main_v51_apply,
    Cert.Reference10Ideal.Read.val_main_v48_apply, Cert.Reference10Ideal.Read.val_main_v50_apply]
  rfl

/-- The new second moment of weight 6 of twelve, element by element: the kernel's. -/
theorem ref_v2 (x2 x3 : Vec Ideal Cert.Kernel10Ideal.S1x1024 .f32) :
    Cert.Reference10Ideal.Read.val_main_v58 (F := Ideal) x2 x3 = Cert.Kernel10Ideal.Value.G20 (F := Ideal) x3 x2 := by
  funext j
  rw [Cert.Reference10Ideal.Read.val_main_v58_apply, Cert.Reference10Ideal.Read.val_main_v54_apply, Cert.Reference10Ideal.Read.val_main_v57_apply,
    Cert.Reference10Ideal.Read.val_main_v53_apply, Cert.Reference10Ideal.Read.val_main_v56_apply, Cert.Reference10Ideal.Read.val_main_v55_apply]
  rfl

/-- The change of weight 6 of twelve, element by element: the kernel's. -/
theorem ref_d2 (x0 x1 x2 x3 : Vec Ideal Cert.Kernel10Ideal.S1x1024 .f32) :
    Cert.Reference10Ideal.Read.val_main_v71 (F := Ideal) x0 x1 x2 x3 = Cert.Kernel10Ideal.Value.G14 (F := Ideal) x0 x3 x1 x2 := by
  funext j
  rw [Cert.Reference10Ideal.Read.val_main_v71_apply, Cert.Reference10Ideal.Read.val_main_v70_apply, Cert.Reference10Ideal.Read.val_main_v69_apply,
    Cert.Reference10Ideal.Read.val_main_v68_apply, Cert.Reference10Ideal.Read.val_main_v67_apply, Cert.Reference10Ideal.Read.val_main_v66_apply,
    Cert.Reference10Ideal.Read.val_main_v65_apply, Cert.Reference10Ideal.Read.val_main_v64_apply, Cert.Reference10Ideal.Read.val_main_v63_apply,
    Cert.Reference10Ideal.Read.val_main_v62_apply, Cert.Reference10Ideal.Read.val_main_v61_apply, Cert.Reference10Ideal.Read.val_main_v60_apply,
    Cert.Reference10Ideal.Read.val_main_v59_apply,
    ref_m2, ref_v2]
  rfl

/-- The kernel comes to an end. -/
theorem frame_p : Cert.quiescent_Kernel10 := fun m ρ _ => Cert.Kernel10.Gen.frame m ρ
/-- So does its idealisation. -/
theorem frame_pi : Cert.quiescent_Kernel10Ideal := fun m ρ _ => Cert.Kernel10Ideal.Gen.frame m ρ
/-- So does the reference. -/
theorem frame_r : Cert.quiescent_Reference10Ideal := fun m ρ _ =>
  (θ_run Cert.Reference10Ideal.defs _ _).mono (fun r h => ⟨fun c => by
      obtain ⟨e0, e1, e2, e3, e4, e5, e6, e7, e8, e9⟩ := h c
      exact e9,
      Idealize.ShloMosaic.sem_eq_zero_of_no_sems (by decide) r.2⟩)
    (Cert.Reference10Ideal.Value.run (F := Ideal) m ρ)

/-- The reference's nine results are what the kernel's arrays end at. -/
theorem algebraic : Cert.algebraic_Kernel10Ideal_Reference10Ideal := by
  intro m ρ m' ρ' _ hagree
  refine ⟨_, _, _, _, _, _, _, _, _, Cert.Kernel10Ideal.Value.run (F := Ideal) m ρ, ?_⟩
  refine (θ_run Cert.Reference10Ideal.defs _ _).mono (fun _ h c => ?_) (Cert.Reference10Ideal.Value.run (F := Ideal) m' ρ')
  obtain ⟨e0, e1, e2, e3, e4, e5, e6, e7, e8, e9⟩ := h c
  obtain ⟨h0, h1, h2, h3, h4, h5, h6, h7, h8, h9, h10, h11⟩ := hagree c
  refine ⟨e0.trans ?_, e1.trans ?_, e2.trans ?_, e3.trans ?_, e4.trans ?_, e5.trans ?_, e6.trans ?_, e7.trans ?_, e8.trans ?_, e9⟩
  · rw [h0, h3, h6, h9]
    exact ref_d0 _ _ _ _
  · rw [h1, h4, h7, h10]
    exact ref_d1 _ _ _ _
  · rw [h2, h5, h8, h11]
    exact ref_d2 _ _ _ _
  · rw [h3, h9]
    exact ref_m0 _ _
  · rw [h4, h10]
    exact ref_m1 _ _
  · rw [h5, h11]
    exact ref_m2 _ _
  · rw [h6, h9]
    exact ref_v0 _ _
  · rw [h7, h10]
    exact ref_v1 _ _
  · rw [h8, h11]
    exact ref_v2 _ _

end Cert.Proof.C10

end
-- ==== Proof.V11.lean ====
/- The optimiser's step on the third three of the twelve small weights: what the kernel's nine result arrays end at,
   and the reference's. -/
module

public import proofs.«01_k».proof.Defs
public import proofs.«01_k».proof.Proof.Gen.Kernel11.Frame
public import proofs.«01_k».proof.Proof.Gen.Kernel11Ideal.Value
public import proofs.«01_k».proof.Proof.Gen.Reference11Ideal.Run
public import proofs.«01_k».proof.Proof.Gen.Reference11Ideal.Read
public import Idealize.ShloMosaic.Lib.Quiescent

@[expose] public section

set_option maxRecDepth 16384

noncomputable section

open Idealize.ShloMosaic Idealize.ShloMosaic.TcCoe Idealize.SL.Sem

namespace Cert.Proof.C11

/-- The new first moment of weight 7 of twelve, element by element: the kernel's. -/
theorem ref_m0 (x1 x3 : Vec Ideal Cert.Kernel11Ideal.S16x64x64 .f32) :
    Cert.Reference11Ideal.Read.val_main_v4 (F := Ideal) x1 x3 = Cert.Kernel11Ideal.Value.G15 (F := Ideal) x3 x1 := by
  funext j
  rw [Cert.Reference11Ideal.Read.val_main_v4_apply, Cert.Reference11Ideal.Read.val_main_v1_apply, Cert.Reference11Ideal.Read.val_main_v3_apply,
    Cert.Reference11Ideal.Read.val_main_v0_apply, Cert.Reference11Ideal.Read.val_main_v2_apply]
  rfl

/-- The new second moment of weight 7 of twelve, element by element: the kernel's. -/
theorem ref_v0 (x2 x3 : Vec Ideal Cert.Kernel11Ideal.S16x64x64 .f32) :
    Cert.Reference11Ideal.Read.val_main_v10 (F := Ideal) x2 x3 = Cert.Kernel11Ideal.Value.G18 (F := Ideal) x3 x2 := by
  funext j
  rw [Cert.Reference11Ideal.Read.val_main_v10_apply, Cert.Reference11Ideal.Read.val_main_v6_apply, Cert.Reference11Ideal.Read.val_main_v9_apply,
    Cert.Reference11Ideal.Read.val_main_v5_apply, Cert.Reference11Ideal.Read.val_main_v8_apply, Cert.Reference11Ideal.Read.val_main_v7_apply]
  rfl

/-- The change of weight 7 of twelve, element by element: the kernel's. -/
theorem ref_d0 (x0 x1 x2 x3 : Vec Ideal Cert.Kernel11Ideal.S16x64x64 .f32) :
    Cert.Reference11Ideal.Read.val_main_v23 (F := Ideal) x0 x1 x2 x3 = Cert.Kernel11Ideal.Value.G12 (F := Ideal) x0 x3 x1 x2 := by
  funext j
  rw [Cert.Reference11Ideal.Read.val_main_v23_apply, Cert.Reference11Ideal.Read.val_main_v22_apply, Cert.Reference11Ideal.Read.val_main_v21_apply,
    Cert.Reference11Ideal.Read.val_main_v20_apply, Cert.Reference11Ideal.Read.val_main_v19_apply, Cert.Reference11Ideal.Read.val_main_v18_apply,
    Cert.Reference11Ideal.Read.val_main_v17_apply, Cert.Reference11Ideal.Read.val_main_v16_apply, Cert.Reference11Ideal.Read.val_main_v15_apply,
    Cert.Reference11Ideal.Read.val_main_v14_apply, Cert.Reference11Ideal.Read.val_main_v13_apply, Cert.Reference11Ideal.Read.val_main_v12_apply,
    Cert.Reference11Ideal.Read.val_main_v11_apply,
    ref_m0, ref_v0]
  rfl

/-- The new first moment of weight 8 of twelve, element by element: the kernel's. -/
theorem ref_m1 (x1 x3 : Vec Ideal Cert.Kernel11Ideal.S1x1024 .f32) :
    Cert.Reference11Ideal.Read.val_main_v28 (F := Ideal) x1 x3 = Cert.Kernel11Ideal.Value.G16 (F := Ideal) x3 x1 := by
  funext j
  rw [Cert.Reference11Ideal.Read.val_main_v28_apply, Cert.Reference11Ideal.Read.val_main_v25_apply, Cert.Reference11Ideal.Read.val_main_v27_apply,
    Cert.Reference11Ideal.Read.val_main_v24_apply, Cert.Reference11Ideal.Read.val_main_v26_apply]
  rfl

/-- The new second moment of weight 8 of twelve, element by element: the kernel's. -/
theorem ref_v1 (x2 x3 : Vec Ideal Cert.Kernel11Ideal.S1x1024 .f32) :
    Cert.Reference11Ideal.Read.val_main_v34 (F := Ideal) x2 x3 = Cert.Kernel11Ideal.Value.G19 (F := Ideal) x3 x2 := by
  funext j
  rw [Cert.Reference11Ideal.Read.val_main_v34_apply, Cert.Reference11Ideal.Read.val_main_v30_apply, Cert.Reference11Ideal.Read.val_main_v33_apply,
    Cert.Reference11Ideal.Read.val_main_v29_apply, Cert.Reference11Ideal.Read.val_main_v32_apply, Cert.Reference11Ideal.Read.val_main_v31_apply]
  rfl

/-- The change of weight 8 of twelve, element by element: the kernel's. -/
theorem ref_d1 (x0 x1 x2 x3 : Vec Ideal Cert.Kernel11Ideal.S1x1024 .f32) :
    Cert.Reference11Ideal.Read.val_main_v47 (F := Ideal) x0 x1 x2 x3 = Cert.Kernel11Ideal.Value.G13 (F := Ideal) x0 x3 x1 x2 := by
  funext j
  rw [Cert.Reference11Ideal.Read.val_main_v47_apply, Cert.Reference11Ideal.Read.val_main_v46_apply, Cert.Reference11Ideal.Read.val_main_v45_apply,
    Cert.Reference11Ideal.Read.val_main_v44_apply, Cert.Reference11Ideal.Read.val_main_v43_apply, Cert.Reference11Ideal.Read.val_main_v42_apply,
    Cert.Reference11Ideal.Read.val_main_v41_apply, Cert.Reference11Ideal.Read.val_main_v40_apply, Cert.Reference11Ideal.Read.val_main_v39_apply,
    Cert.Reference11Ideal.Read.val_main_v38_apply, Cert.Reference11Ideal.Read.val_main_v37_apply, Cert.Reference11Ideal.Read.val_main_v36_apply,
    Cert.Reference11Ideal.Read.val_main_v35_apply,
    ref_m1, ref_v1]
  rfl

/-- The new first moment of weight 9 of twelve, element by element: the kernel's. -/
theorem ref_m2 (x1 x3 : Vec Ideal Cert.Kernel11Ideal.S1x1024 .f32) :
    Cert.Reference11Ideal.Read.val_main_v52 (F := Ideal) x1 x3 = Cert.Kernel11Ideal.Value.G17 (F := Ideal) x3 x1 := by
  funext j
  rw [Cert.Reference11Ideal.Read.val_main_v52_apply, Cert.Reference11Ideal.Read.val_main_v49_apply, Cert.Reference11Ideal.Read.val_main_v51_apply,
    Cert.Reference11Ideal.Read.val_main_v48_apply, Cert.Reference11Ideal.Read.val_main_v50_apply]
  rfl

/-- The new second moment of weight 9 of twelve, element by element: the kernel's. -/
theorem ref_v2 (x2 x3 : Vec Ideal Cert.Kernel11Ideal.S1x1024 .f32) :
    Cert.Reference11Ideal.Read.val_main_v58 (F := Ideal) x2 x3 = Cert.Kernel11Ideal.Value.G20 (F := Ideal) x3 x2 := by
  funext j
  rw [Cert.Reference11Ideal.Read.val_main_v58_apply, Cert.Reference11Ideal.Read.val_main_v54_apply, Cert.Reference11Ideal.Read.val_main_v57_apply,
    Cert.Reference11Ideal.Read.val_main_v53_apply, Cert.Reference11Ideal.Read.val_main_v56_apply, Cert.Reference11Ideal.Read.val_main_v55_apply]
  rfl

/-- The change of weight 9 of twelve, element by element: the kernel's. -/
theorem ref_d2 (x0 x1 x2 x3 : Vec Ideal Cert.Kernel11Ideal.S1x1024 .f32) :
    Cert.Reference11Ideal.Read.val_main_v71 (F := Ideal) x0 x1 x2 x3 = Cert.Kernel11Ideal.Value.G14 (F := Ideal) x0 x3 x1 x2 := by
  funext j
  rw [Cert.Reference11Ideal.Read.val_main_v71_apply, Cert.Reference11Ideal.Read.val_main_v70_apply, Cert.Reference11Ideal.Read.val_main_v69_apply,
    Cert.Reference11Ideal.Read.val_main_v68_apply, Cert.Reference11Ideal.Read.val_main_v67_apply, Cert.Reference11Ideal.Read.val_main_v66_apply,
    Cert.Reference11Ideal.Read.val_main_v65_apply, Cert.Reference11Ideal.Read.val_main_v64_apply, Cert.Reference11Ideal.Read.val_main_v63_apply,
    Cert.Reference11Ideal.Read.val_main_v62_apply, Cert.Reference11Ideal.Read.val_main_v61_apply, Cert.Reference11Ideal.Read.val_main_v60_apply,
    Cert.Reference11Ideal.Read.val_main_v59_apply,
    ref_m2, ref_v2]
  rfl

/-- The kernel comes to an end. -/
theorem frame_p : Cert.quiescent_Kernel11 := fun m ρ _ => Cert.Kernel11.Gen.frame m ρ
/-- So does its idealisation. -/
theorem frame_pi : Cert.quiescent_Kernel11Ideal := fun m ρ _ => Cert.Kernel11Ideal.Gen.frame m ρ
/-- So does the reference. -/
theorem frame_r : Cert.quiescent_Reference11Ideal := fun m ρ _ =>
  (θ_run Cert.Reference11Ideal.defs _ _).mono (fun r h => ⟨fun c => by
      obtain ⟨e0, e1, e2, e3, e4, e5, e6, e7, e8, e9⟩ := h c
      exact e9,
      Idealize.ShloMosaic.sem_eq_zero_of_no_sems (by decide) r.2⟩)
    (Cert.Reference11Ideal.Value.run (F := Ideal) m ρ)

/-- The reference's nine results are what the kernel's arrays end at. -/
theorem algebraic : Cert.algebraic_Kernel11Ideal_Reference11Ideal := by
  intro m ρ m' ρ' _ hagree
  refine ⟨_, _, _, _, _, _, _, _, _, Cert.Kernel11Ideal.Value.run (F := Ideal) m ρ, ?_⟩
  refine (θ_run Cert.Reference11Ideal.defs _ _).mono (fun _ h c => ?_) (Cert.Reference11Ideal.Value.run (F := Ideal) m' ρ')
  obtain ⟨e0, e1, e2, e3, e4, e5, e6, e7, e8, e9⟩ := h c
  obtain ⟨h0, h1, h2, h3, h4, h5, h6, h7, h8, h9, h10, h11⟩ := hagree c
  refine ⟨e0.trans ?_, e1.trans ?_, e2.trans ?_, e3.trans ?_, e4.trans ?_, e5.trans ?_, e6.trans ?_, e7.trans ?_, e8.trans ?_, e9⟩
  · rw [h0, h3, h6, h9]
    exact ref_d0 _ _ _ _
  · rw [h1, h4, h7, h10]
    exact ref_d1 _ _ _ _
  · rw [h2, h5, h8, h11]
    exact ref_d2 _ _ _ _
  · rw [h3, h9]
    exact ref_m0 _ _
  · rw [h4, h10]
    exact ref_m1 _ _
  · rw [h5, h11]
    exact ref_m2 _ _
  · rw [h6, h9]
    exact ref_v0 _ _
  · rw [h7, h10]
    exact ref_v1 _ _
  · rw [h8, h11]
    exact ref_v2 _ _

end Cert.Proof.C11

end
-- ==== Proof.V12.lean ====
/- The optimiser's step on the last three of the twelve small weights: what the kernel's nine result arrays end at,
   and the reference's. -/
module

public import proofs.«01_k».proof.Defs
public import proofs.«01_k».proof.Proof.Gen.Kernel12.Frame
public import proofs.«01_k».proof.Proof.Gen.Kernel12Ideal.Value
public import proofs.«01_k».proof.Proof.Gen.Reference12Ideal.Run
public import proofs.«01_k».proof.Proof.Gen.Reference12Ideal.Read
public import Idealize.ShloMosaic.Lib.Quiescent

@[expose] public section

set_option maxRecDepth 16384

noncomputable section

open Idealize.ShloMosaic Idealize.ShloMosaic.TcCoe Idealize.SL.Sem

namespace Cert.Proof.C12

/-- The new first moment of weight 10 of twelve, element by element: the kernel's. -/
theorem ref_m0 (x1 x3 : Vec Ideal Cert.Kernel12Ideal.S1x1024 .f32) :
    Cert.Reference12Ideal.Read.val_main_v4 (F := Ideal) x1 x3 = Cert.Kernel12Ideal.Value.G15 (F := Ideal) x3 x1 := by
  funext j
  rw [Cert.Reference12Ideal.Read.val_main_v4_apply, Cert.Reference12Ideal.Read.val_main_v1_apply, Cert.Reference12Ideal.Read.val_main_v3_apply,
    Cert.Reference12Ideal.Read.val_main_v0_apply, Cert.Reference12Ideal.Read.val_main_v2_apply]
  rfl

/-- The new second moment of weight 10 of twelve, element by element: the kernel's. -/
theorem ref_v0 (x2 x3 : Vec Ideal Cert.Kernel12Ideal.S1x1024 .f32) :
    Cert.Reference12Ideal.Read.val_main_v10 (F := Ideal) x2 x3 = Cert.Kernel12Ideal.Value.G18 (F := Ideal) x3 x2 := by
  funext j
  rw [Cert.Reference12Ideal.Read.val_main_v10_apply, Cert.Reference12Ideal.Read.val_main_v6_apply, Cert.Reference12Ideal.Read.val_main_v9_apply,
    Cert.Reference12Ideal.Read.val_main_v5_apply, Cert.Reference12Ideal.Read.val_main_v8_apply, Cert.Reference12Ideal.Read.val_main_v7_apply]
  rfl

/-- The change of weight 10 of twelve, element by element: the kernel's. -/
theorem ref_d0 (x0 x1 x2 x3 : Vec Ideal Cert.Kernel12Ideal.S1x1024 .f32) :
    Cert.Reference12Ideal.Read.val_main_v23 (F := Ideal) x0 x1 x2 x3 = Cert.Kernel12Ideal.Value.G12 (F := Ideal) x0 x3 x1 x2 := by
  funext j
  rw [Cert.Reference12Ideal.Read.val_main_v23_apply, Cert.Reference12Ideal.Read.val_main_v22_apply, Cert.Reference12Ideal.Read.val_main_v21_apply,
    Cert.Reference12Ideal.Read.val_main_v20_apply, Cert.Reference12Ideal.Read.val_main_v19_apply, Cert.Reference12Ideal.Read.val_main_v18_apply,
    Cert.Reference12Ideal.Read.val_main_v17_apply, Cert.Reference12Ideal.Read.val_main_v16_apply, Cert.Reference12Ideal.Read.val_main_v15_apply,
    Cert.Reference12Ideal.Read.val_main_v14_apply, Cert.Reference12Ideal.Read.val_main_v13_apply, Cert.Reference12Ideal.Read.val_main_v12_apply,
    Cert.Reference12Ideal.Read.val_main_v11_apply,
    ref_m0, ref_v0]
  rfl

/-- The new first moment of weight 11 of twelve, element by element: the kernel's. -/
theorem ref_m1 (x1 x3 : Vec Ideal Cert.Kernel12Ideal.S1x1024 .f32) :
    Cert.Reference12Ideal.Read.val_main_v28 (F := Ideal) x1 x3 = Cert.Kernel12Ideal.Value.G16 (F := Ideal) x3 x1 := by
  funext j
  rw [Cert.Reference12Ideal.Read.val_main_v28_apply, Cert.Reference12Ideal.Read.val_main_v25_apply, Cert.Reference12Ideal.Read.val_main_v27_apply,
    Cert.Reference12Ideal.Read.val_main_v24_apply, Cert.Reference12Ideal.Read.val_main_v26_apply]
  rfl

/-- The new second moment of weight 11 of twelve, element by element: the kernel's. -/
theorem ref_v1 (x2 x3 : Vec Ideal Cert.Kernel12Ideal.S1x1024 .f32) :
    Cert.Reference12Ideal.Read.val_main_v34 (F := Ideal) x2 x3 = Cert.Kernel12Ideal.Value.G19 (F := Ideal) x3 x2 := by
  funext j
  rw [Cert.Reference12Ideal.Read.val_main_v34_apply, Cert.Reference12Ideal.Read.val_main_v30_apply, Cert.Reference12Ideal.Read.val_main_v33_apply,
    Cert.Reference12Ideal.Read.val_main_v29_apply, Cert.Reference12Ideal.Read.val_main_v32_apply, Cert.Reference12Ideal.Read.val_main_v31_apply]
  rfl

/-- The change of weight 11 of twelve, element by element: the kernel's. -/
theorem ref_d1 (x0 x1 x2 x3 : Vec Ideal Cert.Kernel12Ideal.S1x1024 .f32) :
    Cert.Reference12Ideal.Read.val_main_v47 (F := Ideal) x0 x1 x2 x3 = Cert.Kernel12Ideal.Value.G13 (F := Ideal) x0 x3 x1 x2 := by
  funext j
  rw [Cert.Reference12Ideal.Read.val_main_v47_apply, Cert.Reference12Ideal.Read.val_main_v46_apply, Cert.Reference12Ideal.Read.val_main_v45_apply,
    Cert.Reference12Ideal.Read.val_main_v44_apply, Cert.Reference12Ideal.Read.val_main_v43_apply, Cert.Reference12Ideal.Read.val_main_v42_apply,
    Cert.Reference12Ideal.Read.val_main_v41_apply, Cert.Reference12Ideal.Read.val_main_v40_apply, Cert.Reference12Ideal.Read.val_main_v39_apply,
    Cert.Reference12Ideal.Read.val_main_v38_apply, Cert.Reference12Ideal.Read.val_main_v37_apply, Cert.Reference12Ideal.Read.val_main_v36_apply,
    Cert.Reference12Ideal.Read.val_main_v35_apply,
    ref_m1, ref_v1]
  rfl

/-- The new first moment of weight 12 of twelve, element by element: the kernel's. -/
theorem ref_m2 (x1 x3 : Vec Ideal Cert.Kernel12Ideal.S1x1024 .f32) :
    Cert.Reference12Ideal.Read.val_main_v52 (F := Ideal) x1 x3 = Cert.Kernel12Ideal.Value.G17 (F := Ideal) x3 x1 := by
  funext j
  rw [Cert.Reference12Ideal.Read.val_main_v52_apply, Cert.Reference12Ideal.Read.val_main_v49_apply, Cert.Reference12Ideal.Read.val_main_v51_apply,
    Cert.Reference12Ideal.Read.val_main_v48_apply, Cert.Reference12Ideal.Read.val_main_v50_apply]
  rfl

/-- The new second moment of weight 12 of twelve, element by element: the kernel's. -/
theorem ref_v2 (x2 x3 : Vec Ideal Cert.Kernel12Ideal.S1x1024 .f32) :
    Cert.Reference12Ideal.Read.val_main_v58 (F := Ideal) x2 x3 = Cert.Kernel12Ideal.Value.G20 (F := Ideal) x3 x2 := by
  funext j
  rw [Cert.Reference12Ideal.Read.val_main_v58_apply, Cert.Reference12Ideal.Read.val_main_v54_apply, Cert.Reference12Ideal.Read.val_main_v57_apply,
    Cert.Reference12Ideal.Read.val_main_v53_apply, Cert.Reference12Ideal.Read.val_main_v56_apply, Cert.Reference12Ideal.Read.val_main_v55_apply]
  rfl

/-- The change of weight 12 of twelve, element by element: the kernel's. -/
theorem ref_d2 (x0 x1 x2 x3 : Vec Ideal Cert.Kernel12Ideal.S1x1024 .f32) :
    Cert.Reference12Ideal.Read.val_main_v71 (F := Ideal) x0 x1 x2 x3 = Cert.Kernel12Ideal.Value.G14 (F := Ideal) x0 x3 x1 x2 := by
  funext j
  rw [Cert.Reference12Ideal.Read.val_main_v71_apply, Cert.Reference12Ideal.Read.val_main_v70_apply, Cert.Reference12Ideal.Read.val_main_v69_apply,
    Cert.Reference12Ideal.Read.val_main_v68_apply, Cert.Reference12Ideal.Read.val_main_v67_apply, Cert.Reference12Ideal.Read.val_main_v66_apply,
    Cert.Reference12Ideal.Read.val_main_v65_apply, Cert.Reference12Ideal.Read.val_main_v64_apply, Cert.Reference12Ideal.Read.val_main_v63_apply,
    Cert.Reference12Ideal.Read.val_main_v62_apply, Cert.Reference12Ideal.Read.val_main_v61_apply, Cert.Reference12Ideal.Read.val_main_v60_apply,
    Cert.Reference12Ideal.Read.val_main_v59_apply,
    ref_m2, ref_v2]
  rfl

/-- The kernel comes to an end. -/
theorem frame_p : Cert.quiescent_Kernel12 := fun m ρ _ => Cert.Kernel12.Gen.frame m ρ
/-- So does its idealisation. -/
theorem frame_pi : Cert.quiescent_Kernel12Ideal := fun m ρ _ => Cert.Kernel12Ideal.Gen.frame m ρ
/-- So does the reference. -/
theorem frame_r : Cert.quiescent_Reference12Ideal := fun m ρ _ =>
  (θ_run Cert.Reference12Ideal.defs _ _).mono (fun r h => ⟨fun c => by
      obtain ⟨e0, e1, e2, e3, e4, e5, e6, e7, e8, e9⟩ := h c
      exact e9,
      Idealize.ShloMosaic.sem_eq_zero_of_no_sems (by decide) r.2⟩)
    (Cert.Reference12Ideal.Value.run (F := Ideal) m ρ)

/-- The reference's nine results are what the kernel's arrays end at. -/
theorem algebraic : Cert.algebraic_Kernel12Ideal_Reference12Ideal := by
  intro m ρ m' ρ' _ hagree
  refine ⟨_, _, _, _, _, _, _, _, _, Cert.Kernel12Ideal.Value.run (F := Ideal) m ρ, ?_⟩
  refine (θ_run Cert.Reference12Ideal.defs _ _).mono (fun _ h c => ?_) (Cert.Reference12Ideal.Value.run (F := Ideal) m' ρ')
  obtain ⟨e0, e1, e2, e3, e4, e5, e6, e7, e8, e9⟩ := h c
  obtain ⟨h0, h1, h2, h3, h4, h5, h6, h7, h8, h9, h10, h11⟩ := hagree c
  refine ⟨e0.trans ?_, e1.trans ?_, e2.trans ?_, e3.trans ?_, e4.trans ?_, e5.trans ?_, e6.trans ?_, e7.trans ?_, e8.trans ?_, e9⟩
  · rw [h0, h3, h6, h9]
    exact ref_d0 _ _ _ _
  · rw [h1, h4, h7, h10]
    exact ref_d1 _ _ _ _
  · rw [h2, h5, h8, h11]
    exact ref_d2 _ _ _ _
  · rw [h3, h9]
    exact ref_m0 _ _
  · rw [h4, h10]
    exact ref_m1 _ _
  · rw [h5, h11]
    exact ref_m2 _ _
  · rw [h6, h9]
    exact ref_v0 _ _
  · rw [h7, h10]
    exact ref_v1 _ _
  · rw [h8, h11]
    exact ref_v2 _ _

end Cert.Proof.C12

end
-- ==== Proof.V13.lean ====
/- Adding the received half of a gradient to the half a device keeps: what the kernel's two result arrays end at, and the
   reference's. -/
module

public import proofs.«01_k».proof.Defs
public import proofs.«01_k».proof.Proof.Gen.Kernel13.Frame
public import proofs.«01_k».proof.Proof.Gen.Kernel13Ideal.Frame
public import proofs.«01_k».proof.Proof.Gen.Reference13Ideal.Run
public import proofs.«01_k».proof.Proof.Gen.Reference13Ideal.Read
public import proofs.«01_k».proof.Proof.Gen.Pre_is_half
public import Idealize.ShloMosaic.Lib.Pipeline.ValueKit
public import Idealize.ShloMosaic.Lib.Pointwise
public import Idealize.ShloMosaic.Lib.Tactic
public import Idealize.ShloMosaic.Lib.Quiescent

@[expose] public section

set_option maxRecDepth 16384

noncomputable section

open Idealize.ShloMosaic Idealize.ShloMosaic.TcCoe Idealize.SL.Sem
open Idealize.ShloMosaic.Pipeline (Dat)

namespace Cert.Proof.C13

/-- An array of one word has one index. -/
theorem one_idx (i j : Cert.Pre_is_half.S1.Idx) : i = j := by
  funext a
  obtain rfl : a = 0 := Subsingleton.elim _ _
  have hi : (i 0).val < 1 := (i 0).isLt
  have hj : (j 0).val < 1 := (j 0).isLt
  exact Fin.ext (by omega)

/-- A word that is at least 0 and at most 1 in the signed order is 0 or 1. -/
theorem le_one (w : BitVec 32) (h0 : IntOp.cmpi .sge w 0#32 = 1#1) (h1 : IntOp.cmpi .sle w 1#32 = 1#1) : w.toNat ≤ 1 := by
  have ofBool_one (p : Bool) : (BitVec.ofBool p = 1#1) ↔ p = true := by cases p <;> decide
  have hw := w.isLt
  simp only [ofBool_one, IntOp.cmpi, BitVec.sle, decide_eq_true_eq, BitVec.toInt, BitVec.toNat_ofNat] at h0 h1
  simp at h0 h1
  omega

/-- The precondition says that the word which picks the half is 0 or 1. -/
theorem word {F : FTy → Type} [FloatOps F] (g : FVec F Cert.Pre_is_half.S12x1024x512 .f32) (r : FVec F Cert.Pre_is_half.S12x512x512 .f32)
    (x : IVec Cert.Pre_is_half.S1 32) (h : Cert.Pre_is_half.fn (F := F) g r x = fun _ => 1#1) (i : Cert.Pre_is_half.S1.Idx) : (x i).toNat ≤ 1 := by
  have andi_one (a b : BitVec 1) : IntOp.andi a b = 1#1 ↔ a = 1#1 ∧ b = 1#1 := by revert a b; decide
  have hp := congrFun h (Shape.Idx.first (by decide))
  simp only [Cert.Pre_is_half.fn, constantI, cmpi, andi, andi_one] at hp
  have e (k : Cert.Pre_is_half.S_.Idx) : shapeCast Cert.Pre_is_half.S_ x Cert.Pre_is_half.Facts.shapeCasts_S1_S_ k = x i :=
    congrArg x (one_idx _ _)
  rw [e] at hp
  exact le_one _ hp.1 hp.2

end Cert.Proof.C13

namespace Cert.Kernel13.Hand

open Cert.Kernel13 Cert.Kernel13.Gen

/-- With the word 0 or 1, every block the kernel reads lies in its array. -/
theorem ok {F : FTy → Type} [FloatOps F] (m : (ℓ : Loc nD τ sig) → Buf (Elt F) ℓ)
    (hw : ∀ i : S1.Idx, ((tbl m 0 : IVec S1 32) i).toNat ≤ 1) : Ok m := by
  intro i
  have hi : (i 0).val < 12 := (i 0).isLt
  refine ⟨fun a => ?_, .inl rfl⟩
  match a with
  | ⟨0, _⟩ => show ((BitVec.ofNat 32 (i 0).val).toNat + 1) * 1 ≤ 12; rw [BitVec.toNat_ofNat]; omega
  | ⟨1, _⟩ =>
    have h := hw ((Rect.unit (s := S1) ![0] S1.size Facts₀.inb_S1_S1_0).emb (Shape.Idx.first (Facts₀.numel1_S1.symm ▸ Nat.one_pos)))
    exact Nat.mul_le_mul_right 512 (Nat.succ_le_succ h)
  | ⟨2, _⟩ => show (0 + 1) * 512 ≤ 512; omega

end Cert.Kernel13.Hand

namespace Cert.Kernel13Ideal.Hand

open Cert.Kernel13Ideal Cert.Kernel13Ideal.Gen

/-- With the word 0 or 1, every block the idealised kernel reads lies in its array. -/
theorem ok {F : FTy → Type} [FloatOps F] (m : (ℓ : Loc nD τ sig) → Buf (Elt F) ℓ)
    (hw : ∀ i : S1.Idx, ((tbl m 0 : IVec S1 32) i).toNat ≤ 1) : Ok m := by
  intro i
  have hi : (i 0).val < 12 := (i 0).isLt
  refine ⟨fun a => ?_, .inl rfl⟩
  match a with
  | ⟨0, _⟩ => show ((BitVec.ofNat 32 (i 0).val).toNat + 1) * 1 ≤ 12; rw [BitVec.toNat_ofNat]; omega
  | ⟨1, _⟩ =>
    have h := hw ((Rect.unit (s := S1) ![0] S1.size Facts₀.inb_S1_S1_0).emb (Shape.Idx.first (Facts₀.numel1_S1.symm ▸ Nat.one_pos)))
    exact Nat.mul_le_mul_right 512 (Nat.succ_le_succ h)
  | ⟨2, _⟩ => show (0 + 1) * 512 ≤ 512; omega

/-- The element of the whole gradient which lies at `j` in its half `w`. -/
def src (w : Nat) (hw : w ≤ 1) (j : S12x512x512.Idx) : S12x1024x512.Idx :=
  ix3 (n0 := 12) (n1 := 1024) (n2 := 512) (j 0) ⟨w * 512 + (j 1).val, by have h : (j 1).val < 512 := (j 1).isLt; omega⟩ (j 2)

/-- The chosen half of the gradient and what was received, added. -/
def G (g : S12x1024x512.Idx → Elt Ideal .f32) (r : S12x512x512.Idx → Elt Ideal .f32) (w : Nat) (hw : w ≤ 1) (j : S12x512x512.Idx) : EReal :=
  (g (src w hw j) : EReal) + (r j : EReal)

/-- A point's first output block is the sum of its two input blocks. -/
theorem out2 (c : Dev nD) (i : grid0.Coords) (a2 : Memref sig .tc .vmem S1x512x512 .f32) (h2 : a2.IsWhole) (a3 : Memref sig .tc .vmem S1x512x512 .f32) (h3 : a3.IsWhole)
    (a4 : Memref sig .tc .vmem S1x512x512 .f32) (h4 : a4.IsWhole) (a5 : Memref sig .tc .vmem S1x512x512 .bf16) (h5 : a5.IsWhole)
    (x0 x1 : Vec Ideal S1x512x512 .f32) (xt : TbBuf0 (F := Ideal) c tbM0_0) (y : S1x512x512.Idx) :
    out0_A_2 (F := Ideal) c i a2 h2 a3 h3 a4 h4 a5 h5 x0 x1 xt y = (x0 y : EReal) + (x1 y : EReal) := by
  frame_out
  unfold_payloads
  rfl

/-- A point's second output block is the same sum. -/
theorem out3 (c : Dev nD) (i : grid0.Coords) (a2 : Memref sig .tc .vmem S1x512x512 .f32) (h2 : a2.IsWhole) (a3 : Memref sig .tc .vmem S1x512x512 .f32) (h3 : a3.IsWhole)
    (a4 : Memref sig .tc .vmem S1x512x512 .f32) (h4 : a4.IsWhole) (a5 : Memref sig .tc .vmem S1x512x512 .bf16) (h5 : a5.IsWhole)
    (x0 x1 : Vec Ideal S1x512x512 .f32) (xt : TbBuf0 (F := Ideal) c tbM0_0) (y : S1x512x512.Idx) :
    out0_A_3 (F := Ideal) c i a2 h2 a3 h3 a4 h4 a5 h5 x0 x1 xt y = (x0 y : EReal) + (x1 y : EReal) := by
  frame_out
  unfold_payloads
  rfl

variable (m : (ℓ : Loc nD τ sig) → Buf (Elt Ideal) ℓ) (hO : Ok m)

/-- The word which picks the half, as a number. -/
def wd : Nat := ((tbl m).at 0 (Rect.unit (s := S1) ![0] S1.size Facts₀.inb_S1_S1_0) Facts₀.numel1_S1 : BitVec 32).toNat

/-- Every block of the first result is some point's. -/
theorem onto2 : ∀ q : Fin 12, ∃ t : Fin grid0.N, cc0_transform_2 (grid0.coords t) = ![q.val, 0, 0] := by decide +kernel
/-- Every block of the second result is some point's. -/
theorem onto3 : ∀ q : Fin 12, ∃ t : Fin grid0.N, cc0_transform_3 (grid0.coords t) = ![q.val, 0, 0] := by decide +kernel

/-- A point's block of the gradient, element by element, seen from its block of the first result. -/
theorem emb0 (hw : wd m ≤ 1) (t : Fin (cfgM m hO).N) (j : S1x512x512.Idx) :
    (((cfgM m hO).win 0).blk t).view.emb j = src (wd m) hw ((((cfgM m hO).win 2).blk t).view.emb j) := by
  funext a; apply Fin.ext
  match a with
  | ⟨0, _⟩ => rfl
  | ⟨1, _⟩ =>
    show wd m * 512 + 1 * (j 1).val = wd m * 512 + ((0#32).toNat * 512 + 1 * (j 1).val)
    simp
  | ⟨2, _⟩ => rfl

/-- A point's block of the gradient. -/
def b0 (c : Dev nD) (t : Fin (cfgM m hO).N) : Vec Ideal S1x512x512 .f32 := iblk m hO c 0 t
/-- A point's block of what was received. -/
def b1 (c : Dev nD) (t : Fin (cfgM m hO).N) : Vec Ideal S1x512x512 .f32 := iblk m hO c 1 t

/-- The two input blocks of a point, added, are its block of the sum. -/
theorem blk_sum (hw : wd m ≤ 1) (c : Dev nD) (t : Fin (cfgM m hO).N) (j : S1x512x512.Idx) :
    (b0 m hO c t j : EReal) + (b1 m hO c t j : EReal)
      = G (m ((c : Thread nD τ).loc main_arg0)) (m ((c : Thread nD τ).loc main_arg1)) (wd m) hw ((((cfgM m hO).win 2).blk t).view.emb j) := by
  unfold G
  rw [← emb0 m hO hw t j]
  rfl

/-- What a point leaves in its two output blocks, over its two input blocks. -/
theorem left (c : Dev nD) (t : Fin (cfgM m hO).N) : outsAt0 m hO c t
    = (out0_A_2 c (grid0.coords t) (ms0_0 m hO t) (hs0_0 m hO t) (ms0_1 m hO t) (hs0_1 m hO t) (ms0_2 m hO t) (hs0_2 m hO t) (ms0_3 m hO t) (hs0_3 m hO t) (b0 m hO c t) (b1 m hO c t) (tbl m 0),
      out0_A_3 c (grid0.coords t) (ms0_0 m hO t) (hs0_0 m hO t) (ms0_1 m hO t) (hs0_1 m hO t) (ms0_2 m hO t) (hs0_2 m hO t) (ms0_3 m hO t) (hs0_3 m hO t) (b0 m hO c t) (b1 m hO c t) (tbl m 0)) := rfl

/-- What a point leaves in its first output block. -/
theorem left2 (c : Dev nD) (t : Fin (cfgM m hO).N) (j : S1x512x512.Idx) : (outsAt0 m hO c t).1 j = (b0 m hO c t j : EReal) + (b1 m hO c t j : EReal) := by
  rw [left]
  dsimp only
  rw [out2 c (grid0.coords t) (ms0_0 m hO t) (hs0_0 m hO t) (ms0_1 m hO t) (hs0_1 m hO t) (ms0_2 m hO t) (hs0_2 m hO t) (ms0_3 m hO t) (hs0_3 m hO t) (b0 m hO c t) (b1 m hO c t) (tbl m 0)]

/-- What a point writes back to the first result is its block of the sum. -/
theorem flushed2 (hw : wd m ≤ 1) (c : Dev nD) (t : Fin (cfgM m hO).N) : (dats (F := Ideal) m hO 0 c).flushed 2 t
    = (((cfgM m hO).win 2).blk t).view.read (Elt Ideal) (G (m ((c : Thread nD τ).loc main_arg0)) (m ((c : Thread nD τ).loc main_arg1)) (wd m) hw) := by
  show ((cfgM m hO).win 2).cut (grid0.coords t) ((dats m hO 0 c).after 2 t) = _
  rw [after0_2]
  funext j
  exact (left2 m hO c t j).trans (blk_sum m hO hw c t j)

/-- Every element of the first result lies in some point's block. -/
theorem cover2 (i : S12x512x512.Idx) : ∃ t : Fin (cfgM m hO).N, ((cfgM m hO).win 2).flush t = true ∧ i ∈ (((cfgM m hO).win 2).blk t).view.set := by
  have hi0 : (i 0).val < 12 := (i 0).isLt
  obtain ⟨t, ht⟩ := onto2 ⟨(i 0).val, hi0⟩
  refine ⟨t, flush0_2 (adm m hO) t, ?_⟩
  have e : (((cfgM m hO).win 2).blk t).view.emb (ix3 (n0 := 1) (n1 := 512) (n2 := 512) 0 (i 1) (i 2)) = i := by
    funext a; apply Fin.ext
    match a with
    | ⟨0, _⟩ =>
      show cc0_transform_2 (grid0.coords t) (0 : Fin 3) * 1 + 1 * 0 = (i 0).val
      rw [ht]; show (i 0).val * 1 + 1 * 0 = (i 0).val; omega
    | ⟨1, _⟩ =>
      show cc0_transform_2 (grid0.coords t) (1 : Fin 3) * 512 + 1 * (i 1).val = (i 1).val
      rw [ht]; show 0 * 512 + 1 * (i 1).val = (i 1).val; omega
    | ⟨2, _⟩ =>
      show cc0_transform_2 (grid0.coords t) (2 : Fin 3) * 512 + 1 * (i 2).val = (i 2).val
      rw [ht]; show 0 * 512 + 1 * (i 2).val = (i 2).val; omega
  have h := (((cfgM m hO).win 2).blk t).view.emb_mem_set (ix3 (n0 := 1) (n1 := 512) (n2 := 512) 0 (i 1) (i 2))
  exact e ▸ h

/-- The first result ends at the sum. -/
theorem final2 (hw : wd m ≤ 1) (c : Dev nD) : (dats (F := Ideal) m hO 0 c).arrAt 2 (cfgM m hO).N
    = G (m ((c : Thread nD τ).loc main_arg0)) (m ((c : Thread nD τ).loc main_arg1)) (wd m) hw :=
  (dats m hO 0 c).arrAt_eq_of_cover 2 _ (fun t _ => flushed2 m hO hw c t) (fun i => cover2 m hO i)

/-- What a point leaves in its second output block. -/
theorem left3 (c : Dev nD) (t : Fin (cfgM m hO).N) (j : S1x512x512.Idx) : (outsAt0 m hO c t).2 j = (b0 m hO c t j : EReal) + (b1 m hO c t j : EReal) := by
  rw [left]
  dsimp only
  rw [out3 c (grid0.coords t) (ms0_0 m hO t) (hs0_0 m hO t) (ms0_1 m hO t) (hs0_1 m hO t) (ms0_2 m hO t) (hs0_2 m hO t) (ms0_3 m hO t) (hs0_3 m hO t) (b0 m hO c t) (b1 m hO c t) (tbl m 0)]

/-- What a point writes back to the second result is its block of the sum. -/
theorem flushed3 (hw : wd m ≤ 1) (c : Dev nD) (t : Fin (cfgM m hO).N) : (dats (F := Ideal) m hO 0 c).flushed 3 t
    = (((cfgM m hO).win 3).blk t).view.read (Elt Ideal) (G (m ((c : Thread nD τ).loc main_arg0)) (m ((c : Thread nD τ).loc main_arg1)) (wd m) hw) := by
  show ((cfgM m hO).win 3).cut (grid0.coords t) ((dats m hO 0 c).after 3 t) = _
  rw [after0_3]
  funext j
  exact (left3 m hO c t j).trans (blk_sum m hO hw c t j)

/-- Every element of the second result lies in some point's block. -/
theorem cover3 (i : S12x512x512.Idx) : ∃ t : Fin (cfgM m hO).N, ((cfgM m hO).win 3).flush t = true ∧ i ∈ (((cfgM m hO).win 3).blk t).view.set := by
  have hi0 : (i 0).val < 12 := (i 0).isLt
  obtain ⟨t, ht⟩ := onto3 ⟨(i 0).val, hi0⟩
  refine ⟨t, flush0_3 (adm m hO) t, ?_⟩
  have e : (((cfgM m hO).win 3).blk t).view.emb (ix3 (n0 := 1) (n1 := 512) (n2 := 512) 0 (i 1) (i 2)) = i := by
    funext a; apply Fin.ext
    match a with
    | ⟨0, _⟩ =>
      show cc0_transform_3 (grid0.coords t) (0 : Fin 3) * 1 + 1 * 0 = (i 0).val
      rw [ht]; show (i 0).val * 1 + 1 * 0 = (i 0).val; omega
    | ⟨1, _⟩ =>
      show cc0_transform_3 (grid0.coords t) (1 : Fin 3) * 512 + 1 * (i 1).val = (i 1).val
      rw [ht]; show 0 * 512 + 1 * (i 1).val = (i 1).val; omega
    | ⟨2, _⟩ =>
      show cc0_transform_3 (grid0.coords t) (2 : Fin 3) * 512 + 1 * (i 2).val = (i 2).val
      rw [ht]; show 0 * 512 + 1 * (i 2).val = (i 2).val; omega
  have h := (((cfgM m hO).win 3).blk t).view.emb_mem_set (ix3 (n0 := 1) (n1 := 512) (n2 := 512) 0 (i 1) (i 2))
  exact e ▸ h

/-- The second result ends at the sum. -/
theorem final3 (hw : wd m ≤ 1) (c : Dev nD) : (dats (F := Ideal) m hO 0 c).arrAt 3 (cfgM m hO).N
    = G (m ((c : Thread nD τ).loc main_arg0)) (m ((c : Thread nD τ).loc main_arg1)) (wd m) hw :=
  (dats m hO 0 c).arrAt_eq_of_cover 3 _ (fun t _ => flushed3 m hO hw c t) (fun i => cover3 m hO i)

/-- The run of the idealised kernel, its two results named. -/
theorem run (hO : Ok m) (ρ : Dev nD → PrngReg) (hw : wd m ≤ 1) : θ_run (defs (F := Ideal)) (onTc (τ := τ) (main (F := Ideal))) ⟨m, fun _ => 0, ρ⟩ fun r => ∀ c : Dev nD,
      r.2.mem ((c : Thread nD τ).loc main_v0_0) = G (m ((c : Thread nD τ).loc main_arg0)) (m ((c : Thread nD τ).loc main_arg1)) (wd m) hw
      ∧ r.2.mem ((c : Thread nD τ).loc main_v0_1) = G (m ((c : Thread nD τ).loc main_arg0)) (m ((c : Thread nD τ).loc main_arg1)) (wd m) hw
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨((h.1 c).1 2).trans (final2 m hO hw c), ((h.1 c).1 3).trans (final3 m hO hw c), h.2 c⟩)
    (θ_run_and (run_main m ρ hO) (unchanged m ρ hO))

end Cert.Kernel13Ideal.Hand

namespace Cert.Proof.C13

open Cert.Kernel13Ideal.Hand (G wd src)

/-- The reference's first result: the half which the word picks, and what was received, added. -/
theorem ref_apply (x0 : Vec Ideal Cert.Kernel13Ideal.S12x1024x512 .f32) (x1 : Vec Ideal Cert.Kernel13Ideal.S12x512x512 .f32)
    (x2 : IVec Cert.Kernel13Ideal.S1 32) (i : Cert.Kernel13Ideal.S1.Idx) (hw : (x2 i).toNat ≤ 1) :
    Cert.Reference13Ideal.Read.val_main_v5 (F := Ideal) x0 x1 x2 = G x0 x1 (x2 i).toNat hw := by
  funext j
  rw [Cert.Reference13Ideal.Read.val_main_v5_apply]
  unfold G
  refine congrArg (fun z : EReal => z + (x1 j : EReal)) ?_
  have hv (k : Cert.Reference13Ideal.S_.Idx) : Cert.Reference13Ideal.Read.val_main_v0 (F := Ideal) x2 k = x2 i :=
    congrArg x2 (one_idx _ _)
  have hc (k : Cert.Reference13Ideal.S_.Idx) : Cert.Reference13Ideal.Read.val_main_v1 (F := Ideal) x2 k = IntOp.cmpi .eq (x2 i) 0#32 := by
    rw [Cert.Reference13Ideal.Read.val_main_v1_apply, hv, Cert.Reference13Ideal.Read.val_main_c_apply]
  show Scalar.select (Cert.Reference13Ideal.Read.val_main_v1 (F := Ideal) x2 _) (Cert.Reference13Ideal.Read.val_main_v2 (F := Ideal) x0 j)
    (Cert.Reference13Ideal.Read.val_main_v3 (F := Ideal) x0 j) = x0 (src (x2 i).toNat hw j)
  rw [hc, Cert.Reference13Ideal.Read.val_main_v2_apply, Cert.Reference13Ideal.Read.val_main_v3_apply]
  clear hc hv
  generalize x2 i = w at hw ⊢
  rcases Nat.le_one_iff_eq_zero_or_eq_one.mp hw with h | h
  · obtain rfl : w = 0#32 := BitVec.eq_of_toNat_eq h
    show x0 _ = x0 _
    refine congrArg x0 ?_
    funext a; apply Fin.ext
    match a with
    | ⟨0, _⟩ => rfl
    | ⟨1, _⟩ => show (j 1).val = (0#32).toNat * 512 + (j 1).val; simp
    | ⟨2, _⟩ => rfl
  · obtain rfl : w = 1#32 := BitVec.eq_of_toNat_eq h
    show x0 _ = x0 _
    refine congrArg x0 ?_
    funext a; apply Fin.ext
    match a with
    | ⟨0, _⟩ => rfl
    | ⟨1, _⟩ => show 512 + (j 1).val = (1#32).toNat * 512 + (j 1).val; simp
    | ⟨2, _⟩ => rfl

/-- The kernel's side condition follows from the precondition. -/
theorem ok_p (m : (ℓ : Loc Cert.Kernel13.nD Cert.Kernel13.τ Cert.Kernel13.sig) → Buf (Elt Bits) ℓ) (h : Cert.Pre_Kernel13 m) :
    Cert.Kernel13.Gen.Ok m := Cert.Kernel13.Hand.ok m fun i => word _ _ _ (h 0) i
/-- So does the idealised kernel's. -/
theorem ok_pi (m : (ℓ : Loc Cert.Kernel13Ideal.nD Cert.Kernel13Ideal.τ Cert.Kernel13Ideal.sig) → Buf (Elt Ideal) ℓ) (h : Cert.Pre_Kernel13Ideal m) :
    Cert.Kernel13Ideal.Gen.Ok m := Cert.Kernel13Ideal.Hand.ok m fun i => word _ _ _ (h 0) i
/-- The word which picks the half is 0 or 1. -/
theorem wd_le (m : (ℓ : Loc Cert.Kernel13Ideal.nD Cert.Kernel13Ideal.τ Cert.Kernel13Ideal.sig) → Buf (Elt Ideal) ℓ) (h : Cert.Pre_Kernel13Ideal m) :
    wd m ≤ 1 := word _ _ _ (h 0) _

/-- The kernel comes to an end. -/
theorem frame_p : Cert.quiescent_Kernel13 := fun m ρ h => Cert.Kernel13.Gen.frame m ρ (ok_p m h)
/-- So does its idealisation. -/
theorem frame_pi : Cert.quiescent_Kernel13Ideal := fun m ρ h => Cert.Kernel13Ideal.Gen.frame m ρ (ok_pi m h)
/-- So does the reference. -/
theorem frame_r : Cert.quiescent_Reference13Ideal := fun m ρ _ =>
  (θ_run Cert.Reference13Ideal.defs _ _).mono (fun r h => ⟨fun c => (h c).2.2,
      Idealize.ShloMosaic.sem_eq_zero_of_no_sems (by decide) r.2⟩)
    (Cert.Reference13Ideal.Value.run (F := Ideal) m ρ)
/-- So does the reference, under the precondition too. -/
theorem frame_r_half : Cert.quiescent_Reference13Ideal_pre_is_half := fun m ρ _ => frame_r m ρ trivial

/-- The reference's two results are what the kernel's arrays end at. -/
theorem algebraic : Cert.algebraic_Kernel13Ideal_Reference13Ideal := by
  intro m ρ m' ρ' hpre hagree
  have hO := ok_pi m hpre
  have hw := wd_le m hpre
  refine ⟨fun c => G (m ((c : Thread Cert.Kernel13Ideal.nD Cert.Kernel13Ideal.τ).loc Cert.Kernel13Ideal.main_arg0)) (m ((c : Thread Cert.Kernel13Ideal.nD Cert.Kernel13Ideal.τ).loc Cert.Kernel13Ideal.main_arg1)) (wd m) hw,
    fun c => G (m ((c : Thread Cert.Kernel13Ideal.nD Cert.Kernel13Ideal.τ).loc Cert.Kernel13Ideal.main_arg0)) (m ((c : Thread Cert.Kernel13Ideal.nD Cert.Kernel13Ideal.τ).loc Cert.Kernel13Ideal.main_arg1)) (wd m) hw, ?_, ?_⟩
  · exact Cert.Kernel13Ideal.Hand.run m hO ρ hw
  · refine (θ_run Cert.Reference13Ideal.defs _ _).mono (fun _ h c => ⟨(h c).1.trans ?_, (h c).2.1.trans ?_, (h c).2.2⟩)
      (Cert.Reference13Ideal.Value.run (F := Ideal) m' ρ')
    · rw [(hagree c).1, (hagree c).2.1, (hagree c).2.2]
      obtain rfl : c = 0 := Subsingleton.elim _ _
      exact ref_apply _ _ _ _ hw
    · rw [(hagree c).1, (hagree c).2.1, (hagree c).2.2]
      obtain rfl : c = 0 := Subsingleton.elim _ _
      exact ref_apply _ _ _ _ hw

end Cert.Proof.C13

end
-- ==== Proof.V14.lean ====
/- Adding the received half of the out projection's gradient to the half a device keeps: what the kernel's two result arrays end at, and the
   reference's. -/
module

public import proofs.«01_k».proof.Defs
public import proofs.«01_k».proof.Proof.Gen.Kernel14.Frame
public import proofs.«01_k».proof.Proof.Gen.Kernel14Ideal.Frame
public import proofs.«01_k».proof.Proof.Gen.Reference14Ideal.Run
public import proofs.«01_k».proof.Proof.Gen.Reference14Ideal.Read
public import proofs.«01_k».proof.Proof.Gen.Pre_is_half_out
public import Idealize.ShloMosaic.Lib.Pipeline.ValueKit
public import Idealize.ShloMosaic.Lib.Pointwise
public import Idealize.ShloMosaic.Lib.Tactic
public import Idealize.ShloMosaic.Lib.Quiescent

@[expose] public section

set_option maxRecDepth 16384

noncomputable section

open Idealize.ShloMosaic Idealize.ShloMosaic.TcCoe Idealize.SL.Sem
open Idealize.ShloMosaic.Pipeline (Dat)

namespace Cert.Proof.C14

/-- An array of one word has one index. -/
theorem one_idx (i j : Cert.Pre_is_half_out.S1.Idx) : i = j := by
  funext a
  obtain rfl : a = 0 := Subsingleton.elim _ _
  have hi : (i 0).val < 1 := (i 0).isLt
  have hj : (j 0).val < 1 := (j 0).isLt
  exact Fin.ext (by omega)

/-- A word that is at least 0 and at most 1 in the signed order is 0 or 1. -/
theorem le_one (w : BitVec 32) (h0 : IntOp.cmpi .sge w 0#32 = 1#1) (h1 : IntOp.cmpi .sle w 1#32 = 1#1) : w.toNat ≤ 1 := by
  have ofBool_one (p : Bool) : (BitVec.ofBool p = 1#1) ↔ p = true := by cases p <;> decide
  have hw := w.isLt
  simp only [ofBool_one, IntOp.cmpi, BitVec.sle, decide_eq_true_eq, BitVec.toInt, BitVec.toNat_ofNat] at h0 h1
  simp at h0 h1
  omega

/-- The precondition says that the word which picks the half is 0 or 1. -/
theorem word {F : FTy → Type} [FloatOps F] (g : FVec F Cert.Pre_is_half_out.S4x512x1024 .f32) (r : FVec F Cert.Pre_is_half_out.S4x256x1024 .f32)
    (x : IVec Cert.Pre_is_half_out.S1 32) (h : Cert.Pre_is_half_out.fn (F := F) g r x = fun _ => 1#1) (i : Cert.Pre_is_half_out.S1.Idx) : (x i).toNat ≤ 1 := by
  have andi_one (a b : BitVec 1) : IntOp.andi a b = 1#1 ↔ a = 1#1 ∧ b = 1#1 := by revert a b; decide
  have hp := congrFun h (Shape.Idx.first (by decide))
  simp only [Cert.Pre_is_half_out.fn, constantI, cmpi, andi, andi_one] at hp
  have e (k : Cert.Pre_is_half_out.S_.Idx) : shapeCast Cert.Pre_is_half_out.S_ x Cert.Pre_is_half_out.Facts.shapeCasts_S1_S_ k = x i :=
    congrArg x (one_idx _ _)
  rw [e] at hp
  exact le_one _ hp.1 hp.2

end Cert.Proof.C14

namespace Cert.Kernel14.Hand

open Cert.Kernel14 Cert.Kernel14.Gen

/-- With the word 0 or 1, every block the kernel reads lies in its array. -/
theorem ok {F : FTy → Type} [FloatOps F] (m : (ℓ : Loc nD τ sig) → Buf (Elt F) ℓ)
    (hw : ∀ i : S1.Idx, ((tbl m 0 : IVec S1 32) i).toNat ≤ 1) : Ok m := by
  intro i
  have hi : (i 0).val < 4 := (i 0).isLt
  refine ⟨fun a => ?_, .inl rfl⟩
  match a with
  | ⟨0, _⟩ => show ((BitVec.ofNat 32 (i 0).val).toNat + 1) * 1 ≤ 4; rw [BitVec.toNat_ofNat]; omega
  | ⟨1, _⟩ =>
    have h := hw ((Rect.unit (s := S1) ![0] S1.size Facts₀.inb_S1_S1_0).emb (Shape.Idx.first (Facts₀.numel1_S1.symm ▸ Nat.one_pos)))
    exact Nat.mul_le_mul_right 256 (Nat.succ_le_succ h)
  | ⟨2, _⟩ => show (0 + 1) * 1024 ≤ 1024; omega

end Cert.Kernel14.Hand

namespace Cert.Kernel14Ideal.Hand

open Cert.Kernel14Ideal Cert.Kernel14Ideal.Gen

/-- With the word 0 or 1, every block the idealised kernel reads lies in its array. -/
theorem ok {F : FTy → Type} [FloatOps F] (m : (ℓ : Loc nD τ sig) → Buf (Elt F) ℓ)
    (hw : ∀ i : S1.Idx, ((tbl m 0 : IVec S1 32) i).toNat ≤ 1) : Ok m := by
  intro i
  have hi : (i 0).val < 4 := (i 0).isLt
  refine ⟨fun a => ?_, .inl rfl⟩
  match a with
  | ⟨0, _⟩ => show ((BitVec.ofNat 32 (i 0).val).toNat + 1) * 1 ≤ 4; rw [BitVec.toNat_ofNat]; omega
  | ⟨1, _⟩ =>
    have h := hw ((Rect.unit (s := S1) ![0] S1.size Facts₀.inb_S1_S1_0).emb (Shape.Idx.first (Facts₀.numel1_S1.symm ▸ Nat.one_pos)))
    exact Nat.mul_le_mul_right 256 (Nat.succ_le_succ h)
  | ⟨2, _⟩ => show (0 + 1) * 1024 ≤ 1024; omega

/-- The element of the whole gradient which lies at `j` in its half `w`. -/
def src (w : Nat) (hw : w ≤ 1) (j : S4x256x1024.Idx) : S4x512x1024.Idx :=
  ix3 (n0 := 4) (n1 := 512) (n2 := 1024) (j 0) ⟨w * 256 + (j 1).val, by have h : (j 1).val < 256 := (j 1).isLt; omega⟩ (j 2)

/-- The chosen half of the gradient and what was received, added. -/
def G (g : S4x512x1024.Idx → Elt Ideal .f32) (r : S4x256x1024.Idx → Elt Ideal .f32) (w : Nat) (hw : w ≤ 1) (j : S4x256x1024.Idx) : EReal :=
  (g (src w hw j) : EReal) + (r j : EReal)

/-- A point's first output block is the sum of its two input blocks. -/
theorem out2 (c : Dev nD) (i : grid0.Coords) (a2 : Memref sig .tc .vmem S1x256x1024 .f32) (h2 : a2.IsWhole) (a3 : Memref sig .tc .vmem S1x256x1024 .f32) (h3 : a3.IsWhole)
    (a4 : Memref sig .tc .vmem S1x256x1024 .f32) (h4 : a4.IsWhole) (a5 : Memref sig .tc .vmem S1x256x1024 .bf16) (h5 : a5.IsWhole)
    (x0 x1 : Vec Ideal S1x256x1024 .f32) (xt : TbBuf0 (F := Ideal) c tbM0_0) (y : S1x256x1024.Idx) :
    out0_A_2 (F := Ideal) c i a2 h2 a3 h3 a4 h4 a5 h5 x0 x1 xt y = (x0 y : EReal) + (x1 y : EReal) := by
  frame_out
  unfold_payloads
  rfl

/-- A point's second output block is the same sum. -/
theorem out3 (c : Dev nD) (i : grid0.Coords) (a2 : Memref sig .tc .vmem S1x256x1024 .f32) (h2 : a2.IsWhole) (a3 : Memref sig .tc .vmem S1x256x1024 .f32) (h3 : a3.IsWhole)
    (a4 : Memref sig .tc .vmem S1x256x1024 .f32) (h4 : a4.IsWhole) (a5 : Memref sig .tc .vmem S1x256x1024 .bf16) (h5 : a5.IsWhole)
    (x0 x1 : Vec Ideal S1x256x1024 .f32) (xt : TbBuf0 (F := Ideal) c tbM0_0) (y : S1x256x1024.Idx) :
    out0_A_3 (F := Ideal) c i a2 h2 a3 h3 a4 h4 a5 h5 x0 x1 xt y = (x0 y : EReal) + (x1 y : EReal) := by
  frame_out
  unfold_payloads
  rfl

variable (m : (ℓ : Loc nD τ sig) → Buf (Elt Ideal) ℓ) (hO : Ok m)

/-- The word which picks the half, as a number. -/
def wd : Nat := ((tbl m).at 0 (Rect.unit (s := S1) ![0] S1.size Facts₀.inb_S1_S1_0) Facts₀.numel1_S1 : BitVec 32).toNat

/-- Every block of the first result is some point's. -/
theorem onto2 : ∀ q : Fin 4, ∃ t : Fin grid0.N, cc0_transform_2 (grid0.coords t) = ![q.val, 0, 0] := by decide +kernel
/-- Every block of the second result is some point's. -/
theorem onto3 : ∀ q : Fin 4, ∃ t : Fin grid0.N, cc0_transform_3 (grid0.coords t) = ![q.val, 0, 0] := by decide +kernel

/-- A point's block of the gradient, element by element, seen from its block of the first result. -/
theorem emb0 (hw : wd m ≤ 1) (t : Fin (cfgM m hO).N) (j : S1x256x1024.Idx) :
    (((cfgM m hO).win 0).blk t).view.emb j = src (wd m) hw ((((cfgM m hO).win 2).blk t).view.emb j) := by
  funext a; apply Fin.ext
  match a with
  | ⟨0, _⟩ => rfl
  | ⟨1, _⟩ =>
    show wd m * 256 + 1 * (j 1).val = wd m * 256 + ((0#32).toNat * 256 + 1 * (j 1).val)
    simp
  | ⟨2, _⟩ => rfl

/-- A point's block of the gradient. -/
def b0 (c : Dev nD) (t : Fin (cfgM m hO).N) : Vec Ideal S1x256x1024 .f32 := iblk m hO c 0 t
/-- A point's block of what was received. -/
def b1 (c : Dev nD) (t : Fin (cfgM m hO).N) : Vec Ideal S1x256x1024 .f32 := iblk m hO c 1 t

/-- The two input blocks of a point, added, are its block of the sum. -/
theorem blk_sum (hw : wd m ≤ 1) (c : Dev nD) (t : Fin (cfgM m hO).N) (j : S1x256x1024.Idx) :
    (b0 m hO c t j : EReal) + (b1 m hO c t j : EReal)
      = G (m ((c : Thread nD τ).loc main_arg0)) (m ((c : Thread nD τ).loc main_arg1)) (wd m) hw ((((cfgM m hO).win 2).blk t).view.emb j) := by
  unfold G
  rw [← emb0 m hO hw t j]
  rfl

/-- What a point leaves in its two output blocks, over its two input blocks. -/
theorem left (c : Dev nD) (t : Fin (cfgM m hO).N) : outsAt0 m hO c t
    = (out0_A_2 c (grid0.coords t) (ms0_0 m hO t) (hs0_0 m hO t) (ms0_1 m hO t) (hs0_1 m hO t) (ms0_2 m hO t) (hs0_2 m hO t) (ms0_3 m hO t) (hs0_3 m hO t) (b0 m hO c t) (b1 m hO c t) (tbl m 0),
      out0_A_3 c (grid0.coords t) (ms0_0 m hO t) (hs0_0 m hO t) (ms0_1 m hO t) (hs0_1 m hO t) (ms0_2 m hO t) (hs0_2 m hO t) (ms0_3 m hO t) (hs0_3 m hO t) (b0 m hO c t) (b1 m hO c t) (tbl m 0)) := rfl

/-- What a point leaves in its first output block. -/
theorem left2 (c : Dev nD) (t : Fin (cfgM m hO).N) (j : S1x256x1024.Idx) : (outsAt0 m hO c t).1 j = (b0 m hO c t j : EReal) + (b1 m hO c t j : EReal) := by
  rw [left]
  dsimp only
  rw [out2 c (grid0.coords t) (ms0_0 m hO t) (hs0_0 m hO t) (ms0_1 m hO t) (hs0_1 m hO t) (ms0_2 m hO t) (hs0_2 m hO t) (ms0_3 m hO t) (hs0_3 m hO t) (b0 m hO c t) (b1 m hO c t) (tbl m 0)]

/-- What a point writes back to the first result is its block of the sum. -/
theorem flushed2 (hw : wd m ≤ 1) (c : Dev nD) (t : Fin (cfgM m hO).N) : (dats (F := Ideal) m hO 0 c).flushed 2 t
    = (((cfgM m hO).win 2).blk t).view.read (Elt Ideal) (G (m ((c : Thread nD τ).loc main_arg0)) (m ((c : Thread nD τ).loc main_arg1)) (wd m) hw) := by
  show ((cfgM m hO).win 2).cut (grid0.coords t) ((dats m hO 0 c).after 2 t) = _
  rw [after0_2]
  funext j
  exact (left2 m hO c t j).trans (blk_sum m hO hw c t j)

/-- Every element of the first result lies in some point's block. -/
theorem cover2 (i : S4x256x1024.Idx) : ∃ t : Fin (cfgM m hO).N, ((cfgM m hO).win 2).flush t = true ∧ i ∈ (((cfgM m hO).win 2).blk t).view.set := by
  have hi0 : (i 0).val < 4 := (i 0).isLt
  obtain ⟨t, ht⟩ := onto2 ⟨(i 0).val, hi0⟩
  refine ⟨t, flush0_2 (adm m hO) t, ?_⟩
  have e : (((cfgM m hO).win 2).blk t).view.emb (ix3 (n0 := 1) (n1 := 256) (n2 := 1024) 0 (i 1) (i 2)) = i := by
    funext a; apply Fin.ext
    match a with
    | ⟨0, _⟩ =>
      show cc0_transform_2 (grid0.coords t) (0 : Fin 3) * 1 + 1 * 0 = (i 0).val
      rw [ht]; show (i 0).val * 1 + 1 * 0 = (i 0).val; omega
    | ⟨1, _⟩ =>
      show cc0_transform_2 (grid0.coords t) (1 : Fin 3) * 256 + 1 * (i 1).val = (i 1).val
      rw [ht]; show 0 * 256 + 1 * (i 1).val = (i 1).val; omega
    | ⟨2, _⟩ =>
      show cc0_transform_2 (grid0.coords t) (2 : Fin 3) * 1024 + 1 * (i 2).val = (i 2).val
      rw [ht]; show 0 * 1024 + 1 * (i 2).val = (i 2).val; omega
  have h := (((cfgM m hO).win 2).blk t).view.emb_mem_set (ix3 (n0 := 1) (n1 := 256) (n2 := 1024) 0 (i 1) (i 2))
  exact e ▸ h

/-- The first result ends at the sum. -/
theorem final2 (hw : wd m ≤ 1) (c : Dev nD) : (dats (F := Ideal) m hO 0 c).arrAt 2 (cfgM m hO).N
    = G (m ((c : Thread nD τ).loc main_arg0)) (m ((c : Thread nD τ).loc main_arg1)) (wd m) hw :=
  (dats m hO 0 c).arrAt_eq_of_cover 2 _ (fun t _ => flushed2 m hO hw c t) (fun i => cover2 m hO i)

/-- What a point leaves in its second output block. -/
theorem left3 (c : Dev nD) (t : Fin (cfgM m hO).N) (j : S1x256x1024.Idx) : (outsAt0 m hO c t).2 j = (b0 m hO c t j : EReal) + (b1 m hO c t j : EReal) := by
  rw [left]
  dsimp only
  rw [out3 c (grid0.coords t) (ms0_0 m hO t) (hs0_0 m hO t) (ms0_1 m hO t) (hs0_1 m hO t) (ms0_2 m hO t) (hs0_2 m hO t) (ms0_3 m hO t) (hs0_3 m hO t) (b0 m hO c t) (b1 m hO c t) (tbl m 0)]

/-- What a point writes back to the second result is its block of the sum. -/
theorem flushed3 (hw : wd m ≤ 1) (c : Dev nD) (t : Fin (cfgM m hO).N) : (dats (F := Ideal) m hO 0 c).flushed 3 t
    = (((cfgM m hO).win 3).blk t).view.read (Elt Ideal) (G (m ((c : Thread nD τ).loc main_arg0)) (m ((c : Thread nD τ).loc main_arg1)) (wd m) hw) := by
  show ((cfgM m hO).win 3).cut (grid0.coords t) ((dats m hO 0 c).after 3 t) = _
  rw [after0_3]
  funext j
  exact (left3 m hO c t j).trans (blk_sum m hO hw c t j)

/-- Every element of the second result lies in some point's block. -/
theorem cover3 (i : S4x256x1024.Idx) : ∃ t : Fin (cfgM m hO).N, ((cfgM m hO).win 3).flush t = true ∧ i ∈ (((cfgM m hO).win 3).blk t).view.set := by
  have hi0 : (i 0).val < 4 := (i 0).isLt
  obtain ⟨t, ht⟩ := onto3 ⟨(i 0).val, hi0⟩
  refine ⟨t, flush0_3 (adm m hO) t, ?_⟩
  have e : (((cfgM m hO).win 3).blk t).view.emb (ix3 (n0 := 1) (n1 := 256) (n2 := 1024) 0 (i 1) (i 2)) = i := by
    funext a; apply Fin.ext
    match a with
    | ⟨0, _⟩ =>
      show cc0_transform_3 (grid0.coords t) (0 : Fin 3) * 1 + 1 * 0 = (i 0).val
      rw [ht]; show (i 0).val * 1 + 1 * 0 = (i 0).val; omega
    | ⟨1, _⟩ =>
      show cc0_transform_3 (grid0.coords t) (1 : Fin 3) * 256 + 1 * (i 1).val = (i 1).val
      rw [ht]; show 0 * 256 + 1 * (i 1).val = (i 1).val; omega
    | ⟨2, _⟩ =>
      show cc0_transform_3 (grid0.coords t) (2 : Fin 3) * 1024 + 1 * (i 2).val = (i 2).val
      rw [ht]; show 0 * 1024 + 1 * (i 2).val = (i 2).val; omega
  have h := (((cfgM m hO).win 3).blk t).view.emb_mem_set (ix3 (n0 := 1) (n1 := 256) (n2 := 1024) 0 (i 1) (i 2))
  exact e ▸ h

/-- The second result ends at the sum. -/
theorem final3 (hw : wd m ≤ 1) (c : Dev nD) : (dats (F := Ideal) m hO 0 c).arrAt 3 (cfgM m hO).N
    = G (m ((c : Thread nD τ).loc main_arg0)) (m ((c : Thread nD τ).loc main_arg1)) (wd m) hw :=
  (dats m hO 0 c).arrAt_eq_of_cover 3 _ (fun t _ => flushed3 m hO hw c t) (fun i => cover3 m hO i)

/-- The run of the idealised kernel, its two results named. -/
theorem run (hO : Ok m) (ρ : Dev nD → PrngReg) (hw : wd m ≤ 1) : θ_run (defs (F := Ideal)) (onTc (τ := τ) (main (F := Ideal))) ⟨m, fun _ => 0, ρ⟩ fun r => ∀ c : Dev nD,
      r.2.mem ((c : Thread nD τ).loc main_v0_0) = G (m ((c : Thread nD τ).loc main_arg0)) (m ((c : Thread nD τ).loc main_arg1)) (wd m) hw
      ∧ r.2.mem ((c : Thread nD τ).loc main_v0_1) = G (m ((c : Thread nD τ).loc main_arg0)) (m ((c : Thread nD τ).loc main_arg1)) (wd m) hw
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨((h.1 c).1 2).trans (final2 m hO hw c), ((h.1 c).1 3).trans (final3 m hO hw c), h.2 c⟩)
    (θ_run_and (run_main m ρ hO) (unchanged m ρ hO))

end Cert.Kernel14Ideal.Hand

namespace Cert.Proof.C14

open Cert.Kernel14Ideal.Hand (G wd src)

/-- The reference's first result: the half which the word picks, and what was received, added. -/
theorem ref_apply (x0 : Vec Ideal Cert.Kernel14Ideal.S4x512x1024 .f32) (x1 : Vec Ideal Cert.Kernel14Ideal.S4x256x1024 .f32)
    (x2 : IVec Cert.Kernel14Ideal.S1 32) (i : Cert.Kernel14Ideal.S1.Idx) (hw : (x2 i).toNat ≤ 1) :
    Cert.Reference14Ideal.Read.val_main_v5 (F := Ideal) x0 x1 x2 = G x0 x1 (x2 i).toNat hw := by
  funext j
  rw [Cert.Reference14Ideal.Read.val_main_v5_apply]
  unfold G
  refine congrArg (fun z : EReal => z + (x1 j : EReal)) ?_
  have hv (k : Cert.Reference14Ideal.S_.Idx) : Cert.Reference14Ideal.Read.val_main_v0 (F := Ideal) x2 k = x2 i :=
    congrArg x2 (one_idx _ _)
  have hc (k : Cert.Reference14Ideal.S_.Idx) : Cert.Reference14Ideal.Read.val_main_v1 (F := Ideal) x2 k = IntOp.cmpi .eq (x2 i) 0#32 := by
    rw [Cert.Reference14Ideal.Read.val_main_v1_apply, hv, Cert.Reference14Ideal.Read.val_main_c_apply]
  show Scalar.select (Cert.Reference14Ideal.Read.val_main_v1 (F := Ideal) x2 _) (Cert.Reference14Ideal.Read.val_main_v2 (F := Ideal) x0 j)
    (Cert.Reference14Ideal.Read.val_main_v3 (F := Ideal) x0 j) = x0 (src (x2 i).toNat hw j)
  rw [hc, Cert.Reference14Ideal.Read.val_main_v2_apply, Cert.Reference14Ideal.Read.val_main_v3_apply]
  clear hc hv
  generalize x2 i = w at hw ⊢
  rcases Nat.le_one_iff_eq_zero_or_eq_one.mp hw with h | h
  · obtain rfl : w = 0#32 := BitVec.eq_of_toNat_eq h
    show x0 _ = x0 _
    refine congrArg x0 ?_
    funext a; apply Fin.ext
    match a with
    | ⟨0, _⟩ => rfl
    | ⟨1, _⟩ => show (j 1).val = (0#32).toNat * 256 + (j 1).val; simp
    | ⟨2, _⟩ => rfl
  · obtain rfl : w = 1#32 := BitVec.eq_of_toNat_eq h
    show x0 _ = x0 _
    refine congrArg x0 ?_
    funext a; apply Fin.ext
    match a with
    | ⟨0, _⟩ => rfl
    | ⟨1, _⟩ => show 256 + (j 1).val = (1#32).toNat * 256 + (j 1).val; simp
    | ⟨2, _⟩ => rfl

/-- The kernel's side condition follows from the precondition. -/
theorem ok_p (m : (ℓ : Loc Cert.Kernel14.nD Cert.Kernel14.τ Cert.Kernel14.sig) → Buf (Elt Bits) ℓ) (h : Cert.Pre_Kernel14 m) :
    Cert.Kernel14.Gen.Ok m := Cert.Kernel14.Hand.ok m fun i => word _ _ _ (h 0) i
/-- So does the idealised kernel's. -/
theorem ok_pi (m : (ℓ : Loc Cert.Kernel14Ideal.nD Cert.Kernel14Ideal.τ Cert.Kernel14Ideal.sig) → Buf (Elt Ideal) ℓ) (h : Cert.Pre_Kernel14Ideal m) :
    Cert.Kernel14Ideal.Gen.Ok m := Cert.Kernel14Ideal.Hand.ok m fun i => word _ _ _ (h 0) i
/-- The word which picks the half is 0 or 1. -/
theorem wd_le (m : (ℓ : Loc Cert.Kernel14Ideal.nD Cert.Kernel14Ideal.τ Cert.Kernel14Ideal.sig) → Buf (Elt Ideal) ℓ) (h : Cert.Pre_Kernel14Ideal m) :
    wd m ≤ 1 := word _ _ _ (h 0) _

/-- The kernel comes to an end. -/
theorem frame_p : Cert.quiescent_Kernel14 := fun m ρ h => Cert.Kernel14.Gen.frame m ρ (ok_p m h)
/-- So does its idealisation. -/
theorem frame_pi : Cert.quiescent_Kernel14Ideal := fun m ρ h => Cert.Kernel14Ideal.Gen.frame m ρ (ok_pi m h)
/-- So does the reference. -/
theorem frame_r : Cert.quiescent_Reference14Ideal := fun m ρ _ =>
  (θ_run Cert.Reference14Ideal.defs _ _).mono (fun r h => ⟨fun c => (h c).2.2,
      Idealize.ShloMosaic.sem_eq_zero_of_no_sems (by decide) r.2⟩)
    (Cert.Reference14Ideal.Value.run (F := Ideal) m ρ)
/-- So does the reference, under the precondition too. -/
theorem frame_r_half : Cert.quiescent_Reference14Ideal_pre_is_half_out := fun m ρ _ => frame_r m ρ trivial

/-- The reference's two results are what the kernel's arrays end at. -/
theorem algebraic : Cert.algebraic_Kernel14Ideal_Reference14Ideal := by
  intro m ρ m' ρ' hpre hagree
  have hO := ok_pi m hpre
  have hw := wd_le m hpre
  refine ⟨fun c => G (m ((c : Thread Cert.Kernel14Ideal.nD Cert.Kernel14Ideal.τ).loc Cert.Kernel14Ideal.main_arg0)) (m ((c : Thread Cert.Kernel14Ideal.nD Cert.Kernel14Ideal.τ).loc Cert.Kernel14Ideal.main_arg1)) (wd m) hw,
    fun c => G (m ((c : Thread Cert.Kernel14Ideal.nD Cert.Kernel14Ideal.τ).loc Cert.Kernel14Ideal.main_arg0)) (m ((c : Thread Cert.Kernel14Ideal.nD Cert.Kernel14Ideal.τ).loc Cert.Kernel14Ideal.main_arg1)) (wd m) hw, ?_, ?_⟩
  · exact Cert.Kernel14Ideal.Hand.run m hO ρ hw
  · refine (θ_run Cert.Reference14Ideal.defs _ _).mono (fun _ h c => ⟨(h c).1.trans ?_, (h c).2.1.trans ?_, (h c).2.2⟩)
      (Cert.Reference14Ideal.Value.run (F := Ideal) m' ρ')
    · rw [(hagree c).1, (hagree c).2.1, (hagree c).2.2]
      obtain rfl : c = 0 := Subsingleton.elim _ _
      exact ref_apply _ _ _ _ hw
    · rw [(hagree c).1, (hagree c).2.1, (hagree c).2.2]
      obtain rfl : c = 0 := Subsingleton.elim _ _
      exact ref_apply _ _ _ _ hw

end Cert.Proof.C14

end
-- ==== Proof.lean ====
/- The claims about the calls of the training step, put together. -/
module

public import proofs.«01_k».proof.Defs
public import proofs.«01_k».proof.Proof.Gen.Kernel2
public import proofs.«01_k».proof.Proof.Gen.Kernel2Ideal
public import proofs.«01_k».proof.Proof.Gen.Reference2Ideal
public import proofs.«01_k».proof.Proof.Gen.Kernel3
public import proofs.«01_k».proof.Proof.Gen.Kernel3Ideal
public import proofs.«01_k».proof.Proof.Gen.Reference3Ideal
public import proofs.«01_k».proof.Proof.Gen.Kernel4
public import proofs.«01_k».proof.Proof.Gen.Kernel4Ideal
public import proofs.«01_k».proof.Proof.Gen.Reference4Ideal
public import proofs.«01_k».proof.Proof.Gen.Kernel5
public import proofs.«01_k».proof.Proof.Gen.Kernel5Ideal
public import proofs.«01_k».proof.Proof.Gen.Reference5Ideal
public import proofs.«01_k».proof.Proof.Gen.Kernel6
public import proofs.«01_k».proof.Proof.Gen.Kernel6Ideal
public import proofs.«01_k».proof.Proof.Gen.Reference6Ideal
public import proofs.«01_k».proof.Proof.Gen.Kernel7
public import proofs.«01_k».proof.Proof.Gen.Kernel7Ideal
public import proofs.«01_k».proof.Proof.Gen.Reference7Ideal
public import proofs.«01_k».proof.Proof.Gen.Kernel8
public import proofs.«01_k».proof.Proof.Gen.Kernel8Ideal
public import proofs.«01_k».proof.Proof.Gen.Reference8Ideal
public import proofs.«01_k».proof.Proof.Gen.Kernel9
public import proofs.«01_k».proof.Proof.Gen.Kernel9Ideal
public import proofs.«01_k».proof.Proof.Gen.Reference9Ideal
public import proofs.«01_k».proof.Proof.Gen.Kernel10
public import proofs.«01_k».proof.Proof.Gen.Kernel10Ideal
public import proofs.«01_k».proof.Proof.Gen.Reference10Ideal
public import proofs.«01_k».proof.Proof.Gen.Kernel11
public import proofs.«01_k».proof.Proof.Gen.Kernel11Ideal
public import proofs.«01_k».proof.Proof.Gen.Reference11Ideal
public import proofs.«01_k».proof.Proof.Gen.Kernel12
public import proofs.«01_k».proof.Proof.Gen.Kernel12Ideal
public import proofs.«01_k».proof.Proof.Gen.Reference12Ideal
public import proofs.«01_k».proof.Proof.Gen.Kernel13
public import proofs.«01_k».proof.Proof.Gen.Kernel13Ideal
public import proofs.«01_k».proof.Proof.Gen.Reference13Ideal
public import proofs.«01_k».proof.Proof.Gen.Kernel14
public import proofs.«01_k».proof.Proof.Gen.Kernel14Ideal
public import proofs.«01_k».proof.Proof.Gen.Reference14Ideal
public import proofs.«01_k».proof.Proof.Gen.Pre_is_half
public import proofs.«01_k».proof.Proof.Gen.Pre_is_half_out
public import proofs.«01_k».proof.Proof.V2R
public import proofs.«01_k».proof.Proof.V3
public import proofs.«01_k».proof.Proof.V4R
public import proofs.«01_k».proof.Proof.V5
public import proofs.«01_k».proof.Proof.V6R
public import proofs.«01_k».proof.Proof.V7
public import proofs.«01_k».proof.Proof.V8
public import proofs.«01_k».proof.Proof.V9
public import proofs.«01_k».proof.Proof.V10
public import proofs.«01_k».proof.Proof.V11
public import proofs.«01_k».proof.Proof.V12
public import proofs.«01_k».proof.Proof.V13
public import proofs.«01_k».proof.Proof.V14
public import Idealize.ShloMosaic.Adequacy
public import Idealize.ShloMosaic.Init

@[expose] public section

noncomputable section

namespace Cert.Proof

open Idealize.ShloMosaic Idealize.SL.Sem

/-- Every program's stated facts, its coming to an end, and every value claim. -/
theorem claim : Cert.Claim := ⟨Cert.Kernel2.Gen.facts, Cert.Kernel2Ideal.Gen.facts, Cert.Reference2Ideal.Gen.facts, Cert.Kernel3.Gen.facts, Cert.Kernel3Ideal.Gen.facts, Cert.Reference3Ideal.Gen.facts, Cert.Kernel4.Gen.facts, Cert.Kernel4Ideal.Gen.facts, Cert.Reference4Ideal.Gen.facts, Cert.Kernel5.Gen.facts, Cert.Kernel5Ideal.Gen.facts, Cert.Reference5Ideal.Gen.facts, Cert.Kernel6.Gen.facts, Cert.Kernel6Ideal.Gen.facts, Cert.Reference6Ideal.Gen.facts, Cert.Kernel7.Gen.facts, Cert.Kernel7Ideal.Gen.facts, Cert.Reference7Ideal.Gen.facts, Cert.Kernel8.Gen.facts, Cert.Kernel8Ideal.Gen.facts, Cert.Reference8Ideal.Gen.facts, Cert.Kernel9.Gen.facts, Cert.Kernel9Ideal.Gen.facts, Cert.Reference9Ideal.Gen.facts, Cert.Kernel10.Gen.facts, Cert.Kernel10Ideal.Gen.facts, Cert.Reference10Ideal.Gen.facts, Cert.Kernel11.Gen.facts, Cert.Kernel11Ideal.Gen.facts, Cert.Reference11Ideal.Gen.facts, Cert.Kernel12.Gen.facts, Cert.Kernel12Ideal.Gen.facts, Cert.Reference12Ideal.Gen.facts, Cert.Kernel13.Gen.facts, Cert.Kernel13Ideal.Gen.facts, Cert.Reference13Ideal.Gen.facts, Cert.Kernel14.Gen.facts, Cert.Kernel14Ideal.Gen.facts, Cert.Reference14Ideal.Gen.facts, Cert.Pre_is_half.Gen.facts, Cert.Pre_is_half_out.Gen.facts,
  C2.frame_p, C2.frame_pi, C2.frame_r, C3.frame_p, C3.frame_pi, C3.frame_r, C4.frame_p, C4.frame_pi, C4.frame_r, C5.frame_p, C5.frame_pi, C5.frame_r, C6.frame_p, C6.frame_pi, C6.frame_r, C7.frame_p, C7.frame_pi, C7.frame_r, C8.frame_p, C8.frame_pi, C8.frame_r, C9.frame_p, C9.frame_pi, C9.frame_r, C10.frame_p, C10.frame_pi, C10.frame_r, C11.frame_p, C11.frame_pi, C11.frame_r, C12.frame_p, C12.frame_pi, C12.frame_r, C13.frame_p, C13.frame_pi, C13.frame_r, C13.frame_r_half, C14.frame_p, C14.frame_pi, C14.frame_r, C14.frame_r_half,
  trivial, C2.algebraic, trivial, C3.algebraic, trivial, C4.algebraic, trivial, C5.algebraic, trivial, C6.algebraic, trivial, C7.algebraic, trivial, C8.algebraic, trivial, C9.algebraic, trivial, C10.algebraic, trivial, C11.algebraic, trivial, C12.algebraic, trivial, C13.algebraic, trivial, C14.algebraic⟩

end Cert.Proof

end
